-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_v2_0) = v3 c
          ∧ r.2.mem ((c.tc : Thread Cert.ReferenceIdeal.nD Cert.ReferenceIdeal.τ).loc Cert.ReferenceIdeal.main_v117) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S40x1x5120 : Shape := ⟨3, ![40, 1, 5120]⟩
abbrev S5120x27648 : Shape := ⟨2, ![5120, 27648]⟩
abbrev S27648 : Shape := ⟨1, ![27648]⟩
abbrev S446 : Shape := ⟨1, ![446]⟩
abbrev S5120x117 : Shape := ⟨2, ![5120, 117]⟩
abbrev S27648x117 : Shape := ⟨2, ![27648, 117]⟩
abbrev S_ : Shape := ⟨0, ![]⟩

class Facts : Prop where
  bcast_S_S40x1x5120 : S_.BroadcastsInDim S40x1x5120 (![] : Fin 0 → Fin S40x1x5120.rank)
  reducesTo_S40x1x5120_S_d0_1_2 : S40x1x5120.ReducesTo [0, 1, 2] S_
  h_S_ : 0 < S_.numel
  bcast_S_S446 : S_.BroadcastsInDim S446 (![] : Fin 0 → Fin S446.rank)
  reducesTo_S446_S_d0 : S446.ReducesTo [0] S_

variable [Facts]

def fn {F : FTy → Type} [FloatOps F] (main_arg0 : FVec F S40x1x5120 .bf16) (main_arg1 : FVec F S5120x27648 .fp8e4m3) (main_arg2 : FVec F S27648 .f32) (main_arg3 : FVec F S446 .f32) (main_arg4 : IVec S5120x117 8) (main_arg5 : FVec F S446 .f32) (main_arg6 : IVec S446 8) (main_arg7 : IVec S27648x117 8) (main_arg8 : FVec F S446 .f32) (main_arg9 : IVec S446 8) : IVec S_ 1 :=
  let main_v0 : FVec F S40x1x5120 .bf16 := Host.absf main_arg0
  let main_cst : FVec F S_ .bf16 := constant S_ .bf16 0x7F80#16
  let main_v1 : FVec F S40x1x5120 .bf16 := broadcastInDim S40x1x5120 ![] bcast_S_S40x1x5120 main_cst
  let main_v2 : IVec S40x1x5120 1 := cmpf .olt main_v0 main_v1
  let main_c : IVec S_ 1 := constantI S_ 1 1#1
  let main_v3 : IVec S_ 1 := (fun x v => Host.reduce IntOp.andi x v reducesTo_S40x1x5120_S_d0_1_2 h_S_) main_v2 main_c
  let main_v4 : FVec F S446 .f32 := Host.absf main_arg5
  let main_cst_0 : FVec F S_ .f32 := constant S_ .f32 0x7F800000#32
  let main_v5 : FVec F S446 .f32 := broadcastInDim S446 ![] bcast_S_S446 main_cst_0
  let main_v6 : IVec S446 1 := cmpf .olt main_v4 main_v5
  let main_c_1 : IVec S_ 1 := constantI S_ 1 1#1
  let main_v7 : IVec S_ 1 := (fun x v => Host.reduce IntOp.andi x v reducesTo_S446_S_d0 h_S_) main_v6 main_c_1
  let main_v8 : IVec S_ 1 := andi main_v3 main_v7
  main_v8
-- ==== Kernel.lean ====
abbrev S40x1x5120 : Shape := ⟨3, ![40, 1, 5120]⟩
abbrev S5120x27648 : Shape := ⟨2, ![5120, 27648]⟩
abbrev S27648 : Shape := ⟨1, ![27648]⟩
abbrev S446 : Shape := ⟨1, ![446]⟩
abbrev S5120x117 : Shape := ⟨2, ![5120, 117]⟩
abbrev S27648x117 : Shape := ⟨2, ![27648, 117]⟩
abbrev S40x5120 : Shape := ⟨2, ![40, 5120]⟩
abbrev S1x27648 : Shape := ⟨2, ![1, 27648]⟩
abbrev S1x446 : Shape := ⟨2, ![1, 446]⟩
abbrev S117x5120 : Shape := ⟨2, ![117, 5120]⟩
abbrev S117x27648 : Shape := ⟨2, ![117, 27648]⟩
abbrev S40x27648 : Shape := ⟨2, ![40, 27648]⟩
abbrev S40x1x27648 : Shape := ⟨3, ![40, 1, 27648]⟩
abbrev S40x1x446 : Shape := ⟨3, ![40, 1, 446]⟩
abbrev S1x40 : Shape := ⟨2, ![1, 40]⟩
abbrev S8x5120x1024 : Shape := ⟨3, ![8, 5120, 1024]⟩
abbrev S64x5120 : Shape := ⟨2, ![64, 5120]⟩
abbrev S40x128 : Shape := ⟨2, ![40, 128]⟩
abbrev S14x8x128 : Shape := ⟨3, ![14, 8, 128]⟩
abbrev S512x512 : Shape := ⟨2, ![512, 512]⟩
abbrev S512x128 : Shape := ⟨2, ![512, 128]⟩
abbrev S40x512 : Shape := ⟨2, ![40, 512]⟩
abbrev S2x40x1024 : Shape := ⟨3, ![2, 40, 1024]⟩
abbrev S2x40x1x1024 : Shape := ⟨4, ![2, 40, 1, 1024]⟩
abbrev S9 : Shape := ⟨1, ![9]⟩
abbrev S8 : Shape := ⟨1, ![8]⟩
abbrev S2 : Shape := ⟨1, ![2]⟩
abbrev S3 : Shape := ⟨1, ![3]⟩
abbrev S1 : Shape := ⟨1, ![1]⟩
abbrev S_ : Shape := ⟨0, ![]⟩
abbrev S1x5120x1024 : Shape := ⟨3, ![1, 5120, 1024]⟩
abbrev S5120x1024 : Shape := ⟨2, ![5120, 1024]⟩
abbrev S8x128 : Shape := ⟨2, ![8, 128]⟩
abbrev S1x8x128 : Shape := ⟨3, ![1, 8, 128]⟩
abbrev S40 : Shape := ⟨1, ![40]⟩
abbrev S40x1 : Shape := ⟨2, ![40, 1]⟩
abbrev S40x252 : Shape := ⟨2, ![40, 252]⟩
abbrev S24x5120 : Shape := ⟨2, ![24, 5120]⟩
abbrev S128x40 : Shape := ⟨2, ![128, 40]⟩
abbrev S1x66 : Shape := ⟨2, ![1, 66]⟩
abbrev S1x512 : Shape := ⟨2, ![1, 512]⟩
abbrev S128x512 : Shape := ⟨2, ![128, 512]⟩
abbrev S40x1024 : Shape := ⟨2, ![40, 1024]⟩
abbrev S117x1024 : Shape := ⟨2, ![117, 1024]⟩
abbrev S11x1024 : Shape := ⟨2, ![11, 1024]⟩
abbrev S128x1024 : Shape := ⟨2, ![128, 1024]⟩
abbrev S32x1024 : Shape := ⟨2, ![32, 1024]⟩
abbrev S32x128 : Shape := ⟨2, ![32, 128]⟩
abbrev S24x128 : Shape := ⟨2, ![24, 128]⟩
abbrev S128x128 : Shape := ⟨2, ![128, 128]⟩
abbrev S512x1024 : Shape := ⟨2, ![512, 1024]⟩
abbrev S40x446 : Shape := ⟨2, ![40, 446]⟩
abbrev S1x40x1024 : Shape := ⟨3, ![1, 40, 1024]⟩
abbrev S40x1x1024 : Shape := ⟨3, ![40, 1, 1024]⟩
abbrev S1x40x1x1024 : Shape := ⟨4, ![1, 40, 1, 1024]⟩
abbrev S64x1024 : Shape := ⟨2, ![64, 1024]⟩
abbrev S1x1024 : Shape := ⟨2, ![1, 1024]⟩

abbrev nBuf : Space → Nat
  | .hbm => 22
  | .vmem => 25
  | .smem => 0
  | _ => 0

abbrev bufTy : (tb : Table) → Fin (tcTables nBuf tb) → BufTy
  | .hbm, ⟨0, _⟩ => ⟨S40x1x5120, .bf16⟩
  | .hbm, ⟨1, _⟩ => ⟨S5120x27648, .fp8e4m3⟩
  | .hbm, ⟨2, _⟩ => ⟨S27648, .f32⟩
  | .hbm, ⟨3, _⟩ => ⟨S446, .f32⟩
  | .hbm, ⟨4, _⟩ => ⟨S5120x117, .i8⟩
  | .hbm, ⟨5, _⟩ => ⟨S446, .f32⟩
  | .hbm, ⟨6, _⟩ => ⟨S446, .i8⟩
  | .hbm, ⟨7, _⟩ => ⟨S27648x117, .i8⟩
  | .hbm, ⟨8, _⟩ => ⟨S446, .f32⟩
  | .hbm, ⟨9, _⟩ => ⟨S446, .i8⟩
  | .hbm, ⟨10, _⟩ => ⟨S40x5120, .bf16⟩
  | .hbm, ⟨11, _⟩ => ⟨S1x27648, .f32⟩
  | .hbm, ⟨12, _⟩ => ⟨S1x446, .f32⟩
  | .hbm, ⟨13, _⟩ => ⟨S117x5120, .i8⟩
  | .hbm, ⟨14, _⟩ => ⟨S1x446, .f32⟩
  | .hbm, ⟨15, _⟩ => ⟨S117x27648, .i8⟩
  | .hbm, ⟨16, _⟩ => ⟨S1x446, .f32⟩
  | .hbm, ⟨17, _⟩ => ⟨S40x27648, .bf16⟩
  | .hbm, ⟨18, _⟩ => ⟨S40x1x27648, .f32⟩
  | .hbm, ⟨19, _⟩ => ⟨S40x1x446, .f32⟩
  | .hbm, ⟨20, _⟩ => ⟨S40x5120, .fp8e4m3⟩
  | .hbm, ⟨21, _⟩ => ⟨S1x40, .f32⟩
  | .local _ .vmem, ⟨0, _⟩ => ⟨S8x5120x1024, .fp8e4m3⟩
  | .local _ .vmem, ⟨1, _⟩ => ⟨S117x27648, .i8⟩
  | .local _ .vmem, ⟨2, _⟩ => ⟨S117x5120, .i8⟩
  | .local _ .vmem, ⟨3, _⟩ => ⟨S40x5120, .bf16⟩
  | .local _ .vmem, ⟨4, _⟩ => ⟨S1x27648, .f32⟩
  | .local _ .vmem, ⟨5, _⟩ => ⟨S1x446, .f32⟩
  | .local _ .vmem, ⟨6, _⟩ => ⟨S1x446, .f32⟩
  | .local _ .vmem, ⟨7, _⟩ => ⟨S446, .i8⟩
  | .local _ .vmem, ⟨8, _⟩ => ⟨S1x446, .f32⟩
  | .local _ .vmem, ⟨9, _⟩ => ⟨S446, .i8⟩
  | .local _ .vmem, ⟨10, _⟩ => ⟨S64x5120, .fp8e4m3⟩
  | .local _ .vmem, ⟨11, _⟩ => ⟨S40x5120, .fp8e4m3⟩
  | .local _ .vmem, ⟨12, _⟩ => ⟨S40x128, .f32⟩
  | .local _ .vmem, ⟨13, _⟩ => ⟨S1x40, .f32⟩
  | .local _ .vmem, ⟨14, _⟩ => ⟨S14x8x128, .i32⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S40x512, .f32⟩
  | .local _ .vmem, ⟨21, _⟩ => ⟨S40x1x446, .f32⟩
  | .local _ .vmem, ⟨22, _⟩ => ⟨S40x512, .bf16⟩
  | .local _ .vmem, ⟨23, _⟩ => ⟨S2x40x1024, .bf16⟩
  | .local _ .vmem, ⟨24, _⟩ => ⟨S2x40x1x1024, .f32⟩
  | _, _ => ⟨S40x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩
abbrev cc0_scratch22 : Ref sig .tc := ⟨.vmem, 22, rfl⟩
abbrev cc0_scratch23 : Ref sig .tc := ⟨.vmem, 23, rfl⟩
abbrev cc0_scratch24 : Ref sig .tc := ⟨.vmem, 24, rfl⟩

abbrev nD : Nat := 1
abbrev τ : Topo := Topo.v7x

variable {F : FTy → Type} [FloatOps F]

abbrev grid0 : Pipeline.Grid := .none

def k0_off1 (c0_i32_0 : BitVec 32) : Fin 1 → Nat :=
  let c8_i32 : BitVec 32 := 8#32
  let v14 : BitVec 32 := Scalar.remsi c0_i32_0 c8_i32
  ![v14.toNat]
def k0_off2 (c0_i32_0 : BitVec 32) : Fin 3 → Nat :=
  let c8_i32 : BitVec 32 := 8#32
  let v14 : BitVec 32 := Scalar.remsi c0_i32_0 c8_i32
  let c0_i32_1 : BitVec 32 := 0#32
  let c0_i32_2 : BitVec 32 := 0#32
  ![v14.toNat, 0, 0]
@[reducible] def k0_t1_loop : Scf.Loop 32 :=
  let c0_i32_262 : BitVec 32 := 0#32
  let c5_i32_263 : BitVec 32 := 5#32
  let v594 : BitVec 32 := Scalar.addi c0_i32_262 c5_i32_263
  let c1_i32_264 : BitVec 32 := 1#32
  ⟨c0_i32_262, v594, c1_i32_264⟩
def k0_mult1 (k0_t1 : Fin k0_t1_loop.trips) : BitVec 32 :=
  let c0_i32_262 : BitVec 32 := 0#32
  let c1_i32_264 : BitVec 32 := 1#32
  let arg45 : BitVec 32 := Scf.iv c0_i32_262 c1_i32_264 k0_t1
  let c1024_i32_337 : BitVec 32 := 1024#32
  let v674 : BitVec 32 := Scalar.muli arg45 c1024_i32_337
  v674
def k0_off3 (k0_t1 : Fin k0_t1_loop.trips) : Fin 2 → Nat :=
  let c0_340 : Index := 0#32
  let c0_i32_262 : BitVec 32 := 0#32
  let c1_i32_264 : BitVec 32 := 1#32
  let arg45 : BitVec 32 := Scf.iv c0_i32_262 c1_i32_264 k0_t1
  let c1024_i32_337 : BitVec 32 := 1024#32
  let v674 : BitVec 32 := Scalar.muli arg45 c1024_i32_337
  let v675 : BitVec 32 := v674
  let v677 : Index := Scalar.indexCast v675
  ![0, v677.toNat]
def k0_off4 (k0_t1 : Fin k0_t1_loop.trips) : Fin 2 → Nat :=
  let c0_341 : Index := 0#32
  let c0_i32_262 : BitVec 32 := 0#32
  let c1_i32_264 : BitVec 32 := 1#32
  let arg45 : BitVec 32 := Scf.iv c0_i32_262 c1_i32_264 k0_t1
  let c1024_i32_337 : BitVec 32 := 1024#32
  let v674 : BitVec 32 := Scalar.muli arg45 c1024_i32_337
  let v675 : BitVec 32 := v674
  let v679 : Index := Scalar.indexCast v675
  ![0, v679.toNat]
@[reducible] def k0_t2_loop : Scf.Loop 32 :=
  let c0_i32_293 : BitVec 32 := 0#32
  let c27_i32 : BitVec 32 := 27#32
  let v631 : BitVec 32 := Scalar.addi c0_i32_293 c27_i32
  let c1_i32_294 : BitVec 32 := 1#32
  ⟨c0_i32_293, v631, c1_i32_294⟩
def k0_off5 (k0_t2 : Fin k0_t2_loop.trips) : Fin 1 → Nat :=
  let c0_i32_293 : BitVec 32 := 0#32
  let c1_i32_294 : BitVec 32 := 1#32
  let arg45 : BitVec 32 := Scf.iv c0_i32_293 c1_i32_294 k0_t2
  let c8_i32_337 : BitVec 32 := 8#32
  let v674 : BitVec 32 := Scalar.remsi arg45 c8_i32_337
  ![v674.toNat]
def k0_off6 (k0_t2 : Fin k0_t2_loop.trips) : Fin 3 → Nat :=
  let c0_i32_293 : BitVec 32 := 0#32
  let c1_i32_294 : BitVec 32 := 1#32
  let arg45 : BitVec 32 := Scf.iv c0_i32_293 c1_i32_294 k0_t2
  let c8_i32_337 : BitVec 32 := 8#32
  let v674 : BitVec 32 := Scalar.remsi arg45 c8_i32_337
  let c0_i32_339 : BitVec 32 := 0#32
  let c0_i32_340 : BitVec 32 := 0#32
  ![v674.toNat, 0, 0]
def k0_off7 (k0_t2 : Fin k0_t2_loop.trips) : Fin 2 → Nat :=
  let c0_i32_341 : BitVec 32 := 0#32
  let c0_i32_293 : BitVec 32 := 0#32
  let c1_i32_294 : BitVec 32 := 1#32
  let arg45 : BitVec 32 := Scf.iv c0_i32_293 c1_i32_294 k0_t2
  let c1024_i32_338 : BitVec 32 := 1024#32
  let v675 : BitVec 32 := Scalar.muli arg45 c1024_i32_338
  ![0, v675.toNat]
def k0_cond2 (k0_t2 : Fin k0_t2_loop.trips) : BitVec 1 :=
  let c0_i32_293 : BitVec 32 := 0#32
  let c1_i32_294 : BitVec 32 := 1#32
  let arg45 : BitVec 32 := Scf.iv c0_i32_293 c1_i32_294 k0_t2
  let c0_i32_344 : BitVec 32 := 0#32
  let v684 : BitVec 1 := Scalar.cmpi .sgt arg45 c0_i32_344
  let v685 : BitVec 32 := Scalar.extui v684
  let c0_i32_345 : BitVec 32 := 0#32
  let v686 : BitVec 1 := Scalar.cmpi .ne v685 c0_i32_345
  v686

def k0_off8 (k0_t2 : Fin k0_t2_loop.trips) : Fin 1 → Nat :=
  let c0_i32_293 : BitVec 32 := 0#32
  let c1_i32_294 : BitVec 32 := 1#32
  let arg45 : BitVec 32 := Scf.iv c0_i32_293 c1_i32_294 k0_t2
  let c1_i32_1011 : BitVec 32 := 1#32
  let v1746 : BitVec 32 := Scalar.subi arg45 c1_i32_1011
  let c2_i32_1012 : BitVec 32 := 2#32
  let v1747 : BitVec 32 := Scalar.remsi v1746 c2_i32_1012
  ![v1747.toNat]
def k0_off9 (k0_t2 : Fin k0_t2_loop.trips) : Fin 2 → Nat :=
  let c0_i32_1014 : BitVec 32 := 0#32
  let c0_i32_293 : BitVec 32 := 0#32
  let c1_i32_294 : BitVec 32 := 1#32
  let arg45 : BitVec 32 := Scf.iv c0_i32_293 c1_i32_294 k0_t2
  let c1_i32_1011 : BitVec 32 := 1#32
  let v1746 : BitVec 32 := Scalar.subi arg45 c1_i32_1011
  let c1024_i32_1013 : BitVec 32 := 1024#32
  let v1748 : BitVec 32 := Scalar.muli v1746 c1024_i32_1013
  ![0, v1748.toNat]
def k0_off10 (k0_t2 : Fin k0_t2_loop.trips) : Fin 3 → Nat :=
  let c0_i32_293 : BitVec 32 := 0#32
  let c1_i32_294 : BitVec 32 := 1#32
  let arg45 : BitVec 32 := Scf.iv c0_i32_293 c1_i32_294 k0_t2
  let c1_i32_1011 : BitVec 32 := 1#32
  let v1746 : BitVec 32 := Scalar.subi arg45 c1_i32_1011
  let c2_i32_1012 : BitVec 32 := 2#32
  let v1747 : BitVec 32 := Scalar.remsi v1746 c2_i32_1012
  let c0_i32_1015 : BitVec 32 := 0#32
  let c0_i32_1016 : BitVec 32 := 0#32
  ![v1747.toNat, 0, 0]
def k0_off11 (k0_t2 : Fin k0_t2_loop.trips) : Fin 3 → Nat :=
  let c0_i32_1020 : BitVec 32 := 0#32
  let c0_i32_1021 : BitVec 32 := 0#32
  let c0_i32_293 : BitVec 32 := 0#32
  let c1_i32_294 : BitVec 32 := 1#32
  let arg45 : BitVec 32 := Scf.iv c0_i32_293 c1_i32_294 k0_t2
  let c1_i32_1017 : BitVec 32 := 1#32
  let v1754 : BitVec 32 := Scalar.subi arg45 c1_i32_1017
  let c1024_i32_1019 : BitVec 32 := 1024#32
  let v1756 : BitVec 32 := Scalar.muli v1754 c1024_i32_1019
  ![0, 0, v1756.toNat]
def k0_off12 (k0_t2 : Fin k0_t2_loop.trips) : Fin 4 → Nat :=
  let c0_i32_293 : BitVec 32 := 0#32
  let c1_i32_294 : BitVec 32 := 1#32
  let arg45 : BitVec 32 := Scf.iv c0_i32_293 c1_i32_294 k0_t2
  let c1_i32_1017 : BitVec 32 := 1#32
  let v1754 : BitVec 32 := Scalar.subi arg45 c1_i32_1017
  let c2_i32_1018 : BitVec 32 := 2#32
  let v1755 : BitVec 32 := Scalar.remsi v1754 c2_i32_1018
  let c0_i32_1022 : BitVec 32 := 0#32
  let c0_i32_1023 : BitVec 32 := 0#32
  let c0_i32_1024 : BitVec 32 := 0#32
  ![v1755.toNat, 0, 0, 0]
def k0_cond3 (k0_t2 : Fin k0_t2_loop.trips) : BitVec 1 :=
  let c0_i32_293 : BitVec 32 := 0#32
  let c1_i32_294 : BitVec 32 := 1#32
  let arg45 : BitVec 32 := Scf.iv c0_i32_293 c1_i32_294 k0_t2
  let c8_i32_346 : BitVec 32 := 8#32
  let v687 : BitVec 32 := Scalar.addi arg45 c8_i32_346
  let c1_i32_347 : BitVec 32 := 1#32
  let v688 : BitVec 32 := Scalar.subi v687 c1_i32_347
  let c27_i32_348 : BitVec 32 := 27#32
  let v689 : BitVec 1 := Scalar.cmpi .slt v688 c27_i32_348
  let v690 : BitVec 32 := Scalar.extui v689
  let c0_i32_349 : BitVec 32 := 0#32
  let v691 : BitVec 1 := Scalar.cmpi .ne v690 c0_i32_349
  v691

def k0_off13 (k0_t2 : Fin k0_t2_loop.trips) : Fin 1 → Nat :=
  let c0_i32_293 : BitVec 32 := 0#32
  let c1_i32_294 : BitVec 32 := 1#32
  let arg45 : BitVec 32 := Scf.iv c0_i32_293 c1_i32_294 k0_t2
  let c8_i32_1011 : BitVec 32 := 8#32
  let v1746 : BitVec 32 := Scalar.addi arg45 c8_i32_1011
  let c1_i32_1012 : BitVec 32 := 1#32
  let v1747 : BitVec 32 := Scalar.subi v1746 c1_i32_1012
  let c8_i32_1013 : BitVec 32 := 8#32
  let v1748 : BitVec 32 := Scalar.remsi v1747 c8_i32_1013
  ![v1748.toNat]
def k0_off14 (k0_t2 : Fin k0_t2_loop.trips) : Fin 3 → Nat :=
  let c0_i32_293 : BitVec 32 := 0#32
  let c1_i32_294 : BitVec 32 := 1#32
  let arg45 : BitVec 32 := Scf.iv c0_i32_293 c1_i32_294 k0_t2
  let c8_i32_1011 : BitVec 32 := 8#32
  let v1746 : BitVec 32 := Scalar.addi arg45 c8_i32_1011
  let c1_i32_1012 : BitVec 32 := 1#32
  let v1747 : BitVec 32 := Scalar.subi v1746 c1_i32_1012
  let c8_i32_1013 : BitVec 32 := 8#32
  let v1748 : BitVec 32 := Scalar.remsi v1747 c8_i32_1013
  let c0_i32_1015 : BitVec 32 := 0#32
  let c0_i32_1016 : BitVec 32 := 0#32
  ![v1748.toNat, 0, 0]
def k0_off15 (k0_t2 : Fin k0_t2_loop.trips) : Fin 2 → Nat :=
  let c0_i32_1017 : BitVec 32 := 0#32
  let c0_i32_293 : BitVec 32 := 0#32
  let c1_i32_294 : BitVec 32 := 1#32
  let arg45 : BitVec 32 := Scf.iv c0_i32_293 c1_i32_294 k0_t2
  let c8_i32_1011 : BitVec 32 := 8#32
  let v1746 : BitVec 32 := Scalar.addi arg45 c8_i32_1011
  let c1_i32_1012 : BitVec 32 := 1#32
  let v1747 : BitVec 32 := Scalar.subi v1746 c1_i32_1012
  let c1024_i32_1014 : BitVec 32 := 1024#32
  let v1749 : BitVec 32 := Scalar.muli v1747 c1024_i32_1014
  ![0, v1749.toNat]
def k0_cond4 (k0_t2 : Fin k0_t2_loop.trips) : BitVec 1 :=
  let c0_i32_293 : BitVec 32 := 0#32
  let c1_i32_294 : BitVec 32 := 1#32
  let arg45 : BitVec 32 := Scf.iv c0_i32_293 c1_i32_294 k0_t2
  let c1_i32_350 : BitVec 32 := 1#32
  let v692 : BitVec 1 := Scalar.cmpi .sgt arg45 c1_i32_350
  let v693 : BitVec 32 := Scalar.extui v692
  let c0_i32_351 : BitVec 32 := 0#32
  let v694 : BitVec 1 := Scalar.cmpi .ne v693 c0_i32_351
  v694

def k0_off16 (k0_t2 : Fin k0_t2_loop.trips) : Fin 1 → Nat :=
  let c0_i32_293 : BitVec 32 := 0#32
  let c1_i32_294 : BitVec 32 := 1#32
  let arg45 : BitVec 32 := Scf.iv c0_i32_293 c1_i32_294 k0_t2
  let c2_i32_1011 : BitVec 32 := 2#32
  let v1746 : BitVec 32 := Scalar.subi arg45 c2_i32_1011
  let c2_i32_1012 : BitVec 32 := 2#32
  let v1747 : BitVec 32 := Scalar.remsi v1746 c2_i32_1012
  ![v1747.toNat]
def k0_off17 (k0_t2 : Fin k0_t2_loop.trips) : Fin 2 → Nat :=
  let c0_i32_1014 : BitVec 32 := 0#32
  let c0_i32_293 : BitVec 32 := 0#32
  let c1_i32_294 : BitVec 32 := 1#32
  let arg45 : BitVec 32 := Scf.iv c0_i32_293 c1_i32_294 k0_t2
  let c2_i32_1011 : BitVec 32 := 2#32
  let v1746 : BitVec 32 := Scalar.subi arg45 c2_i32_1011
  let c1024_i32_1013 : BitVec 32 := 1024#32
  let v1748 : BitVec 32 := Scalar.muli v1746 c1024_i32_1013
  ![0, v1748.toNat]
def k0_off18 (k0_t2 : Fin k0_t2_loop.trips) : Fin 3 → Nat :=
  let c0_i32_293 : BitVec 32 := 0#32
  let c1_i32_294 : BitVec 32 := 1#32
  let arg45 : BitVec 32 := Scf.iv c0_i32_293 c1_i32_294 k0_t2
  let c2_i32_1011 : BitVec 32 := 2#32
  let v1746 : BitVec 32 := Scalar.subi arg45 c2_i32_1011
  let c2_i32_1012 : BitVec 32 := 2#32
  let v1747 : BitVec 32 := Scalar.remsi v1746 c2_i32_1012
  let c0_i32_1015 : BitVec 32 := 0#32
  let c0_i32_1016 : BitVec 32 := 0#32
  ![v1747.toNat, 0, 0]
def k0_off19 (k0_t2 : Fin k0_t2_loop.trips) : Fin 3 → Nat :=
  let c0_i32_1020 : BitVec 32 := 0#32
  let c0_i32_1021 : BitVec 32 := 0#32
  let c0_i32_293 : BitVec 32 := 0#32
  let c1_i32_294 : BitVec 32 := 1#32
  let arg45 : BitVec 32 := Scf.iv c0_i32_293 c1_i32_294 k0_t2
  let c2_i32_1017 : BitVec 32 := 2#32
  let v1754 : BitVec 32 := Scalar.subi arg45 c2_i32_1017
  let c1024_i32_1019 : BitVec 32 := 1024#32
  let v1756 : BitVec 32 := Scalar.muli v1754 c1024_i32_1019
  ![0, 0, v1756.toNat]
def k0_off20 (k0_t2 : Fin k0_t2_loop.trips) : Fin 4 → Nat :=
  let c0_i32_293 : BitVec 32 := 0#32
  let c1_i32_294 : BitVec 32 := 1#32
  let arg45 : BitVec 32 := Scf.iv c0_i32_293 c1_i32_294 k0_t2
  let c2_i32_1017 : BitVec 32 := 2#32
  let v1754 : BitVec 32 := Scalar.subi arg45 c2_i32_1017
  let c2_i32_1018 : BitVec 32 := 2#32
  let v1755 : BitVec 32 := Scalar.remsi v1754 c2_i32_1018
  let c0_i32_1022 : BitVec 32 := 0#32
  let c0_i32_1023 : BitVec 32 := 0#32
  let c0_i32_1024 : BitVec 32 := 0#32
  ![v1755.toNat, 0, 0, 0]
def k0_mult2 (k0_t2 : Fin k0_t2_loop.trips) : BitVec 32 :=
  let c0_i32_293 : BitVec 32 := 0#32
  let c1_i32_294 : BitVec 32 := 1#32
  let arg45 : BitVec 32 := Scf.iv c0_i32_293 c1_i32_294 k0_t2
  let c1024_i32_352 : BitVec 32 := 1024#32
  let v695 : BitVec 32 := Scalar.muli arg45 c1024_i32_352
  v695
def k0_off21 (k0_t2 : Fin k0_t2_loop.trips) : Fin 2 → Nat :=
  let c0_354 : Index := 0#32
  let c0_i32_293 : BitVec 32 := 0#32
  let c1_i32_294 : BitVec 32 := 1#32
  let arg45 : BitVec 32 := Scf.iv c0_i32_293 c1_i32_294 k0_t2
  let c1024_i32_352 : BitVec 32 := 1024#32
  let v695 : BitVec 32 := Scalar.muli arg45 c1024_i32_352
  let v696 : BitVec 32 := v695
  let v698 : Index := Scalar.indexCast v696
  ![0, v698.toNat]
def k0_off22 (k0_t2 : Fin k0_t2_loop.trips) : Fin 3 → Nat :=
  let c0_i32_293 : BitVec 32 := 0#32
  let c1_i32_294 : BitVec 32 := 1#32
  let arg45 : BitVec 32 := Scf.iv c0_i32_293 c1_i32_294 k0_t2
  let c8_i32_999 : BitVec 32 := 8#32
  let v1723 : BitVec 32 := Scalar.remsi arg45 c8_i32_999
  let v1724 : Index := Scalar.indexCast v1723
  let c0_1000 : Index := 0#32
  let c0_1001 : Index := 0#32
  ![v1724.toNat, 0, 0]
def k0_off23 (k0_t2 : Fin k0_t2_loop.trips) : Fin 2 → Nat :=
  let c0_1005 : Index := 0#32
  let c0_i32_293 : BitVec 32 := 0#32
  let c1_i32_294 : BitVec 32 := 1#32
  let arg45 : BitVec 32 := Scf.iv c0_i32_293 c1_i32_294 k0_t2
  let c1024_i32_352 : BitVec 32 := 1024#32
  let v695 : BitVec 32 := Scalar.muli arg45 c1024_i32_352
  let v696 : BitVec 32 := v695
  let v1732 : Index := Scalar.indexCast v696
  ![0, v1732.toNat]
def k0_off24 (k0_t2 : Fin k0_t2_loop.trips) : Fin 4 → Nat :=
  let c0_i32_293 : BitVec 32 := 0#32
  let c1_i32_294 : BitVec 32 := 1#32
  let arg45 : BitVec 32 := Scf.iv c0_i32_293 c1_i32_294 k0_t2
  let c2_i32_353 : BitVec 32 := 2#32
  let v697 : BitVec 32 := Scalar.remsi arg45 c2_i32_353
  let v1736 : Index := Scalar.indexCast v697
  let c0_1006 : Index := 0#32
  let c0_1007 : Index := 0#32
  let c0_1008 : Index := 0#32
  ![v1736.toNat, 0, 0, 0]
def k0_off25 (k0_t2 : Fin k0_t2_loop.trips) : Fin 3 → Nat :=
  let c0_i32_293 : BitVec 32 := 0#32
  let c1_i32_294 : BitVec 32 := 1#32
  let arg45 : BitVec 32 := Scf.iv c0_i32_293 c1_i32_294 k0_t2
  let c2_i32_353 : BitVec 32 := 2#32
  let v697 : BitVec 32 := Scalar.remsi arg45 c2_i32_353
  let v1742 : Index := Scalar.indexCast v697
  let c0_1009 : Index := 0#32
  let c0_1010 : Index := 0#32
  ![v1742.toNat, 0, 0]
def k0_off26 (c26_i32 : BitVec 32) : Fin 1 → Nat :=
  let c2_i32_296 : BitVec 32 := 2#32
  let v632 : BitVec 32 := Scalar.remsi c26_i32 c2_i32_296
  ![v632.toNat]
def k0_off27 (c26_i32 : BitVec 32) : Fin 3 → Nat :=
  let c2_i32_296 : BitVec 32 := 2#32
  let v632 : BitVec 32 := Scalar.remsi c26_i32 c2_i32_296
  let c0_i32_298 : BitVec 32 := 0#32
  let c0_i32_299 : BitVec 32 := 0#32
  ![v632.toNat, 0, 0]
def k0_off28 (c26_i32_300 : BitVec 32) : Fin 4 → Nat :=
  let c2_i32_301 : BitVec 32 := 2#32
  let v638 : BitVec 32 := Scalar.remsi c26_i32_300 c2_i32_301
  let c0_i32_305 : BitVec 32 := 0#32
  let c0_i32_306 : BitVec 32 := 0#32
  let c0_i32_307 : BitVec 32 := 0#32
  ![v638.toNat, 0, 0, 0]
-- ==== ReferenceIdeal.lean ====
abbrev S40x1x5120 : Shape := ⟨3, ![40, 1, 5120]⟩
abbrev S5120x27648 : Shape := ⟨2, ![5120, 27648]⟩
abbrev S27648 : Shape := ⟨1, ![27648]⟩
abbrev S446 : Shape := ⟨1, ![446]⟩
abbrev S5120x117 : Shape := ⟨2, ![5120, 117]⟩
abbrev S27648x117 : Shape := ⟨2, ![27648, 117]⟩
abbrev S40x5120 : Shape := ⟨2, ![40, 5120]⟩
abbrev S1x27648 : Shape := ⟨2, ![1, 27648]⟩
abbrev S40x1 : Shape := ⟨2, ![40, 1]⟩
abbrev S40x27648 : Shape := ⟨2, ![40, 27648]⟩
abbrev S40 : Shape := ⟨1, ![40]⟩
abbrev S40x252 : Shape := ⟨2, ![40, 252]⟩
abbrev S5120x2 : Shape := ⟨2, ![5120, 2]⟩
abbrev S5120x12 : Shape := ⟨2, ![5120, 12]⟩
abbrev S5120x4x3 : Shape := ⟨3, ![5120, 4, 3]⟩
abbrev S5120x4x1 : Shape := ⟨3, ![5120, 4, 1]⟩
abbrev S5120x4 : Shape := ⟨2, ![5120, 4]⟩
abbrev S_ : Shape := ⟨0, ![]⟩
abbrev S8 : Shape := ⟨1, ![8]⟩
abbrev S1x1x8 : Shape := ⟨3, ![1, 1, 8]⟩
abbrev S5120x4x8 : Shape := ⟨3, ![5120, 4, 8]⟩
abbrev S5120x32 : Shape := ⟨2, ![5120, 32]⟩
abbrev S5120x103 : Shape := ⟨2, ![5120, 103]⟩
abbrev S5120x103x1 : Shape := ⟨3, ![5120, 103, 1]⟩
abbrev S4 : Shape := ⟨1, ![4]⟩
abbrev S1x1x4 : Shape := ⟨3, ![1, 1, 4]⟩
abbrev S5120x103x4 : Shape := ⟨3, ![5120, 103, 4]⟩
abbrev S5120x412 : Shape := ⟨2, ![5120, 412]⟩
abbrev S5120x446 : Shape := ⟨2, ![5120, 446]⟩
abbrev S1x446 : Shape := ⟨2, ![1, 446]⟩
abbrev S27648x2 : Shape := ⟨2, ![27648, 2]⟩
abbrev S27648x12 : Shape := ⟨2, ![27648, 12]⟩
abbrev S27648x4x3 : Shape := ⟨3, ![27648, 4, 3]⟩
abbrev S27648x4x1 : Shape := ⟨3, ![27648, 4, 1]⟩
abbrev S27648x4 : Shape := ⟨2, ![27648, 4]⟩
abbrev S27648x4x8 : Shape := ⟨3, ![27648, 4, 8]⟩
abbrev S27648x32 : Shape := ⟨2, ![27648, 32]⟩
abbrev S27648x103 : Shape := ⟨2, ![27648, 103]⟩
abbrev S27648x103x1 : Shape := ⟨3, ![27648, 103, 1]⟩
abbrev S27648x103x4 : Shape := ⟨3, ![27648, 103, 4]⟩
abbrev S27648x412 : Shape := ⟨2, ![27648, 412]⟩
abbrev S27648x446 : Shape := ⟨2, ![27648, 446]⟩
abbrev S40x446 : Shape := ⟨2, ![40, 446]⟩
abbrev S40x1x27648 : Shape := ⟨3, ![40, 1, 27648]⟩
abbrev S40x1x446 : Shape := ⟨3, ![40, 1, 446]⟩
abbrev S1x40 : Shape := ⟨2, ![1, 40]⟩

abbrev nBuf : Space → Nat
  | .hbm => 142
  | .vmem => 6
  | .smem => 0
  | _ => 0

abbrev hbmTy0_0 (i : Nat) : BufTy := match i % 128 with
  | 0 => ⟨S40x1x5120, .bf16⟩
  | 1 => ⟨S5120x27648, .fp8e4m3⟩
  | 2 => ⟨S27648, .f32⟩
  | 3 => ⟨S446, .f32⟩
  | 4 => ⟨S5120x117, .i8⟩
  | 5 => ⟨S446, .f32⟩
  | 6 => ⟨S446, .i8⟩
  | 7 => ⟨S27648x117, .i8⟩
  | 8 => ⟨S446, .f32⟩
  | 9 => ⟨S446, .i8⟩
  | 10 => ⟨S40x5120, .bf16⟩
  | 11 => ⟨S1x27648, .f32⟩
  | 12 => ⟨S40x5120, .fp8e4m3⟩
  | 13 => ⟨S40x1, .f32⟩
  | 14 => ⟨S40x27648, .f32⟩
  | 15 => ⟨S5120x117, .i32⟩
  | 16 => ⟨S5120x2, .i32⟩
  | 17 => ⟨S5120x12, .i32⟩
  | 18 => ⟨S5120x4x3, .i32⟩
  | 19 => ⟨S5120x4x1, .i32⟩
  | 20 => ⟨S5120x4, .i32⟩
  | 21 => ⟨S5120x4x1, .i32⟩
  | 22 => ⟨S5120x4, .i32⟩
  | 23 => ⟨S_, .i32⟩
  | 24 => ⟨S5120x4, .i32⟩
  | 25 => ⟨S5120x4, .i32⟩
  | 26 => ⟨S5120x4, .i32⟩
  | 27 => ⟨S5120x4x1, .i32⟩
  | 28 => ⟨S5120x4, .i32⟩
  | 29 => ⟨S_, .i32⟩
  | 30 => ⟨S5120x4, .i32⟩
  | 31 => ⟨S5120x4, .i32⟩
  | 32 => ⟨S5120x4, .i32⟩
  | 33 => ⟨S5120x4x1, .i32⟩
  | 34 => ⟨S8, .i32⟩
  | 35 => ⟨S_, .i32⟩
  | 36 => ⟨S8, .i32⟩
  | 37 => ⟨S8, .i32⟩
  | 38 => ⟨S1x1x8, .i32⟩
  | 39 => ⟨S5120x4x8, .i32⟩
  | 40 => ⟨S5120x4x8, .i32⟩
  | 41 => ⟨S5120x4x8, .i32⟩
  | 42 => ⟨S_, .i32⟩
  | 43 => ⟨S5120x4x8, .i32⟩
  | 44 => ⟨S5120x4x8, .i32⟩
  | 45 => ⟨S5120x32, .i32⟩
  | 46 => ⟨S5120x103, .i32⟩
  | 47 => ⟨S5120x103x1, .i32⟩
  | 48 => ⟨S4, .i32⟩
  | 49 => ⟨S_, .i32⟩
  | 50 => ⟨S4, .i32⟩
  | 51 => ⟨S4, .i32⟩
  | 52 => ⟨S1x1x4, .i32⟩
  | 53 => ⟨S5120x103x4, .i32⟩
  | 54 => ⟨S5120x103x4, .i32⟩
  | 55 => ⟨S5120x103x4, .i32⟩
  | 56 => ⟨S_, .i32⟩
  | 57 => ⟨S5120x103x4, .i32⟩
  | 58 => ⟨S5120x103x4, .i32⟩
  | 59 => ⟨S5120x412, .i32⟩
  | 60 => ⟨S5120x446, .i32⟩
  | 61 => ⟨S5120x446, .f32⟩
  | 62 => ⟨S5120x446, .bf16⟩
  | 63 => ⟨S446, .i32⟩
  | 64 => ⟨S446, .f32⟩
  | 65 => ⟨S446, .bf16⟩
  | 66 => ⟨S1x446, .bf16⟩
  | 67 => ⟨S5120x446, .bf16⟩
  | 68 => ⟨S5120x446, .bf16⟩
  | 69 => ⟨S446, .bf16⟩
  | 70 => ⟨S1x446, .bf16⟩
  | 71 => ⟨S5120x446, .bf16⟩
  | 72 => ⟨S5120x446, .bf16⟩
  | 73 => ⟨S27648x117, .i32⟩
  | 74 => ⟨S27648x2, .i32⟩
  | 75 => ⟨S27648x12, .i32⟩
  | 76 => ⟨S27648x4x3, .i32⟩
  | 77 => ⟨S27648x4x1, .i32⟩
  | 78 => ⟨S27648x4, .i32⟩
  | 79 => ⟨S27648x4x1, .i32⟩
  | 80 => ⟨S27648x4, .i32⟩
  | 81 => ⟨S_, .i32⟩
  | 82 => ⟨S27648x4, .i32⟩
  | 83 => ⟨S27648x4, .i32⟩
  | 84 => ⟨S27648x4, .i32⟩
  | 85 => ⟨S27648x4x1, .i32⟩
  | 86 => ⟨S27648x4, .i32⟩
  | 87 => ⟨S_, .i32⟩
  | 88 => ⟨S27648x4, .i32⟩
  | 89 => ⟨S27648x4, .i32⟩
  | 90 => ⟨S27648x4, .i32⟩
  | 91 => ⟨S27648x4x1, .i32⟩
  | 92 => ⟨S8, .i32⟩
  | 93 => ⟨S_, .i32⟩
  | 94 => ⟨S8, .i32⟩
  | 95 => ⟨S8, .i32⟩
  | 96 => ⟨S1x1x8, .i32⟩
  | 97 => ⟨S27648x4x8, .i32⟩
  | 98 => ⟨S27648x4x8, .i32⟩
  | 99 => ⟨S27648x4x8, .i32⟩
  | 100 => ⟨S_, .i32⟩
  | 101 => ⟨S27648x4x8, .i32⟩
  | 102 => ⟨S27648x4x8, .i32⟩
  | 103 => ⟨S27648x32, .i32⟩
  | 104 => ⟨S27648x103, .i32⟩
  | 105 => ⟨S27648x103x1, .i32⟩
  | 106 => ⟨S4, .i32⟩
  | 107 => ⟨S_, .i32⟩
  | 108 => ⟨S4, .i32⟩
  | 109 => ⟨S4, .i32⟩
  | 110 => ⟨S1x1x4, .i32⟩
  | 111 => ⟨S27648x103x4, .i32⟩
  | 112 => ⟨S27648x103x4, .i32⟩
  | 113 => ⟨S27648x103x4, .i32⟩
  | 114 => ⟨S_, .i32⟩
  | 115 => ⟨S27648x103x4, .i32⟩
  | 116 => ⟨S27648x103x4, .i32⟩
  | 117 => ⟨S27648x412, .i32⟩
  | 118 => ⟨S27648x446, .i32⟩
  | 119 => ⟨S27648x446, .f32⟩
  | 120 => ⟨S27648x446, .bf16⟩
  | 121 => ⟨S446, .i32⟩
  | 122 => ⟨S446, .f32⟩
  | 123 => ⟨S446, .bf16⟩
  | 124 => ⟨S1x446, .bf16⟩
  | 125 => ⟨S27648x446, .bf16⟩
  | 126 => ⟨S27648x446, .bf16⟩
  | 127 => ⟨S446, .bf16⟩
  | _ => ⟨S40x1x5120, .bf16⟩

abbrev hbmTy0_1 (i : Nat) : BufTy := match i % 128 with
  | 0 => ⟨S1x446, .bf16⟩
  | 1 => ⟨S27648x446, .bf16⟩
  | 2 => ⟨S27648x446, .bf16⟩
  | 3 => ⟨S40x446, .f32⟩
  | 4 => ⟨S1x446, .f32⟩
  | 5 => ⟨S40x446, .f32⟩
  | 6 => ⟨S40x446, .f32⟩
  | 7 => ⟨S40x446, .bf16⟩
  | 8 => ⟨S40x27648, .f32⟩
  | 9 => ⟨S40x27648, .f32⟩
  | 10 => ⟨S40x27648, .bf16⟩
  | 11 => ⟨S40x1x27648, .f32⟩
  | 12 => ⟨S40x1x446, .f32⟩
  | 13 => ⟨S1x40, .f32⟩
  | _ => ⟨S40x1x5120, .bf16⟩

abbrev hbmTy (i : Nat) : BufTy := match i / 128 with
  | 0 => hbmTy0_0 i
  | 1 => hbmTy0_1 i
  | _ => ⟨S40x1x5120, .bf16⟩

abbrev bufTy : (tb : Table) → Fin (tcTables nBuf tb) → BufTy
  | .hbm, ⟨i, _⟩ => hbmTy i
  | .local _ .vmem, ⟨0, _⟩ => ⟨S40x5120, .bf16⟩
  | .local _ .vmem, ⟨1, _⟩ => ⟨S5120x27648, .fp8e4m3⟩
  | .local _ .vmem, ⟨2, _⟩ => ⟨S1x27648, .f32⟩
  | .local _ .vmem, ⟨3, _⟩ => ⟨S40x5120, .fp8e4m3⟩
  | .local _ .vmem, ⟨4, _⟩ => ⟨S40x1, .f32⟩
  | .local _ .vmem, ⟨5, _⟩ => ⟨S40x27648, .f32⟩
  | _, _ => ⟨S40x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_5 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_6 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_7 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_8 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_9 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_c_10 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S40x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x27648 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x27648 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x27648 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelNames.lean ====
/-
  Names for the transfers of the kernel's two rings.

  The kernel keeps eight blocks of the base weight in flight and writes two results back through two slots each. A
  transfer's ends and its semaphore are slices whose offsets are computed from the trip number. Here each gets one
  name by its number (`wslot s`, `wblk b`, `wsem s`, and the same for the two written results), and each computed
  offset is shown to be the offset of the name it stands for.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameValue
public import Idealize.ShloMosaic.Lib.Pipeline.FrameBody
public import Idealize.ShloMosaic.Lib.Ring
public import Idealize.ShloMosaic.Lib.Ring.WriteBehind
public import Idealize.ShloMosaic.Lib.Affine
public import Idealize.ShloMosaic.Lib.Tactic

@[expose] public section

set_option maxRecDepth 16384

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The whole buffers -/

abbrev wM : Memref sig .tc .hbm S5120x27648 .fp8e4m3 := Memref.whole main_arg1
abbrev yM : Memref sig .tc .hbm S40x27648 .bf16 := Memref.whole main_v7_0
abbrev dM : Memref sig .tc .hbm S40x1x27648 .f32 := Memref.whole main_v7_1
abbrev wR : Memref sig .tc .vmem S8x5120x1024 .fp8e4m3 := Memref.whole cc0_scratch0
abbrev yR : Memref sig .tc .vmem S2x40x1024 .bf16 := Memref.whole cc0_scratch23
abbrev dR : Memref sig .tc .vmem S2x40x1x1024 .f32 := Memref.whole cc0_scratch24

/-! ## Offsets by number -/

abbrev wslotOff (s : Fin 8) : Fin 3 → Nat := ![s.val, 0, 0]
/-- A weight slot lies in the ring. -/
theorem wslotOff_inb (s : Fin 8) : ∀ a, wslotOff s a + S1x5120x1024.size a ≤ S8x5120x1024.size a := by
  have := s.isLt; intro a; fin_cases a
  · show s.val + 1 ≤ 8; omega
  · show 0 + 5120 ≤ 5120; omega
  · show 0 + 1024 ≤ 1024; omega
abbrev wblkOff (b : Fin 27) : Fin 2 → Nat := ![0, 1024 * b.val]
/-- A weight tile lies in the array. -/
theorem wblkOff_inb (b : Fin 27) : ∀ a, wblkOff b a + S5120x1024.size a ≤ S5120x27648.size a := by
  have := b.isLt; intro a; fin_cases a
  · show 0 + 5120 ≤ 5120; omega
  · show 1024 * b.val + 1024 ≤ 27648; omega
/-- A tile of y lies in the array. -/
theorem ytileOff_inb (b : Fin 27) : ∀ a, wblkOff b a + S40x1024.size a ≤ S40x27648.size a := by
  have := b.isLt; intro a; fin_cases a
  · show 0 + 40 ≤ 40; omega
  · show 1024 * b.val + 1024 ≤ 27648; omega
abbrev dtileOff (b : Fin 27) : Fin 3 → Nat := ![0, 0, 1024 * b.val]
/-- A tile of d lies in the array. -/
theorem dtileOff_inb (b : Fin 27) : ∀ a, dtileOff b a + S40x1x1024.size a ≤ S40x1x27648.size a := by
  have := b.isLt; intro a; fin_cases a
  · show 0 + 40 ≤ 40; omega
  · show 0 + 1 ≤ 1; omega
  · show 1024 * b.val + 1024 ≤ 27648; omega
abbrev yslotOff (s : Fin 2) : Fin 3 → Nat := ![s.val, 0, 0]
/-- A slot of y lies in its buffer. -/
theorem yslotOff_inb (s : Fin 2) : ∀ a, yslotOff s a + S1x40x1024.size a ≤ S2x40x1024.size a := by
  have := s.isLt; intro a; fin_cases a
  · show s.val + 1 ≤ 2; omega
  · show 0 + 40 ≤ 40; omega
  · show 0 + 1024 ≤ 1024; omega
abbrev dslotOff (s : Fin 2) : Fin 4 → Nat := ![s.val, 0, 0, 0]
/-- A slot of d lies in its buffer. -/
theorem dslotOff_inb (s : Fin 2) : ∀ a, dslotOff s a + S1x40x1x1024.size a ≤ S2x40x1x1024.size a := by
  have := s.isLt; intro a; fin_cases a
  · show s.val + 1 ≤ 2; omega
  · show 0 + 40 ≤ 40; omega
  · show 0 + 1 ≤ 1; omega
  · show 0 + 1024 ≤ 1024; omega
abbrev sem8Off (s : Fin 8) : Fin 1 → Nat := ![s.val]
/-- A semaphore of the ring lies in its array. -/
theorem sem8Off_inb (s : Fin 8) : ∀ a, sem8Off s a + S1.size a ≤ S8.size a := by
  have := s.isLt; intro a; fin_cases a; show s.val + 1 ≤ 8; omega
abbrev sem2Off (s : Fin 2) : Fin 1 → Nat := ![s.val]
/-- A semaphore of the double buffers lies in its array. -/
theorem sem2Off_inb (s : Fin 2) : ∀ a, sem2Off s a + S1.size a ≤ S2.size a := by
  have := s.isLt; intro a; fin_cases a; show s.val + 1 ≤ 2; omega

/-! ## The slices by number -/

/-- Slot `s` of the weight ring. -/
def wslot (s : Fin 8) : Memref sig .tc .vmem S5120x1024 .fp8e4m3 :=
  (wR.slice (Rect.unit (s := S8x5120x1024) (wslotOff s) S1x5120x1024.size (wslotOff_inb s)) (fun _ => rfl)).squeeze S5120x1024 squeezes_S1x5120x1024_S5120x1024
/-- Column block `b` of the weight. -/
def wblk (b : Fin 27) : Memref sig .tc .hbm S5120x1024 .fp8e4m3 :=
  wM.slice (Rect.unit (s := S5120x27648) (wblkOff b) S5120x1024.size (wblkOff_inb b)) (fun _ => rfl)
/-- The semaphore of slot `s` of the weight ring. -/
def wsem (s : Fin 8) : DmaSems sig S_ := (cc0_scratch26.slice (Rect.unit (s := S8) (sem8Off s) S1.size (sem8Off_inb s))).squeeze S_ squeezes_S1_S_
/-- Slot `s` of the buffer of the output. -/
def yslot (s : Fin 2) : Memref sig .tc .vmem S40x1024 .bf16 :=
  (yR.slice (Rect.unit (s := S2x40x1024) (yslotOff s) S1x40x1024.size (yslotOff_inb s)) (fun _ => rfl)).squeeze S40x1024 squeezes_S1x40x1024_S40x1024
/-- Column tile `b` of the output. -/
def ytile (b : Fin 27) : Memref sig .tc .hbm S40x1024 .bf16 :=
  yM.slice (Rect.unit (s := S40x27648) (wblkOff b) S40x1024.size (ytileOff_inb b)) (fun _ => rfl)
def ysem (s : Fin 2) : DmaSems sig S_ := (cc0_scratch27.slice (Rect.unit (s := S2) (sem2Off s) S1.size (sem2Off_inb s))).squeeze S_ squeezes_S1_S_
/-- Slot `s` of the buffer of the delta. -/
def dslot (s : Fin 2) : Memref sig .tc .vmem S40x1x1024 .f32 :=
  (dR.slice (Rect.unit (s := S2x40x1x1024) (dslotOff s) S1x40x1x1024.size (dslotOff_inb s)) (fun _ => rfl)).squeeze S40x1x1024 squeezes_S1x40x1x1024_S40x1x1024
/-- Column tile `b` of the delta. -/
def dtile (b : Fin 27) : Memref sig .tc .hbm S40x1x1024 .f32 :=
  dM.slice (Rect.unit (s := S40x1x27648) (dtileOff b) S40x1x1024.size (dtileOff_inb b)) (fun _ => rfl)
def dsem (s : Fin 2) : DmaSems sig S_ := (cc0_scratch28.slice (Rect.unit (s := S2) (sem2Off s) S1.size (sem2Off_inb s))).squeeze S_ squeezes_S1_S_

instance (s : Fin 8) : ClosedOff (wslotOff s) := ⟨wslotOff s, rfl⟩
instance (b : Fin 27) : ClosedOff (wblkOff b) := ⟨wblkOff b, rfl⟩
instance (b : Fin 27) : ClosedOff (dtileOff b) := ⟨dtileOff b, rfl⟩
instance (s : Fin 2) : ClosedOff (yslotOff s) := ⟨yslotOff s, rfl⟩
instance (s : Fin 2) : ClosedOff (dslotOff s) := ⟨dslotOff s, rfl⟩

/-! ## The computed offsets and conditions of a trip -/

/-- The loop over the tiles has 27 trips. -/
theorem trips2 : k0_t2_loop.trips = 27 := by decide
/-- A trip's number is below 27. -/
theorem k_lt (k : Fin k0_t2_loop.trips) : k.val < 27 := Nat.lt_of_lt_of_eq k.isLt trips2

/-- When this branch of the trip is taken. -/
theorem cond1_iff : ∀ k : Fin k0_t2_loop.trips,
    Scalar.cmpi .ne (Scalar.extui (Scalar.cmpi .eq (Scf.iv 0#32 1#32 k.val) 0#32) : BitVec 32) 0#32 = 1#1 ↔ k.val = 0 := by decide
/-- When this branch of the trip is taken. -/
theorem cond2_iff : ∀ k : Fin k0_t2_loop.trips, k0_cond2 k = 1#1 ↔ 0 < k.val := by decide
/-- When this branch of the trip is taken. -/
theorem cond3_iff : ∀ k : Fin k0_t2_loop.trips, k0_cond3 k = 1#1 ↔ k.val < 20 := by decide
/-- When this branch of the trip is taken. -/
theorem cond4_iff : ∀ k : Fin k0_t2_loop.trips, k0_cond4 k = 1#1 ↔ 1 < k.val := by decide

/-- The offset the trip computes, by the name of its slot, tile or semaphore. -/
theorem off5_eq : ∀ k : Fin k0_t2_loop.trips, k0_off5 k = sem8Off (Ring.sl 8 k.val) := by decide
/-- The offset the trip computes, by the name of its slot, tile or semaphore. -/
theorem off6_eq : ∀ k : Fin k0_t2_loop.trips, k0_off6 k = wslotOff (Ring.sl 8 k.val) := by decide
/-- The offset the trip computes, by the name of its slot, tile or semaphore. -/
theorem off7_eq : ∀ k : Fin k0_t2_loop.trips, k0_off7 k = wblkOff (Ring.bk 27 k.val) := by decide
/-- The offset the trip computes, by the name of its slot, tile or semaphore. -/
theorem off22_eq : ∀ k : Fin k0_t2_loop.trips, k0_off22 k = wslotOff (Ring.sl 8 k.val) := by decide
/-- The offset the trip computes, by the name of its slot, tile or semaphore. -/
theorem off24_eq : ∀ k : Fin k0_t2_loop.trips, k0_off24 k = dslotOff (Ring.sl 2 k.val) := by decide
/-- The offset the trip computes, by the name of its slot, tile or semaphore. -/
theorem off25_eq : ∀ k : Fin k0_t2_loop.trips, k0_off25 k = yslotOff (Ring.sl 2 k.val) := by decide
/-- The offset the trip computes, by the name of its slot, tile or semaphore. -/
theorem off8_eq : ∀ k : Fin k0_t2_loop.trips, 0 < k.val → k0_off8 k = sem2Off (Ring.sl 2 (k.val + 1)) := by decide
/-- The offset the trip computes, by the name of its slot, tile or semaphore. -/
theorem off9_eq : ∀ k : Fin k0_t2_loop.trips, 0 < k.val → k0_off9 k = wblkOff (Ring.bk 27 (k.val - 1)) := by decide
/-- The offset the trip computes, by the name of its slot, tile or semaphore. -/
theorem off10_eq : ∀ k : Fin k0_t2_loop.trips, 0 < k.val → k0_off10 k = yslotOff (Ring.sl 2 (k.val + 1)) := by decide
/-- The offset the trip computes, by the name of its slot, tile or semaphore. -/
theorem off11_eq : ∀ k : Fin k0_t2_loop.trips, 0 < k.val → k0_off11 k = dtileOff (Ring.bk 27 (k.val - 1)) := by decide
/-- The offset the trip computes, by the name of its slot, tile or semaphore. -/
theorem off12_eq : ∀ k : Fin k0_t2_loop.trips, 0 < k.val → k0_off12 k = dslotOff (Ring.sl 2 (k.val + 1)) := by decide
/-- The offset the trip computes, by the name of its slot, tile or semaphore. -/
theorem off13_eq : ∀ k : Fin k0_t2_loop.trips, k.val < 20 → k0_off13 k = sem8Off (Ring.sl 8 (k.val + 7)) := by decide
/-- The offset the trip computes, by the name of its slot, tile or semaphore. -/
theorem off14_eq : ∀ k : Fin k0_t2_loop.trips, k.val < 20 → k0_off14 k = wslotOff (Ring.sl 8 (k.val + 7)) := by decide
/-- The offset the trip computes, by the name of its slot, tile or semaphore. -/
theorem off15_eq : ∀ k : Fin k0_t2_loop.trips, k.val < 20 → k0_off15 k = wblkOff (Ring.bk 27 (k.val + 7)) := by decide
/-- The offset the trip computes, by the name of its slot, tile or semaphore. -/
theorem off16_eq : ∀ k : Fin k0_t2_loop.trips, 1 < k.val → k0_off16 k = sem2Off (Ring.sl 2 k.val) := by decide
/-- The offset the trip computes, by the name of its slot, tile or semaphore. -/
theorem off17_eq : ∀ k : Fin k0_t2_loop.trips, 1 < k.val → k0_off17 k = wblkOff (Ring.bk 27 (k.val - 2)) := by decide
/-- The offset the trip computes, by the name of its slot, tile or semaphore. -/
theorem off18_eq : ∀ k : Fin k0_t2_loop.trips, 1 < k.val → k0_off18 k = yslotOff (Ring.sl 2 k.val) := by decide
/-- The offset the trip computes, by the name of its slot, tile or semaphore. -/
theorem off19_eq : ∀ k : Fin k0_t2_loop.trips, 1 < k.val → k0_off19 k = dtileOff (Ring.bk 27 (k.val - 2)) := by decide
/-- The offset the trip computes, by the name of its slot, tile or semaphore. -/
theorem off20_eq : ∀ k : Fin k0_t2_loop.trips, 1 < k.val → k0_off20 k = dslotOff (Ring.sl 2 k.val) := by decide

instance (k : Fin k0_t2_loop.trips) : ClosedOff (k0_off22 k) := ⟨wslotOff (Ring.sl 8 k.val), off22_eq k⟩
instance (k : Fin k0_t2_loop.trips) : ClosedOff (k0_off24 k) := ⟨dslotOff (Ring.sl 2 k.val), off24_eq k⟩
instance (k : Fin k0_t2_loop.trips) : ClosedOff (k0_off25 k) := ⟨yslotOff (Ring.sl 2 k.val), off25_eq k⟩

/-! ## Each slice is its name -/

/-- Equal offsets give the same slot, tile or semaphore. -/
theorem wsem_congr {off : Fin 1 → Nat} {s : Fin 8} (e : off = sem8Off s) (hh) :
    (cc0_scratch26.slice (Rect.unit (s := S8) off S1.size hh)).squeeze S_ squeezes_S1_S_ = wsem s :=
  congrArg (fun A : DmaSems sig S1 => A.squeeze S_ squeezes_S1_S_) (SemArray.slice_unit_congr _ e _ _)
/-- Equal offsets give the same slot, tile or semaphore. -/
theorem ysem_congr {off : Fin 1 → Nat} {s : Fin 2} (e : off = sem2Off s) (hh) :
    (cc0_scratch27.slice (Rect.unit (s := S2) off S1.size hh)).squeeze S_ squeezes_S1_S_ = ysem s :=
  congrArg (fun A : DmaSems sig S1 => A.squeeze S_ squeezes_S1_S_) (SemArray.slice_unit_congr _ e _ _)
/-- Equal offsets give the same slot, tile or semaphore. -/
theorem dsem_congr {off : Fin 1 → Nat} {s : Fin 2} (e : off = sem2Off s) (hh) :
    (cc0_scratch28.slice (Rect.unit (s := S2) off S1.size hh)).squeeze S_ squeezes_S1_S_ = dsem s :=
  congrArg (fun A : DmaSems sig S1 => A.squeeze S_ squeezes_S1_S_) (SemArray.slice_unit_congr _ e _ _)
/-- Equal offsets give the same slot, tile or semaphore. -/
theorem wslot_congr {off : Fin 3 → Nat} {s : Fin 8} (e : off = wslotOff s) (hh hs) :
    (wR.slice (Rect.unit (s := S8x5120x1024) off S1x5120x1024.size hh) hs).squeeze S5120x1024 squeezes_S1x5120x1024_S5120x1024 = wslot s :=
  congrArg (fun M : Memref sig .tc .vmem S1x5120x1024 .fp8e4m3 => M.squeeze S5120x1024 squeezes_S1x5120x1024_S5120x1024) (Memref.slice_unit_congr _ e _ _ _ _)
/-- Equal offsets give the same slot, tile or semaphore. -/
theorem wblk_congr {off : Fin 2 → Nat} {b : Fin 27} (e : off = wblkOff b) (hh hs) :
    wM.slice (Rect.unit (s := S5120x27648) off S5120x1024.size hh) hs = wblk b := Memref.slice_unit_congr _ e _ _ _ (fun _ => rfl)
/-- Equal offsets give the same slot, tile or semaphore. -/
theorem yslot_congr {off : Fin 3 → Nat} {s : Fin 2} (e : off = yslotOff s) (hh hs) :
    (yR.slice (Rect.unit (s := S2x40x1024) off S1x40x1024.size hh) hs).squeeze S40x1024 squeezes_S1x40x1024_S40x1024 = yslot s :=
  congrArg (fun M : Memref sig .tc .vmem S1x40x1024 .bf16 => M.squeeze S40x1024 squeezes_S1x40x1024_S40x1024) (Memref.slice_unit_congr _ e _ _ _ _)
/-- Equal offsets give the same slot, tile or semaphore. -/
theorem ytile_congr {off : Fin 2 → Nat} {b : Fin 27} (e : off = wblkOff b) (hh hs) :
    yM.slice (Rect.unit (s := S40x27648) off S40x1024.size hh) hs = ytile b := Memref.slice_unit_congr _ e _ _ _ (fun _ => rfl)
/-- Equal offsets give the same slot, tile or semaphore. -/
theorem dslot_congr {off : Fin 4 → Nat} {s : Fin 2} (e : off = dslotOff s) (hh hs) :
    (dR.slice (Rect.unit (s := S2x40x1x1024) off S1x40x1x1024.size hh) hs).squeeze S40x1x1024 squeezes_S1x40x1x1024_S40x1x1024 = dslot s :=
  congrArg (fun M : Memref sig .tc .vmem S1x40x1x1024 .f32 => M.squeeze S40x1x1024 squeezes_S1x40x1x1024_S40x1x1024) (Memref.slice_unit_congr _ e _ _ _ _)
/-- Equal offsets give the same slot, tile or semaphore. -/
theorem dtile_congr {off : Fin 3 → Nat} {b : Fin 27} (e : off = dtileOff b) (hh hs) :
    dM.slice (Rect.unit (s := S40x1x27648) off S40x1x1024.size hh) hs = dtile b := Memref.slice_unit_congr _ e _ _ _ (fun _ => rfl)

section Trip
variable (k : Fin k0_t2_loop.trips)

/-! A trip's wait for weight block `k`, -/
@[sl_canon] theorem wsemW (hh) : (cc0_scratch26.slice (Rect.unit (s := S8) (k0_off5 k) S1.size hh)).squeeze S_ squeezes_S1_S_ = wsem (Ring.sl 8 k.val) := wsem_congr (off5_eq k) _
/-- What the trip waits for, by its name. -/
@[sl_canon] theorem wslotW (hh hs) : (wR.slice (Rect.unit (s := S8x5120x1024) (k0_off6 k) S1x5120x1024.size hh) hs).squeeze S5120x1024 squeezes_S1x5120x1024_S5120x1024 = wslot (Ring.sl 8 k.val) := wslot_congr (off6_eq k) _ _
/-- What the trip waits for, by its name. -/
@[sl_canon] theorem wblkW (hh hs) : wM.slice (Rect.unit (s := S5120x27648) (k0_off7 k) S5120x1024.size hh) hs = wblk (Ring.bk 27 k.val) := wblk_congr (off7_eq k) _ _
/-! its start of block `k + 7`, -/
@[sl_canon] theorem wsemI (hk : k.val < 20) (hh) : (cc0_scratch26.slice (Rect.unit (s := S8) (k0_off13 k) S1.size hh)).squeeze S_ squeezes_S1_S_ = wsem (Ring.sl 8 (k.val + 7)) := wsem_congr (off13_eq k hk) _
/-- What the trip starts to copy, by its name. -/
@[sl_canon] theorem wslotI (hk : k.val < 20) (hh hs) : (wR.slice (Rect.unit (s := S8x5120x1024) (k0_off14 k) S1x5120x1024.size hh) hs).squeeze S5120x1024 squeezes_S1x5120x1024_S5120x1024 = wslot (Ring.sl 8 (k.val + 7)) := wslot_congr (off14_eq k hk) _ _
/-- What the trip starts to copy, by its name. -/
@[sl_canon] theorem wblkI (hk : k.val < 20) (hh hs) : wM.slice (Rect.unit (s := S5120x27648) (k0_off15 k) S5120x1024.size hh) hs = wblk (Ring.bk 27 (k.val + 7)) := wblk_congr (off15_eq k hk) _ _
/-! its start of the write of tile `k - 1`, -/
@[sl_canon] theorem ysemI (hk : 0 < k.val) (hh) : (cc0_scratch27.slice (Rect.unit (s := S2) (k0_off8 k) S1.size hh)).squeeze S_ squeezes_S1_S_ = ysem (Ring.sl 2 (k.val + 1)) := ysem_congr (off8_eq k hk) _
/-- What the trip starts to copy, by its name. -/
@[sl_canon] theorem dsemI (hk : 0 < k.val) (hh) : (cc0_scratch28.slice (Rect.unit (s := S2) (k0_off8 k) S1.size hh)).squeeze S_ squeezes_S1_S_ = dsem (Ring.sl 2 (k.val + 1)) := dsem_congr (off8_eq k hk) _
/-- What the trip starts to copy, by its name. -/
@[sl_canon] theorem ytileI (hk : 0 < k.val) (hh hs) : yM.slice (Rect.unit (s := S40x27648) (k0_off9 k) S40x1024.size hh) hs = ytile (Ring.bk 27 (k.val - 1)) := ytile_congr (off9_eq k hk) _ _
/-- What the trip starts to copy, by its name. -/
@[sl_canon] theorem yslotI (hk : 0 < k.val) (hh hs) : (yR.slice (Rect.unit (s := S2x40x1024) (k0_off10 k) S1x40x1024.size hh) hs).squeeze S40x1024 squeezes_S1x40x1024_S40x1024 = yslot (Ring.sl 2 (k.val + 1)) := yslot_congr (off10_eq k hk) _ _
/-- What the trip starts to copy, by its name. -/
@[sl_canon] theorem dtileI (hk : 0 < k.val) (hh hs) : dM.slice (Rect.unit (s := S40x1x27648) (k0_off11 k) S40x1x1024.size hh) hs = dtile (Ring.bk 27 (k.val - 1)) := dtile_congr (off11_eq k hk) _ _
/-- What the trip starts to copy, by its name. -/
@[sl_canon] theorem dslotI (hk : 0 < k.val) (hh hs) : (dR.slice (Rect.unit (s := S2x40x1x1024) (k0_off12 k) S1x40x1x1024.size hh) hs).squeeze S40x1x1024 squeezes_S1x40x1x1024_S40x1x1024 = dslot (Ring.sl 2 (k.val + 1)) := dslot_congr (off12_eq k hk) _ _
/-! and its wait for the write of tile `k - 2`. -/
@[sl_canon] theorem ysemW (hk : 1 < k.val) (hh) : (cc0_scratch27.slice (Rect.unit (s := S2) (k0_off16 k) S1.size hh)).squeeze S_ squeezes_S1_S_ = ysem (Ring.sl 2 k.val) := ysem_congr (off16_eq k hk) _
/-- What the trip waits for, by its name. -/
@[sl_canon] theorem dsemW (hk : 1 < k.val) (hh) : (cc0_scratch28.slice (Rect.unit (s := S2) (k0_off16 k) S1.size hh)).squeeze S_ squeezes_S1_S_ = dsem (Ring.sl 2 k.val) := dsem_congr (off16_eq k hk) _
/-- What the trip waits for, by its name. -/
@[sl_canon] theorem ytileW (hk : 1 < k.val) (hh hs) : yM.slice (Rect.unit (s := S40x27648) (k0_off17 k) S40x1024.size hh) hs = ytile (Ring.bk 27 (k.val - 2)) := ytile_congr (off17_eq k hk) _ _
/-- What the trip waits for, by its name. -/
@[sl_canon] theorem yslotW (hk : 1 < k.val) (hh hs) : (yR.slice (Rect.unit (s := S2x40x1024) (k0_off18 k) S1x40x1024.size hh) hs).squeeze S40x1024 squeezes_S1x40x1024_S40x1024 = yslot (Ring.sl 2 k.val) := yslot_congr (off18_eq k hk) _ _
/-- What the trip waits for, by its name. -/
@[sl_canon] theorem dtileW (hk : 1 < k.val) (hh hs) : dM.slice (Rect.unit (s := S40x1x27648) (k0_off19 k) S40x1x1024.size hh) hs = dtile (Ring.bk 27 (k.val - 2)) := dtile_congr (off19_eq k hk) _ _
/-- What the trip waits for, by its name. -/
@[sl_canon] theorem dslotW (hk : 1 < k.val) (hh hs) : (dR.slice (Rect.unit (s := S2x40x1x1024) (k0_off20 k) S1x40x1x1024.size hh) hs).squeeze S40x1x1024 squeezes_S1x40x1x1024_S40x1x1024 = dslot (Ring.sl 2 k.val) := dslot_congr (off20_eq k hk) _ _

end Trip

/-! ## The prologue's and the epilogue's slices -/

/-- What is copied before the loop, by its name. -/
@[sl_canon] theorem wsemP0 (hh) : (cc0_scratch26.slice (Rect.unit (s := S8) (k0_off1 0#32) S1.size hh)).squeeze S_ squeezes_S1_S_ = wsem 0 := wsem_congr (by decide) _
/-- What is copied before the loop, by its name. -/
@[sl_canon] theorem wsemP1 (hh) : (cc0_scratch26.slice (Rect.unit (s := S8) (k0_off1 1#32) S1.size hh)).squeeze S_ squeezes_S1_S_ = wsem 1 := wsem_congr (by decide) _
/-- What is copied before the loop, by its name. -/
@[sl_canon] theorem wsemP2 (hh) : (cc0_scratch26.slice (Rect.unit (s := S8) (k0_off1 2#32) S1.size hh)).squeeze S_ squeezes_S1_S_ = wsem 2 := wsem_congr (by decide) _
/-- What is copied before the loop, by its name. -/
@[sl_canon] theorem wsemP3 (hh) : (cc0_scratch26.slice (Rect.unit (s := S8) (k0_off1 3#32) S1.size hh)).squeeze S_ squeezes_S1_S_ = wsem 3 := wsem_congr (by decide) _
/-- What is copied before the loop, by its name. -/
@[sl_canon] theorem wsemP4 (hh) : (cc0_scratch26.slice (Rect.unit (s := S8) (k0_off1 4#32) S1.size hh)).squeeze S_ squeezes_S1_S_ = wsem 4 := wsem_congr (by decide) _
/-- What is copied before the loop, by its name. -/
@[sl_canon] theorem wsemP5 (hh) : (cc0_scratch26.slice (Rect.unit (s := S8) (k0_off1 5#32) S1.size hh)).squeeze S_ squeezes_S1_S_ = wsem 5 := wsem_congr (by decide) _
/-- What is copied before the loop, by its name. -/
@[sl_canon] theorem wsemP6 (hh) : (cc0_scratch26.slice (Rect.unit (s := S8) (k0_off1 6#32) S1.size hh)).squeeze S_ squeezes_S1_S_ = wsem 6 := wsem_congr (by decide) _
/-- What is copied before the loop, by its name. -/
@[sl_canon] theorem wslotP0 (hh hs) : (wR.slice (Rect.unit (s := S8x5120x1024) (k0_off2 0#32) S1x5120x1024.size hh) hs).squeeze S5120x1024 squeezes_S1x5120x1024_S5120x1024 = wslot 0 := wslot_congr (by decide) _ _
/-- What is copied before the loop, by its name. -/
@[sl_canon] theorem wslotP1 (hh hs) : (wR.slice (Rect.unit (s := S8x5120x1024) (k0_off2 1#32) S1x5120x1024.size hh) hs).squeeze S5120x1024 squeezes_S1x5120x1024_S5120x1024 = wslot 1 := wslot_congr (by decide) _ _
/-- What is copied before the loop, by its name. -/
@[sl_canon] theorem wslotP2 (hh hs) : (wR.slice (Rect.unit (s := S8x5120x1024) (k0_off2 2#32) S1x5120x1024.size hh) hs).squeeze S5120x1024 squeezes_S1x5120x1024_S5120x1024 = wslot 2 := wslot_congr (by decide) _ _
/-- What is copied before the loop, by its name. -/
@[sl_canon] theorem wslotP3 (hh hs) : (wR.slice (Rect.unit (s := S8x5120x1024) (k0_off2 3#32) S1x5120x1024.size hh) hs).squeeze S5120x1024 squeezes_S1x5120x1024_S5120x1024 = wslot 3 := wslot_congr (by decide) _ _
/-- What is copied before the loop, by its name. -/
@[sl_canon] theorem wslotP4 (hh hs) : (wR.slice (Rect.unit (s := S8x5120x1024) (k0_off2 4#32) S1x5120x1024.size hh) hs).squeeze S5120x1024 squeezes_S1x5120x1024_S5120x1024 = wslot 4 := wslot_congr (by decide) _ _
/-- What is copied before the loop, by its name. -/
@[sl_canon] theorem wslotP5 (hh hs) : (wR.slice (Rect.unit (s := S8x5120x1024) (k0_off2 5#32) S1x5120x1024.size hh) hs).squeeze S5120x1024 squeezes_S1x5120x1024_S5120x1024 = wslot 5 := wslot_congr (by decide) _ _
/-- What is copied before the loop, by its name. -/
@[sl_canon] theorem wslotP6 (hh hs) : (wR.slice (Rect.unit (s := S8x5120x1024) (k0_off2 6#32) S1x5120x1024.size hh) hs).squeeze S5120x1024 squeezes_S1x5120x1024_S5120x1024 = wslot 6 := wslot_congr (by decide) _ _
/-- What is copied before the loop, by its name. -/
@[sl_canon] theorem wblkP0 (hh hs) : wM.slice (Rect.unit (s := S5120x27648) ![0, 0] S5120x1024.size hh) hs = wblk 0 := wblk_congr (by decide) _ _
/-- What is copied before the loop, by its name. -/
@[sl_canon] theorem wblkP1 (hh hs) : wM.slice (Rect.unit (s := S5120x27648) ![0, 1024] S5120x1024.size hh) hs = wblk 1 := wblk_congr (by decide) _ _
/-- What is copied before the loop, by its name. -/
@[sl_canon] theorem wblkP2 (hh hs) : wM.slice (Rect.unit (s := S5120x27648) ![0, 2048] S5120x1024.size hh) hs = wblk 2 := wblk_congr (by decide) _ _
/-- What is copied before the loop, by its name. -/
@[sl_canon] theorem wblkP3 (hh hs) : wM.slice (Rect.unit (s := S5120x27648) ![0, 3072] S5120x1024.size hh) hs = wblk 3 := wblk_congr (by decide) _ _
/-- What is copied before the loop, by its name. -/
@[sl_canon] theorem wblkP4 (hh hs) : wM.slice (Rect.unit (s := S5120x27648) ![0, 4096] S5120x1024.size hh) hs = wblk 4 := wblk_congr (by decide) _ _
/-- What is copied before the loop, by its name. -/
@[sl_canon] theorem wblkP5 (hh hs) : wM.slice (Rect.unit (s := S5120x27648) ![0, 5120] S5120x1024.size hh) hs = wblk 5 := wblk_congr (by decide) _ _
/-- What is copied before the loop, by its name. -/
@[sl_canon] theorem wblkP6 (hh hs) : wM.slice (Rect.unit (s := S5120x27648) ![0, 6144] S5120x1024.size hh) hs = wblk 6 := wblk_congr (by decide) _ _

/-- What is waited for after the loop, by its name. -/
@[sl_canon] theorem ysemE0 (hh) : (cc0_scratch27.slice (Rect.unit (s := S2) (k0_off26 26#32) S1.size hh)).squeeze S_ squeezes_S1_S_ = ysem 0 := ysem_congr (by decide) _
/-- What is waited for after the loop, by its name. -/
@[sl_canon] theorem ysemE1 (hh) : (cc0_scratch27.slice (Rect.unit (s := S2) (k0_off26 25#32) S1.size hh)).squeeze S_ squeezes_S1_S_ = ysem 1 := ysem_congr (by decide) _
/-- What is waited for after the loop, by its name. -/
@[sl_canon] theorem dsemE0 (hh) : (cc0_scratch28.slice (Rect.unit (s := S2) (k0_off26 26#32) S1.size hh)).squeeze S_ squeezes_S1_S_ = dsem 0 := dsem_congr (by decide) _
/-- What is waited for after the loop, by its name. -/
@[sl_canon] theorem dsemE1 (hh) : (cc0_scratch28.slice (Rect.unit (s := S2) (k0_off26 25#32) S1.size hh)).squeeze S_ squeezes_S1_S_ = dsem 1 := dsem_congr (by decide) _
/-- What is waited for after the loop, by its name. -/
@[sl_canon] theorem yslotE0 (hh hs) : (yR.slice (Rect.unit (s := S2x40x1024) (k0_off27 26#32) S1x40x1024.size hh) hs).squeeze S40x1024 squeezes_S1x40x1024_S40x1024 = yslot 0 := yslot_congr (by decide) _ _
/-- What is waited for after the loop, by its name. -/
@[sl_canon] theorem yslotE1 (hh hs) : (yR.slice (Rect.unit (s := S2x40x1024) (k0_off27 25#32) S1x40x1024.size hh) hs).squeeze S40x1024 squeezes_S1x40x1024_S40x1024 = yslot 1 := yslot_congr (by decide) _ _
/-- What is waited for after the loop, by its name. -/
@[sl_canon] theorem dslotE0 (hh hs) : (dR.slice (Rect.unit (s := S2x40x1x1024) (k0_off28 26#32) S1x40x1x1024.size hh) hs).squeeze S40x1x1024 squeezes_S1x40x1x1024_S40x1x1024 = dslot 0 := dslot_congr (by decide) _ _
/-- What is waited for after the loop, by its name. -/
@[sl_canon] theorem dslotE1 (hh hs) : (dR.slice (Rect.unit (s := S2x40x1x1024) (k0_off28 25#32) S1x40x1x1024.size hh) hs).squeeze S40x1x1024 squeezes_S1x40x1x1024_S40x1x1024 = dslot 1 := dslot_congr (by decide) _ _
/-- What is waited for after the loop, by its name. -/
@[sl_canon] theorem ytileE0 (hh hs) : yM.slice (Rect.unit (s := S40x27648) ![0, 26624] S40x1024.size hh) hs = ytile 26 := ytile_congr (by decide) _ _
/-- What is waited for after the loop, by its name. -/
@[sl_canon] theorem ytileE1 (hh hs) : yM.slice (Rect.unit (s := S40x27648) ![0, 25600] S40x1024.size hh) hs = ytile 25 := ytile_congr (by decide) _ _
/-- What is waited for after the loop, by its name. -/
@[sl_canon] theorem dtileE0 (hh hs) : dM.slice (Rect.unit (s := S40x1x27648) ![0, 0, 26624] S40x1x1024.size hh) hs = dtile 26 := dtile_congr (by decide) _ _
/-- What is waited for after the loop, by its name. -/
@[sl_canon] theorem dtileE1 (hh hs) : dM.slice (Rect.unit (s := S40x1x27648) ![0, 0, 25600] S40x1x1024.size hh) hs = dtile 25 := dtile_congr (by decide) _ _

end Cert.Proof.KernelRun

end
-- ==== Proof.KernelZ.lean ====
/-
  The loop that accumulates `x V`: five trips, each over 1024 of the 5120 columns of `x`. A trip reads its columns of
  `x` and of the packed digits, unpacks the digits and adds their product into the accumulator. Its invariant: the
  accumulator holds the stores of the trips before.
-/
module

public import proofs.«01_k».proof.Proof.KernelNames

@[expose] public section

set_option maxRecDepth 16384

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev 𝒱₀ : Variants := Variants.none
local notation "𝕄" => MT nD τ sig Unit (Elt F) ℕ (Pipeline.UD sig nD τ) ℕ

/-- What a buffer of core `c` holds. -/
abbrev BufC (F : FTy → Type) (c : Dev nD) (b : Ref sig .tc) : Type := Buf (Elt F) ((c : Thread nD τ).loc b)
/-- Buffer `b` of core `c` held whole at `f`. -/
abbrev at_ {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

abbrev xB : Memref sig .tc .vmem S40x5120 .bf16 := Memref.whole cc0_scratch3
abbrev vB : Memref sig .tc .vmem S117x5120 .i8 := Memref.whole cc0_scratch2
abbrev maskB : Memref sig .tc .vmem S14x8x128 .i32 := Memref.whole cc0_scratch14
abbrev vzB : Memref sig .tc .vmem S512x128 .bf16 := Memref.whole cc0_scratch16
abbrev vsB : Memref sig .tc .vmem S512x128 .bf16 := Memref.whole cc0_scratch17
abbrev accB : Memref sig .tc .vmem S40x512 .f32 := Memref.whole cc0_scratch20

/-- The region of the loop on the kernel's buffers. -/
abbrev regionZ : Fin k0_t1_loop.trips → Unit → Prog (TpuEff nD τ sig (Elt F) Λ₀ .tc) Unit :=
  k0_t1_body (F := F) (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_arg6) (Memref.isWhole_whole _) (Memref.whole main_v5) (Memref.isWhole_whole _) (Memref.whole main_v6) (Memref.isWhole_whole _) (Memref.whole main_arg9) (Memref.isWhole_whole _) (Memref.whole main_v7_0) (Memref.isWhole_whole _) (Memref.whole main_v7_1) (Memref.isWhole_whole _) (Memref.whole main_v7_2) (Memref.isWhole_whole _) (Memref.whole main_v7_3) (Memref.isWhole_whole _) (Memref.whole main_v7_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 cc0_scratch29

section
variable (c : Dev nD) (Xv : Buf (Elt F) (vB.view.loc (c : Thread nD τ))) (Xx : Buf (Elt F) (xB.view.loc (c : Thread nD τ)))
  (Xm : Buf (Elt F) (maskB.view.loc (c : Thread nD τ))) (Xz : Buf (Elt F) (vzB.view.loc (c : Thread nD τ))) (Xs : Buf (Elt F) (vsB.view.loc (c : Thread nD τ)))

/-- What a trip of the loop touches: five buffers it reads and the accumulator. -/
abbrev resZ (f : Buf (Elt F) (accB.view.loc (c : Thread nD τ))) : sProp 𝕄 :=
  iprop(at_ c vB Xv ∗ at_ c xB Xx ∗ at_ c maskB Xm ∗ at_ c vzB Xz ∗ at_ c vsB Xs ∗ at_ c accB f)

set_option backward.proofsInPublic true in
/-- One trip: the accumulator gets one store; its payload is found by the run, as a function of what the accumulator
    held. -/
@[irreducible] def tripZ (k : Fin k0_t1_loop.trips) :
    { L : Buf (Elt F) (accB.view.loc (c : Thread nD τ)) → List (View.Piece (Elt F) S40x512 .f32) // ∀ f : Buf (Elt F) (accB.view.loc (c : Thread nD τ)),
      resZ c Xv Xx Xm Xz Xs f ⊢ wp frame (wpE (defs₀ (F := F)) 𝒱₀ (c : Thread nD τ) none) Set.univ (regionZ (F := F) k PUnit.unit)
        (fun _ => resZ c Xv Xx Xm Xz Xs (accB.view.writes (Elt F) f (L f))) } := by
  have hk : k.val < 5 := Nat.lt_of_lt_of_le k.isLt k0_t1_abs.2.1
  refine ⟨?_, fun f => ?run⟩
  case run =>
    unfold regionZ k0_t1_body
    iintro ⟨HR17, HR18, HR29, HR31, HR32, HW35⟩
    sl_exec
    sl_step
    sl_close

/-- The accumulator before trip `k`. -/
def accZ (f₀ : Buf (Elt F) (accB.view.loc (c : Thread nD τ))) : ℕ → Buf (Elt F) (accB.view.loc (c : Thread nD τ))
  | 0 => f₀
  | k + 1 => if h : k < k0_t1_loop.trips then accB.view.writes (Elt F) (accZ f₀ k) ((tripZ c Xv Xx Xm Xz Xs ⟨k, h⟩).1 (accZ f₀ k)) else accZ f₀ k

/-- One more trip adds its chunk to the accumulator. -/
theorem accZ_succ (f₀ : Buf (Elt F) (accB.view.loc (c : Thread nD τ))) (k : Fin k0_t1_loop.trips) :
    accZ c Xv Xx Xm Xz Xs f₀ (k.val + 1) = accB.view.writes (Elt F) (accZ c Xv Xx Xm Xz Xs f₀ k.val) ((tripZ c Xv Xx Xm Xz Xs k).1 (accZ c Xv Xx Xm Xz Xs f₀ k.val)) := by
  rw [accZ.eq_2]; exact dif_pos k.isLt

set_option warn.classDefReducibility false in
/-- The loop's invariant: the five buffers as they are, the accumulator at `accZ` of the trips before. -/
@[sl_loop] def loopInvZ (f₀ : Buf (Elt F) (accB.view.loc (c : Thread nD τ))) :
    LoopInvTy_k0_t1 (F := F) Unit ℕ (Pipeline.UD sig nD τ) ℕ 𝒱₀ c none Set.univ (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_arg6) (Memref.isWhole_whole _) (Memref.whole main_v5) (Memref.isWhole_whole _) (Memref.whole main_v6) (Memref.isWhole_whole _) (Memref.whole main_arg9) (Memref.isWhole_whole _) (Memref.whole main_v7_0) (Memref.isWhole_whole _) (Memref.whole main_v7_1) (Memref.isWhole_whole _) (Memref.whole main_v7_2) (Memref.isWhole_whole _) (Memref.whole main_v7_3) (Memref.isWhole_whole _) (Memref.whole main_v7_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 cc0_scratch29 where
  inv k _ := iprop(resZ c Xv Xx Xm Xz Xs (accZ c Xv Xx Xm Xz Xs f₀ k))
  step k acc := by
    rw [accZ_succ]
    exact (tripZ c Xv Xx Xm Xz Xs k).2 _
end

end Cert.Proof.KernelRun

end
-- ==== Proof.KernelPieces.lean ====
/-
  What the tile loop holds between trips.

  Before trip `k`: weight blocks `k … k + 6` are in flight (those that exist), the other blocks are at home and the
  ring's remaining slots are free; the tiles of the two outputs up to `k - 3` are written, tile `k - 2` is in flight
  and tile `k - 1` lies in its slot.
-/
module

public import proofs.«01_k».proof.Proof.KernelZ
public import Idealize.ShloMosaic.Lib.DeliveryRep

@[expose] public section

set_option maxRecDepth 16384

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The other buffers -/

abbrev uB : Memref sig .tc .vmem S117x27648 .i8 := Memref.whole cc0_scratch1
abbrev wsB : Memref sig .tc .vmem S1x27648 .f32 := Memref.whole cc0_scratch4
abbrev xqB : Memref sig .tc .vmem S64x5120 .fp8e4m3 := Memref.whole cc0_scratch10
abbrev xcB : Memref sig .tc .vmem S40x5120 .fp8e4m3 := Memref.whole cc0_scratch11
abbrev xsColB : Memref sig .tc .vmem S40x128 .f32 := Memref.whole cc0_scratch12
abbrev xsRowB : Memref sig .tc .vmem S1x40 .f32 := Memref.whole cc0_scratch13
abbrev uzB : Memref sig .tc .vmem S512x128 .bf16 := Memref.whole cc0_scratch18
abbrev usB : Memref sig .tc .vmem S512x128 .bf16 := Memref.whole cc0_scratch19
abbrev zB : Memref sig .tc .vmem S40x1x446 .f32 := Memref.whole cc0_scratch21
abbrev tB : Memref sig .tc .vmem S40x512 .bf16 := Memref.whole cc0_scratch22
abbrev zM : Memref sig .tc .hbm S40x1x446 .f32 := Memref.whole main_v7_2
abbrev xcM : Memref sig .tc .hbm S40x5120 .fp8e4m3 := Memref.whole main_v7_3
abbrev xsM : Memref sig .tc .hbm S1x40 .f32 := Memref.whole main_v7_4

def osem0 : DmaSems sig S_ := (cc0_scratch29.slice (Rect.unit (s := S3) ![0] S1.size inb_S3_S1_0)).squeeze S_ squeezes_S1_S_
def osem1 : DmaSems sig S_ := (cc0_scratch29.slice (Rect.unit (s := S3) ![1] S1.size inb_S3_S1_1)).squeeze S_ squeezes_S1_S_
def osem2 : DmaSems sig S_ := (cc0_scratch29.slice (Rect.unit (s := S3) ![2] S1.size inb_S3_S1_2)).squeeze S_ squeezes_S1_S_
/-- A semaphore of the copies out, as the body names it. -/
@[sl_canon] theorem osemC0 (hh) : (cc0_scratch29.slice (Rect.unit (s := S3) ![0] S1.size hh)).squeeze S_ squeezes_S1_S_ = osem0 := rfl
/-- A semaphore of the copies out, as the body names it. -/
@[sl_canon] theorem osemC1 (hh) : (cc0_scratch29.slice (Rect.unit (s := S3) ![1] S1.size hh)).squeeze S_ squeezes_S1_S_ = osem1 := rfl
/-- A semaphore of the copies out, as the body names it. -/
@[sl_canon] theorem osemC2 (hh) : (cc0_scratch29.slice (Rect.unit (s := S3) ![2] S1.size hh)).squeeze S_ squeezes_S1_S_ = osem2 := rfl

section Pieces
variable (c : Dev nD)

/-- A DMA semaphore's cell at zero. -/
abbrev cell (A : DmaSems sig S_) : sProp 𝕄 := semVal ((c : Thread nD τ), SemLoc.dma A.sem) 0
/-- A transfer in flight from `src`, held at `f`, to `dst`, over what `dst` held, `g`. -/
abbrev flying {sp sp' : Space} {s : Shape} {e : EltTy} (A : DmaSems sig S_) (n : ℕ) (src : Memref sig .tc sp s e) (dst : Memref sig .tc sp' s e)
    (f : Buf (Elt F) (src.view.loc (c : Thread nD τ))) (g : Buf (Elt F) (dst.view.loc (c : Thread nD τ))) : sProp 𝕄 :=
  Transfers.Flight countersEmb (c : Thread nD τ) (SemLoc.dma A.sem) () n
    iprop((at_ c dst (dst.view.writes (Elt F) g [⟨Rect.whole s, ReadAs.same.apply (src.view.read (Elt F) f)⟩])) ∗ at_ c src f)

/-! ### The weight ring -/

variable (XW : Buf (Elt F) (wM.view.loc (c : Thread nD τ)))

abbrev whome (b : Fin 27) : sProp 𝕄 := at_ c (wblk b) XW
abbrev wfly (s : Fin 8) (b : Fin 27) (g : Buf (Elt F) ((wslot s).view.loc (c : Thread nD τ))) : sProp 𝕄 := flying c (wsem s) 163840 (wblk b) (wslot s) XW g
/-- The ring slot of block number `b` free. -/
abbrev wfree (b : ℕ) : sProp 𝕄 := iprop(cell c (wsem (Ring.sl 8 b)) ∗ ∃ g, at_ c (wslot (Ring.sl 8 b)) g)
/-- The slot of block number `b`: the block in flight, or free past the last block. -/
def wrole (b : ℕ) : sProp 𝕄 := if b < 27 then iprop(∃ g, wfly c XW (Ring.sl 8 b) (Ring.bk 27 b) g) else wfree c b
/-- The slots of the next six blocks. -/
def wnext (k : ℕ) : sProp 𝕄 :=
  iprop(wrole c XW (k + 1) ∗ wrole c XW (k + 2) ∗ wrole c XW (k + 3) ∗ wrole c XW (k + 4) ∗ wrole c XW (k + 5) ∗ wrole c XW (k + 6))
/-- The weight ring before trip `k`. -/
def wI (k : ℕ) : sProp 𝕄 :=
  iprop(bigSep (Ring.homeSet 7 k) (whome c XW) ∗ wrole c XW k ∗ wnext c XW k ∗ wfree c (k + 7))
/-- The weight ring inside trip `k`, block `k` landed. -/
def wMid (k : ℕ) : sProp 𝕄 :=
  iprop(bigSep (Ring.homeSet 7 (k + 1)) (whome c XW) ∗ wnext c XW k ∗ wrole c XW (k + 7) ∗ cell c (wsem (Ring.sl 8 k)))

/-- Numbers with one remainder name one slot. -/
theorem sl_congr {n : ℕ} [NeZero n] {a b : ℕ} (h : a % n = b % n) : Ring.sl n a = Ring.sl n b := by
  apply Fin.ext; simpa [Ring.sl, Fin.ofNat] using h

/-- The landed slot freed, the ring stands as before trip `k + 1`. -/
theorem wMid_next (k : ℕ) : iprop(wMid c XW k ∗ ∃ g, at_ c (wslot (Ring.sl 8 k)) g) ⊢ wI c XW (k + 1) := by
  have e : Ring.sl 8 (k + 1 + 7) = Ring.sl 8 k := sl_congr (by omega)
  unfold wMid wI wnext wfree
  rw [e]
  iintro ⟨⟨HH, ⟨H1, H2, H3, H4, H5, H6⟩, H7, HC⟩, HG⟩
  isplitl [HH]; · iexact HH
  isplitl [H1]; · iexact H1
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [HC]; · iexact HC
  iexact HG

/-- The weight tiles still at home, with the tile a trip fetches set apart. -/
theorem whomes_here (k : ℕ) (hk : k + 7 < 27) :
    bigSep (Ring.homeSet 7 k) (whome c XW) = iprop(whome c XW (Ring.bk 27 (k + 7)) ∗ bigSep ((Ring.homeSet 7 k).erase (Ring.bk 27 (k + 7))) (whome c XW)) := by
  conv_lhs => rw [Ring.homeSet_out 7 k hk, bigSep_insert (Ring.bkL_not_mem_erase 7 k)]
  rfl
/-- The weight tiles at home after such a trip: the fetched one has left, the one that landed is back. -/
theorem whomes_next (k : ℕ) (hk : k + 7 < 27) :
    bigSep (Ring.homeSet 7 (k + 1)) (whome c XW) = iprop(whome c XW (Ring.bk 27 k) ∗ bigSep ((Ring.homeSet 7 k).erase (Ring.bk 27 (k + 7))) (whome c XW)) := by
  conv_lhs => rw [Ring.homeSet_succ 7 k hk, bigSep_insert (Ring.bk_not_mem_erase 7 k (by omega) (by decide))]
  rfl
/-- On the last trips nothing more leaves; the tile that landed is back. -/
theorem whomes_tail (k : ℕ) (h : 27 ≤ k + 7) (hk : k < 27) :
    bigSep (Ring.homeSet 7 (k + 1)) (whome c XW) = iprop(whome c XW (Ring.bk 27 k) ∗ bigSep (Ring.homeSet 7 k) (whome c XW)) := by
  conv_lhs => rw [Ring.homeSet_succ_tail 7 k h hk, bigSep_insert (Ring.bk_not_mem_homeSet 7 k hk (by decide))]
  rfl

/-! ### The two written results -/

variable (gy : Buf (Elt F) (yM.view.loc (c : Thread nD τ))) (gd : Buf (Elt F) (dM.view.loc (c : Thread nD τ)))
  (yv : ℕ → S40x1024.Idx → Elt F .bf16) (dv : ℕ → S40x1x1024.Idx → Elt F .f32)

/-- Tile `b` of both results not yet written, -/
abbrev tini (b : Fin 27) : sProp 𝕄 := iprop(at_ c (ytile b) gy ∗ at_ c (dtile b) gd)
/-- and written. -/
abbrev tfin (b : Fin 27) : sProp 𝕄 := iprop(at_ c (ytile b) ((ytile b).view.rep (yv b.val)) ∗ at_ c (dtile b) ((dtile b).view.rep (dv b.val)))
/-- The slots of parity `p` free, -/
abbrev sfree (p : ℕ) : sProp 𝕄 :=
  iprop(cell c (ysem (Ring.sl 2 p)) ∗ cell c (dsem (Ring.sl 2 p)) ∗ (∃ f, at_ c (yslot (Ring.sl 2 p)) f) ∗ (∃ f, at_ c (dslot (Ring.sl 2 p)) f))
/-- holding tile `b`, -/
abbrev sdone (p b : ℕ) : sProp 𝕄 :=
  iprop(cell c (ysem (Ring.sl 2 p)) ∗ cell c (dsem (Ring.sl 2 p)) ∗ at_ c (yslot (Ring.sl 2 p)) ((yslot (Ring.sl 2 p)).view.rep (yv b))
    ∗ at_ c (dslot (Ring.sl 2 p)) ((dslot (Ring.sl 2 p)).view.rep (dv b)))
/-- and being written out to tile `b`. -/
abbrev sfly (p b : ℕ) : sProp 𝕄 :=
  iprop(flying c (ysem (Ring.sl 2 p)) 2560 (yslot (Ring.sl 2 p)) (ytile (Ring.bk 27 b)) ((yslot (Ring.sl 2 p)).view.rep (yv b)) gy
    ∗ flying c (dsem (Ring.sl 2 p)) 5120 (dslot (Ring.sl 2 p)) (dtile (Ring.bk 27 b)) ((dslot (Ring.sl 2 p)).view.rep (dv b)) gd)
/-- The slots of trip `k`'s parity before trip `k`: tile `k - 2` going out, -/
def sold (k : ℕ) : sProp 𝕄 := if k < 2 then sfree c k else sfly c gy gd yv dv k (k - 2)
/-- and the other slots: tile `k - 1` computed. -/
def snew (k : ℕ) : sProp 𝕄 := if k = 0 then sfree c (k + 1) else sdone c yv dv (k + 1) (k - 1)
/-- The results before trip `k`. -/
def yI (k : ℕ) : sProp 𝕄 :=
  iprop(bigSep (Ring.aheadSet (k - 1)) (tini c gy gd) ∗ bigSep (Ring.behindSet 2 k) (tfin c yv dv) ∗ sold c gy gd yv dv k ∗ snew c yv dv k)
/-- The results inside trip `k`: tile `k - 1` going out, trip `k`'s slots free. -/
def yMid (k : ℕ) : sProp 𝕄 :=
  iprop(bigSep (Ring.aheadSet k) (tini c gy gd) ∗ bigSep (Ring.behindSet 2 (k + 1)) (tfin c yv dv) ∗ sold c gy gd yv dv (k + 1) ∗ sfree c k)

/-! ### The three small results -/

variable (Zz : Buf (Elt F) (zB.view.loc (c : Thread nD τ))) (Zc : Buf (Elt F) (xcB.view.loc (c : Thread nD τ))) (Zs : Buf (Elt F) (xsRowB.view.loc (c : Thread nD τ)))
  (gz : Buf (Elt F) (zM.view.loc (c : Thread nD τ))) (gc : Buf (Elt F) (xcM.view.loc (c : Thread nD τ))) (gs : Buf (Elt F) (xsM.view.loc (c : Thread nD τ)))

/-- The three small results ready to go out, -/
def oIdle : sProp 𝕄 :=
  iprop(at_ c zB Zz ∗ at_ c xcB Zc ∗ at_ c xsRowB Zs ∗ at_ c zM gz ∗ at_ c xcM gc ∗ at_ c xsM gs ∗ cell c osem0 ∗ cell c osem1 ∗ cell c osem2)
/-- and going out. -/
def oFly : sProp 𝕄 :=
  iprop(flying c osem0 2560 zB zM Zz gz ∗ flying c osem1 10240 xcB xcM Zc gc ∗ flying c osem2 16 xsRowB xsM Zs gs)
def oI (k : ℕ) : sProp 𝕄 := if k = 0 then oIdle c Zz Zc Zs gz gc gs else oFly c Zz Zc Zs gz gc gs

end Pieces

end Cert.Proof.KernelRun

end
-- ==== Proof.KernelDma.lean ====
/-
  The transfers of a trip of the tile loop: wait for this trip's weight block, start the next block and the write of
  the tile before, wait for the write of the tile before that. Trips 0 and 1 and the trips after the last start differ
  in which of these happen.
-/
module

public import proofs.«01_k».proof.Proof.KernelPieces

@[expose] public section

set_option maxRecDepth 16384

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (XW : Buf (Elt F) (wM.view.loc (c : Thread nD τ)))
  (gy : Buf (Elt F) (yM.view.loc (c : Thread nD τ))) (gd : Buf (Elt F) (dM.view.loc (c : Thread nD τ)))
  (yv : ℕ → S40x1024.Idx → Elt F .bf16) (dv : ℕ → S40x1x1024.Idx → Elt F .f32)
  (Zz : Buf (Elt F) (zB.view.loc (c : Thread nD τ))) (Zc : Buf (Elt F) (xcB.view.loc (c : Thread nD τ))) (Zs : Buf (Elt F) (xsRowB.view.loc (c : Thread nD τ)))
  (gz : Buf (Elt F) (zM.view.loc (c : Thread nD τ))) (gc : Buf (Elt F) (xcM.view.loc (c : Thread nD τ))) (gs : Buf (Elt F) (xsM.view.loc (c : Thread nD τ)))
  (Xu : Buf (Elt F) (uB.view.loc (c : Thread nD τ)))

/-- The weight block `b` as it lies in memory. -/
abbrev wval (b : ℕ) : S5120x1024.Idx → Elt F .fp8e4m3 := (wblk (Ring.bk 27 b)).view.read (Elt F) XW
/-- The packed digits' columns of tile `k`, as loaded. -/
abbrev uval (k : Fin k0_t2_loop.trips) : Vec F S117x1024 .i8 :=
  uB.view.readAt (Elt F) (Rect.unit (s := S117x27648) (k0_off21 k) S117x1024.size (k0_off21_inb k)).toLoadRect Xu

/-- What a trip holds before its transfers, -/
def dPre (k : ℕ) : sProp 𝕄 :=
  iprop(wI c XW k ∗ yI c gy gd yv dv k ∗ oI c Zz Zc Zs gz gc gs k ∗ at_ c uB Xu ∗ ∃ W, owes (c : Thread nD τ) 0 W)
/-- and after them. -/
def dPost (k : ℕ) : sProp 𝕄 :=
  iprop(wMid c XW k ∗ at_ c (wslot (Ring.sl 8 k)) ((wslot (Ring.sl 8 k)).view.rep (wval c XW k)) ∗ yMid c gy gd yv dv k
    ∗ oFly c Zz Zc Zs gz gc gs ∗ at_ c uB Xu ∗ ∃ W, owes (c : Thread nD τ) 0 W)

/-- The part of a trip with the transfers. -/
abbrev part (k : Fin k0_t2_loop.trips) := k0_part29 (F := F) (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_arg6) (Memref.isWhole_whole _) (Memref.whole main_v5) (Memref.isWhole_whole _) (Memref.whole main_v6) (Memref.isWhole_whole _) (Memref.whole main_arg9) (Memref.isWhole_whole _) (Memref.whole main_v7_0) (Memref.isWhole_whole _) (Memref.whole main_v7_1) (Memref.isWhole_whole _) (Memref.whole main_v7_2) (Memref.isWhole_whole _) (Memref.whole main_v7_3) (Memref.isWhole_whole _) (Memref.whole main_v7_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 cc0_scratch29 0#32 1#32 k

/-- What that part hands on: the trip's words and the first digits of the tile's columns. -/
abbrev ret (k : Fin k0_t2_loop.trips) : Σ' (arg45 : BitVec 32) (v696 : BitVec 32) (v697 : BitVec 32) (v702 : IVec S32x1024 32) (v704 : IVec S8x128 32) (v705 : IVec S24x128 32), IVec S8x128 32 :=
  ⟨Scf.iv 0#32 1#32 k, Scalar.muli (Scf.iv 0#32 1#32 k) 1024#32, Scalar.remsi (Scf.iv 0#32 1#32 k) 2#32,
    k0_pay110 (uval c Xu k), k0_pay112 (uval c Xu k), k0_pay113 (uval c Xu k), k0_pay114 (uval c Xu k)⟩

/-- Equal assertions entail each other. -/
theorem ent_of_eq {P Q : sProp 𝕄} (e : P = Q) : P ⊢ Q := e ▸ .rfl

/-- Ahead of trip p stand the home of tile p and those after it. -/
theorem aheads_open (p : ℕ) (h : p < 27) :
    bigSep (Ring.aheadSet p) (tini c gy gd) = iprop(tini c gy gd (Ring.bk 27 p) ∗ bigSep (Ring.aheadSet (p + 1)) (tini c gy gd)) := by
  conv_lhs => rw [Ring.aheadSet_open p h, bigSep_insert (Ring.bk_not_mem_aheadSet_succ p h)]
  rfl
/-- Ahead of trip k - 1 stand the home of tile k - 1 and those after it, counted from k. -/
theorem aheads_here (k : ℕ) (h0 : 0 < k) (h : k ≤ 27) :
    bigSep (Ring.aheadSet (k - 1)) (tini c gy gd) = iprop(tini c gy gd (Ring.bk 27 (k - 1)) ∗ bigSep (Ring.aheadSet k) (tini c gy gd)) := by
  have e := aheads_open c gy gd (k - 1) (by omega)
  rwa [show k - 1 + 1 = k by omega] at e
/-- Before the first trip nothing has left the tiles ahead. -/
theorem aheads_boot (k : ℕ) (h0 : k = 0) : bigSep (Ring.aheadSet (k - 1)) (tini c gy gd) = bigSep (Ring.aheadSet k) (tini c gy gd) := by
  rw [show k - 1 = k by omega]
/-- Before the third trip no tile has been written back. -/
theorem behinds_boot (k : ℕ) (h0 : k < 2) : bigSep (Ring.behindSet 2 (k + 1)) (tfin c yv dv) = bigSep (Ring.behindSet 2 k) (tfin c yv dv) := by
  rw [Ring.behindSet_boot 2 (k + 1) (by omega), Ring.behindSet_boot 2 k (by omega)]
/-- After the next start the slot in flight carries the tile before. -/
theorem sold_succ (k : ℕ) (h : 0 < k) : sold c gy gd yv dv (k + 1) = sfly c gy gd yv dv (k + 1) (k - 1) := by
  unfold sold
  rw [if_neg (by omega)]
  exact congrArg (sfly c gy gd yv dv (k + 1)) (by omega)
/-- From the third trip on a slot holds the copy of two tiles before. -/
theorem sold_late (k : ℕ) (h : 1 < k) : sold c gy gd yv dv k = sfly c gy gd yv dv k (k - 2) := if_neg (by omega)
/-- On the first two trips a slot is free. -/
theorem sold_early (k : ℕ) (h : k < 2) : sold c gy gd yv dv k = sfree c k := if_pos h
/-- From the second trip on the other slot holds the finished tile before. -/
theorem snew_late (k : ℕ) (h : 0 < k) : snew c yv dv k = sdone c yv dv (k + 1) (k - 1) := if_neg (by omega)
/-- On the first trip the other slot is free. -/
theorem snew_early (k : ℕ) (h : k = 0) : snew c yv dv k = sfree c (k + 1) := if_pos h
/-- A tile written back joins those behind. -/
theorem behinds_close (p : ℕ) (hp : 2 ≤ p) (h : p < 27) :
    bigSep (Ring.behindSet 2 (p + 1)) (tfin c yv dv) = iprop(tfin c yv dv (Ring.bk 27 (p - 2)) ∗ bigSep (Ring.behindSet 2 p) (tfin c yv dv)) := by
  conv_lhs => rw [Ring.behindSet_close (d := 2) p hp (by omega), bigSep_insert (Ring.bk_not_mem_behindSet 2 p hp (by omega))]
  rfl

/-- What a landed transfer leaves in its destination. -/
theorem landed {sp sp' : Space} {s : Shape} {e : EltTy} (src : Memref sig .tc sp s e) (dst : Memref sig .tc sp' s e)
    (f : Buf (Elt F) (src.view.loc (c : Thread nD τ))) (g : Buf (Elt F) (dst.view.loc (c : Thread nD τ))) (X : s.Idx → Elt F e) (hX : src.view.read (Elt F) f = X) :
    (at_ c dst (dst.view.writes (Elt F) g [⟨Rect.whole s, ReadAs.same.apply (src.view.read (Elt F) f)⟩]) : sProp 𝕄)
      ⊢ at_ c dst (dst.view.rep X) := by
  subst hX
  refine (ent_of_eq (pointsTo_rep (Ix := Unit) (Name := ℕ) (U := Pipeline.UD sig nD τ) (Lvl := ℕ) (Val := Elt F) (c : Thread nD τ) dst
    (dst.view.writes (Elt F) g [⟨Rect.whole s, ReadAs.same.apply (src.view.read (Elt F) f)⟩]) fullShare)).trans ?_
  rw [View.read_writes_whole]

/-- The first trip: the small results go out and weight block 7 starts. -/
theorem part_zero (k : Fin k0_t2_loop.trips) (h0 : k.val = 0) (Q) :
    iprop(dPre c XW gy gd yv dv Zz Zc Zs gz gc gs Xu k.val ∗ (dPost c XW gy gd yv dv Zz Zc Zs gz gc gs Xu k.val -∗ Q (ret c Xu k)))
      ⊢ wp frame (wpE (defs₀ (F := F)) 𝒱₀ (c : Thread nD τ) none) Set.univ (part (F := F) k) Q := by
  have hlt := k_lt k
  have hk : k.val < 20 := by omega
  have c1 := (cond1_iff k).mpr (by omega)
  have c2 : ¬ (k0_cond2 k = 1#1) := fun h => by have := (cond2_iff k).mp h; omega
  have c3 := (cond3_iff k).mpr (by omega)
  have c4 : ¬ (k0_cond4 k = 1#1) := fun h => by have := (cond4_iff k).mp h; omega
  unfold dPre dPost wI wMid yI yMid oI oIdle oFly wrole
  rw [if_pos (show k.val < 27 by omega), if_pos (show k.val + 7 < 27 by omega), if_pos h0, sold_early c gy gd yv dv k.val (by omega), sold_early c gy gd yv dv (k.val + 1) (by omega), snew_early c yv dv k.val h0,
    aheads_boot c gy gd k.val h0, behinds_boot c yv dv k.val (by omega),
    whomes_here c XW k.val (by omega), whomes_next c XW k.val (by omega)]
  iintro ⟨⟨⟨⟨Hh7, Hh⟩, ⟨%g0, HF⟩, Hn, HC7, %g7, HS7⟩, ⟨Ha, Hb, Hs0, Hs1⟩, ⟨Hz, Hxc, Hxs, HZ, HXC, HXS, HO0, HO1, HO2⟩, Hu, %W, HW⟩, HQ⟩
  unfold part
  sl_exec
  sl_step
  iapply (ent_of_eq (congrArg Q (show ret c Xu k = ⟨part_zero.sl.arg45 k, part_zero.sl.v695 k, part_zero.sl.v697 k, part_zero.sl.v702 c Xu k, part_zero.sl.v704 c Xu k, part_zero.sl.v705 c Xu k, part_zero.sl.v707 c Xu k⟩ from rfl)))
  iapply HQ
  isplitl [Hh HF_src Hn HC7 HF]
  · isplitl [Hh HF_src]; · isplitl [HF_src]; · iexact HF_src
                           iexact Hh
    isplitl [Hn]; · iexact Hn
    isplitl [HC7]; · iexists g7; iexact HC7
    iexact HF
  isplitl [HF_dst]; · iapply (landed c _ _ _ _ _ rfl); iexact HF_dst
  isplitl [Ha Hb Hs0 Hs1]
  · isplitl [Ha]; · iexact Ha
    isplitl [Hb]; · iexact Hb
    isplitl [Hs1]; · iexact Hs1
    iexact Hs0
  isplitl [HO0 HO1 HO2]
  · isplitl [HO0]; · iexact HO0
    isplitl [HO1]; · iexact HO1
    iexact HO2
  isplitl [Hu]; · iexact Hu
  iexists _; iexact HW

/-- The second trip: the first tile goes out and weight block 8 starts. -/
theorem part_one (k : Fin k0_t2_loop.trips) (h1 : k.val = 1) (Q) :
    iprop(dPre c XW gy gd yv dv Zz Zc Zs gz gc gs Xu k.val ∗ (dPost c XW gy gd yv dv Zz Zc Zs gz gc gs Xu k.val -∗ Q (ret c Xu k)))
      ⊢ wp frame (wpE (defs₀ (F := F)) 𝒱₀ (c : Thread nD τ) none) Set.univ (part (F := F) k) Q := by
  have hlt := k_lt k
  have hk : k.val < 20 := by omega
  have hk0 : 0 < k.val := by omega
  have c1 : ¬ (Scalar.cmpi CmpIPredicate.ne (Scalar.extui (Scalar.cmpi CmpIPredicate.eq (Scf.iv 0#32 1#32 k.val) 0#32)) 0#32 = 1#1) := fun h => by have := (cond1_iff k).mp h; omega
  have c2 := (cond2_iff k).mpr (by omega)
  have c3 := (cond3_iff k).mpr (by omega)
  have c4 : ¬ (k0_cond4 k = 1#1) := fun h => by have := (cond4_iff k).mp h; omega
  unfold dPre dPost wI wMid yI yMid oI oFly wrole
  rw [if_pos (show k.val < 27 by omega), if_pos (show k.val + 7 < 27 by omega), if_neg (show ¬ k.val = 0 by omega), sold_early c gy gd yv dv k.val (by omega), sold_succ c gy gd yv dv k.val (by omega), snew_late c yv dv k.val (by omega),
    behinds_boot c yv dv k.val (by omega),
    whomes_here c XW k.val (by omega), whomes_next c XW k.val (by omega), aheads_here c gy gd k.val (by omega) (by omega)]
  iintro ⟨⟨⟨⟨Hh7, Hh⟩, ⟨%g0, HF⟩, Hn, HC7, %g7, HS7⟩, ⟨⟨⟨HTY, HTD⟩, Ha⟩, Hb, Hs0, ⟨HCY, HCD, HSY, HSD⟩⟩, ⟨HO0, HO1, HO2⟩, Hu, %W, HW⟩, HQ⟩
  unfold part
  sl_exec
  sl_step
  iapply (ent_of_eq (congrArg Q (show ret c Xu k = ⟨part_one.sl.arg45 k, part_one.sl.v695 k, part_one.sl.v697 k, part_one.sl.v702 c Xu k, part_one.sl.v704 c Xu k, part_one.sl.v705 c Xu k, part_one.sl.v707 c Xu k⟩ from rfl)))
  iapply HQ
  isplitl [Hh HF_src Hn HC7 HF]
  · isplitl [Hh HF_src]; · isplitl [HF_src]; · iexact HF_src
                           iexact Hh
    isplitl [Hn]; · iexact Hn
    isplitl [HC7]; · iexists g7; iexact HC7
    iexact HF
  isplitl [HF_dst]; · iapply (landed c _ _ _ _ _ rfl); iexact HF_dst
  isplitl [Ha Hb Hs0 HCY HCD]
  · isplitl [Ha]; · iexact Ha
    isplitl [Hb]; · iexact Hb
    isplitl [HCY HCD]
    · isplitl [HCY]; · iexact HCY
      iexact HCD
    iexact Hs0
  isplitl [HO0 HO1 HO2]
  · isplitl [HO0]; · iexact HO0
    isplitl [HO1]; · iexact HO1
    iexact HO2
  isplitl [Hu]; · iexact Hu
  iexists _; iexact HW

/-- A middle trip: the tile before goes out, the one before that is waited for and a weight block starts. -/
theorem part_mid (k : Fin k0_t2_loop.trips) (hk1 : 1 < k.val) (hk : k.val < 20) (Q) :
    iprop(dPre c XW gy gd yv dv Zz Zc Zs gz gc gs Xu k.val ∗ (dPost c XW gy gd yv dv Zz Zc Zs gz gc gs Xu k.val -∗ Q (ret c Xu k)))
      ⊢ wp frame (wpE (defs₀ (F := F)) 𝒱₀ (c : Thread nD τ) none) Set.univ (part (F := F) k) Q := by
  have hlt := k_lt k
  have hk0 : 0 < k.val := by omega
  have hk1 : 1 < k.val := by omega
  have c1 : ¬ (Scalar.cmpi CmpIPredicate.ne (Scalar.extui (Scalar.cmpi CmpIPredicate.eq (Scf.iv 0#32 1#32 k.val) 0#32)) 0#32 = 1#1) := fun h => by have := (cond1_iff k).mp h; omega
  have c2 := (cond2_iff k).mpr (by omega)
  have c3 := (cond3_iff k).mpr (by omega)
  have c4 := (cond4_iff k).mpr (by omega)
  unfold dPre dPost wI wMid yI yMid oI oFly wrole
  rw [if_pos (show k.val < 27 by omega), if_pos (show k.val + 7 < 27 by omega), if_neg (show ¬ k.val = 0 by omega), sold_late c gy gd yv dv k.val (by omega), sold_succ c gy gd yv dv k.val (by omega), snew_late c yv dv k.val (by omega),

    whomes_here c XW k.val (by omega), whomes_next c XW k.val (by omega), aheads_here c gy gd k.val (by omega) (by omega),
    behinds_close c yv dv k.val (by omega) (by omega)]
  iintro ⟨⟨⟨⟨Hh7, Hh⟩, ⟨%g0, HF⟩, Hn, HC7, %g7, HS7⟩, ⟨⟨⟨HTY, HTD⟩, Ha⟩, Hb, ⟨HFY, HFD⟩, ⟨HCY, HCD, HSY, HSD⟩⟩, ⟨HO0, HO1, HO2⟩, Hu, %W, HW⟩, HQ⟩
  unfold part
  sl_exec
  sl_step
  iapply (ent_of_eq (congrArg Q (show ret c Xu k = ⟨part_mid.sl.arg45 k, part_mid.sl.v695 k, part_mid.sl.v697 k, part_mid.sl.v702 c Xu k, part_mid.sl.v704 c Xu k, part_mid.sl.v705 c Xu k, part_mid.sl.v707 c Xu k⟩ from rfl)))
  iapply HQ
  isplitl [Hh HF_src Hn HC7 HF]
  · isplitl [Hh HF_src]; · isplitl [HF_src]; · iexact HF_src
                           iexact Hh
    isplitl [Hn]; · iexact Hn
    isplitl [HC7]; · iexists g7; iexact HC7
    iexact HF
  isplitl [HF_dst]; · iapply (landed c _ _ _ _ _ rfl); iexact HF_dst
  isplitl [Ha Hb HCY HCD HFY HFD HFY_dst HFD_dst HFY_src HFD_src]
  · isplitl [Ha]; · iexact Ha
    isplitl [Hb HFY_dst HFD_dst]
    · isplitl [HFY_dst HFD_dst]
      · isplitl [HFY_dst]; · iapply (landed c _ _ _ _ _ ((View.read_rep _ _).trans (congrArg yv (Ring.bk_val (by omega)).symm))); iexact HFY_dst
        iapply (landed c _ _ _ _ _ ((View.read_rep _ _).trans (congrArg dv (Ring.bk_val (by omega)).symm))); iexact HFD_dst
      iexact Hb
    isplitl [HCY HCD]
    · isplitl [HCY]; · iexact HCY
      iexact HCD
    isplitl [HFY]; · iexact HFY
    isplitl [HFD]; · iexact HFD
    isplitl [HFY_src]; · iexists _; iexact HFY_src
    iexists _; iexact HFD_src
  isplitl [HO0 HO1 HO2]
  · isplitl [HO0]; · iexact HO0
    isplitl [HO1]; · iexact HO1
    iexact HO2
  isplitl [Hu]; · iexact Hu
  iexists _; iexact HW

/-- A late trip: no weight block is left to start. -/
theorem part_tail (k : Fin k0_t2_loop.trips) (hk20 : 20 ≤ k.val) (Q) :
    iprop(dPre c XW gy gd yv dv Zz Zc Zs gz gc gs Xu k.val ∗ (dPost c XW gy gd yv dv Zz Zc Zs gz gc gs Xu k.val -∗ Q (ret c Xu k)))
      ⊢ wp frame (wpE (defs₀ (F := F)) 𝒱₀ (c : Thread nD τ) none) Set.univ (part (F := F) k) Q := by
  have hlt := k_lt k
  have hk0 : 0 < k.val := by omega
  have hk1 : 1 < k.val := by omega
  have c1 : ¬ (Scalar.cmpi CmpIPredicate.ne (Scalar.extui (Scalar.cmpi CmpIPredicate.eq (Scf.iv 0#32 1#32 k.val) 0#32)) 0#32 = 1#1) := fun h => by have := (cond1_iff k).mp h; omega
  have c2 := (cond2_iff k).mpr (by omega)
  have c3 : ¬ (k0_cond3 k = 1#1) := fun h => by have := (cond3_iff k).mp h; omega
  have c4 := (cond4_iff k).mpr (by omega)
  unfold dPre dPost wI wMid yI yMid oI oFly wrole
  rw [if_pos (show k.val < 27 by omega), if_neg (show ¬ k.val + 7 < 27 by omega), if_neg (show ¬ k.val = 0 by omega), sold_late c gy gd yv dv k.val (by omega), sold_succ c gy gd yv dv k.val (by omega), snew_late c yv dv k.val (by omega),

    whomes_tail c XW k.val (by omega) (by omega), aheads_here c gy gd k.val (by omega) (by omega),
    behinds_close c yv dv k.val (by omega) (by omega)]
  iintro ⟨⟨⟨Hh, ⟨%g0, HF⟩, Hn, HC7⟩, ⟨⟨⟨HTY, HTD⟩, Ha⟩, Hb, ⟨HFY, HFD⟩, ⟨HCY, HCD, HSY, HSD⟩⟩, ⟨HO0, HO1, HO2⟩, Hu, %W, HW⟩, HQ⟩
  unfold part
  sl_exec
  sl_step
  iapply (ent_of_eq (congrArg Q (show ret c Xu k = ⟨part_tail.sl.arg45 k, part_tail.sl.v695 k, part_tail.sl.v697 k, part_tail.sl.v702 c Xu k, part_tail.sl.v704 c Xu k, part_tail.sl.v705 c Xu k, part_tail.sl.v707 c Xu k⟩ from rfl)))
  iapply HQ
  isplitl [Hh HF_src Hn HC7 HF]
  · isplitl [Hh HF_src]; · isplitl [HF_src]; · iexact HF_src
                           iexact Hh
    isplitl [Hn]; · iexact Hn
    isplitl [HC7]; · iexact HC7
    iexact HF
  isplitl [HF_dst]; · iapply (landed c _ _ _ _ _ rfl); iexact HF_dst
  isplitl [Ha Hb HCY HCD HFY HFD HFY_dst HFD_dst HFY_src HFD_src]
  · isplitl [Ha]; · iexact Ha
    isplitl [Hb HFY_dst HFD_dst]
    · isplitl [HFY_dst HFD_dst]
      · isplitl [HFY_dst]; · iapply (landed c _ _ _ _ _ ((View.read_rep _ _).trans (congrArg yv (Ring.bk_val (by omega)).symm))); iexact HFY_dst
        iapply (landed c _ _ _ _ _ ((View.read_rep _ _).trans (congrArg dv (Ring.bk_val (by omega)).symm))); iexact HFD_dst
      iexact Hb
    isplitl [HCY HCD]
    · isplitl [HCY]; · iexact HCY
      iexact HCD
    isplitl [HFY]; · iexact HFY
    isplitl [HFD]; · iexact HFD
    isplitl [HFY_src]; · iexists _; iexact HFY_src
    iexists _; iexact HFD_src
  isplitl [HO0 HO1 HO2]
  · isplitl [HO0]; · iexact HO0
    isplitl [HO1]; · iexact HO1
    iexact HO2
  isplitl [Hu]; · iexact Hu
  iexists _; iexact HW

/-- Every trip's transfers. -/
theorem part_all (k : Fin k0_t2_loop.trips) (Q) :
    iprop(dPre c XW gy gd yv dv Zz Zc Zs gz gc gs Xu k.val ∗ (dPost c XW gy gd yv dv Zz Zc Zs gz gc gs Xu k.val -∗ Q (ret c Xu k)))
      ⊢ wp frame (wpE (defs₀ (F := F)) 𝒱₀ (c : Thread nD τ) none) Set.univ (part (F := F) k) Q := by
  by_cases h0 : k.val = 0
  · exact part_zero c XW gy gd yv dv Zz Zc Zs gz gc gs Xu k h0 Q
  by_cases h1 : k.val = 1
  · exact part_one c XW gy gd yv dv Zz Zc Zs gz gc gs Xu k h1 Q
  by_cases h2 : k.val < 20
  · exact part_mid c XW gy gd yv dv Zz Zc Zs gz gc gs Xu k (by omega) h2 Q
  · exact part_tail c XW gy gd yv dv Zz Zc Zs gz gc gs Xu k (by omega) Q

end

end Cert.Proof.KernelRun

end
-- ==== Proof.KernelTrip.lean ====
/-
  One trip of the tile loop: its transfers (`KernelDma`) and then its computation, which stores the tile of both
  results into the staging slots of the trip's parity.
-/
module

public import proofs.«01_k».proof.Proof.KernelDma
public import Idealize.ShloMosaic.Lib.VecWindow

@[expose] public section

set_option maxRecDepth 16384

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD)
  (Xu : Buf (Elt F) (uB.view.loc (c : Thread nD τ))) (Xws : Buf (Elt F) (wsB.view.loc (c : Thread nD τ)))
  (Xq : Buf (Elt F) (xqB.view.loc (c : Thread nD τ))) (Xc : Buf (Elt F) (xsColB.view.loc (c : Thread nD τ)))
  (Xm : Buf (Elt F) (maskB.view.loc (c : Thread nD τ))) (Xuz : Buf (Elt F) (uzB.view.loc (c : Thread nD τ)))
  (Xus : Buf (Elt F) (usB.view.loc (c : Thread nD τ))) (Xt : Buf (Elt F) (tB.view.loc (c : Thread nD τ)))

/-- The buffers a trip's computation reads besides the digits. -/
def resT : sProp 𝕄 :=
  iprop(at_ c wsB Xws ∗ at_ c xqB Xq ∗ at_ c xsColB Xc ∗ at_ c maskB Xm ∗ at_ c uzB Xuz ∗ at_ c usB Xus ∗ at_ c tB Xt)

/-- The rest of a trip, after its transfers. -/
abbrev region2 (v620 : FVec F S40x512 .bf16) : Fin k0_t2_loop.trips → Unit → Prog (TpuEff nD τ sig (Elt F) Λ₀ .tc) Unit :=
  k0_t2_body (F := F) (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_arg6) (Memref.isWhole_whole _) (Memref.whole main_v5) (Memref.isWhole_whole _) (Memref.whole main_v6) (Memref.isWhole_whole _) (Memref.whole main_arg9) (Memref.isWhole_whole _) (Memref.whole main_v7_0) (Memref.isWhole_whole _) (Memref.whole main_v7_1) (Memref.isWhole_whole _) (Memref.whole main_v7_2) (Memref.isWhole_whole _) (Memref.whole main_v7_3) (Memref.isWhole_whole _) (Memref.whole main_v7_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 cc0_scratch29 v620

variable (XW : Buf (Elt F) (wM.view.loc (c : Thread nD τ)))
  (gy : Buf (Elt F) (yM.view.loc (c : Thread nD τ))) (gd : Buf (Elt F) (dM.view.loc (c : Thread nD τ)))
  (yv : ℕ → S40x1024.Idx → Elt F .bf16) (dv : ℕ → S40x1x1024.Idx → Elt F .f32)
  (Zz : Buf (Elt F) (zB.view.loc (c : Thread nD τ))) (Zc : Buf (Elt F) (xcB.view.loc (c : Thread nD τ))) (Zs : Buf (Elt F) (xsRowB.view.loc (c : Thread nD τ)))
  (gz : Buf (Elt F) (zM.view.loc (c : Thread nD τ))) (gc : Buf (Elt F) (xcM.view.loc (c : Thread nD τ))) (gs : Buf (Elt F) (xsM.view.loc (c : Thread nD τ)))

/-- The staging slots of trip `k` after its stores of `wy` and `wd`. -/
abbrev storedY (k : Fin k0_t2_loop.trips) (w : Vec F S1x40x1024 .bf16) (f : Buf (Elt F) (yR.view.loc (c : Thread nD τ))) :=
  (yR.access (Rect.unit (s := S2x40x1024) (k0_off25 k) S1x40x1024.size (k0_off25_inb k))).write (Elt F) f w Finset.univ
abbrev storedD (k : Fin k0_t2_loop.trips) (w : Vec F S1x40x1x1024 .f32) (f : Buf (Elt F) (dR.view.loc (c : Thread nD τ))) :=
  (dR.access (Rect.unit (s := S2x40x1x1024) (k0_off24 k) S1x40x1x1024.size (k0_off24_inb k))).write (Elt F) f w Finset.univ

/-- The stored payloads as the tiles' own shapes. -/
abbrev asY (w : Vec F S1x40x1024 .bf16) : S40x1024.Idx → Elt F .bf16 := fun x => w (Shape.reshapeEquiv squeezes_S1x40x1024_S40x1024.numel_eq x)
abbrev asD (w : Vec F S1x40x1x1024 .f32) : S40x1x1024.Idx → Elt F .f32 := fun x => w (Shape.reshapeEquiv squeezes_S1x40x1x1024_S40x1x1024.numel_eq x)

/-- What is stored to a slot of y is what is read from it. -/
theorem yslot_read (k : Fin k0_t2_loop.trips) (w : Vec F S1x40x1024 .bf16) (f : Buf (Elt F) (yR.view.loc (c : Thread nD τ))) :
    (yslot (Ring.sl 2 k.val)).view.read (Elt F) (storedY c k w f) = asY w := by
  have h := Memref.read_slice_write (Val := Elt F) yR (k0_off25_inb k) (off25_eq k) (yslotOff_inb _) f w
  funext x
  exact congrFun h (Shape.reshapeEquiv squeezes_S1x40x1024_S40x1024.numel_eq x)
/-- What is stored to a slot of d is what is read from it. -/
theorem dslot_read (k : Fin k0_t2_loop.trips) (w : Vec F S1x40x1x1024 .f32) (f : Buf (Elt F) (dR.view.loc (c : Thread nD τ))) :
    (dslot (Ring.sl 2 k.val)).view.read (Elt F) (storedD c k w f) = asD w := by
  have h := Memref.read_slice_write (Val := Elt F) dR (k0_off24_inb k) (off24_eq k) (dslotOff_inb _) f w
  funext x
  exact congrFun h (Shape.reshapeEquiv squeezes_S1x40x1x1024_S40x1x1024.numel_eq x)

/-- What a trip's computation holds: the landed weight block, the staging slots and the buffers it reads. -/
def resC (k : Fin k0_t2_loop.trips) (XB : S5120x1024.Idx → Elt F .fp8e4m3) (fy : Buf (Elt F) (yR.view.loc (c : Thread nD τ))) (fd : Buf (Elt F) (dR.view.loc (c : Thread nD τ))) : sProp 𝕄 :=
  iprop(at_ c (wslot (Ring.sl 8 k.val)) ((wslot (Ring.sl 8 k.val)).view.rep XB) ∗ at_ c uB Xu ∗ resT c Xws Xq Xc Xm Xuz Xus Xt
    ∗ at_ c (yslot (Ring.sl 2 k.val)) fy ∗ at_ c (dslot (Ring.sl 2 k.val)) fd)

set_option backward.proofsInPublic true in
/-- The computation of a trip: the two payloads it stores, found by the run. -/
@[irreducible] def tripC (v620 : FVec F S40x512 .bf16) (k : Fin k0_t2_loop.trips) (XB : S5120x1024.Idx → Elt F .fp8e4m3) :
    Σ' (wy : Vec F S1x40x1024 .bf16) (wd : Vec F S1x40x1x1024 .f32), ∀ (Q : Unit → sProp 𝕄) (P P' : sProp 𝕄)
        (_ : ∀ R, iprop(P ∗ (iprop(P' ∗ at_ c (wslot (Ring.sl 8 k.val)) ((wslot (Ring.sl 8 k.val)).view.rep XB) ∗ at_ c uB Xu ∗ (∃ fy, at_ c (yslot (Ring.sl 2 k.val)) fy) ∗ ∃ fd, at_ c (dslot (Ring.sl 2 k.val)) fd) -∗ R (ret c Xu k))) ⊢ wp frame (wpE (defs₀ (F := F)) 𝒱₀ (c : Thread nD τ) none) Set.univ (part (F := F) k) R),
      iprop(P ∗ resT c Xws Xq Xc Xm Xuz Xus Xt
        ∗ (iprop(P' ∗ ∃ fy fd, resC c Xu Xws Xq Xc Xm Xuz Xus Xt k XB (storedY c k wy fy) (storedD c k wd fd)) -∗ Q PUnit.unit))
      ⊢ wp frame (wpE (defs₀ (F := F)) 𝒱₀ (c : Thread nD τ) none) Set.univ (region2 (F := F) v620 k PUnit.unit) Q := by
  refine ⟨?wy, ?wd, fun Q P P' hp => ?run⟩
  case run =>
    unfold region2 k0_t2_body
    rw [wp_bind]
    unfold resC resT
    iintro ⟨HP, ⟨H19, H25, H27, H29, H33, H34, H37⟩, HQ⟩
    iapply (hp _)
    isplitl [HP]; · iexact HP
    iintro ⟨HP', HS, HU, ⟨%fy, HY⟩, ⟨%fd, HD⟩⟩
    sl_exec
    sl_step
    unfold tripC.sl.HY_w2 tripC.sl.HD_w1
    iapply HQ
    isplitl [HP']; · iexact HP'
    iexists fy; iexists fd
    isplitl [HS]; · iexact HS
    isplitl [HU]; · iexact HU
    isplitl [H19 H25 H27 H29 H33 H34 H37]
    · sl_close
    isplitl [HY]; · iexact HY
    iexact HD

/-- The tile of both results that trip `n` computes. -/
def yT (v620 : FVec F S40x512 .bf16) (n : ℕ) : S40x1024.Idx → Elt F .bf16 :=
  if h : n < k0_t2_loop.trips then asY (tripC c Xu Xws Xq Xc Xm Xuz Xus Xt v620 ⟨n, h⟩ (wval c XW n)).1 else (yslot 0).view.read (Elt F) (yslot 0).view.junk
def dT (v620 : FVec F S40x512 .bf16) (n : ℕ) : S40x1x1024.Idx → Elt F .f32 :=
  if h : n < k0_t2_loop.trips then asD (tripC c Xu Xws Xq Xc Xm Xuz Xus Xt v620 ⟨n, h⟩ (wval c XW n)).2.1 else (dslot 0).view.read (Elt F) (dslot 0).view.junk
/-- The tile of y that a trip stores, named. -/
theorem yT_eq (v620 : FVec F S40x512 .bf16) (k : Fin k0_t2_loop.trips) :
    yT c Xu Xws Xq Xc Xm Xuz Xus Xt XW v620 k.val = asY (tripC c Xu Xws Xq Xc Xm Xuz Xus Xt v620 k (wval c XW k)).1 := by
  unfold yT; exact dif_pos k.isLt
/-- The tile of d that a trip stores, named. -/
theorem dT_eq (v620 : FVec F S40x512 .bf16) (k : Fin k0_t2_loop.trips) :
    dT c Xu Xws Xq Xc Xm Xuz Xus Xt XW v620 k.val = asD (tripC c Xu Xws Xq Xc Xm Xuz Xus Xt v620 k (wval c XW k)).2.1 := by
  unfold dT; exact dif_pos k.isLt

/-- What the loop holds before trip `k`. -/
def inv2 (v620 : FVec F S40x512 .bf16) (k : ℕ) : sProp 𝕄 :=
  iprop(dPre c XW gy gd (yT c Xu Xws Xq Xc Xm Xuz Xus Xt XW v620) (dT c Xu Xws Xq Xc Xm Xuz Xus Xt XW v620) Zz Zc Zs gz gc gs Xu k ∗ resT c Xws Xq Xc Xm Xuz Xus Xt)

/-- Trip `k`'s staging slots filled, the results stand as before trip `k + 1`. -/
theorem yMid_next (k : Fin k0_t2_loop.trips) (wy : Vec F S1x40x1024 .bf16) (wd : Vec F S1x40x1x1024 .f32)
    (fy : Buf (Elt F) (yR.view.loc (c : Thread nD τ))) (fd : Buf (Elt F) (dR.view.loc (c : Thread nD τ)))
    (hy : yv k.val = asY wy) (hd : dv k.val = asD wd) :
    iprop(bigSep (Ring.aheadSet k.val) (tini c gy gd) ∗ bigSep (Ring.behindSet 2 (k.val + 1)) (tfin c yv dv) ∗ sold c gy gd yv dv (k.val + 1)
      ∗ cell c (ysem (Ring.sl 2 k.val)) ∗ cell c (dsem (Ring.sl 2 k.val)) ∗ at_ c (yslot (Ring.sl 2 k.val)) (storedY c k wy fy) ∗ at_ c (dslot (Ring.sl 2 k.val)) (storedD c k wd fd))
    ⊢ yI c gy gd yv dv (k.val + 1) := by
  have e : Ring.sl 2 (k.val + 1 + 1) = Ring.sl 2 k.val := Ring.sl_add 2 k.val
  unfold yI
  rw [snew_late c yv dv (k.val + 1) (by omega)]
  unfold sdone
  rw [e]
  iintro ⟨HA, HB, HS, HCY, HCD, HY, HD⟩
  isplitl [HA]; · iexact HA
  isplitl [HB]; · iexact HB
  isplitl [HS]; · iexact HS
  isplitl [HCY]; · iexact HCY
  isplitl [HCD]; · iexact HCD
  isplitl [HY]
  · iapply (pointsTo_rep_of_read (Val := Elt F) (c : Thread nD τ) (yslot (Ring.sl 2 k.val)) _ fullShare (yv k.val) ((yslot_read c k wy fy).trans hy.symm)); iexact HY
  iapply (pointsTo_rep_of_read (Val := Elt F) (c : Thread nD τ) (dslot (Ring.sl 2 k.val)) _ fullShare (dv k.val) ((dslot_read c k wd fd).trans hd.symm)); iexact HD

/-- One trip of the loop. -/
theorem trip2 (v620 : FVec F S40x512 .bf16) (k : Fin k0_t2_loop.trips) :
    inv2 c Xu Xws Xq Xc Xm Xuz Xus Xt XW gy gd Zz Zc Zs gz gc gs v620 k.val
      ⊢ wp frame (wpE (defs₀ (F := F)) 𝒱₀ (c : Thread nD τ) none) Set.univ (region2 (F := F) v620 k PUnit.unit)
        (fun _ => inv2 c Xu Xws Xq Xc Xm Xuz Xus Xt XW gy gd Zz Zc Zs gz gc gs v620 (k.val + 1)) := by
  unfold inv2
  have hp : ∀ R, iprop(dPre c XW gy gd (yT c Xu Xws Xq Xc Xm Xuz Xus Xt XW v620) (dT c Xu Xws Xq Xc Xm Xuz Xus Xt XW v620) Zz Zc Zs gz gc gs Xu k
      ∗ (iprop((wMid c XW k.val ∗ (bigSep (Ring.aheadSet k.val) (tini c gy gd) ∗ bigSep (Ring.behindSet 2 (k.val + 1)) (tfin c (yT c Xu Xws Xq Xc Xm Xuz Xus Xt XW v620) (dT c Xu Xws Xq Xc Xm Xuz Xus Xt XW v620)) ∗ sold c gy gd (yT c Xu Xws Xq Xc Xm Xuz Xus Xt XW v620) (dT c Xu Xws Xq Xc Xm Xuz Xus Xt XW v620) (k.val + 1)
      ∗ cell c (ysem (Ring.sl 2 k.val)) ∗ cell c (dsem (Ring.sl 2 k.val))) ∗ oFly c Zz Zc Zs gz gc gs ∗ ∃ W, owes (c : Thread nD τ) 0 W)
        ∗ at_ c (wslot (Ring.sl 8 k.val)) ((wslot (Ring.sl 8 k.val)).view.rep (wval c XW k)) ∗ at_ c uB Xu ∗ (∃ fy, at_ c (yslot (Ring.sl 2 k.val)) fy) ∗ ∃ fd, at_ c (dslot (Ring.sl 2 k.val)) fd) -∗ R (ret c Xu k)))
      ⊢ wp frame (wpE (defs₀ (F := F)) 𝒱₀ (c : Thread nD τ) none) Set.univ (part (F := F) k) R := by
    intro R
    iintro ⟨HD, HQ⟩
    iapply (part_all c XW gy gd _ _ Zz Zc Zs gz gc gs Xu k R)
    isplitl [HD]; · iexact HD
    unfold dPost yMid
    iintro ⟨HWM, HS, ⟨HA, HB, HN, HCY, HCD, HY, HD⟩, HO, HU, HOW⟩
    iapply HQ
    isplitl [HWM HA HB HN HCY HCD HO HOW]
    · isplitl [HWM]; · iexact HWM
      isplitl [HA HB HN HCY HCD]
      · isplitl [HA]; · iexact HA
        isplitl [HB]; · iexact HB
        isplitl [HN]; · iexact HN
        isplitl [HCY]; · iexact HCY
        iexact HCD
      isplitl [HO]; · iexact HO
      iexact HOW
    isplitl [HS]; · iexact HS
    isplitl [HU]; · iexact HU
    isplitl [HY]; · iexact HY
    iexact HD
  iintro ⟨HD, HR⟩
  iapply ((tripC c Xu Xws Xq Xc Xm Xuz Xus Xt v620 k (wval c XW k)).2.2 _ _ _ hp)
  isplitl [HD]; · iexact HD
  isplitl [HR]; · iexact HR
  iintro ⟨⟨HWM, ⟨HA, HB, HN, HCY, HCD⟩, HO, HOW⟩, %fy, %fd, HC⟩
  unfold resC dPre
  icases HC with ⟨HS, HU, HR, HY, HDD⟩
  isplitr [HR]
  · isplitl [HWM HS]
    · iapply (wMid_next c XW k.val)
      isplitl [HWM]; · iexact HWM
      iexists _; iexact HS
    isplitl [HA HB HN HCY HCD HY HDD]
    · iapply (yMid_next c gy gd _ _ k _ _ fy fd (yT_eq c Xu Xws Xq Xc Xm Xuz Xus Xt XW v620 k) (dT_eq c Xu Xws Xq Xc Xm Xuz Xus Xt XW v620 k))
      isplitl [HA]; · iexact HA
      isplitl [HB]; · iexact HB
      isplitl [HN]; · iexact HN
      isplitl [HCY]; · iexact HCY
      isplitl [HCD]; · iexact HCD
      isplitl [HY]; · iexact HY
      iexact HDD
    isplitl [HO]
    · unfold oI
      rw [if_neg (show ¬ k.val + 1 = 0 by omega)]
      iexact HO
    isplitl [HU]; · iexact HU
    iexact HOW
  iexact HR

set_option warn.classDefReducibility false in
/-- The loop's invariant. -/
@[sl_loop] def loopInv2 (v620 : FVec F S40x512 .bf16) :
    LoopInvTy_k0_t2 (F := F) Unit ℕ (Pipeline.UD sig nD τ) ℕ 𝒱₀ c none Set.univ (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_arg6) (Memref.isWhole_whole _) (Memref.whole main_v5) (Memref.isWhole_whole _) (Memref.whole main_v6) (Memref.isWhole_whole _) (Memref.whole main_arg9) (Memref.isWhole_whole _) (Memref.whole main_v7_0) (Memref.isWhole_whole _) (Memref.whole main_v7_1) (Memref.isWhole_whole _) (Memref.whole main_v7_2) (Memref.isWhole_whole _) (Memref.whole main_v7_3) (Memref.isWhole_whole _) (Memref.whole main_v7_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 cc0_scratch29 v620 where
  inv k _ := inv2 c Xu Xws Xq Xc Xm Xuz Xus Xt XW gy gd Zz Zc Zs gz gc gs v620 k
  step k _ := trip2 c Xu Xws Xq Xc Xm Xuz Xus Xt XW gy gd Zz Zc Zs gz gc gs v620 k

end

end Cert.Proof.KernelRun

end
-- ==== Proof.KernelBody0.lean ====
/-
  The kernel's body run: the transfers in, the tables, the quantiser, the loop over the contraction, the loop over the
  tiles (`KernelTrip`) and the last writes out.
-/
module

public import proofs.«01_k».proof.Proof.KernelTrip

@[expose] public section

set_option maxRecDepth 16384

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev xA : Memref sig .tc .hbm S40x5120 .bf16 := Memref.whole main_v0
abbrev wsA : Memref sig .tc .hbm S1x27648 .f32 := Memref.whole main_v1
abbrev sgA : Memref sig .tc .hbm S1x446 .f32 := Memref.whole main_v2
abbrev vA : Memref sig .tc .hbm S117x5120 .i8 := Memref.whole main_v3
abbrev vsA : Memref sig .tc .hbm S1x446 .f32 := Memref.whole main_v4
abbrev vzA : Memref sig .tc .hbm S446 .i8 := Memref.whole main_arg6
abbrev uA : Memref sig .tc .hbm S117x27648 .i8 := Memref.whole main_v5
abbrev usA : Memref sig .tc .hbm S1x446 .f32 := Memref.whole main_v6
abbrev uzA : Memref sig .tc .hbm S446 .i8 := Memref.whole main_arg9
abbrev sgB : Memref sig .tc .vmem S1x446 .f32 := Memref.whole cc0_scratch5
abbrev vsrB : Memref sig .tc .vmem S1x446 .f32 := Memref.whole cc0_scratch6
abbrev vzrB : Memref sig .tc .vmem S446 .i8 := Memref.whole cc0_scratch7
abbrev usrB : Memref sig .tc .vmem S1x446 .f32 := Memref.whole cc0_scratch8
abbrev uzrB : Memref sig .tc .vmem S446 .i8 := Memref.whole cc0_scratch9
abbrev permB : Memref sig .tc .vmem S512x512 .bf16 := Memref.whole cc0_scratch15
def isem0 : DmaSems sig S_ := (cc0_scratch25.slice (Rect.unit (s := S9) ![0] S1.size inb_S9_S1_0)).squeeze S_ squeezes_S1_S_
def isem1 : DmaSems sig S_ := (cc0_scratch25.slice (Rect.unit (s := S9) ![1] S1.size inb_S9_S1_1)).squeeze S_ squeezes_S1_S_
def isem2 : DmaSems sig S_ := (cc0_scratch25.slice (Rect.unit (s := S9) ![2] S1.size inb_S9_S1_2)).squeeze S_ squeezes_S1_S_
def isem3 : DmaSems sig S_ := (cc0_scratch25.slice (Rect.unit (s := S9) ![3] S1.size inb_S9_S1_3)).squeeze S_ squeezes_S1_S_
def isem4 : DmaSems sig S_ := (cc0_scratch25.slice (Rect.unit (s := S9) ![4] S1.size inb_S9_S1_4)).squeeze S_ squeezes_S1_S_
def isem5 : DmaSems sig S_ := (cc0_scratch25.slice (Rect.unit (s := S9) ![5] S1.size inb_S9_S1_5)).squeeze S_ squeezes_S1_S_
def isem6 : DmaSems sig S_ := (cc0_scratch25.slice (Rect.unit (s := S9) ![6] S1.size inb_S9_S1_6)).squeeze S_ squeezes_S1_S_
def isem7 : DmaSems sig S_ := (cc0_scratch25.slice (Rect.unit (s := S9) ![7] S1.size inb_S9_S1_7)).squeeze S_ squeezes_S1_S_
def isem8 : DmaSems sig S_ := (cc0_scratch25.slice (Rect.unit (s := S9) ![8] S1.size inb_S9_S1_8)).squeeze S_ squeezes_S1_S_
/-- A semaphore of the copies in, as the body names it. -/
@[sl_canon] theorem isemC0 (hh) : (cc0_scratch25.slice (Rect.unit (s := S9) ![0] S1.size hh)).squeeze S_ squeezes_S1_S_ = isem0 := rfl
/-- A semaphore of the copies in, as the body names it. -/
@[sl_canon] theorem isemC1 (hh) : (cc0_scratch25.slice (Rect.unit (s := S9) ![1] S1.size hh)).squeeze S_ squeezes_S1_S_ = isem1 := rfl
/-- A semaphore of the copies in, as the body names it. -/
@[sl_canon] theorem isemC2 (hh) : (cc0_scratch25.slice (Rect.unit (s := S9) ![2] S1.size hh)).squeeze S_ squeezes_S1_S_ = isem2 := rfl
/-- A semaphore of the copies in, as the body names it. -/
@[sl_canon] theorem isemC3 (hh) : (cc0_scratch25.slice (Rect.unit (s := S9) ![3] S1.size hh)).squeeze S_ squeezes_S1_S_ = isem3 := rfl
/-- A semaphore of the copies in, as the body names it. -/
@[sl_canon] theorem isemC4 (hh) : (cc0_scratch25.slice (Rect.unit (s := S9) ![4] S1.size hh)).squeeze S_ squeezes_S1_S_ = isem4 := rfl
/-- A semaphore of the copies in, as the body names it. -/
@[sl_canon] theorem isemC5 (hh) : (cc0_scratch25.slice (Rect.unit (s := S9) ![5] S1.size hh)).squeeze S_ squeezes_S1_S_ = isem5 := rfl
/-- A semaphore of the copies in, as the body names it. -/
@[sl_canon] theorem isemC6 (hh) : (cc0_scratch25.slice (Rect.unit (s := S9) ![6] S1.size hh)).squeeze S_ squeezes_S1_S_ = isem6 := rfl
/-- A semaphore of the copies in, as the body names it. -/
@[sl_canon] theorem isemC7 (hh) : (cc0_scratch25.slice (Rect.unit (s := S9) ![7] S1.size hh)).squeeze S_ squeezes_S1_S_ = isem7 := rfl
/-- A semaphore of the copies in, as the body names it. -/
@[sl_canon] theorem isemC8 (hh) : (cc0_scratch25.slice (Rect.unit (s := S9) ![8] S1.size hh)).squeeze S_ squeezes_S1_S_ = isem8 := rfl

section
variable (c : Dev nD)
  (XW : Buf (Elt F) (wM.view.loc (c : Thread nD τ)))
  (x0 : Buf (Elt F) (xA.view.loc (c : Thread nD τ)))
  (x2 : Buf (Elt F) (wsA.view.loc (c : Thread nD τ)))
  (x3 : Buf (Elt F) (sgA.view.loc (c : Thread nD τ)))
  (x4 : Buf (Elt F) (vA.view.loc (c : Thread nD τ)))
  (x5 : Buf (Elt F) (vsA.view.loc (c : Thread nD τ)))
  (x6 : Buf (Elt F) (vzA.view.loc (c : Thread nD τ)))
  (x7 : Buf (Elt F) (uA.view.loc (c : Thread nD τ)))
  (x8 : Buf (Elt F) (usA.view.loc (c : Thread nD τ)))
  (x9 : Buf (Elt F) (uzA.view.loc (c : Thread nD τ)))
  (gy : Buf (Elt F) (yM.view.loc (c : Thread nD τ))) (gd : Buf (Elt F) (dM.view.loc (c : Thread nD τ)))
  (gz : Buf (Elt F) (zM.view.loc (c : Thread nD τ))) (gc : Buf (Elt F) (xcM.view.loc (c : Thread nD τ))) (gs : Buf (Elt F) (xsM.view.loc (c : Thread nD τ)))

/-- The inputs other than the weights. -/
def resIn : sProp 𝕄 :=
  iprop(at_ c xA x0 ∗ at_ c wsA x2 ∗ at_ c sgA x3 ∗ at_ c vA x4 ∗ at_ c vsA x5 ∗ at_ c vzA x6 ∗ at_ c uA x7 ∗ at_ c usA x8 ∗ at_ c uzA x9)
/-- The scratch buffers other than the rings, at some contents. -/
def resScratch : sProp 𝕄 :=
  iprop((∃ f, at_ c uB f) ∗ (∃ f, at_ c vB f) ∗ (∃ f, at_ c xB f) ∗ (∃ f, at_ c wsB f) ∗ (∃ f, at_ c sgB f) ∗ (∃ f, at_ c vsrB f) ∗ (∃ f, at_ c vzrB f) ∗ (∃ f, at_ c usrB f) ∗ (∃ f, at_ c uzrB f) ∗ (∃ f, at_ c xqB f) ∗ (∃ f, at_ c xcB f) ∗ (∃ f, at_ c xsColB f) ∗ (∃ f, at_ c xsRowB f) ∗ (∃ f, at_ c maskB f) ∗ (∃ f, at_ c permB f) ∗ (∃ f, at_ c vzB f) ∗ (∃ f, at_ c vsB f) ∗ (∃ f, at_ c uzB f) ∗ (∃ f, at_ c usB f) ∗ (∃ f, at_ c accB f) ∗ (∃ f, at_ c zB f) ∗ (∃ f, at_ c tB f))
/-- The semaphores of the transfers in and of the three small results. -/
def resSems : sProp 𝕄 :=
  iprop(cell c isem0 ∗ cell c isem1 ∗ cell c isem2 ∗ cell c isem3 ∗ cell c isem4 ∗ cell c isem5 ∗ cell c isem6 ∗ cell c isem7 ∗ cell c isem8 ∗ cell c osem0 ∗ cell c osem1 ∗ cell c osem2)
/-- The rings idle. -/
def resRings : sProp 𝕄 :=
  iprop(cell c (wsem 0) ∗ (∃ f, at_ c (wslot 0) f) ∗ cell c (wsem 1) ∗ (∃ f, at_ c (wslot 1) f) ∗ cell c (wsem 2) ∗ (∃ f, at_ c (wslot 2) f) ∗ cell c (wsem 3) ∗ (∃ f, at_ c (wslot 3) f) ∗ cell c (wsem 4) ∗ (∃ f, at_ c (wslot 4) f) ∗ cell c (wsem 5) ∗ (∃ f, at_ c (wslot 5) f) ∗ cell c (wsem 6) ∗ (∃ f, at_ c (wslot 6) f) ∗ cell c (wsem 7) ∗ (∃ f, at_ c (wslot 7) f)
    ∗ cell c (ysem 0) ∗ cell c (dsem 0) ∗ (∃ f, at_ c (yslot 0) f) ∗ (∃ f, at_ c (dslot 0) f) ∗ cell c (ysem 1) ∗ cell c (dsem 1) ∗ (∃ f, at_ c (yslot 1) f) ∗ (∃ f, at_ c (dslot 1) f))
/-- The weights' blocks: the first seven apart from the others. -/
def resW : sProp 𝕄 :=
  iprop(whome c XW 0 ∗ whome c XW 1 ∗ whome c XW 2 ∗ whome c XW 3 ∗ whome c XW 4 ∗ whome c XW 5 ∗ whome c XW 6 ∗ bigSep (Ring.homeSet 7 0) (whome c XW))
/-- What the body starts from. -/
def bodyPre : sProp 𝕄 :=
  iprop(resW c XW ∗ resIn c x0 x2 x3 x4 x5 x6 x7 x8 x9 ∗ resScratch c ∗ resSems c ∗ resRings c ∗ bigSep Finset.univ (tini c gy gd)
    ∗ at_ c zM gz ∗ at_ c xcM gc ∗ at_ c xsM gs ∗ ∃ W, owes (c : Thread nD τ) 0 W)

variable (yv : ℕ → S40x1024.Idx → Elt F .bf16) (dv : ℕ → S40x1x1024.Idx → Elt F .f32)
  (Zz : Buf (Elt F) (zB.view.loc (c : Thread nD τ))) (Zc : Buf (Elt F) (xcB.view.loc (c : Thread nD τ))) (Zs : Buf (Elt F) (xsRowB.view.loc (c : Thread nD τ)))

/-- What the body leaves. -/
def bodyPost : sProp 𝕄 :=
  iprop(bigSep Finset.univ (whome c XW) ∗ resIn c x0 x2 x3 x4 x5 x6 x7 x8 x9 ∗ resScratch c ∗ resSems c ∗ resRings c ∗ bigSep Finset.univ (tfin c yv dv)
    ∗ at_ c zM (zM.view.rep (zB.view.read (Elt F) Zz)) ∗ at_ c xcM (xcM.view.rep (xcB.view.read (Elt F) Zc)) ∗ at_ c xsM (xsM.view.rep (xsRowB.view.read (Elt F) Zs)) ∗ ∃ W, owes (c : Thread nD τ) 0 W)

/-- The weight ring before the first trip. -/
theorem wI_zero :
    iprop((∃ g, wfly c XW 0 0 g) ∗ (∃ g, wfly c XW 1 1 g) ∗ (∃ g, wfly c XW 2 2 g) ∗ (∃ g, wfly c XW 3 3 g) ∗ (∃ g, wfly c XW 4 4 g) ∗ (∃ g, wfly c XW 5 5 g) ∗ (∃ g, wfly c XW 6 6 g) ∗ cell c (wsem 7) ∗ (∃ f, at_ c (wslot 7) f) ∗ bigSep (Ring.homeSet 7 0) (whome c XW)) ⊢ wI c XW 0 := by
  unfold wI wnext wrole wfree
  rw [if_pos (show 0 < 27 by omega), if_pos (show 0 + 1 < 27 by omega), if_pos (show 0 + 2 < 27 by omega), if_pos (show 0 + 3 < 27 by omega), if_pos (show 0 + 4 < 27 by omega), if_pos (show 0 + 5 < 27 by omega), if_pos (show 0 + 6 < 27 by omega)]
  iintro ⟨H0, H1, H2, H3, H4, H5, H6, HC, H7, HH⟩
  isplitl [HH]; · iexact HH
  isplitl [H0]; · iexact H0
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HC]; · iexact HC
  iexact H7

/-- The results before the first trip. -/
theorem yI_zero :
    iprop(bigSep Finset.univ (tini c gy gd) ∗ (cell c (ysem 0) ∗ cell c (dsem 0) ∗ (∃ f, at_ c (yslot 0) f) ∗ (∃ f, at_ c (dslot 0) f))
      ∗ (cell c (ysem 1) ∗ cell c (dsem 1) ∗ (∃ f, at_ c (yslot 1) f) ∗ (∃ f, at_ c (dslot 1) f))) ⊢ yI c gy gd yv dv 0 := by
  unfold yI
  rw [sold_early c gy gd yv dv 0 (by omega), snew_early c yv dv 0 rfl, Ring.behindSet_boot 2 0 (by omega), bigSep_empty,
    show (Ring.aheadSet (0 - 1) : Finset (Fin 27)) = Finset.univ from Ring.aheadSet_zero]
  iintro ⟨HA, H0, H1⟩
  isplitl [HA]; · iexact HA
  isplitr; · iempintro
  isplitl [H0]; · iexact H0
  iexact H1

/-- The rings after the last trip. -/
theorem wI_last :
    wI c XW 27 ⊢ iprop(bigSep Finset.univ (whome c XW) ∗ cell c (wsem 0) ∗ (∃ f, at_ c (wslot 0) f) ∗ cell c (wsem 1) ∗ (∃ f, at_ c (wslot 1) f) ∗ cell c (wsem 2) ∗ (∃ f, at_ c (wslot 2) f) ∗ cell c (wsem 3) ∗ (∃ f, at_ c (wslot 3) f) ∗ cell c (wsem 4) ∗ (∃ f, at_ c (wslot 4) f) ∗ cell c (wsem 5) ∗ (∃ f, at_ c (wslot 5) f) ∗ cell c (wsem 6) ∗ (∃ f, at_ c (wslot 6) f) ∗ cell c (wsem 7) ∗ (∃ f, at_ c (wslot 7) f)) := by
  unfold wI wnext wrole wfree
  rw [Ring.homeSet_last 7 27 (by omega), if_neg (show ¬ 27 < 27 by omega), if_neg (show ¬ 27 + 1 < 27 by omega), if_neg (show ¬ 27 + 2 < 27 by omega), if_neg (show ¬ 27 + 3 < 27 by omega), if_neg (show ¬ 27 + 4 < 27 by omega), if_neg (show ¬ 27 + 5 < 27 by omega), if_neg (show ¬ 27 + 6 < 27 by omega)]
  iintro ⟨HH, ⟨HC3, H3⟩, ⟨⟨HC4, H4⟩, ⟨HC5, H5⟩, ⟨HC6, H6⟩, ⟨HC7, H7⟩, ⟨HC0, H0⟩, ⟨HC1, H1⟩⟩, ⟨HC2, H2⟩⟩
  isplitl [HH]; · iexact HH
  isplitl [HC0]; · iexact HC0
  isplitl [H0]; · iexact H0
  isplitl [HC1]; · iexact HC1
  isplitl [H1]; · iexact H1
  isplitl [HC2]; · iexact HC2
  isplitl [H2]; · iexact H2
  isplitl [HC3]; · iexact HC3
  isplitl [H3]; · iexact H3
  isplitl [HC4]; · iexact HC4
  isplitl [H4]; · iexact H4
  isplitl [HC5]; · iexact HC5
  isplitl [H5]; · iexact H5
  isplitl [HC6]; · iexact HC6
  isplitl [H6]; · iexact H6
  isplitl [HC7]; · iexact HC7
  iexact H7

/-- What the last trip leaves, piece by piece: the last tile still to be written, the one in flight, the tiles behind. -/
theorem yI_last :
    yI c gy gd yv dv 27 ⊢ iprop(at_ c (ytile 26) gy ∗ at_ c (dtile 26) gd ∗ bigSep (Ring.behindSet 2 27) (tfin c yv dv)
      ∗ flying c (ysem 1) 2560 (yslot 1) (ytile 25) ((yslot 1).view.rep (yv 25)) gy ∗ flying c (dsem 1) 5120 (dslot 1) (dtile 25) ((dslot 1).view.rep (dv 25)) gd
      ∗ cell c (ysem 0) ∗ cell c (dsem 0) ∗ at_ c (yslot 0) ((yslot 0).view.rep (yv 26)) ∗ at_ c (dslot 0) ((dslot 0).view.rep (dv 26))) := by
  unfold yI
  rw [sold_late c gy gd yv dv 27 (by omega), snew_late c yv dv 27 (by omega), aheads_here c gy gd 27 (by omega) (by omega)]
  iintro ⟨⟨⟨HY, HD⟩, HE⟩, HB, ⟨HFY, HFD⟩, ⟨HCY, HCD, HSY, HSD⟩⟩
  isplitl [HY]; · iexact HY
  isplitl [HD]; · iexact HD
  isplitl [HB]; · iexact HB
  isplitl [HFY]; · iexact HFY
  isplitl [HFD]; · iexact HFD
  isplitl [HCY]; · iexact HCY
  isplitl [HCD]; · iexact HCD
  isplitl [HSY]; · iexact HSY
  iexact HSD

/-- The two last tiles written, every tile is. -/
theorem tiles_all :
    iprop(bigSep (Ring.behindSet 2 27) (tfin c yv dv) ∗ tfin c yv dv 25 ∗ tfin c yv dv 26) ⊢ bigSep Finset.univ (tfin c yv dv) := by
  have e : (Finset.univ : Finset (Fin 27)) = insert 25 (insert 26 (Ring.behindSet 2 27)) := by decide
  have h : bigSep Finset.univ (tfin c yv dv) = iprop(tfin c yv dv 25 ∗ tfin c yv dv 26 ∗ bigSep (Ring.behindSet 2 27) (tfin c yv dv)) := by
    rw [e, bigSep_insert (by decide), bigSep_insert (by decide)]; rfl
  rw [h]
  iintro ⟨HB, H5, H6⟩
  isplitl [H5]; · iexact H5
  isplitl [H6]; · iexact H6
  iexact HB

/-- The tile loop's invariant before its first trip. -/
theorem inv2_zero (Xu : Buf (Elt F) (uB.view.loc (c : Thread nD τ))) (Xws : Buf (Elt F) (wsB.view.loc (c : Thread nD τ)))
    (Xq : Buf (Elt F) (xqB.view.loc (c : Thread nD τ))) (Xc : Buf (Elt F) (xsColB.view.loc (c : Thread nD τ)))
    (Xm : Buf (Elt F) (maskB.view.loc (c : Thread nD τ))) (Xuz : Buf (Elt F) (uzB.view.loc (c : Thread nD τ)))
    (Xus : Buf (Elt F) (usB.view.loc (c : Thread nD τ))) (Xt : Buf (Elt F) (tB.view.loc (c : Thread nD τ))) (v620 : FVec F S40x512 .bf16) (W : Waits sig Unit) :
    iprop(wI c XW 0 ∗ (bigSep Finset.univ (tini c gy gd) ∗ (cell c (ysem 0) ∗ cell c (dsem 0) ∗ (∃ f, at_ c (yslot 0) f) ∗ (∃ f, at_ c (dslot 0) f))
      ∗ (cell c (ysem 1) ∗ cell c (dsem 1) ∗ (∃ f, at_ c (yslot 1) f) ∗ (∃ f, at_ c (dslot 1) f)))
      ∗ (at_ c zB Zz ∗ at_ c xcB Zc ∗ at_ c xsRowB Zs ∗ at_ c zM gz ∗ at_ c xcM gc ∗ at_ c xsM gs ∗ cell c osem0 ∗ cell c osem1 ∗ cell c osem2)
      ∗ at_ c uB Xu ∗ owes (c : Thread nD τ) 0 W ∗ (at_ c wsB Xws ∗ at_ c xqB Xq ∗ at_ c xsColB Xc ∗ at_ c maskB Xm ∗ at_ c uzB Xuz ∗ at_ c usB Xus ∗ at_ c tB Xt))
    ⊢ inv2 c Xu Xws Xq Xc Xm Xuz Xus Xt XW gy gd Zz Zc Zs gz gc gs v620 0 := by
  unfold inv2 dPre resT oI oIdle
  rw [if_pos (rfl : 0 = 0)]
  iintro ⟨HW, HY, HO, HU, HOW, HR⟩
  isplitr [HR]
  · isplitl [HW]; · iexact HW
    isplitl [HY]; · iapply (yI_zero c gy gd _ _); iexact HY
    isplitl [HO]; · iexact HO
    isplitl [HU]; · iexact HU
    iexists W; iexact HOW
  iexact HR

/-- The tile loop's invariant after its last trip. -/
theorem inv2_last (Xu : Buf (Elt F) (uB.view.loc (c : Thread nD τ))) (Xws : Buf (Elt F) (wsB.view.loc (c : Thread nD τ)))
    (Xq : Buf (Elt F) (xqB.view.loc (c : Thread nD τ))) (Xc : Buf (Elt F) (xsColB.view.loc (c : Thread nD τ)))
    (Xm : Buf (Elt F) (maskB.view.loc (c : Thread nD τ))) (Xuz : Buf (Elt F) (uzB.view.loc (c : Thread nD τ)))
    (Xus : Buf (Elt F) (usB.view.loc (c : Thread nD τ))) (Xt : Buf (Elt F) (tB.view.loc (c : Thread nD τ))) (v620 : FVec F S40x512 .bf16) (n : ℕ) (hn : n = 27) :
    inv2 c Xu Xws Xq Xc Xm Xuz Xus Xt XW gy gd Zz Zc Zs gz gc gs v620 n ⊢
    iprop((bigSep Finset.univ (whome c XW) ∗ cell c (wsem 0) ∗ (∃ f, at_ c (wslot 0) f) ∗ cell c (wsem 1) ∗ (∃ f, at_ c (wslot 1) f) ∗ cell c (wsem 2) ∗ (∃ f, at_ c (wslot 2) f) ∗ cell c (wsem 3) ∗ (∃ f, at_ c (wslot 3) f) ∗ cell c (wsem 4) ∗ (∃ f, at_ c (wslot 4) f) ∗ cell c (wsem 5) ∗ (∃ f, at_ c (wslot 5) f) ∗ cell c (wsem 6) ∗ (∃ f, at_ c (wslot 6) f) ∗ cell c (wsem 7) ∗ (∃ f, at_ c (wslot 7) f))
      ∗ (at_ c (ytile 26) gy ∗ at_ c (dtile 26) gd ∗ bigSep (Ring.behindSet 2 27) (tfin c (yT c Xu Xws Xq Xc Xm Xuz Xus Xt XW v620) (dT c Xu Xws Xq Xc Xm Xuz Xus Xt XW v620))
      ∗ flying c (ysem 1) 2560 (yslot 1) (ytile 25) ((yslot 1).view.rep (yT c Xu Xws Xq Xc Xm Xuz Xus Xt XW v620 25)) gy ∗ flying c (dsem 1) 5120 (dslot 1) (dtile 25) ((dslot 1).view.rep (dT c Xu Xws Xq Xc Xm Xuz Xus Xt XW v620 25)) gd
      ∗ cell c (ysem 0) ∗ cell c (dsem 0) ∗ at_ c (yslot 0) ((yslot 0).view.rep (yT c Xu Xws Xq Xc Xm Xuz Xus Xt XW v620 26)) ∗ at_ c (dslot 0) ((dslot 0).view.rep (dT c Xu Xws Xq Xc Xm Xuz Xus Xt XW v620 26)))
      ∗ (flying c osem0 2560 zB zM Zz gz ∗ flying c osem1 10240 xcB xcM Zc gc ∗ flying c osem2 16 xsRowB xsM Zs gs)
      ∗ at_ c uB Xu ∗ (∃ W, owes (c : Thread nD τ) 0 W) ∗ (at_ c wsB Xws ∗ at_ c xqB Xq ∗ at_ c xsColB Xc ∗ at_ c maskB Xm ∗ at_ c uzB Xuz ∗ at_ c usB Xus ∗ at_ c tB Xt)) := by
  subst hn
  unfold inv2 dPre resT oI oFly
  rw [if_neg (show ¬ 27 = 0 by omega)]
  iintro ⟨⟨HW, HY, HO, HU, HOW⟩, HR⟩
  isplitl [HW]; · iapply (wI_last c XW); iexact HW
  isplitl [HY]; · iapply (yI_last c gy gd _ _); iexact HY
  isplitl [HO]; · iexact HO
  isplitl [HU]; · iexact HU
  isplitl [HOW]; · iexact HOW
  iexact HR

end

end Cert.Proof.KernelRun

end
-- ==== Proof.KernelBody.lean ====
/-
  The kernel's body, run whole.
-/
module

public import proofs.«01_k».proof.Proof.KernelBody0

@[expose] public section

set_option maxRecDepth 16384

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD)
  (XW : Buf (Elt F) (wM.view.loc (c : Thread nD τ)))
  (x0 : Buf (Elt F) (xA.view.loc (c : Thread nD τ)))
  (x2 : Buf (Elt F) (wsA.view.loc (c : Thread nD τ)))
  (x3 : Buf (Elt F) (sgA.view.loc (c : Thread nD τ)))
  (x4 : Buf (Elt F) (vA.view.loc (c : Thread nD τ)))
  (x5 : Buf (Elt F) (vsA.view.loc (c : Thread nD τ)))
  (x6 : Buf (Elt F) (vzA.view.loc (c : Thread nD τ)))
  (x7 : Buf (Elt F) (uA.view.loc (c : Thread nD τ)))
  (x8 : Buf (Elt F) (usA.view.loc (c : Thread nD τ)))
  (x9 : Buf (Elt F) (uzA.view.loc (c : Thread nD τ)))
  (gy : Buf (Elt F) (yM.view.loc (c : Thread nD τ))) (gd : Buf (Elt F) (dM.view.loc (c : Thread nD τ)))
  (gz : Buf (Elt F) (zM.view.loc (c : Thread nD τ))) (gc : Buf (Elt F) (xcM.view.loc (c : Thread nD τ))) (gs : Buf (Elt F) (xsM.view.loc (c : Thread nD τ)))

set_option maxHeartbeats 4000000 in
set_option backward.proofsInPublic true in
/-- The body's run, and what it leaves in each result. -/
@[irreducible] def bodyRun (t : Fin cfg0.N) :
    Σ' (yv : ℕ → S40x1024.Idx → Elt F .bf16) (dv : ℕ → S40x1x1024.Idx → Elt F .f32)
      (Zz : Buf (Elt F) (zB.view.loc (c : Thread nD τ))) (Zc : Buf (Elt F) (xcB.view.loc (c : Thread nD τ))) (Zs : Buf (Elt F) (xsRowB.view.loc (c : Thread nD τ))), ∀ Q : PUnit → sProp 𝕄,
      iprop(bodyPre c XW x0 x2 x3 x4 x5 x6 x7 x8 x9 gy gd gz gc gs ∗ (bodyPost c XW x0 x2 x3 x4 x5 x6 x7 x8 x9 yv dv Zz Zc Zs -∗ Q PUnit.unit))
        ⊢ wp frame (wpE (defs₀ (F := F)) 𝒱₀ (c : Thread nD τ) none) Set.univ (bodyAt0 (F := F) t) Q := by
  refine ⟨?yv, ?dv, ?Zz, ?Zc, ?Zs, fun Q => ?run⟩
  case run =>
    unfold bodyPre resW resIn resScratch resSems resRings
    iintro ⟨⟨⟨HW0, HW1, HW2, HW3, HW4, HW5, HW6, HWW⟩, ⟨Ix0, Ix2, Ix3, Ix4, Ix5, Ix6, Ix7, Ix8, Ix9⟩, ⟨⟨%fuB, SuB⟩, ⟨%fvB, SvB⟩, ⟨%fxB, SxB⟩, ⟨%fwsB, SwsB⟩, ⟨%fsgB, SsgB⟩, ⟨%fvsrB, SvsrB⟩, ⟨%fvzrB, SvzrB⟩, ⟨%fusrB, SusrB⟩, ⟨%fuzrB, SuzrB⟩, ⟨%fxqB, SxqB⟩, ⟨%fxcB, SxcB⟩, ⟨%fxsColB, SxsColB⟩, ⟨%fxsRowB, SxsRowB⟩, ⟨%fmaskB, SmaskB⟩, ⟨%fpermB, SpermB⟩, ⟨%fvzB, SvzB⟩, ⟨%fvsB, SvsB⟩, ⟨%fuzB, SuzB⟩, ⟨%fusB, SusB⟩, ⟨%faccB, SaccB⟩, ⟨%fzB, SzB⟩, ⟨%ftB, StB⟩⟩, ⟨CI0, CI1, CI2, CI3, CI4, CI5, CI6, CI7, CI8, CO0, CO1, CO2⟩, ⟨CW0, ⟨%fw0, SW0⟩, CW1, ⟨%fw1, SW1⟩, CW2, ⟨%fw2, SW2⟩, CW3, ⟨%fw3, SW3⟩, CW4, ⟨%fw4, SW4⟩, CW5, ⟨%fw5, SW5⟩, CW6, ⟨%fw6, SW6⟩, CW7, ⟨%fw7, SW7⟩, CY0, CD0, ⟨%fy0, SY0⟩, ⟨%fd0, SD0⟩, CY1, CD1, ⟨%fy1, SY1⟩, ⟨%fd1, SD1⟩⟩, HT, HZ, HXC, HXS, %W, HOW⟩, HQ⟩
    unfold bodyAt0
    rw [cc0_delta_come_eq_skeleton]
    sl_exec
    ihave HWI := (wI_zero c XW) $$ [CW0 CW1 CW2 CW3 CW4 CW5 CW6 CW7 SW7 HWW]
    · isplitl [CW0]; · iexists fw0; iexact CW0
      isplitl [CW1]; · iexists fw1; iexact CW1
      isplitl [CW2]; · iexists fw2; iexact CW2
      isplitl [CW3]; · iexists fw3; iexact CW3
      isplitl [CW4]; · iexists fw4; iexact CW4
      isplitl [CW5]; · iexists fw5; iexact CW5
      isplitl [CW6]; · iexists fw6; iexact CW6
      isplitl [CW7]; · iexact CW7
      isplitl [SW7]; · iexists fw7; iexact SW7
      iexact HWW
    ihave HI := (inv2_zero c XW gy gd gz gc gs (zB.view.writes (Elt F) zB.view.junk (bodyRun.sl.SzB_1 c x0 x4 x5 x6 x8 x9)) (xcB.view.writes (Elt F) xcB.view.junk (bodyRun.sl.SxcB_1 c x0)) (xsRowB.view.writes (Elt F) xsRowB.view.junk (bodyRun.sl.SxsRowB_1 c x0)) (uB.view.writes (Elt F) uB.view.junk [⟨Rect.whole S117x27648, bodyRun.sl.dma0_8 c x7⟩]) (wsB.view.writes (Elt F) wsB.view.junk [⟨Rect.whole S1x27648, bodyRun.sl.dma0_9 c x2⟩]) (xqB.view.writes (Elt F) xqB.view.junk (bodyRun.sl.SxqB_1 c x0)) (xsColB.view.writes (Elt F) xsColB.view.junk (bodyRun.sl.SxsColB_1 c x0)) (maskB.view.writes (Elt F) maskB.view.junk bodyRun.sl.SmaskB_14) (uzB.view.writes (Elt F) uzB.view.junk (bodyRun.sl.SuzB_1 c x5 x6 x8 x9)) (usB.view.writes (Elt F) usB.view.junk (bodyRun.sl.SusB_1 c x5 x6 x8 x9)) (tB.view.writes (Elt F) tB.view.junk (bodyRun.sl.StB_1 c x0 x3 x4 x5 x6 x8 x9)) (bodyRun.sl.r_10 c x0 x3 x4 x5 x6 x8 x9) _) $$ [HWI HT CY0 CD0 SY0 SD0 CY1 CD1 SY1 SD1 SzB SxcB SxsRowB HZ HXC HXS CO0 CO1 CO2 SuB HOW SwsB SxqB SxsColB SmaskB SuzB SusB StB]
    · isplitl [HWI]; · iexact HWI
      isplitl [HT CY0 CD0 SY0 SD0 CY1 CD1 SY1 SD1]
      · isplitl [HT]; · iexact HT
        isplitl [CY0 CD0 SY0 SD0]
        · isplitl [CY0]; · iexact CY0
          isplitl [CD0]; · iexact CD0
          isplitl [SY0]; · iexists fy0; iexact SY0
          iexists fd0; iexact SD0
        isplitl [CY1]; · iexact CY1
        isplitl [CD1]; · iexact CD1
        isplitl [SY1]; · iexists fy1; iexact SY1
        iexists fd1; iexact SD1
      isplitl [SzB SxcB SxsRowB HZ HXC HXS CO0 CO1 CO2]
      · isplitl [SzB]; · iexact SzB
        isplitl [SxcB]; · iexact SxcB
        isplitl [SxsRowB]; · iexact SxsRowB
        isplitl [HZ]; · iexact HZ
        isplitl [HXC]; · iexact HXC
        isplitl [HXS]; · iexact HXS
        isplitl [CO0]; · iexact CO0
        isplitl [CO1]; · iexact CO1
        iexact CO2
      isplitl [SuB]; · iexact SuB
      isplitl [HOW]; · iexact HOW
      isplitl [SwsB]; · iexact SwsB
      isplitl [SxqB]; · iexact SxqB
      isplitl [SxsColB]; · iexact SxsColB
      isplitl [SmaskB]; · iexact SmaskB
      isplitl [SuzB]; · iexact SuzB
      isplitl [SusB]; · iexact SusB
      iexact StB
    sl_for (fun k _ => inv2 c (uB.view.writes (Elt F) uB.view.junk [⟨Rect.whole S117x27648, bodyRun.sl.dma0_8 c x7⟩]) (wsB.view.writes (Elt F) wsB.view.junk [⟨Rect.whole S1x27648, bodyRun.sl.dma0_9 c x2⟩]) (xqB.view.writes (Elt F) xqB.view.junk (bodyRun.sl.SxqB_1 c x0)) (xsColB.view.writes (Elt F) xsColB.view.junk (bodyRun.sl.SxsColB_1 c x0)) (maskB.view.writes (Elt F) maskB.view.junk bodyRun.sl.SmaskB_14) (uzB.view.writes (Elt F) uzB.view.junk (bodyRun.sl.SuzB_1 c x5 x6 x8 x9)) (usB.view.writes (Elt F) usB.view.junk (bodyRun.sl.SusB_1 c x5 x6 x8 x9)) (tB.view.writes (Elt F) tB.view.junk (bodyRun.sl.StB_1 c x0 x3 x4 x5 x6 x8 x9)) XW gy gd (zB.view.writes (Elt F) zB.view.junk (bodyRun.sl.SzB_1 c x0 x4 x5 x6 x8 x9)) (xcB.view.writes (Elt F) xcB.view.junk (bodyRun.sl.SxcB_1 c x0)) (xsRowB.view.writes (Elt F) xsRowB.view.junk (bodyRun.sl.SxsRowB_1 c x0)) gz gc gs (bodyRun.sl.r_10 c x0 x3 x4 x5 x6 x8 x9) k) $$ [HI]
    · intro k acc
      unfold bodyRun.sl.prog.body_1
      exact (loopInv2 c (uB.view.writes (Elt F) uB.view.junk [⟨Rect.whole S117x27648, bodyRun.sl.dma0_8 c x7⟩]) (wsB.view.writes (Elt F) wsB.view.junk [⟨Rect.whole S1x27648, bodyRun.sl.dma0_9 c x2⟩]) (xqB.view.writes (Elt F) xqB.view.junk (bodyRun.sl.SxqB_1 c x0)) (xsColB.view.writes (Elt F) xsColB.view.junk (bodyRun.sl.SxsColB_1 c x0)) (maskB.view.writes (Elt F) maskB.view.junk bodyRun.sl.SmaskB_14) (uzB.view.writes (Elt F) uzB.view.junk (bodyRun.sl.SuzB_1 c x5 x6 x8 x9)) (usB.view.writes (Elt F) usB.view.junk (bodyRun.sl.SusB_1 c x5 x6 x8 x9)) (tB.view.writes (Elt F) tB.view.junk (bodyRun.sl.StB_1 c x0 x3 x4 x5 x6 x8 x9)) XW gy gd (zB.view.writes (Elt F) zB.view.junk (bodyRun.sl.SzB_1 c x0 x4 x5 x6 x8 x9)) (xcB.view.writes (Elt F) xcB.view.junk (bodyRun.sl.SxcB_1 c x0)) (xsRowB.view.writes (Elt F) xsRowB.view.junk (bodyRun.sl.SxsRowB_1 c x0)) gz gc gs (bodyRun.sl.r_10 c x0 x3 x4 x5 x6 x8 x9)).step k acc
    · iexact HI
    · iintro %acc HI
      ihave HJ := (inv2_last c XW gy gd gz gc gs (zB.view.writes (Elt F) zB.view.junk (bodyRun.sl.SzB_1 c x0 x4 x5 x6 x8 x9)) (xcB.view.writes (Elt F) xcB.view.junk (bodyRun.sl.SxcB_1 c x0)) (xsRowB.view.writes (Elt F) xsRowB.view.junk (bodyRun.sl.SxsRowB_1 c x0)) (uB.view.writes (Elt F) uB.view.junk [⟨Rect.whole S117x27648, bodyRun.sl.dma0_8 c x7⟩]) (wsB.view.writes (Elt F) wsB.view.junk [⟨Rect.whole S1x27648, bodyRun.sl.dma0_9 c x2⟩]) (xqB.view.writes (Elt F) xqB.view.junk (bodyRun.sl.SxqB_1 c x0)) (xsColB.view.writes (Elt F) xsColB.view.junk (bodyRun.sl.SxsColB_1 c x0)) (maskB.view.writes (Elt F) maskB.view.junk bodyRun.sl.SmaskB_14) (uzB.view.writes (Elt F) uzB.view.junk (bodyRun.sl.SuzB_1 c x5 x6 x8 x9)) (usB.view.writes (Elt F) usB.view.junk (bodyRun.sl.SusB_1 c x5 x6 x8 x9)) (tB.view.writes (Elt F) tB.view.junk (bodyRun.sl.StB_1 c x0 x3 x4 x5 x6 x8 x9)) (bodyRun.sl.r_10 c x0 x3 x4 x5 x6 x8 x9) _ trips2) $$ [HI]
      · iexact HI
      icases HJ with ⟨⟨HWW, CW0, SW0, CW1, SW1, CW2, SW2, CW3, SW3, CW4, SW4, CW5, SW5, CW6, SW6, CW7, SW7⟩, ⟨TY, TD, HB, FY1, FD1, CY0, CD0, SY0, SD0⟩, ⟨FZ, FC, FS⟩, SuB, ⟨%W2, HOW⟩, ⟨SwsB, SxqB, SxsColB, SmaskB, SuzB, SusB, StB⟩⟩
      sl_exec
      sl_step
      iapply HQ
      unfold bodyPost resIn resScratch resSems resRings
      isplitl [HWW]; · iexact HWW
      isplitl [Ix0 Ix2 Ix3 Ix4 Ix5 Ix6 Ix7 Ix8 Ix9]
      · isplitl [Ix0]; · iexact Ix0
        isplitl [Ix2]; · iexact Ix2
        isplitl [Ix3]; · iexact Ix3
        isplitl [Ix4]; · iexact Ix4
        isplitl [Ix5]; · iexact Ix5
        isplitl [Ix6]; · iexact Ix6
        isplitl [Ix7]; · iexact Ix7
        isplitl [Ix8]; · iexact Ix8
        iexact Ix9
      isplitl [SuB SvB SxB SwsB SsgB SvsrB SvzrB SusrB SuzrB SxqB FC_src SxsColB FS_src SmaskB SpermB SvzB SvsB SuzB SusB SaccB FZ_src StB]
      · isplitl [SuB]; · iexists _; iexact SuB
        isplitl [SvB]; · iexists _; iexact SvB
        isplitl [SxB]; · iexists _; iexact SxB
        isplitl [SwsB]; · iexists _; iexact SwsB
        isplitl [SsgB]; · iexists _; iexact SsgB
        isplitl [SvsrB]; · iexists _; iexact SvsrB
        isplitl [SvzrB]; · iexists _; iexact SvzrB
        isplitl [SusrB]; · iexists _; iexact SusrB
        isplitl [SuzrB]; · iexists _; iexact SuzrB
        isplitl [SxqB]; · iexists _; iexact SxqB
        isplitl [FC_src]; · iexists _; iexact FC_src
        isplitl [SxsColB]; · iexists _; iexact SxsColB
        isplitl [FS_src]; · iexists _; iexact FS_src
        isplitl [SmaskB]; · iexists _; iexact SmaskB
        isplitl [SpermB]; · iexists _; iexact SpermB
        isplitl [SvzB]; · iexists _; iexact SvzB
        isplitl [SvsB]; · iexists _; iexact SvsB
        isplitl [SuzB]; · iexists _; iexact SuzB
        isplitl [SusB]; · iexists _; iexact SusB
        isplitl [SaccB]; · iexists _; iexact SaccB
        isplitl [FZ_src]; · iexists _; iexact FZ_src
        iexists _; iexact StB
      isplitl [CI0 CI1 CI2 CI3 CI4 CI5 CI6 CI7 CI8 FZ FC FS]
      · isplitl [CI0]; · iexact CI0
        isplitl [CI1]; · iexact CI1
        isplitl [CI2]; · iexact CI2
        isplitl [CI3]; · iexact CI3
        isplitl [CI4]; · iexact CI4
        isplitl [CI5]; · iexact CI5
        isplitl [CI6]; · iexact CI6
        isplitl [CI7]; · iexact CI7
        isplitl [CI8]; · iexact CI8
        isplitl [FZ]; · iexact FZ
        isplitl [FC]; · iexact FC
        iexact FS
      isplitl [CW0 SW0 CW1 SW1 CW2 SW2 CW3 SW3 CW4 SW4 CW5 SW5 CW6 SW6 CW7 SW7 CY0 CD0 SY0 SD0 FY1 FD1 FY1_src FD1_src]
      · isplitl [CW0]; · iexact CW0
        isplitl [SW0]; · iexact SW0
        isplitl [CW1]; · iexact CW1
        isplitl [SW1]; · iexact SW1
        isplitl [CW2]; · iexact CW2
        isplitl [SW2]; · iexact SW2
        isplitl [CW3]; · iexact CW3
        isplitl [SW3]; · iexact SW3
        isplitl [CW4]; · iexact CW4
        isplitl [SW4]; · iexact SW4
        isplitl [CW5]; · iexact CW5
        isplitl [SW5]; · iexact SW5
        isplitl [CW6]; · iexact CW6
        isplitl [SW6]; · iexact SW6
        isplitl [CW7]; · iexact CW7
        isplitl [SW7]; · iexact SW7
        isplitl [CY0]; · iexact CY0
        isplitl [CD0]; · iexact CD0
        isplitl [SY0]; · iexists _; iexact SY0
        isplitl [SD0]; · iexists _; iexact SD0
        isplitl [FY1]; · iexact FY1
        isplitl [FD1]; · iexact FD1
        isplitl [FY1_src]; · iexists _; iexact FY1_src
        iexists _; iexact FD1_src
      isplitl [HB FY1_dst FD1_dst TY TD]
      · iapply (tiles_all c (yT c (uB.view.writes (Elt F) uB.view.junk [⟨Rect.whole S117x27648, bodyRun.sl.dma0_8 c x7⟩]) (wsB.view.writes (Elt F) wsB.view.junk [⟨Rect.whole S1x27648, bodyRun.sl.dma0_9 c x2⟩]) (xqB.view.writes (Elt F) xqB.view.junk (bodyRun.sl.SxqB_1 c x0)) (xsColB.view.writes (Elt F) xsColB.view.junk (bodyRun.sl.SxsColB_1 c x0)) (maskB.view.writes (Elt F) maskB.view.junk bodyRun.sl.SmaskB_14) (uzB.view.writes (Elt F) uzB.view.junk (bodyRun.sl.SuzB_1 c x5 x6 x8 x9)) (usB.view.writes (Elt F) usB.view.junk (bodyRun.sl.SusB_1 c x5 x6 x8 x9)) (tB.view.writes (Elt F) tB.view.junk (bodyRun.sl.StB_1 c x0 x3 x4 x5 x6 x8 x9)) XW (bodyRun.sl.r_10 c x0 x3 x4 x5 x6 x8 x9)) (dT c (uB.view.writes (Elt F) uB.view.junk [⟨Rect.whole S117x27648, bodyRun.sl.dma0_8 c x7⟩]) (wsB.view.writes (Elt F) wsB.view.junk [⟨Rect.whole S1x27648, bodyRun.sl.dma0_9 c x2⟩]) (xqB.view.writes (Elt F) xqB.view.junk (bodyRun.sl.SxqB_1 c x0)) (xsColB.view.writes (Elt F) xsColB.view.junk (bodyRun.sl.SxsColB_1 c x0)) (maskB.view.writes (Elt F) maskB.view.junk bodyRun.sl.SmaskB_14) (uzB.view.writes (Elt F) uzB.view.junk (bodyRun.sl.SuzB_1 c x5 x6 x8 x9)) (usB.view.writes (Elt F) usB.view.junk (bodyRun.sl.SusB_1 c x5 x6 x8 x9)) (tB.view.writes (Elt F) tB.view.junk (bodyRun.sl.StB_1 c x0 x3 x4 x5 x6 x8 x9)) XW (bodyRun.sl.r_10 c x0 x3 x4 x5 x6 x8 x9)))
        isplitl [HB]; · iexact HB
        isplitl [FY1_dst FD1_dst]
        · isplitl [FY1_dst]; · iapply (landed c _ _ _ _ _ (View.read_rep _ _)); iexact FY1_dst
          iapply (landed c _ _ _ _ _ (View.read_rep _ _)); iexact FD1_dst
        unfold bodyRun.sl.dma0_16 bodyRun.sl.dma0_17
        isplitl [TY]; · iapply (landed c _ _ _ _ _ (View.read_rep _ _)); iexact TY
        iapply (landed c _ _ _ _ _ (View.read_rep _ _)); iexact TD
      isplitl [FZ_dst]; · iapply (landed c _ _ _ _ _ rfl); iexact FZ_dst
      isplitl [FC_dst]; · iapply (landed c _ _ _ _ _ rfl); iexact FC_dst
      isplitl [FS_dst]; · iapply (landed c _ _ _ _ _ rfl); iexact FS_dst
      iexists _; iexact HOW

end

end Cert.Proof.KernelRun

end
-- ==== Proof.KernelSets.lean ====
/-
  The buffers cut into the blocks and slots the body's run (`KernelBody`) names, and joined again.
-/
module

public import proofs.«01_k».proof.Proof.KernelBody
public import proofs.«01_k».proof.Proof.Gen.Kernel.Frame

@[expose] public section

set_option maxRecDepth 16384

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Element sets of the blocks -/

/-- Two blocks told apart by a number share no element. -/
theorem fam_disjoint {X B : Type} [DecidableEq X] {I : B → Finset X} (φ : X → B) (h : ∀ b y, y ∈ I b ↔ φ y = b) :
    ∀ b b', b ≠ b' → Disjoint (I b) (I b') := by
  intro b b' hne; rw [Finset.disjoint_left]; intro y hy hy'
  exact hne (((h b y).mp hy).symm.trans ((h b' y).mp hy'))
/-- Blocks told apart by a number cover everything. -/
theorem fam_cover {X B : Type} [Fintype X] [DecidableEq X] [Fintype B] {I : B → Finset X} (φ : X → B) (h : ∀ b y, y ∈ I b ↔ φ y = b) :
    (Finset.univ : Finset B).biUnion I = Finset.univ := by
  ext y; simp only [Finset.mem_biUnion, Finset.mem_univ, true_and, iff_true]; exact ⟨φ y, (h _ y).mpr rfl⟩

abbrev Iw (b : Fin 27) : Finset S5120x27648.Idx := (Rect.unit (s := S5120x27648) (wblkOff b) S5120x1024.size (wblkOff_inb b)).set
/-- The block an element lies in. -/
def Nw (y : S5120x27648.Idx) : Fin 27 := ⟨(y 1).val / 1024, by have h : (y 1).val < 27648 := (y 1).isLt; omega⟩
/-- An index lies in a block exactly if the block is its own. -/
theorem mem_Iw (b : Fin 27) (y : S5120x27648.Idx) : y ∈ Iw b ↔ Nw y = b := by
  rw [Rect.mem_set_unit, Fin.ext_iff]
  have h0 : (y 0).val < 5120 := (y 0).isLt
  have h1 : (y 1).val < 27648 := (y 1).isLt
  unfold Nw
  constructor
  · intro H; have a0 : 1024 * b.val ≤ (y 1).val ∧ (y 1).val < 1024 * b.val + 1024 := H 1; show (y 1).val / 1024 = b.val; omega
  · intro H i; replace H : (y 1).val / 1024 = b.val := H; fin_cases i
    · show 0 ≤ (y 0).val ∧ (y 0).val < 0 + 5120; omega
    · show 1024 * b.val ≤ (y 1).val ∧ (y 1).val < 1024 * b.val + 1024; omega
/-- The entries of this block or slot. -/
theorem wblk_set (b : Fin 27) : (wblk b).view.set = Iw b := View.set_slice_whole _ _
/-- Owning this block or slot is owning its entries of the whole buffer. -/
theorem wblk_at (c : Dev nD) (b : Fin 27) (f : Buf (Elt F) (wM.view.loc (c : Thread nD τ))) :
    (at_ c (wblk b) f : sProp 𝕄) = (((c : Thread nD τ).loc main_arg1) ↦[Iw b]{fullShare} f) :=
  congrArg (fun S => (((c : Thread nD τ).loc main_arg1) ↦[S]{fullShare} f : sProp 𝕄)) (wblk_set b)
/-- The whole buffer is its blocks. -/
theorem wblk_blocks (c : Dev nD) (f : Buf (Elt F) (wM.view.loc (c : Thread nD τ))) :
    ((((c : Thread nD τ).loc main_arg1) ↦{fullShare} f : sProp 𝕄)) = bigSep Finset.univ fun b => at_ c (wblk b) f := by
  rw [Ring.pointsTo_blocks (ℓ := (c : Thread nD τ).loc main_arg1) Iw (fam_disjoint Nw mem_Iw) (fam_cover Nw mem_Iw)]
  exact bigSep_congr fun b _ => (wblk_at c b f).symm

abbrev Iy (b : Fin 27) : Finset S40x27648.Idx := (Rect.unit (s := S40x27648) (wblkOff b) S40x1024.size (ytileOff_inb b)).set
/-- The block an element lies in. -/
def Ny (y : S40x27648.Idx) : Fin 27 := ⟨(y 1).val / 1024, by have h : (y 1).val < 27648 := (y 1).isLt; omega⟩
/-- An index lies in a block exactly if the block is its own. -/
theorem mem_Iy (b : Fin 27) (y : S40x27648.Idx) : y ∈ Iy b ↔ Ny y = b := by
  rw [Rect.mem_set_unit, Fin.ext_iff]
  have h0 : (y 0).val < 40 := (y 0).isLt
  have h1 : (y 1).val < 27648 := (y 1).isLt
  unfold Ny
  constructor
  · intro H; have a0 : 1024 * b.val ≤ (y 1).val ∧ (y 1).val < 1024 * b.val + 1024 := H 1; show (y 1).val / 1024 = b.val; omega
  · intro H i; replace H : (y 1).val / 1024 = b.val := H; fin_cases i
    · show 0 ≤ (y 0).val ∧ (y 0).val < 0 + 40; omega
    · show 1024 * b.val ≤ (y 1).val ∧ (y 1).val < 1024 * b.val + 1024; omega
/-- The entries of this block or slot. -/
theorem ytile_set (b : Fin 27) : (ytile b).view.set = Iy b := View.set_slice_whole _ _
/-- Owning this block or slot is owning its entries of the whole buffer. -/
theorem ytile_at (c : Dev nD) (b : Fin 27) (f : Buf (Elt F) (yM.view.loc (c : Thread nD τ))) :
    (at_ c (ytile b) f : sProp 𝕄) = (((c : Thread nD τ).loc main_v7_0) ↦[Iy b]{fullShare} f) :=
  congrArg (fun S => (((c : Thread nD τ).loc main_v7_0) ↦[S]{fullShare} f : sProp 𝕄)) (ytile_set b)
/-- The whole buffer is its blocks. -/
theorem ytile_blocks (c : Dev nD) (f : Buf (Elt F) (yM.view.loc (c : Thread nD τ))) :
    ((((c : Thread nD τ).loc main_v7_0) ↦{fullShare} f : sProp 𝕄)) = bigSep Finset.univ fun b => at_ c (ytile b) f := by
  rw [Ring.pointsTo_blocks (ℓ := (c : Thread nD τ).loc main_v7_0) Iy (fam_disjoint Ny mem_Iy) (fam_cover Ny mem_Iy)]
  exact bigSep_congr fun b _ => (ytile_at c b f).symm

abbrev Id (b : Fin 27) : Finset S40x1x27648.Idx := (Rect.unit (s := S40x1x27648) (dtileOff b) S40x1x1024.size (dtileOff_inb b)).set
/-- The block an element lies in. -/
def Nd (y : S40x1x27648.Idx) : Fin 27 := ⟨(y 2).val / 1024, by have h : (y 2).val < 27648 := (y 2).isLt; omega⟩
/-- An index lies in a block exactly if the block is its own. -/
theorem mem_Id (b : Fin 27) (y : S40x1x27648.Idx) : y ∈ Id b ↔ Nd y = b := by
  rw [Rect.mem_set_unit, Fin.ext_iff]
  have h0 : (y 0).val < 40 := (y 0).isLt
  have h1 : (y 1).val < 1 := (y 1).isLt
  have h2 : (y 2).val < 27648 := (y 2).isLt
  unfold Nd
  constructor
  · intro H; have a0 : 1024 * b.val ≤ (y 2).val ∧ (y 2).val < 1024 * b.val + 1024 := H 2; show (y 2).val / 1024 = b.val; omega
  · intro H i; replace H : (y 2).val / 1024 = b.val := H; fin_cases i
    · show 0 ≤ (y 0).val ∧ (y 0).val < 0 + 40; omega
    · show 0 ≤ (y 1).val ∧ (y 1).val < 0 + 1; omega
    · show 1024 * b.val ≤ (y 2).val ∧ (y 2).val < 1024 * b.val + 1024; omega
/-- The entries of this block or slot. -/
theorem dtile_set (b : Fin 27) : (dtile b).view.set = Id b := View.set_slice_whole _ _
/-- Owning this block or slot is owning its entries of the whole buffer. -/
theorem dtile_at (c : Dev nD) (b : Fin 27) (f : Buf (Elt F) (dM.view.loc (c : Thread nD τ))) :
    (at_ c (dtile b) f : sProp 𝕄) = (((c : Thread nD τ).loc main_v7_1) ↦[Id b]{fullShare} f) :=
  congrArg (fun S => (((c : Thread nD τ).loc main_v7_1) ↦[S]{fullShare} f : sProp 𝕄)) (dtile_set b)
/-- The whole buffer is its blocks. -/
theorem dtile_blocks (c : Dev nD) (f : Buf (Elt F) (dM.view.loc (c : Thread nD τ))) :
    ((((c : Thread nD τ).loc main_v7_1) ↦{fullShare} f : sProp 𝕄)) = bigSep Finset.univ fun b => at_ c (dtile b) f := by
  rw [Ring.pointsTo_blocks (ℓ := (c : Thread nD τ).loc main_v7_1) Id (fam_disjoint Nd mem_Id) (fam_cover Nd mem_Id)]
  exact bigSep_congr fun b _ => (dtile_at c b f).symm

abbrev Iws (b : Fin 8) : Finset S8x5120x1024.Idx := (Rect.unit (s := S8x5120x1024) (wslotOff b) S1x5120x1024.size (wslotOff_inb b)).set
/-- The slot an element lies in. -/
def Nws (y : S8x5120x1024.Idx) : Fin 8 := ⟨(y 0).val, (y 0).isLt⟩
/-- An index lies in a block exactly if the block is its own. -/
theorem mem_Iws (b : Fin 8) (y : S8x5120x1024.Idx) : y ∈ Iws b ↔ Nws y = b := by
  rw [Rect.mem_set_unit, Fin.ext_iff]
  have h0 : (y 0).val < 8 := (y 0).isLt
  have h1 : (y 1).val < 5120 := (y 1).isLt
  have h2 : (y 2).val < 1024 := (y 2).isLt
  unfold Nws
  constructor
  · intro H; have a0 : b.val ≤ (y 0).val ∧ (y 0).val < b.val + 1 := H 0; show (y 0).val = b.val; omega
  · intro H i; replace H : (y 0).val = b.val := H; fin_cases i
    · show b.val ≤ (y 0).val ∧ (y 0).val < b.val + 1; omega
    · show 0 ≤ (y 1).val ∧ (y 1).val < 0 + 5120; omega
    · show 0 ≤ (y 2).val ∧ (y 2).val < 0 + 1024; omega
/-- The entries of this block or slot. -/
theorem wslot_set (b : Fin 8) : (wslot b).view.set = Iws b := (View.set_reshape _ _).trans (View.set_slice_whole _ _)
/-- Owning this block or slot is owning its entries of the whole buffer. -/
theorem wslot_at (c : Dev nD) (b : Fin 8) (f : Buf (Elt F) (wR.view.loc (c : Thread nD τ))) :
    (at_ c (wslot b) f : sProp 𝕄) = (((c : Thread nD τ).loc cc0_scratch0) ↦[Iws b]{fullShare} f) :=
  congrArg (fun S => (((c : Thread nD τ).loc cc0_scratch0) ↦[S]{fullShare} f : sProp 𝕄)) (wslot_set b)
/-- The whole buffer is its blocks. -/
theorem wslot_blocks (c : Dev nD) (f : Buf (Elt F) (wR.view.loc (c : Thread nD τ))) :
    ((((c : Thread nD τ).loc cc0_scratch0) ↦{fullShare} f : sProp 𝕄)) = bigSep Finset.univ fun b => at_ c (wslot b) f := by
  rw [Ring.pointsTo_blocks (ℓ := (c : Thread nD τ).loc cc0_scratch0) Iws (fam_disjoint Nws mem_Iws) (fam_cover Nws mem_Iws)]
  exact bigSep_congr fun b _ => (wslot_at c b f).symm

abbrev Iys (b : Fin 2) : Finset S2x40x1024.Idx := (Rect.unit (s := S2x40x1024) (yslotOff b) S1x40x1024.size (yslotOff_inb b)).set
/-- The slot an element lies in. -/
def Nys (y : S2x40x1024.Idx) : Fin 2 := ⟨(y 0).val, (y 0).isLt⟩
/-- An index lies in a block exactly if the block is its own. -/
theorem mem_Iys (b : Fin 2) (y : S2x40x1024.Idx) : y ∈ Iys b ↔ Nys y = b := by
  rw [Rect.mem_set_unit, Fin.ext_iff]
  have h0 : (y 0).val < 2 := (y 0).isLt
  have h1 : (y 1).val < 40 := (y 1).isLt
  have h2 : (y 2).val < 1024 := (y 2).isLt
  unfold Nys
  constructor
  · intro H; have a0 : b.val ≤ (y 0).val ∧ (y 0).val < b.val + 1 := H 0; show (y 0).val = b.val; omega
  · intro H i; replace H : (y 0).val = b.val := H; fin_cases i
    · show b.val ≤ (y 0).val ∧ (y 0).val < b.val + 1; omega
    · show 0 ≤ (y 1).val ∧ (y 1).val < 0 + 40; omega
    · show 0 ≤ (y 2).val ∧ (y 2).val < 0 + 1024; omega
/-- The entries of this block or slot. -/
theorem yslot_set (b : Fin 2) : (yslot b).view.set = Iys b := (View.set_reshape _ _).trans (View.set_slice_whole _ _)
/-- Owning this block or slot is owning its entries of the whole buffer. -/
theorem yslot_at (c : Dev nD) (b : Fin 2) (f : Buf (Elt F) (yR.view.loc (c : Thread nD τ))) :
    (at_ c (yslot b) f : sProp 𝕄) = (((c : Thread nD τ).loc cc0_scratch23) ↦[Iys b]{fullShare} f) :=
  congrArg (fun S => (((c : Thread nD τ).loc cc0_scratch23) ↦[S]{fullShare} f : sProp 𝕄)) (yslot_set b)
/-- The whole buffer is its blocks. -/
theorem yslot_blocks (c : Dev nD) (f : Buf (Elt F) (yR.view.loc (c : Thread nD τ))) :
    ((((c : Thread nD τ).loc cc0_scratch23) ↦{fullShare} f : sProp 𝕄)) = bigSep Finset.univ fun b => at_ c (yslot b) f := by
  rw [Ring.pointsTo_blocks (ℓ := (c : Thread nD τ).loc cc0_scratch23) Iys (fam_disjoint Nys mem_Iys) (fam_cover Nys mem_Iys)]
  exact bigSep_congr fun b _ => (yslot_at c b f).symm

abbrev Ids (b : Fin 2) : Finset S2x40x1x1024.Idx := (Rect.unit (s := S2x40x1x1024) (dslotOff b) S1x40x1x1024.size (dslotOff_inb b)).set
/-- The slot an element lies in. -/
def Nds (y : S2x40x1x1024.Idx) : Fin 2 := ⟨(y 0).val, (y 0).isLt⟩
/-- An index lies in a block exactly if the block is its own. -/
theorem mem_Ids (b : Fin 2) (y : S2x40x1x1024.Idx) : y ∈ Ids b ↔ Nds y = b := by
  rw [Rect.mem_set_unit, Fin.ext_iff]
  have h0 : (y 0).val < 2 := (y 0).isLt
  have h1 : (y 1).val < 40 := (y 1).isLt
  have h2 : (y 2).val < 1 := (y 2).isLt
  have h3 : (y 3).val < 1024 := (y 3).isLt
  unfold Nds
  constructor
  · intro H; have a0 : b.val ≤ (y 0).val ∧ (y 0).val < b.val + 1 := H 0; show (y 0).val = b.val; omega
  · intro H i; replace H : (y 0).val = b.val := H; fin_cases i
    · show b.val ≤ (y 0).val ∧ (y 0).val < b.val + 1; omega
    · show 0 ≤ (y 1).val ∧ (y 1).val < 0 + 40; omega
    · show 0 ≤ (y 2).val ∧ (y 2).val < 0 + 1; omega
    · show 0 ≤ (y 3).val ∧ (y 3).val < 0 + 1024; omega
/-- The entries of this block or slot. -/
theorem dslot_set (b : Fin 2) : (dslot b).view.set = Ids b := (View.set_reshape _ _).trans (View.set_slice_whole _ _)
/-- Owning this block or slot is owning its entries of the whole buffer. -/
theorem dslot_at (c : Dev nD) (b : Fin 2) (f : Buf (Elt F) (dR.view.loc (c : Thread nD τ))) :
    (at_ c (dslot b) f : sProp 𝕄) = (((c : Thread nD τ).loc cc0_scratch24) ↦[Ids b]{fullShare} f) :=
  congrArg (fun S => (((c : Thread nD τ).loc cc0_scratch24) ↦[S]{fullShare} f : sProp 𝕄)) (dslot_set b)
/-- The whole buffer is its blocks. -/
theorem dslot_blocks (c : Dev nD) (f : Buf (Elt F) (dR.view.loc (c : Thread nD τ))) :
    ((((c : Thread nD τ).loc cc0_scratch24) ↦{fullShare} f : sProp 𝕄)) = bigSep Finset.univ fun b => at_ c (dslot b) f := by
  rw [Ring.pointsTo_blocks (ℓ := (c : Thread nD τ).loc cc0_scratch24) Ids (fam_disjoint Nds mem_Ids) (fam_cover Nds mem_Ids)]
  exact bigSep_congr fun b _ => (dslot_at c b f).symm

/-! ## The rings -/

/-- Eight assertions, one by one. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ
/-- The ring whole is its slots, -/
theorem wslot_split (c : Dev nD) :
    (iprop(∃ f : Buf (Elt F) ((c : Thread nD τ).loc cc0_scratch0), ((c : Thread nD τ).loc cc0_scratch0) ↦{fullShare} f) : sProp 𝕄)
      ⊢ iprop((∃ f, at_ c (wslot 0) f) ∗ (∃ f, at_ c (wslot 1) f) ∗ (∃ f, at_ c (wslot 2) f) ∗ (∃ f, at_ c (wslot 3) f) ∗ (∃ f, at_ c (wslot 4) f) ∗ (∃ f, at_ c (wslot 5) f) ∗ (∃ f, at_ c (wslot 6) f) ∗ (∃ f, at_ c (wslot 7) f)) := by
  iintro ⟨%f, H⟩
  ihave H2 := (ent_of_eq ((wslot_blocks c f).trans (bigSep_fin8 _))) $$ [H]
  · iexact H
  icases H2 with ⟨G0, G1, G2, G3, G4, G5, G6, G7⟩
  isplitl [G0]; · iexists f; iexact G0
  isplitl [G1]; · iexists f; iexact G1
  isplitl [G2]; · iexists f; iexact G2
  isplitl [G3]; · iexists f; iexact G3
  isplitl [G4]; · iexists f; iexact G4
  isplitl [G5]; · iexists f; iexact G5
  isplitl [G6]; · iexists f; iexact G6
  iexists f; iexact G7
/-- and back. -/
theorem wslot_join (c : Dev nD) :
    iprop((∃ f, at_ c (wslot 0) f) ∗ (∃ f, at_ c (wslot 1) f) ∗ (∃ f, at_ c (wslot 2) f) ∗ (∃ f, at_ c (wslot 3) f) ∗ (∃ f, at_ c (wslot 4) f) ∗ (∃ f, at_ c (wslot 5) f) ∗ (∃ f, at_ c (wslot 6) f) ∗ (∃ f, at_ c (wslot 7) f))
      ⊢ (iprop(∃ f : Buf (Elt F) ((c : Thread nD τ).loc cc0_scratch0), ((c : Thread nD τ).loc cc0_scratch0) ↦{fullShare} f) : sProp 𝕄) := by
  iintro ⟨⟨%f0, G0⟩, ⟨%f1, G1⟩, ⟨%f2, G2⟩, ⟨%f3, G3⟩, ⟨%f4, G4⟩, ⟨%f5, G5⟩, ⟨%f6, G6⟩, ⟨%f7, G7⟩⟩
  iapply (Ring.pointsTo_blocks_join_exists (ℓ := (c : Thread nD τ).loc cc0_scratch0) Iws (fam_disjoint Nws mem_Iws) (fam_cover Nws mem_Iws) f0)
  irw [bigSep_fin8]
  isplitl [G0]
  · iexists f0; iapply (ent_of_eq (wslot_at c 0 f0)); iexact G0
  isplitl [G1]
  · iexists f1; iapply (ent_of_eq (wslot_at c 1 f1)); iexact G1
  isplitl [G2]
  · iexists f2; iapply (ent_of_eq (wslot_at c 2 f2)); iexact G2
  isplitl [G3]
  · iexists f3; iapply (ent_of_eq (wslot_at c 3 f3)); iexact G3
  isplitl [G4]
  · iexists f4; iapply (ent_of_eq (wslot_at c 4 f4)); iexact G4
  isplitl [G5]
  · iexists f5; iapply (ent_of_eq (wslot_at c 5 f5)); iexact G5
  isplitl [G6]
  · iexists f6; iapply (ent_of_eq (wslot_at c 6 f6)); iexact G6
  iexists f7; iapply (ent_of_eq (wslot_at c 7 f7)); iexact G7
/-- Two assertions, one by one. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
/-- The ring whole is its slots, -/
theorem yslot_split (c : Dev nD) :
    (iprop(∃ f : Buf (Elt F) ((c : Thread nD τ).loc cc0_scratch23), ((c : Thread nD τ).loc cc0_scratch23) ↦{fullShare} f) : sProp 𝕄)
      ⊢ iprop((∃ f, at_ c (yslot 0) f) ∗ (∃ f, at_ c (yslot 1) f)) := by
  iintro ⟨%f, H⟩
  ihave H2 := (ent_of_eq ((yslot_blocks c f).trans (bigSep_fin2 _))) $$ [H]
  · iexact H
  icases H2 with ⟨G0, G1⟩
  isplitl [G0]; · iexists f; iexact G0
  iexists f; iexact G1
/-- and back. -/
theorem yslot_join (c : Dev nD) :
    iprop((∃ f, at_ c (yslot 0) f) ∗ (∃ f, at_ c (yslot 1) f))
      ⊢ (iprop(∃ f : Buf (Elt F) ((c : Thread nD τ).loc cc0_scratch23), ((c : Thread nD τ).loc cc0_scratch23) ↦{fullShare} f) : sProp 𝕄) := by
  iintro ⟨⟨%f0, G0⟩, ⟨%f1, G1⟩⟩
  iapply (Ring.pointsTo_blocks_join_exists (ℓ := (c : Thread nD τ).loc cc0_scratch23) Iys (fam_disjoint Nys mem_Iys) (fam_cover Nys mem_Iys) f0)
  irw [bigSep_fin2]
  isplitl [G0]
  · iexists f0; iapply (ent_of_eq (yslot_at c 0 f0)); iexact G0
  iexists f1; iapply (ent_of_eq (yslot_at c 1 f1)); iexact G1
/-- The ring whole is its slots, -/
theorem dslot_split (c : Dev nD) :
    (iprop(∃ f : Buf (Elt F) ((c : Thread nD τ).loc cc0_scratch24), ((c : Thread nD τ).loc cc0_scratch24) ↦{fullShare} f) : sProp 𝕄)
      ⊢ iprop((∃ f, at_ c (dslot 0) f) ∗ (∃ f, at_ c (dslot 1) f)) := by
  iintro ⟨%f, H⟩
  ihave H2 := (ent_of_eq ((dslot_blocks c f).trans (bigSep_fin2 _))) $$ [H]
  · iexact H
  icases H2 with ⟨G0, G1⟩
  isplitl [G0]; · iexists f; iexact G0
  iexists f; iexact G1
/-- and back. -/
theorem dslot_join (c : Dev nD) :
    iprop((∃ f, at_ c (dslot 0) f) ∗ (∃ f, at_ c (dslot 1) f))
      ⊢ (iprop(∃ f : Buf (Elt F) ((c : Thread nD τ).loc cc0_scratch24), ((c : Thread nD τ).loc cc0_scratch24) ↦{fullShare} f) : sProp 𝕄) := by
  iintro ⟨⟨%f0, G0⟩, ⟨%f1, G1⟩⟩
  iapply (Ring.pointsTo_blocks_join_exists (ℓ := (c : Thread nD τ).loc cc0_scratch24) Ids (fam_disjoint Nds mem_Ids) (fam_cover Nds mem_Ids) f0)
  irw [bigSep_fin2]
  isplitl [G0]
  · iexists f0; iapply (ent_of_eq (dslot_at c 0 f0)); iexact G0
  iexists f1; iapply (ent_of_eq (dslot_at c 1 f1)); iexact G1

/-! ## The results -/

section
variable (c : Dev nD)
/-- The output whole, from its tiles. -/
def yWhole (yv : ℕ → S40x1024.Idx → Elt F .bf16) : Buf (Elt F) (yM.view.loc (c : Thread nD τ)) :=
  fun i => (ytile (Ny i)).view.rep (yv (Ny i).val) i
/-- The delta whole, from its tiles. -/
def dWhole (dv : ℕ → S40x1x1024.Idx → Elt F .f32) : Buf (Elt F) (dM.view.loc (c : Thread nD τ)) :=
  fun i => (dtile (Nd i)).view.rep (dv (Nd i).val) i

/-- A tile of y in the whole array holds the tile's values. -/
theorem ytile_whole (yv : ℕ → S40x1024.Idx → Elt F .bf16) (b : Fin 27) :
    (at_ c (ytile b) ((ytile b).view.rep (yv b.val)) : sProp 𝕄) = at_ c (ytile b) (yWhole c yv) := by
  refine (ytile_at c b _).trans (Eq.trans ?_ (ytile_at c b _).symm)
  refine pointsTo_congr fun i hi => ?_
  have e := (mem_Iy b i).mp hi
  subst e; rfl
/-- A tile of d in the whole array holds the tile's values. -/
theorem dtile_whole (dv : ℕ → S40x1x1024.Idx → Elt F .f32) (b : Fin 27) :
    (at_ c (dtile b) ((dtile b).view.rep (dv b.val)) : sProp 𝕄) = at_ c (dtile b) (dWhole c dv) := by
  refine (dtile_at c b _).trans (Eq.trans ?_ (dtile_at c b _).symm)
  refine pointsTo_congr fun i hi => ?_
  have e := (mem_Id b i).mp hi
  subst e; rfl

/-- The two tiled results whole are their tiles, -/
theorem tiles_split (gy : Buf (Elt F) (yM.view.loc (c : Thread nD τ))) (gd : Buf (Elt F) (dM.view.loc (c : Thread nD τ))) :
    iprop((((c : Thread nD τ).loc main_v7_0) ↦{fullShare} gy) ∗ (((c : Thread nD τ).loc main_v7_1) ↦{fullShare} gd)) ⊢ (bigSep Finset.univ (tini c gy gd) : sProp 𝕄) := by
  rw [ytile_blocks, dtile_blocks]
  exact ent_of_eq (BI.bigSep_sep _ _ _).symm
/-- and back at the written values. -/
theorem tiles_join (yv : ℕ → S40x1024.Idx → Elt F .bf16) (dv : ℕ → S40x1x1024.Idx → Elt F .f32) :
    (bigSep Finset.univ (tfin c yv dv) : sProp 𝕄) ⊢ iprop((((c : Thread nD τ).loc main_v7_0) ↦{fullShare} yWhole c yv) ∗ (((c : Thread nD τ).loc main_v7_1) ↦{fullShare} dWhole c dv)) := by
  rw [ytile_blocks, dtile_blocks]
  refine (ent_of_eq (bigSep_congr fun b _ => ?_)).trans (ent_of_eq (BI.bigSep_sep _ _ _))
  unfold tfin
  rw [ytile_whole, dtile_whole]; rfl

/-- The weight whole is its blocks, the first seven apart. -/
theorem w_split (XW : Buf (Elt F) (wM.view.loc (c : Thread nD τ))) :
    (((c : Thread nD τ).loc main_arg1) ↦{fullShare} XW : sProp 𝕄) = resW c XW := by
  rw [wblk_blocks]
  have e : (Finset.univ : Finset (Fin 27)) = insert 0 (insert 1 (insert 2 (insert 3 (insert 4 (insert 5 (insert 6 (Ring.homeSet (NB := 27) 7 0))))))) := by decide
  rw [e, bigSep_insert (by decide), bigSep_insert (by decide), bigSep_insert (by decide), bigSep_insert (by decide), bigSep_insert (by decide), bigSep_insert (by decide), bigSep_insert (by decide)]; rfl
end

end Cert.Proof.KernelRun

end
-- ==== Proof.KernelLaunch.lean ====
/-
  The kernel's launch: the buffers and semaphores the region hands the body are cut into the pieces the body's run
  (`KernelBody`) names, the run is applied, and the pieces are joined again. Every run ends, changes no argument,
  leaves every semaphore at zero, and leaves the five results at the values the run names.
-/
module

public import proofs.«01_k».proof.Proof.KernelSets
public import proofs.«01_k».proof.Proof.Gen.Kernel.Frame

@[expose] public section

set_option maxRecDepth 16384

noncomputable section

namespace Cert.Proof.KernelRun

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The launch -/

/-- A buffer held through its whole view, to the buffer held, -/
theorem whole_in {sp : Space} {s : Shape} {e : EltTy} (c : Dev nD) (M : Memref sig .tc sp s e) (h : M.view.set = Finset.univ) (f : Buf (Elt F) (M.view.loc (c : Thread nD τ))) :
    (M.view.loc (c : Thread nD τ) ↦{fullShare} f : sProp 𝕄) ⊢ at_ c M f :=
  ent_of_eq (congrArg (fun S => (M.view.loc (c : Thread nD τ) ↦[S]{fullShare} f : sProp 𝕄)) h.symm)
/-- and back; -/
theorem whole_out {sp : Space} {s : Shape} {e : EltTy} (c : Dev nD) (M : Memref sig .tc sp s e) (h : M.view.set = Finset.univ) (f : Buf (Elt F) (M.view.loc (c : Thread nD τ))) :
    at_ c M f ⊢ (M.view.loc (c : Thread nD τ) ↦{fullShare} f : sProp 𝕄) :=
  ent_of_eq (congrArg (fun S => (M.view.loc (c : Thread nD τ) ↦[S]{fullShare} f : sProp 𝕄)) h)
/-- the same at contents nothing names. -/
theorem some_in {sp : Space} {s : Shape} {e : EltTy} (c : Dev nD) (M : Memref sig .tc sp s e) (h : M.view.set = Finset.univ) :
    (iprop(∃ f, M.view.loc (c : Thread nD τ) ↦{fullShare} f) : sProp 𝕄) ⊢ iprop(∃ f, at_ c M f) := by
  iintro ⟨%f, H⟩; iexists f; iapply (whole_in c M h f); iexact H
/-- A buffer owned whole at contents nothing names, as the launch keeps it. -/
theorem some_out {sp : Space} {s : Shape} {e : EltTy} (c : Dev nD) (M : Memref sig .tc sp s e) (h : M.view.set = Finset.univ) :
    (iprop(∃ f, at_ c M f) : sProp 𝕄) ⊢ iprop(∃ f, M.view.loc (c : Thread nD τ) ↦{fullShare} f) := by
  iintro ⟨%f, H⟩; iexists f; iapply (whole_out c M h f); iexact H

section
variable (m : (ℓ : Loc nD τ sig) → Buf (Elt F) ℓ) (ρ : Dev nD → PrngReg)

abbrev osemK : Fin 24 → SemLoc sig := ![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23]
/-- The kernel's semaphores are its own. -/
theorem ownSemFactsK : Pipeline.OwnSemFacts (cfg0.spec) osemK := by decide
def H0 : Finset (Ref sig .tc) := {main_v0, main_arg1, main_v1, main_v2, main_v3, main_v4, main_arg6, main_v5, main_v6, main_arg9}
def R0 : Finset (Ref sig .tc) := {main_v7_0, main_v7_1, main_v7_2, main_v7_3, main_v7_4}
/-- The arrays that are only read are among those left to the kernel. -/
theorem H0_sub : H0 ⊆ Pipeline.restRefs sig (cfg0.spec) := by decide
/-- The arrays that are written are among the others left to it. -/
theorem R0_sub : R0 ⊆ Pipeline.restRefs sig (cfg0.spec) \ H0 := by decide

/-- The semaphores at rest, one by one. -/
theorem ownSems_list (c : Dev nD) :
    (Pipeline.ownSems0 (Ix := Unit) (Name := ℕ) (U := Pipeline.UD sig nD τ) (Lvl := ℕ) (Val := Elt F) (τ := τ) osemK c : sProp 𝕄)
      = iprop(cell c isem0 ∗ cell c isem1 ∗ cell c isem2 ∗ cell c isem3 ∗ cell c isem4 ∗ cell c isem5 ∗ cell c isem6 ∗ cell c isem7 ∗ cell c isem8 ∗ cell c (wsem 0) ∗ cell c (wsem 1) ∗ cell c (wsem 2) ∗ cell c (wsem 3) ∗ cell c (wsem 4) ∗ cell c (wsem 5) ∗ cell c (wsem 6) ∗ cell c (wsem 7) ∗ cell c (ysem 0) ∗ cell c (ysem 1) ∗ cell c (dsem 0) ∗ cell c (dsem 1) ∗ cell c osem0 ∗ cell c osem1 ∗ cell c osem2) := by
  rw [Pipeline.ownSems0_eq_of_list c osemK [0, 1, 2, 3, 4, 5, 6, 7, 8, 9, 10, 11, 12, 13, 14, 15, 16, 17, 18, 19, 20, 21, 22, 23] (by decide) (by decide)]; rfl
/-- The arrays that are only read, one by one. -/
theorem read_list (c : Dev nD) (X : (b : Ref sig .tc) → Buf (Elt F) ((c : Thread nD τ).loc b)) :
    (bigSep H0 (fun b => ((c : Thread nD τ).loc b) ↦{fullShare} X b) : sProp 𝕄) = iprop((((c : Thread nD τ).loc main_v0) ↦{fullShare} X main_v0) ∗ (((c : Thread nD τ).loc main_arg1) ↦{fullShare} X main_arg1) ∗ (((c : Thread nD τ).loc main_v1) ↦{fullShare} X main_v1) ∗ (((c : Thread nD τ).loc main_v2) ↦{fullShare} X main_v2) ∗ (((c : Thread nD τ).loc main_v3) ↦{fullShare} X main_v3) ∗ (((c : Thread nD τ).loc main_v4) ↦{fullShare} X main_v4) ∗ (((c : Thread nD τ).loc main_arg6) ↦{fullShare} X main_arg6) ∗ (((c : Thread nD τ).loc main_v5) ↦{fullShare} X main_v5) ∗ (((c : Thread nD τ).loc main_v6) ↦{fullShare} X main_v6) ∗ (((c : Thread nD τ).loc main_arg9) ↦{fullShare} X main_arg9)) := by
  rw [BI.bigSep_eq_bigSepL_of_eq [main_v0, main_arg1, main_v1, main_v2, main_v3, main_v4, main_arg6, main_v5, main_v6, main_arg9] (by decide) (by decide)]; rfl
/-- The arrays that are written, one by one. -/
theorem written_list (c : Dev nD) (X : (b : Ref sig .tc) → Buf (Elt F) ((c : Thread nD τ).loc b)) :
    (Pipeline.routed R0 c X : sProp 𝕄) = iprop((((c : Thread nD τ).loc main_v7_0) ↦{fullShare} X main_v7_0) ∗ (((c : Thread nD τ).loc main_v7_1) ↦{fullShare} X main_v7_1) ∗ (((c : Thread nD τ).loc main_v7_2) ↦{fullShare} X main_v7_2) ∗ (((c : Thread nD τ).loc main_v7_3) ↦{fullShare} X main_v7_3) ∗ (((c : Thread nD τ).loc main_v7_4) ↦{fullShare} X main_v7_4)) := by
  unfold Pipeline.routed
  rw [BI.bigSep_eq_bigSepL_of_eq [main_v7_0, main_v7_1, main_v7_2, main_v7_3, main_v7_4] (by decide) (by decide)]; rfl

/-- The body's run from the arrays as the region finds them. -/
def theRun (c : Dev nD) := bodyRun c (V m c main_arg1) (V m c main_v0) (V m c main_v1) (V m c main_v2) (V m c main_v3) (V m c main_v4) (V m c main_arg6) (V m c main_v5) (V m c main_v6) (V m c main_arg9) (V m c main_v7_0) (V m c main_v7_1) (V m c main_v7_2) (V m c main_v7_3) (V m c main_v7_4) t0_0

/-- What the region leaves in each buffer. -/
def G (c : Dev nD) (b : Ref sig .tc) : Buf (Elt F) ((c : Thread nD τ).loc b) :=
  Function.update (Function.update (Function.update (Function.update (Function.update (V m c)
    main_v7_0 (yWhole c (theRun m c).1)) main_v7_1 (dWhole c (theRun m c).2.1))
    main_v7_2 (zM.view.rep (zB.view.read (Elt F) (theRun m c).2.2.1)))
    main_v7_3 (xcM.view.rep (xcB.view.read (Elt F) (theRun m c).2.2.2.1)))
    main_v7_4 (xsM.view.rep (xsRowB.view.read (Elt F) (theRun m c).2.2.2.2.1)) b
/-- What the run leaves in y. -/
theorem G_0 (c : Dev nD) : G m c main_v7_0 = yWhole c (theRun m c).1 := by
  unfold G; rw [Function.update_of_ne (by decide), Function.update_of_ne (by decide), Function.update_of_ne (by decide), Function.update_of_ne (by decide), Function.update_self]
/-- What the run leaves in d. -/
theorem G_1 (c : Dev nD) : G m c main_v7_1 = dWhole c (theRun m c).2.1 := by
  unfold G; rw [Function.update_of_ne (by decide), Function.update_of_ne (by decide), Function.update_of_ne (by decide), Function.update_self]
/-- What the run leaves in z. -/
theorem G_2 (c : Dev nD) : G m c main_v7_2 = zM.view.rep (zB.view.read (Elt F) (theRun m c).2.2.1) := by
  unfold G; rw [Function.update_of_ne (by decide), Function.update_of_ne (by decide), Function.update_self]
/-- What the run leaves in the codes. -/
theorem G_3 (c : Dev nD) : G m c main_v7_3 = xcM.view.rep (xcB.view.read (Elt F) (theRun m c).2.2.2.1) := by
  unfold G; rw [Function.update_of_ne (by decide), Function.update_self]
/-- What the run leaves in the scales. -/
theorem G_4 (c : Dev nD) : G m c main_v7_4 = xsM.view.rep (xsRowB.view.read (Elt F) (theRun m c).2.2.2.2.1) := by
  unfold G; rw [Function.update_self]

/-- The proof data: nothing staged; the invariant is every buffer and cell, the results at the launch before the body and at `G` after. -/
def dats (_ : Fin 1) (c : Dev nD) : Dat τ (Elt F) Unit ℕ (Pipeline.UD sig nD τ) ℕ cfg0 c where
  A w := V m c (Pipeline.arrRef (cfg0.spec) w)
  after w t := w.elim0
  Φ t := Pipeline.ΦDRG osemK (cfg0.spec) H0 R0 (V m) (if t.val = 0 then V m else G m) c
  q _ := fullShare
  owed _ := 0

/-- The call has no windowed operand. -/
theorem A_eq (c : Dev nD) (w : Fin cfg0.W) : (dats m 0 c).A w = V m c (Pipeline.arrRef (cfg0.spec) w) := w.elim0

set_option maxHeartbeats 1000000 in
/-- What the region hands the body is what the body's run starts from. -/
theorem open_region (c : Dev nD) (X : (b : Ref sig .tc) → Buf (Elt F) ((c : Thread nD τ).loc b)) :
    iprop((Pipeline.scopedRest (Ix := Unit) (Name := ℕ) (U := Pipeline.UD sig nD τ) (Lvl := ℕ) (Val := Elt F) (cfg0.spec) c ∗ (∃ r, prngReg c r) ∗ Pipeline.ownSems0 (Ix := Unit) (Name := ℕ) (U := Pipeline.UD sig nD τ) (Lvl := ℕ) (Val := Elt F) (τ := τ) osemK c ∗ (bigSep H0 fun b => ((c.tc : Thread nD τ).loc b) ↦{fullShare} X b) ∗ Pipeline.routed R0 c X) ∗ ∃ W, owes (c : Thread nD τ) 0 W) ⊢ (iprop(bodyPre c (X main_arg1) (X main_v0) (X main_v1) (X main_v2) (X main_v3) (X main_v4) (X main_arg6) (X main_v5) (X main_v6) (X main_arg9) (X main_v7_0) (X main_v7_1) (X main_v7_2) (X main_v7_3) (X main_v7_4) ∗ ∃ r, prngReg c r) : sProp 𝕄) := by
  rw [scopedRest0_eq, ownSems_list, read_list, written_list]
  unfold bodyPre resIn resScratch resSems resRings
  iintro ⟨⟨⟨SW, SuB, SvB, SxB, SwsB, SsgB, SvsrB, SvzrB, SusrB, SuzrB, SxqB, SxcB, SxsColB, SxsRowB, SmaskB, SpermB, SvzB, SvsB, SuzB, SusB, SaccB, SzB, StB, SY, SD⟩, Hg, ⟨CI0, CI1, CI2, CI3, CI4, CI5, CI6, CI7, CI8, CW0, CW1, CW2, CW3, CW4, CW5, CW6, CW7, CY0, CY1, CD0, CD1, CO0, CO1, CO2⟩, ⟨Ix0, HW, Ix2, Ix3, Ix4, Ix5, Ix6, Ix7, Ix8, Ix9⟩, ⟨HY, HD, HZ, HC, HS⟩⟩, HOW⟩
  ihave QW := (wslot_split c) $$ [SW]
  · iexact SW
  icases QW with ⟨SW0, SW1, SW2, SW3, SW4, SW5, SW6, SW7⟩
  ihave QY := (yslot_split c) $$ [SY]
  · iexact SY
  icases QY with ⟨SY0, SY1⟩
  ihave QD := (dslot_split c) $$ [SD]
  · iexact SD
  icases QD with ⟨SD0, SD1⟩
  isplitr [Hg]
  swap; · iexact Hg
  isplitl [HW]; · iapply (ent_of_eq (w_split c _)); iexact HW
  isplitl [Ix0 Ix2 Ix3 Ix4 Ix5 Ix6 Ix7 Ix8 Ix9]
  · isplitl [Ix0]; · iapply (whole_in c xA (View.set_whole _) _); iexact Ix0
    isplitl [Ix2]; · iapply (whole_in c wsA (View.set_whole _) _); iexact Ix2
    isplitl [Ix3]; · iapply (whole_in c sgA (View.set_whole _) _); iexact Ix3
    isplitl [Ix4]; · iapply (whole_in c vA (View.set_whole _) _); iexact Ix4
    isplitl [Ix5]; · iapply (whole_in c vsA (View.set_whole _) _); iexact Ix5
    isplitl [Ix6]; · iapply (whole_in c vzA (View.set_whole _) _); iexact Ix6
    isplitl [Ix7]; · iapply (whole_in c uA (View.set_whole _) _); iexact Ix7
    isplitl [Ix8]; · iapply (whole_in c usA (View.set_whole _) _); iexact Ix8
    iapply (whole_in c uzA (View.set_whole _) _); iexact Ix9
  isplitl [SuB SvB SxB SwsB SsgB SvsrB SvzrB SusrB SuzrB SxqB SxcB SxsColB SxsRowB SmaskB SpermB SvzB SvsB SuzB SusB SaccB SzB StB]
  · isplitl [SuB]; · iapply (some_in c uB (View.set_whole _)); iexact SuB
    isplitl [SvB]; · iapply (some_in c vB (View.set_whole _)); iexact SvB
    isplitl [SxB]; · iapply (some_in c xB (View.set_whole _)); iexact SxB
    isplitl [SwsB]; · iapply (some_in c wsB (View.set_whole _)); iexact SwsB
    isplitl [SsgB]; · iapply (some_in c sgB (View.set_whole _)); iexact SsgB
    isplitl [SvsrB]; · iapply (some_in c vsrB (View.set_whole _)); iexact SvsrB
    isplitl [SvzrB]; · iapply (some_in c vzrB (View.set_whole _)); iexact SvzrB
    isplitl [SusrB]; · iapply (some_in c usrB (View.set_whole _)); iexact SusrB
    isplitl [SuzrB]; · iapply (some_in c uzrB (View.set_whole _)); iexact SuzrB
    isplitl [SxqB]; · iapply (some_in c xqB (View.set_whole _)); iexact SxqB
    isplitl [SxcB]; · iapply (some_in c xcB (View.set_whole _)); iexact SxcB
    isplitl [SxsColB]; · iapply (some_in c xsColB (View.set_whole _)); iexact SxsColB
    isplitl [SxsRowB]; · iapply (some_in c xsRowB (View.set_whole _)); iexact SxsRowB
    isplitl [SmaskB]; · iapply (some_in c maskB (View.set_whole _)); iexact SmaskB
    isplitl [SpermB]; · iapply (some_in c permB (View.set_whole _)); iexact SpermB
    isplitl [SvzB]; · iapply (some_in c vzB (View.set_whole _)); iexact SvzB
    isplitl [SvsB]; · iapply (some_in c vsB (View.set_whole _)); iexact SvsB
    isplitl [SuzB]; · iapply (some_in c uzB (View.set_whole _)); iexact SuzB
    isplitl [SusB]; · iapply (some_in c usB (View.set_whole _)); iexact SusB
    isplitl [SaccB]; · iapply (some_in c accB (View.set_whole _)); iexact SaccB
    isplitl [SzB]; · iapply (some_in c zB (View.set_whole _)); iexact SzB
    iapply (some_in c tB (View.set_whole _)); iexact StB
  isplitl [CI0 CI1 CI2 CI3 CI4 CI5 CI6 CI7 CI8 CO0 CO1 CO2]
  · isplitl [CI0]; · iexact CI0
    isplitl [CI1]; · iexact CI1
    isplitl [CI2]; · iexact CI2
    isplitl [CI3]; · iexact CI3
    isplitl [CI4]; · iexact CI4
    isplitl [CI5]; · iexact CI5
    isplitl [CI6]; · iexact CI6
    isplitl [CI7]; · iexact CI7
    isplitl [CI8]; · iexact CI8
    isplitl [CO0]; · iexact CO0
    isplitl [CO1]; · iexact CO1
    iexact CO2
  isplitl [CW0 SW0 CW1 SW1 CW2 SW2 CW3 SW3 CW4 SW4 CW5 SW5 CW6 SW6 CW7 SW7 CY0 CD0 SY0 SD0 CY1 CD1 SY1 SD1]
  · isplitl [CW0]; · iexact CW0
    isplitl [SW0]; · iexact SW0
    isplitl [CW1]; · iexact CW1
    isplitl [SW1]; · iexact SW1
    isplitl [CW2]; · iexact CW2
    isplitl [SW2]; · iexact SW2
    isplitl [CW3]; · iexact CW3
    isplitl [SW3]; · iexact SW3
    isplitl [CW4]; · iexact CW4
    isplitl [SW4]; · iexact SW4
    isplitl [CW5]; · iexact CW5
    isplitl [SW5]; · iexact SW5
    isplitl [CW6]; · iexact CW6
    isplitl [SW6]; · iexact SW6
    isplitl [CW7]; · iexact CW7
    isplitl [SW7]; · iexact SW7
    isplitl [CY0]; · iexact CY0
    isplitl [CD0]; · iexact CD0
    isplitl [SY0]; · iexact SY0
    isplitl [SD0]; · iexact SD0
    isplitl [CY1]; · iexact CY1
    isplitl [CD1]; · iexact CD1
    isplitl [SY1]; · iexact SY1
    iexact SD1
  isplitl [HY HD]
  · iapply (tiles_split c _ _)
    isplitl [HY]; · iexact HY
    iexact HD
  isplitl [HZ]; · iapply (whole_in c zM (View.set_whole _) _); iexact HZ
  isplitl [HC]; · iapply (whole_in c xcM (View.set_whole _) _); iexact HC
  isplitl [HS]; · iapply (whole_in c xsM (View.set_whole _) _); iexact HS
  iexact HOW

set_option maxHeartbeats 1000000 in
/-- What the body's run leaves is what the region takes back, the results at `G`. -/
theorem close_region (c : Dev nD) (X Y : (b : Ref sig .tc) → Buf (Elt F) ((c : Thread nD τ).loc b))
    (yv : ℕ → S40x1024.Idx → Elt F .bf16) (dv : ℕ → S40x1x1024.Idx → Elt F .f32)
    (Zz : Buf (Elt F) (zB.view.loc (c : Thread nD τ))) (Zc : Buf (Elt F) (xcB.view.loc (c : Thread nD τ))) (Zs : Buf (Elt F) (xsRowB.view.loc (c : Thread nD τ)))
    (h0 : Y main_v7_0 = yWhole c yv) (h1 : Y main_v7_1 = dWhole c dv) (h2 : Y main_v7_2 = zM.view.rep (zB.view.read (Elt F) Zz))
    (h3 : Y main_v7_3 = xcM.view.rep (xcB.view.read (Elt F) Zc)) (h4 : Y main_v7_4 = xsM.view.rep (xsRowB.view.read (Elt F) Zs)) :
    iprop(bodyPost c (X main_arg1) (X main_v0) (X main_v1) (X main_v2) (X main_v3) (X main_v4) (X main_arg6) (X main_v5) (X main_v6) (X main_arg9) yv dv Zz Zc Zs ∗ ∃ r, prngReg c r) ⊢ (iprop((Pipeline.scopedRest (Ix := Unit) (Name := ℕ) (U := Pipeline.UD sig nD τ) (Lvl := ℕ) (Val := Elt F) (cfg0.spec) c ∗ (∃ r, prngReg c r) ∗ Pipeline.ownSems0 (Ix := Unit) (Name := ℕ) (U := Pipeline.UD sig nD τ) (Lvl := ℕ) (Val := Elt F) (τ := τ) osemK c ∗ (bigSep H0 fun b => ((c.tc : Thread nD τ).loc b) ↦{fullShare} X b) ∗ Pipeline.routed R0 c Y) ∗ ∃ W, owes (c : Thread nD τ) 0 W) : sProp 𝕄) := by
  rw [scopedRest0_eq, ownSems_list, read_list, written_list, h0, h1, h2, h3, h4]
  unfold bodyPost resIn resScratch resSems resRings
  iintro ⟨⟨HW, ⟨Ix0, Ix2, Ix3, Ix4, Ix5, Ix6, Ix7, Ix8, Ix9⟩, ⟨SuB, SvB, SxB, SwsB, SsgB, SvsrB, SvzrB, SusrB, SuzrB, SxqB, SxcB, SxsColB, SxsRowB, SmaskB, SpermB, SvzB, SvsB, SuzB, SusB, SaccB, SzB, StB⟩, ⟨CI0, CI1, CI2, CI3, CI4, CI5, CI6, CI7, CI8, CO0, CO1, CO2⟩, ⟨CW0, SW0, CW1, SW1, CW2, SW2, CW3, SW3, CW4, SW4, CW5, SW5, CW6, SW6, CW7, SW7, CY0, CD0, SY0, SD0, CY1, CD1, SY1, SD1⟩, HT, HZ, HC, HS, HOW⟩, Hg⟩
  ihave QT := (tiles_join c _ _) $$ [HT]
  · iexact HT
  icases QT with ⟨HY, HD⟩
  isplitr [HOW]
  swap; · iexact HOW
  isplitl [SuB SvB SxB SwsB SsgB SvsrB SvzrB SusrB SuzrB SxqB SxcB SxsColB SxsRowB SmaskB SpermB SvzB SvsB SuzB SusB SaccB SzB StB SW0 SW1 SW2 SW3 SW4 SW5 SW6 SW7 SY0 SY1 SD0 SD1]
  · isplitl [SW0 SW1 SW2 SW3 SW4 SW5 SW6 SW7]
    · iapply (wslot_join c)
      isplitl [SW0]; · iexact SW0
      isplitl [SW1]; · iexact SW1
      isplitl [SW2]; · iexact SW2
      isplitl [SW3]; · iexact SW3
      isplitl [SW4]; · iexact SW4
      isplitl [SW5]; · iexact SW5
      isplitl [SW6]; · iexact SW6
      iexact SW7
    isplitl [SuB]; · iapply (some_out c uB (View.set_whole _)); iexact SuB
    isplitl [SvB]; · iapply (some_out c vB (View.set_whole _)); iexact SvB
    isplitl [SxB]; · iapply (some_out c xB (View.set_whole _)); iexact SxB
    isplitl [SwsB]; · iapply (some_out c wsB (View.set_whole _)); iexact SwsB
    isplitl [SsgB]; · iapply (some_out c sgB (View.set_whole _)); iexact SsgB
    isplitl [SvsrB]; · iapply (some_out c vsrB (View.set_whole _)); iexact SvsrB
    isplitl [SvzrB]; · iapply (some_out c vzrB (View.set_whole _)); iexact SvzrB
    isplitl [SusrB]; · iapply (some_out c usrB (View.set_whole _)); iexact SusrB
    isplitl [SuzrB]; · iapply (some_out c uzrB (View.set_whole _)); iexact SuzrB
    isplitl [SxqB]; · iapply (some_out c xqB (View.set_whole _)); iexact SxqB
    isplitl [SxcB]; · iapply (some_out c xcB (View.set_whole _)); iexact SxcB
    isplitl [SxsColB]; · iapply (some_out c xsColB (View.set_whole _)); iexact SxsColB
    isplitl [SxsRowB]; · iapply (some_out c xsRowB (View.set_whole _)); iexact SxsRowB
    isplitl [SmaskB]; · iapply (some_out c maskB (View.set_whole _)); iexact SmaskB
    isplitl [SpermB]; · iapply (some_out c permB (View.set_whole _)); iexact SpermB
    isplitl [SvzB]; · iapply (some_out c vzB (View.set_whole _)); iexact SvzB
    isplitl [SvsB]; · iapply (some_out c vsB (View.set_whole _)); iexact SvsB
    isplitl [SuzB]; · iapply (some_out c uzB (View.set_whole _)); iexact SuzB
    isplitl [SusB]; · iapply (some_out c usB (View.set_whole _)); iexact SusB
    isplitl [SaccB]; · iapply (some_out c accB (View.set_whole _)); iexact SaccB
    isplitl [SzB]; · iapply (some_out c zB (View.set_whole _)); iexact SzB
    isplitl [StB]; · iapply (some_out c tB (View.set_whole _)); iexact StB
    isplitl [SY0 SY1]
    · iapply (yslot_join c)
      isplitl [SY0]; · iexact SY0
      iexact SY1
    iapply (dslot_join c)
    isplitl [SD0]; · iexact SD0
    iexact SD1
  isplitl [Hg]; · iexact Hg
  isplitl [CI0 CI1 CI2 CI3 CI4 CI5 CI6 CI7 CI8 CW0 CW1 CW2 CW3 CW4 CW5 CW6 CW7 CY0 CY1 CD0 CD1 CO0 CO1 CO2]
  · isplitl [CI0]; · iexact CI0
    isplitl [CI1]; · iexact CI1
    isplitl [CI2]; · iexact CI2
    isplitl [CI3]; · iexact CI3
    isplitl [CI4]; · iexact CI4
    isplitl [CI5]; · iexact CI5
    isplitl [CI6]; · iexact CI6
    isplitl [CI7]; · iexact CI7
    isplitl [CI8]; · iexact CI8
    isplitl [CW0]; · iexact CW0
    isplitl [CW1]; · iexact CW1
    isplitl [CW2]; · iexact CW2
    isplitl [CW3]; · iexact CW3
    isplitl [CW4]; · iexact CW4
    isplitl [CW5]; · iexact CW5
    isplitl [CW6]; · iexact CW6
    isplitl [CW7]; · iexact CW7
    isplitl [CY0]; · iexact CY0
    isplitl [CY1]; · iexact CY1
    isplitl [CD0]; · iexact CD0
    isplitl [CD1]; · iexact CD1
    isplitl [CO0]; · iexact CO0
    isplitl [CO1]; · iexact CO1
    iexact CO2
  isplitl [Ix0 HW Ix2 Ix3 Ix4 Ix5 Ix6 Ix7 Ix8 Ix9]
  · isplitl [Ix0]; · iapply (whole_out c xA (View.set_whole _) _); iexact Ix0
    isplitl [HW]; · iapply (ent_of_eq (wblk_blocks c _).symm); iexact HW
    isplitl [Ix2]; · iapply (whole_out c wsA (View.set_whole _) _); iexact Ix2
    isplitl [Ix3]; · iapply (whole_out c sgA (View.set_whole _) _); iexact Ix3
    isplitl [Ix4]; · iapply (whole_out c vA (View.set_whole _) _); iexact Ix4
    isplitl [Ix5]; · iapply (whole_out c vsA (View.set_whole _) _); iexact Ix5
    isplitl [Ix6]; · iapply (whole_out c vzA (View.set_whole _) _); iexact Ix6
    isplitl [Ix7]; · iapply (whole_out c uA (View.set_whole _) _); iexact Ix7
    isplitl [Ix8]; · iapply (whole_out c usA (View.set_whole _) _); iexact Ix8
    iapply (whole_out c uzA (View.set_whole _) _); iexact Ix9
  isplitl [HY]; · iexact HY
  isplitl [HD]; · iexact HD
  isplitl [HZ]; · iapply (whole_out c zM (View.set_whole _) _); iexact HZ
  isplitl [HC]; · iapply (whole_out c xcM (View.set_whole _) _); iexact HC
  iapply (whole_out c xsM (View.set_whole _) _); iexact HS

/-- The body called at a grid point is the kernel's body. -/
theorem defs₀_row (t : Fin cfg0.N) :
    defs₀ (F := F) .tc cfg0.body (cfg0.bodyArgs t (cfg0.slots t)) = bodyAt0 t := by
  unfold defs₀; rw [Defs.onTc_tc]

/-- The body meets its specification at the grid point. -/
theorem sound_body (c : Dev nD) (t : Fin cfg0.N) :
    iprop((dats m 0 c).Φ t.castSucc ∗ (dats m 0 c).owesAt () t.castSucc)
      ⊢ wp frame (wpE (defs₀ (F := F)) 𝒱₀ (c : Thread nD τ) none) Set.univ (bodyAt0 (F := F) t) (fun _ => iprop((dats m 0 c).Φ t.succ ∗ (dats m 0 c).owesAt () t.succ)) := by
  rw [fin_N0 t]
  rw [show (dats m 0 c).Φ (Fin.castSucc t0_0) = Pipeline.ΦDRG osemK (cfg0.spec) H0 R0 (V m) (V m) c from rfl, show (dats m 0 c).Φ (Fin.succ t0_0) = Pipeline.ΦDRG osemK (cfg0.spec) H0 R0 (V m) (G m) c from rfl]
  rw [Pipeline.ΦDRG_eq, Pipeline.ΦDRG_eq]
  unfold Dat.owesAt Pipeline.owesWithin
  rw [show (dats m 0 c).owed (Fin.castSucc t0_0) = 0 from rfl, show (dats m 0 c).owed (Fin.succ t0_0) = 0 from rfl]
  iintro ⟨HΦ, ⟨%W, -, HW⟩⟩
  ihave HP := (open_region c (V m c)) $$ [HΦ HW]
  · isplitl [HΦ]; · iexact HΦ
    iexists W; iexact HW
  icases HP with ⟨HP, Hg⟩
  iapply ((theRun m c).2.2.2.2.2 _)
  isplitl [HP]; · iexact HP
  iintro HQ
  ihave HE := (close_region c (V m c) (G m c) _ _ _ _ _ (G_0 m c) (G_1 m c) (G_2 m c) (G_3 m c) (G_4 m c)) $$ [HQ Hg]
  · isplitl [HQ]; · iexact HQ
    iexact Hg
  icases HE with ⟨HΦ, ⟨%W', HW'⟩⟩
  isplitl [HΦ]; · iexact HΦ
  iexists W'; isplitr; · ipureintro; exact fun _ _ => Or.inl trivial
  iexact HW'

/-- The empty assertion on the right changes nothing. -/
theorem emp_right (P : sProp 𝕄) : iprop(P ∗ emp) = P :=
  Idealize.SL.BI.Entails.antisymm Idealize.SL.BI.sep_emp.1 Idealize.SL.BI.sep_emp.2

/-- What the launch asks of the body holds. -/
theorem body_obligation (c : Dev nD) : BodyObligation (dats m 0 c) (defs₀ (F := F)) 𝒱₀ () Set.univ := fun t => by
  have e : (Finset.univ : Finset (Fin cfg0.W)) = ∅ := rfl
  rw [e, bigSep_empty, bigSep_empty, defs₀_row]
  refine triple_restated (sound_body m c t) rfl (ent_of_eq ?_) (fun _ => ent_of_eq ?_)
  · exact congrArg (fun X => iprop((dats m 0 c).Φ t.castSucc ∗ X)) (emp_right _)
  · exact congrArg (fun X => iprop((dats m 0 c).Φ t.succ ∗ X)) (emp_right _).symm

set_option maxHeartbeats 800000 in
/-- The program is its host operations and then the kernel's launch. -/
theorem hmainK : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with the results at `G` and nothing else changed. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osemK defs₀ 𝒱₀ ownSemFactsK H0 R0 H0_sub R0_sub m ρ main
    (hbody := fun c => (body_obligation m c).loose) (hshare := fun c => (dats m 0 c).share_full fun _ => rfl)
    (howed := fun _ _ => rfl) (V := V m) (hmain := hmainK m) (hA := A_eq m) (G := G m)
    (hin := fun _ => .rfl) (hout := fun _ => .rfl)

/-- THE FRAME: every run ends, changes no argument and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c),
      ((h.1.1 c).2 main_arg8 (Finset.mem_sdiff.mpr ⟨Pipeline.mem_restRefs_of main_arg8 (by decide) (by decide), by decide⟩)).trans (V_main_arg8 m c),
      ((h.1.1 c).2 main_arg9 (Finset.mem_sdiff.mpr ⟨Pipeline.mem_restRefs_of main_arg9 (by decide) (by decide), by decide⟩)).trans (V_main_arg9 m c)⟩, h.2⟩) (run_main m ρ)

/-- THE VALUES: every run ends with the five results at `G`, and changes no argument. -/
theorem values : θ_run defs (onTc (τ := τ) (main (F := F))) ⟨m, fun _ => 0, ρ⟩ (fun r => (∀ c : Dev nD,
      r.2.mem ((c.tc : Thread nD τ).loc main_v7_0) = G m c main_v7_0
      ∧ r.2.mem ((c.tc : Thread nD τ).loc main_v7_1) = G m c main_v7_1
      ∧ r.2.mem ((c.tc : Thread nD τ).loc main_v7_2) = G m c main_v7_2
      ∧ r.2.mem ((c.tc : Thread nD τ).loc main_v7_3) = G m c main_v7_3
      ∧ r.2.mem ((c.tc : Thread nD τ).loc main_v7_4) = G m c main_v7_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))) :=
  (θ_run defs _ _).mono (fun _ h c => ⟨h.1.2 c main_v7_0 (by decide), h.1.2 c main_v7_1 (by decide), h.1.2 c main_v7_2 (by decide), h.1.2 c main_v7_3 (by decide), h.1.2 c main_v7_4 (by decide), ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c),
      ((h.1.1 c).2 main_arg8 (Finset.mem_sdiff.mpr ⟨Pipeline.mem_restRefs_of main_arg8 (by decide) (by decide), by decide⟩)).trans (V_main_arg8 m c),
      ((h.1.1 c).2 main_arg9 (Finset.mem_sdiff.mpr ⟨Pipeline.mem_restRefs_of main_arg9 (by decide) (by decide), by decide⟩)).trans (V_main_arg9 m c)⟩) (run_main m ρ)

end

end Cert.Proof.KernelRun

end
-- ==== Proof.IdealNames.lean ====
/-
  Names for the transfers of the kernel's two rings.

  The kernel keeps eight blocks of the base weight in flight and writes two results back through two slots each. A
  transfer's ends and its semaphore are slices whose offsets are computed from the trip number. Here each gets one
  name by its number (`wslot s`, `wblk b`, `wsem s`, and the same for the two written results), and each computed
  offset is shown to be the offset of the name it stands for.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameValue
public import Idealize.ShloMosaic.Lib.Pipeline.FrameBody
public import Idealize.ShloMosaic.Lib.Ring
public import Idealize.ShloMosaic.Lib.Ring.WriteBehind
public import Idealize.ShloMosaic.Lib.Affine
public import Idealize.ShloMosaic.Lib.Tactic

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The whole buffers -/

abbrev wM : Memref sig .tc .hbm S5120x27648 .fp8e4m3 := Memref.whole main_arg1
abbrev yM : Memref sig .tc .hbm S40x27648 .bf16 := Memref.whole main_v7_0
abbrev dM : Memref sig .tc .hbm S40x1x27648 .f32 := Memref.whole main_v7_1
abbrev wR : Memref sig .tc .vmem S8x5120x1024 .fp8e4m3 := Memref.whole cc0_scratch0
abbrev yR : Memref sig .tc .vmem S2x40x1024 .bf16 := Memref.whole cc0_scratch23
abbrev dR : Memref sig .tc .vmem S2x40x1x1024 .f32 := Memref.whole cc0_scratch24

/-! ## Offsets by number -/

abbrev wslotOff (s : Fin 8) : Fin 3 → Nat := ![s.val, 0, 0]
/-- A weight slot lies in the ring. -/
theorem wslotOff_inb (s : Fin 8) : ∀ a, wslotOff s a + S1x5120x1024.size a ≤ S8x5120x1024.size a := by
  have := s.isLt; intro a; fin_cases a
  · show s.val + 1 ≤ 8; omega
  · show 0 + 5120 ≤ 5120; omega
  · show 0 + 1024 ≤ 1024; omega
abbrev wblkOff (b : Fin 27) : Fin 2 → Nat := ![0, 1024 * b.val]
/-- A weight tile lies in the array. -/
theorem wblkOff_inb (b : Fin 27) : ∀ a, wblkOff b a + S5120x1024.size a ≤ S5120x27648.size a := by
  have := b.isLt; intro a; fin_cases a
  · show 0 + 5120 ≤ 5120; omega
  · show 1024 * b.val + 1024 ≤ 27648; omega
/-- A tile of y lies in the array. -/
theorem ytileOff_inb (b : Fin 27) : ∀ a, wblkOff b a + S40x1024.size a ≤ S40x27648.size a := by
  have := b.isLt; intro a; fin_cases a
  · show 0 + 40 ≤ 40; omega
  · show 1024 * b.val + 1024 ≤ 27648; omega
abbrev dtileOff (b : Fin 27) : Fin 3 → Nat := ![0, 0, 1024 * b.val]
/-- A tile of d lies in the array. -/
theorem dtileOff_inb (b : Fin 27) : ∀ a, dtileOff b a + S40x1x1024.size a ≤ S40x1x27648.size a := by
  have := b.isLt; intro a; fin_cases a
  · show 0 + 40 ≤ 40; omega
  · show 0 + 1 ≤ 1; omega
  · show 1024 * b.val + 1024 ≤ 27648; omega
abbrev yslotOff (s : Fin 2) : Fin 3 → Nat := ![s.val, 0, 0]
/-- A slot of y lies in its buffer. -/
theorem yslotOff_inb (s : Fin 2) : ∀ a, yslotOff s a + S1x40x1024.size a ≤ S2x40x1024.size a := by
  have := s.isLt; intro a; fin_cases a
  · show s.val + 1 ≤ 2; omega
  · show 0 + 40 ≤ 40; omega
  · show 0 + 1024 ≤ 1024; omega
abbrev dslotOff (s : Fin 2) : Fin 4 → Nat := ![s.val, 0, 0, 0]
/-- A slot of d lies in its buffer. -/
theorem dslotOff_inb (s : Fin 2) : ∀ a, dslotOff s a + S1x40x1x1024.size a ≤ S2x40x1x1024.size a := by
  have := s.isLt; intro a; fin_cases a
  · show s.val + 1 ≤ 2; omega
  · show 0 + 40 ≤ 40; omega
  · show 0 + 1 ≤ 1; omega
  · show 0 + 1024 ≤ 1024; omega
abbrev sem8Off (s : Fin 8) : Fin 1 → Nat := ![s.val]
/-- A semaphore of the ring lies in its array. -/
theorem sem8Off_inb (s : Fin 8) : ∀ a, sem8Off s a + S1.size a ≤ S8.size a := by
  have := s.isLt; intro a; fin_cases a; show s.val + 1 ≤ 8; omega
abbrev sem2Off (s : Fin 2) : Fin 1 → Nat := ![s.val]
/-- A semaphore of the double buffers lies in its array. -/
theorem sem2Off_inb (s : Fin 2) : ∀ a, sem2Off s a + S1.size a ≤ S2.size a := by
  have := s.isLt; intro a; fin_cases a; show s.val + 1 ≤ 2; omega

/-! ## The slices by number -/

/-- Slot `s` of the weight ring. -/
def wslot (s : Fin 8) : Memref sig .tc .vmem S5120x1024 .fp8e4m3 :=
  (wR.slice (Rect.unit (s := S8x5120x1024) (wslotOff s) S1x5120x1024.size (wslotOff_inb s)) (fun _ => rfl)).squeeze S5120x1024 squeezes_S1x5120x1024_S5120x1024
/-- Column block `b` of the weight. -/
def wblk (b : Fin 27) : Memref sig .tc .hbm S5120x1024 .fp8e4m3 :=
  wM.slice (Rect.unit (s := S5120x27648) (wblkOff b) S5120x1024.size (wblkOff_inb b)) (fun _ => rfl)
/-- The semaphore of slot `s` of the weight ring. -/
def wsem (s : Fin 8) : DmaSems sig S_ := (cc0_scratch26.slice (Rect.unit (s := S8) (sem8Off s) S1.size (sem8Off_inb s))).squeeze S_ squeezes_S1_S_
/-- Slot `s` of the buffer of the output. -/
def yslot (s : Fin 2) : Memref sig .tc .vmem S40x1024 .bf16 :=
  (yR.slice (Rect.unit (s := S2x40x1024) (yslotOff s) S1x40x1024.size (yslotOff_inb s)) (fun _ => rfl)).squeeze S40x1024 squeezes_S1x40x1024_S40x1024
/-- Column tile `b` of the output. -/
def ytile (b : Fin 27) : Memref sig .tc .hbm S40x1024 .bf16 :=
  yM.slice (Rect.unit (s := S40x27648) (wblkOff b) S40x1024.size (ytileOff_inb b)) (fun _ => rfl)
def ysem (s : Fin 2) : DmaSems sig S_ := (cc0_scratch27.slice (Rect.unit (s := S2) (sem2Off s) S1.size (sem2Off_inb s))).squeeze S_ squeezes_S1_S_
/-- Slot `s` of the buffer of the delta. -/
def dslot (s : Fin 2) : Memref sig .tc .vmem S40x1x1024 .f32 :=
  (dR.slice (Rect.unit (s := S2x40x1x1024) (dslotOff s) S1x40x1x1024.size (dslotOff_inb s)) (fun _ => rfl)).squeeze S40x1x1024 squeezes_S1x40x1x1024_S40x1x1024
/-- Column tile `b` of the delta. -/
def dtile (b : Fin 27) : Memref sig .tc .hbm S40x1x1024 .f32 :=
  dM.slice (Rect.unit (s := S40x1x27648) (dtileOff b) S40x1x1024.size (dtileOff_inb b)) (fun _ => rfl)
def dsem (s : Fin 2) : DmaSems sig S_ := (cc0_scratch28.slice (Rect.unit (s := S2) (sem2Off s) S1.size (sem2Off_inb s))).squeeze S_ squeezes_S1_S_

instance (s : Fin 8) : ClosedOff (wslotOff s) := ⟨wslotOff s, rfl⟩
instance (b : Fin 27) : ClosedOff (wblkOff b) := ⟨wblkOff b, rfl⟩
instance (b : Fin 27) : ClosedOff (dtileOff b) := ⟨dtileOff b, rfl⟩
instance (s : Fin 2) : ClosedOff (yslotOff s) := ⟨yslotOff s, rfl⟩
instance (s : Fin 2) : ClosedOff (dslotOff s) := ⟨dslotOff s, rfl⟩

/-! ## The computed offsets and conditions of a trip -/

/-- The loop over the tiles has 27 trips. -/
theorem trips2 : k0_t2_loop.trips = 27 := by decide
/-- A trip's number is below 27. -/
theorem k_lt (k : Fin k0_t2_loop.trips) : k.val < 27 := Nat.lt_of_lt_of_eq k.isLt trips2

/-- When this branch of the trip is taken. -/
theorem cond1_iff : ∀ k : Fin k0_t2_loop.trips,
    Scalar.cmpi .ne (Scalar.extui (Scalar.cmpi .eq (Scf.iv 0#32 1#32 k.val) 0#32) : BitVec 32) 0#32 = 1#1 ↔ k.val = 0 := by decide
/-- When this branch of the trip is taken. -/
theorem cond2_iff : ∀ k : Fin k0_t2_loop.trips, k0_cond2 k = 1#1 ↔ 0 < k.val := by decide
/-- When this branch of the trip is taken. -/
theorem cond3_iff : ∀ k : Fin k0_t2_loop.trips, k0_cond3 k = 1#1 ↔ k.val < 20 := by decide
/-- When this branch of the trip is taken. -/
theorem cond4_iff : ∀ k : Fin k0_t2_loop.trips, k0_cond4 k = 1#1 ↔ 1 < k.val := by decide

/-- The offset the trip computes, by the name of its slot, tile or semaphore. -/
theorem off5_eq : ∀ k : Fin k0_t2_loop.trips, k0_off5 k = sem8Off (Ring.sl 8 k.val) := by decide
/-- The offset the trip computes, by the name of its slot, tile or semaphore. -/
theorem off6_eq : ∀ k : Fin k0_t2_loop.trips, k0_off6 k = wslotOff (Ring.sl 8 k.val) := by decide
/-- The offset the trip computes, by the name of its slot, tile or semaphore. -/
theorem off7_eq : ∀ k : Fin k0_t2_loop.trips, k0_off7 k = wblkOff (Ring.bk 27 k.val) := by decide
/-- The offset the trip computes, by the name of its slot, tile or semaphore. -/
theorem off22_eq : ∀ k : Fin k0_t2_loop.trips, k0_off22 k = wslotOff (Ring.sl 8 k.val) := by decide
/-- The offset the trip computes, by the name of its slot, tile or semaphore. -/
theorem off24_eq : ∀ k : Fin k0_t2_loop.trips, k0_off24 k = dslotOff (Ring.sl 2 k.val) := by decide
/-- The offset the trip computes, by the name of its slot, tile or semaphore. -/
theorem off25_eq : ∀ k : Fin k0_t2_loop.trips, k0_off25 k = yslotOff (Ring.sl 2 k.val) := by decide
/-- The offset the trip computes, by the name of its slot, tile or semaphore. -/
theorem off8_eq : ∀ k : Fin k0_t2_loop.trips, 0 < k.val → k0_off8 k = sem2Off (Ring.sl 2 (k.val + 1)) := by decide
/-- The offset the trip computes, by the name of its slot, tile or semaphore. -/
theorem off9_eq : ∀ k : Fin k0_t2_loop.trips, 0 < k.val → k0_off9 k = wblkOff (Ring.bk 27 (k.val - 1)) := by decide
/-- The offset the trip computes, by the name of its slot, tile or semaphore. -/
theorem off10_eq : ∀ k : Fin k0_t2_loop.trips, 0 < k.val → k0_off10 k = yslotOff (Ring.sl 2 (k.val + 1)) := by decide
/-- The offset the trip computes, by the name of its slot, tile or semaphore. -/
theorem off11_eq : ∀ k : Fin k0_t2_loop.trips, 0 < k.val → k0_off11 k = dtileOff (Ring.bk 27 (k.val - 1)) := by decide
/-- The offset the trip computes, by the name of its slot, tile or semaphore. -/
theorem off12_eq : ∀ k : Fin k0_t2_loop.trips, 0 < k.val → k0_off12 k = dslotOff (Ring.sl 2 (k.val + 1)) := by decide
/-- The offset the trip computes, by the name of its slot, tile or semaphore. -/
theorem off13_eq : ∀ k : Fin k0_t2_loop.trips, k.val < 20 → k0_off13 k = sem8Off (Ring.sl 8 (k.val + 7)) := by decide
/-- The offset the trip computes, by the name of its slot, tile or semaphore. -/
theorem off14_eq : ∀ k : Fin k0_t2_loop.trips, k.val < 20 → k0_off14 k = wslotOff (Ring.sl 8 (k.val + 7)) := by decide
/-- The offset the trip computes, by the name of its slot, tile or semaphore. -/
theorem off15_eq : ∀ k : Fin k0_t2_loop.trips, k.val < 20 → k0_off15 k = wblkOff (Ring.bk 27 (k.val + 7)) := by decide
/-- The offset the trip computes, by the name of its slot, tile or semaphore. -/
theorem off16_eq : ∀ k : Fin k0_t2_loop.trips, 1 < k.val → k0_off16 k = sem2Off (Ring.sl 2 k.val) := by decide
/-- The offset the trip computes, by the name of its slot, tile or semaphore. -/
theorem off17_eq : ∀ k : Fin k0_t2_loop.trips, 1 < k.val → k0_off17 k = wblkOff (Ring.bk 27 (k.val - 2)) := by decide
/-- The offset the trip computes, by the name of its slot, tile or semaphore. -/
theorem off18_eq : ∀ k : Fin k0_t2_loop.trips, 1 < k.val → k0_off18 k = yslotOff (Ring.sl 2 k.val) := by decide
/-- The offset the trip computes, by the name of its slot, tile or semaphore. -/
theorem off19_eq : ∀ k : Fin k0_t2_loop.trips, 1 < k.val → k0_off19 k = dtileOff (Ring.bk 27 (k.val - 2)) := by decide
/-- The offset the trip computes, by the name of its slot, tile or semaphore. -/
theorem off20_eq : ∀ k : Fin k0_t2_loop.trips, 1 < k.val → k0_off20 k = dslotOff (Ring.sl 2 k.val) := by decide

instance (k : Fin k0_t2_loop.trips) : ClosedOff (k0_off22 k) := ⟨wslotOff (Ring.sl 8 k.val), off22_eq k⟩
instance (k : Fin k0_t2_loop.trips) : ClosedOff (k0_off24 k) := ⟨dslotOff (Ring.sl 2 k.val), off24_eq k⟩
instance (k : Fin k0_t2_loop.trips) : ClosedOff (k0_off25 k) := ⟨yslotOff (Ring.sl 2 k.val), off25_eq k⟩

/-! ## Each slice is its name -/

/-- Equal offsets give the same slot, tile or semaphore. -/
theorem wsem_congr {off : Fin 1 → Nat} {s : Fin 8} (e : off = sem8Off s) (hh) :
    (cc0_scratch26.slice (Rect.unit (s := S8) off S1.size hh)).squeeze S_ squeezes_S1_S_ = wsem s :=
  congrArg (fun A : DmaSems sig S1 => A.squeeze S_ squeezes_S1_S_) (SemArray.slice_unit_congr _ e _ _)
/-- Equal offsets give the same slot, tile or semaphore. -/
theorem ysem_congr {off : Fin 1 → Nat} {s : Fin 2} (e : off = sem2Off s) (hh) :
    (cc0_scratch27.slice (Rect.unit (s := S2) off S1.size hh)).squeeze S_ squeezes_S1_S_ = ysem s :=
  congrArg (fun A : DmaSems sig S1 => A.squeeze S_ squeezes_S1_S_) (SemArray.slice_unit_congr _ e _ _)
/-- Equal offsets give the same slot, tile or semaphore. -/
theorem dsem_congr {off : Fin 1 → Nat} {s : Fin 2} (e : off = sem2Off s) (hh) :
    (cc0_scratch28.slice (Rect.unit (s := S2) off S1.size hh)).squeeze S_ squeezes_S1_S_ = dsem s :=
  congrArg (fun A : DmaSems sig S1 => A.squeeze S_ squeezes_S1_S_) (SemArray.slice_unit_congr _ e _ _)
/-- Equal offsets give the same slot, tile or semaphore. -/
theorem wslot_congr {off : Fin 3 → Nat} {s : Fin 8} (e : off = wslotOff s) (hh hs) :
    (wR.slice (Rect.unit (s := S8x5120x1024) off S1x5120x1024.size hh) hs).squeeze S5120x1024 squeezes_S1x5120x1024_S5120x1024 = wslot s :=
  congrArg (fun M : Memref sig .tc .vmem S1x5120x1024 .fp8e4m3 => M.squeeze S5120x1024 squeezes_S1x5120x1024_S5120x1024) (Memref.slice_unit_congr _ e _ _ _ _)
/-- Equal offsets give the same slot, tile or semaphore. -/
theorem wblk_congr {off : Fin 2 → Nat} {b : Fin 27} (e : off = wblkOff b) (hh hs) :
    wM.slice (Rect.unit (s := S5120x27648) off S5120x1024.size hh) hs = wblk b := Memref.slice_unit_congr _ e _ _ _ (fun _ => rfl)
/-- Equal offsets give the same slot, tile or semaphore. -/
theorem yslot_congr {off : Fin 3 → Nat} {s : Fin 2} (e : off = yslotOff s) (hh hs) :
    (yR.slice (Rect.unit (s := S2x40x1024) off S1x40x1024.size hh) hs).squeeze S40x1024 squeezes_S1x40x1024_S40x1024 = yslot s :=
  congrArg (fun M : Memref sig .tc .vmem S1x40x1024 .bf16 => M.squeeze S40x1024 squeezes_S1x40x1024_S40x1024) (Memref.slice_unit_congr _ e _ _ _ _)
/-- Equal offsets give the same slot, tile or semaphore. -/
theorem ytile_congr {off : Fin 2 → Nat} {b : Fin 27} (e : off = wblkOff b) (hh hs) :
    yM.slice (Rect.unit (s := S40x27648) off S40x1024.size hh) hs = ytile b := Memref.slice_unit_congr _ e _ _ _ (fun _ => rfl)
/-- Equal offsets give the same slot, tile or semaphore. -/
theorem dslot_congr {off : Fin 4 → Nat} {s : Fin 2} (e : off = dslotOff s) (hh hs) :
    (dR.slice (Rect.unit (s := S2x40x1x1024) off S1x40x1x1024.size hh) hs).squeeze S40x1x1024 squeezes_S1x40x1x1024_S40x1x1024 = dslot s :=
  congrArg (fun M : Memref sig .tc .vmem S1x40x1x1024 .f32 => M.squeeze S40x1x1024 squeezes_S1x40x1x1024_S40x1x1024) (Memref.slice_unit_congr _ e _ _ _ _)
/-- Equal offsets give the same slot, tile or semaphore. -/
theorem dtile_congr {off : Fin 3 → Nat} {b : Fin 27} (e : off = dtileOff b) (hh hs) :
    dM.slice (Rect.unit (s := S40x1x27648) off S40x1x1024.size hh) hs = dtile b := Memref.slice_unit_congr _ e _ _ _ (fun _ => rfl)

section Trip
variable (k : Fin k0_t2_loop.trips)

/-! A trip's wait for weight block `k`, -/
@[sl_canon] theorem wsemW (hh) : (cc0_scratch26.slice (Rect.unit (s := S8) (k0_off5 k) S1.size hh)).squeeze S_ squeezes_S1_S_ = wsem (Ring.sl 8 k.val) := wsem_congr (off5_eq k) _
/-- What the trip waits for, by its name. -/
@[sl_canon] theorem wslotW (hh hs) : (wR.slice (Rect.unit (s := S8x5120x1024) (k0_off6 k) S1x5120x1024.size hh) hs).squeeze S5120x1024 squeezes_S1x5120x1024_S5120x1024 = wslot (Ring.sl 8 k.val) := wslot_congr (off6_eq k) _ _
/-- What the trip waits for, by its name. -/
@[sl_canon] theorem wblkW (hh hs) : wM.slice (Rect.unit (s := S5120x27648) (k0_off7 k) S5120x1024.size hh) hs = wblk (Ring.bk 27 k.val) := wblk_congr (off7_eq k) _ _
/-! its start of block `k + 7`, -/
@[sl_canon] theorem wsemI (hk : k.val < 20) (hh) : (cc0_scratch26.slice (Rect.unit (s := S8) (k0_off13 k) S1.size hh)).squeeze S_ squeezes_S1_S_ = wsem (Ring.sl 8 (k.val + 7)) := wsem_congr (off13_eq k hk) _
/-- What the trip starts to copy, by its name. -/
@[sl_canon] theorem wslotI (hk : k.val < 20) (hh hs) : (wR.slice (Rect.unit (s := S8x5120x1024) (k0_off14 k) S1x5120x1024.size hh) hs).squeeze S5120x1024 squeezes_S1x5120x1024_S5120x1024 = wslot (Ring.sl 8 (k.val + 7)) := wslot_congr (off14_eq k hk) _ _
/-- What the trip starts to copy, by its name. -/
@[sl_canon] theorem wblkI (hk : k.val < 20) (hh hs) : wM.slice (Rect.unit (s := S5120x27648) (k0_off15 k) S5120x1024.size hh) hs = wblk (Ring.bk 27 (k.val + 7)) := wblk_congr (off15_eq k hk) _ _
/-! its start of the write of tile `k - 1`, -/
@[sl_canon] theorem ysemI (hk : 0 < k.val) (hh) : (cc0_scratch27.slice (Rect.unit (s := S2) (k0_off8 k) S1.size hh)).squeeze S_ squeezes_S1_S_ = ysem (Ring.sl 2 (k.val + 1)) := ysem_congr (off8_eq k hk) _
/-- What the trip starts to copy, by its name. -/
@[sl_canon] theorem dsemI (hk : 0 < k.val) (hh) : (cc0_scratch28.slice (Rect.unit (s := S2) (k0_off8 k) S1.size hh)).squeeze S_ squeezes_S1_S_ = dsem (Ring.sl 2 (k.val + 1)) := dsem_congr (off8_eq k hk) _
/-- What the trip starts to copy, by its name. -/
@[sl_canon] theorem ytileI (hk : 0 < k.val) (hh hs) : yM.slice (Rect.unit (s := S40x27648) (k0_off9 k) S40x1024.size hh) hs = ytile (Ring.bk 27 (k.val - 1)) := ytile_congr (off9_eq k hk) _ _
/-- What the trip starts to copy, by its name. -/
@[sl_canon] theorem yslotI (hk : 0 < k.val) (hh hs) : (yR.slice (Rect.unit (s := S2x40x1024) (k0_off10 k) S1x40x1024.size hh) hs).squeeze S40x1024 squeezes_S1x40x1024_S40x1024 = yslot (Ring.sl 2 (k.val + 1)) := yslot_congr (off10_eq k hk) _ _
/-- What the trip starts to copy, by its name. -/
@[sl_canon] theorem dtileI (hk : 0 < k.val) (hh hs) : dM.slice (Rect.unit (s := S40x1x27648) (k0_off11 k) S40x1x1024.size hh) hs = dtile (Ring.bk 27 (k.val - 1)) := dtile_congr (off11_eq k hk) _ _
/-- What the trip starts to copy, by its name. -/
@[sl_canon] theorem dslotI (hk : 0 < k.val) (hh hs) : (dR.slice (Rect.unit (s := S2x40x1x1024) (k0_off12 k) S1x40x1x1024.size hh) hs).squeeze S40x1x1024 squeezes_S1x40x1x1024_S40x1x1024 = dslot (Ring.sl 2 (k.val + 1)) := dslot_congr (off12_eq k hk) _ _
/-! and its wait for the write of tile `k - 2`. -/
@[sl_canon] theorem ysemW (hk : 1 < k.val) (hh) : (cc0_scratch27.slice (Rect.unit (s := S2) (k0_off16 k) S1.size hh)).squeeze S_ squeezes_S1_S_ = ysem (Ring.sl 2 k.val) := ysem_congr (off16_eq k hk) _
/-- What the trip waits for, by its name. -/
@[sl_canon] theorem dsemW (hk : 1 < k.val) (hh) : (cc0_scratch28.slice (Rect.unit (s := S2) (k0_off16 k) S1.size hh)).squeeze S_ squeezes_S1_S_ = dsem (Ring.sl 2 k.val) := dsem_congr (off16_eq k hk) _
/-- What the trip waits for, by its name. -/
@[sl_canon] theorem ytileW (hk : 1 < k.val) (hh hs) : yM.slice (Rect.unit (s := S40x27648) (k0_off17 k) S40x1024.size hh) hs = ytile (Ring.bk 27 (k.val - 2)) := ytile_congr (off17_eq k hk) _ _
/-- What the trip waits for, by its name. -/
@[sl_canon] theorem yslotW (hk : 1 < k.val) (hh hs) : (yR.slice (Rect.unit (s := S2x40x1024) (k0_off18 k) S1x40x1024.size hh) hs).squeeze S40x1024 squeezes_S1x40x1024_S40x1024 = yslot (Ring.sl 2 k.val) := yslot_congr (off18_eq k hk) _ _
/-- What the trip waits for, by its name. -/
@[sl_canon] theorem dtileW (hk : 1 < k.val) (hh hs) : dM.slice (Rect.unit (s := S40x1x27648) (k0_off19 k) S40x1x1024.size hh) hs = dtile (Ring.bk 27 (k.val - 2)) := dtile_congr (off19_eq k hk) _ _
/-- What the trip waits for, by its name. -/
@[sl_canon] theorem dslotW (hk : 1 < k.val) (hh hs) : (dR.slice (Rect.unit (s := S2x40x1x1024) (k0_off20 k) S1x40x1x1024.size hh) hs).squeeze S40x1x1024 squeezes_S1x40x1x1024_S40x1x1024 = dslot (Ring.sl 2 k.val) := dslot_congr (off20_eq k hk) _ _

end Trip

/-! ## The prologue's and the epilogue's slices -/

/-- What is copied before the loop, by its name. -/
@[sl_canon] theorem wsemP0 (hh) : (cc0_scratch26.slice (Rect.unit (s := S8) (k0_off1 0#32) S1.size hh)).squeeze S_ squeezes_S1_S_ = wsem 0 := wsem_congr (by decide) _
/-- What is copied before the loop, by its name. -/
@[sl_canon] theorem wsemP1 (hh) : (cc0_scratch26.slice (Rect.unit (s := S8) (k0_off1 1#32) S1.size hh)).squeeze S_ squeezes_S1_S_ = wsem 1 := wsem_congr (by decide) _
/-- What is copied before the loop, by its name. -/
@[sl_canon] theorem wsemP2 (hh) : (cc0_scratch26.slice (Rect.unit (s := S8) (k0_off1 2#32) S1.size hh)).squeeze S_ squeezes_S1_S_ = wsem 2 := wsem_congr (by decide) _
/-- What is copied before the loop, by its name. -/
@[sl_canon] theorem wsemP3 (hh) : (cc0_scratch26.slice (Rect.unit (s := S8) (k0_off1 3#32) S1.size hh)).squeeze S_ squeezes_S1_S_ = wsem 3 := wsem_congr (by decide) _
/-- What is copied before the loop, by its name. -/
@[sl_canon] theorem wsemP4 (hh) : (cc0_scratch26.slice (Rect.unit (s := S8) (k0_off1 4#32) S1.size hh)).squeeze S_ squeezes_S1_S_ = wsem 4 := wsem_congr (by decide) _
/-- What is copied before the loop, by its name. -/
@[sl_canon] theorem wsemP5 (hh) : (cc0_scratch26.slice (Rect.unit (s := S8) (k0_off1 5#32) S1.size hh)).squeeze S_ squeezes_S1_S_ = wsem 5 := wsem_congr (by decide) _
/-- What is copied before the loop, by its name. -/
@[sl_canon] theorem wsemP6 (hh) : (cc0_scratch26.slice (Rect.unit (s := S8) (k0_off1 6#32) S1.size hh)).squeeze S_ squeezes_S1_S_ = wsem 6 := wsem_congr (by decide) _
/-- What is copied before the loop, by its name. -/
@[sl_canon] theorem wslotP0 (hh hs) : (wR.slice (Rect.unit (s := S8x5120x1024) (k0_off2 0#32) S1x5120x1024.size hh) hs).squeeze S5120x1024 squeezes_S1x5120x1024_S5120x1024 = wslot 0 := wslot_congr (by decide) _ _
/-- What is copied before the loop, by its name. -/
@[sl_canon] theorem wslotP1 (hh hs) : (wR.slice (Rect.unit (s := S8x5120x1024) (k0_off2 1#32) S1x5120x1024.size hh) hs).squeeze S5120x1024 squeezes_S1x5120x1024_S5120x1024 = wslot 1 := wslot_congr (by decide) _ _
/-- What is copied before the loop, by its name. -/
@[sl_canon] theorem wslotP2 (hh hs) : (wR.slice (Rect.unit (s := S8x5120x1024) (k0_off2 2#32) S1x5120x1024.size hh) hs).squeeze S5120x1024 squeezes_S1x5120x1024_S5120x1024 = wslot 2 := wslot_congr (by decide) _ _
/-- What is copied before the loop, by its name. -/
@[sl_canon] theorem wslotP3 (hh hs) : (wR.slice (Rect.unit (s := S8x5120x1024) (k0_off2 3#32) S1x5120x1024.size hh) hs).squeeze S5120x1024 squeezes_S1x5120x1024_S5120x1024 = wslot 3 := wslot_congr (by decide) _ _
/-- What is copied before the loop, by its name. -/
@[sl_canon] theorem wslotP4 (hh hs) : (wR.slice (Rect.unit (s := S8x5120x1024) (k0_off2 4#32) S1x5120x1024.size hh) hs).squeeze S5120x1024 squeezes_S1x5120x1024_S5120x1024 = wslot 4 := wslot_congr (by decide) _ _
/-- What is copied before the loop, by its name. -/
@[sl_canon] theorem wslotP5 (hh hs) : (wR.slice (Rect.unit (s := S8x5120x1024) (k0_off2 5#32) S1x5120x1024.size hh) hs).squeeze S5120x1024 squeezes_S1x5120x1024_S5120x1024 = wslot 5 := wslot_congr (by decide) _ _
/-- What is copied before the loop, by its name. -/
@[sl_canon] theorem wslotP6 (hh hs) : (wR.slice (Rect.unit (s := S8x5120x1024) (k0_off2 6#32) S1x5120x1024.size hh) hs).squeeze S5120x1024 squeezes_S1x5120x1024_S5120x1024 = wslot 6 := wslot_congr (by decide) _ _
/-- What is copied before the loop, by its name. -/
@[sl_canon] theorem wblkP0 (hh hs) : wM.slice (Rect.unit (s := S5120x27648) ![0, 0] S5120x1024.size hh) hs = wblk 0 := wblk_congr (by decide) _ _
/-- What is copied before the loop, by its name. -/
@[sl_canon] theorem wblkP1 (hh hs) : wM.slice (Rect.unit (s := S5120x27648) ![0, 1024] S5120x1024.size hh) hs = wblk 1 := wblk_congr (by decide) _ _
/-- What is copied before the loop, by its name. -/
@[sl_canon] theorem wblkP2 (hh hs) : wM.slice (Rect.unit (s := S5120x27648) ![0, 2048] S5120x1024.size hh) hs = wblk 2 := wblk_congr (by decide) _ _
/-- What is copied before the loop, by its name. -/
@[sl_canon] theorem wblkP3 (hh hs) : wM.slice (Rect.unit (s := S5120x27648) ![0, 3072] S5120x1024.size hh) hs = wblk 3 := wblk_congr (by decide) _ _
/-- What is copied before the loop, by its name. -/
@[sl_canon] theorem wblkP4 (hh hs) : wM.slice (Rect.unit (s := S5120x27648) ![0, 4096] S5120x1024.size hh) hs = wblk 4 := wblk_congr (by decide) _ _
/-- What is copied before the loop, by its name. -/
@[sl_canon] theorem wblkP5 (hh hs) : wM.slice (Rect.unit (s := S5120x27648) ![0, 5120] S5120x1024.size hh) hs = wblk 5 := wblk_congr (by decide) _ _
/-- What is copied before the loop, by its name. -/
@[sl_canon] theorem wblkP6 (hh hs) : wM.slice (Rect.unit (s := S5120x27648) ![0, 6144] S5120x1024.size hh) hs = wblk 6 := wblk_congr (by decide) _ _

/-- What is waited for after the loop, by its name. -/
@[sl_canon] theorem ysemE0 (hh) : (cc0_scratch27.slice (Rect.unit (s := S2) (k0_off26 26#32) S1.size hh)).squeeze S_ squeezes_S1_S_ = ysem 0 := ysem_congr (by decide) _
/-- What is waited for after the loop, by its name. -/
@[sl_canon] theorem ysemE1 (hh) : (cc0_scratch27.slice (Rect.unit (s := S2) (k0_off26 25#32) S1.size hh)).squeeze S_ squeezes_S1_S_ = ysem 1 := ysem_congr (by decide) _
/-- What is waited for after the loop, by its name. -/
@[sl_canon] theorem dsemE0 (hh) : (cc0_scratch28.slice (Rect.unit (s := S2) (k0_off26 26#32) S1.size hh)).squeeze S_ squeezes_S1_S_ = dsem 0 := dsem_congr (by decide) _
/-- What is waited for after the loop, by its name. -/
@[sl_canon] theorem dsemE1 (hh) : (cc0_scratch28.slice (Rect.unit (s := S2) (k0_off26 25#32) S1.size hh)).squeeze S_ squeezes_S1_S_ = dsem 1 := dsem_congr (by decide) _
/-- What is waited for after the loop, by its name. -/
@[sl_canon] theorem yslotE0 (hh hs) : (yR.slice (Rect.unit (s := S2x40x1024) (k0_off27 26#32) S1x40x1024.size hh) hs).squeeze S40x1024 squeezes_S1x40x1024_S40x1024 = yslot 0 := yslot_congr (by decide) _ _
/-- What is waited for after the loop, by its name. -/
@[sl_canon] theorem yslotE1 (hh hs) : (yR.slice (Rect.unit (s := S2x40x1024) (k0_off27 25#32) S1x40x1024.size hh) hs).squeeze S40x1024 squeezes_S1x40x1024_S40x1024 = yslot 1 := yslot_congr (by decide) _ _
/-- What is waited for after the loop, by its name. -/
@[sl_canon] theorem dslotE0 (hh hs) : (dR.slice (Rect.unit (s := S2x40x1x1024) (k0_off28 26#32) S1x40x1x1024.size hh) hs).squeeze S40x1x1024 squeezes_S1x40x1x1024_S40x1x1024 = dslot 0 := dslot_congr (by decide) _ _
/-- What is waited for after the loop, by its name. -/
@[sl_canon] theorem dslotE1 (hh hs) : (dR.slice (Rect.unit (s := S2x40x1x1024) (k0_off28 25#32) S1x40x1x1024.size hh) hs).squeeze S40x1x1024 squeezes_S1x40x1x1024_S40x1x1024 = dslot 1 := dslot_congr (by decide) _ _
/-- What is waited for after the loop, by its name. -/
@[sl_canon] theorem ytileE0 (hh hs) : yM.slice (Rect.unit (s := S40x27648) ![0, 26624] S40x1024.size hh) hs = ytile 26 := ytile_congr (by decide) _ _
/-- What is waited for after the loop, by its name. -/
@[sl_canon] theorem ytileE1 (hh hs) : yM.slice (Rect.unit (s := S40x27648) ![0, 25600] S40x1024.size hh) hs = ytile 25 := ytile_congr (by decide) _ _
/-- What is waited for after the loop, by its name. -/
@[sl_canon] theorem dtileE0 (hh hs) : dM.slice (Rect.unit (s := S40x1x27648) ![0, 0, 26624] S40x1x1024.size hh) hs = dtile 26 := dtile_congr (by decide) _ _
/-- What is waited for after the loop, by its name. -/
@[sl_canon] theorem dtileE1 (hh hs) : dM.slice (Rect.unit (s := S40x1x27648) ![0, 0, 25600] S40x1x1024.size hh) hs = dtile 25 := dtile_congr (by decide) _ _

end Cert.Proof.IdealRun

end
-- ==== Proof.IdealZ.lean ====
/-
  The loop that accumulates `x V`: five trips, each over 1024 of the 5120 columns of `x`. A trip reads its columns of
  `x` and of the packed digits, unpacks the digits and adds their product into the accumulator. Its invariant: the
  accumulator holds the stores of the trips before.
-/
module

public import proofs.«01_k».proof.Proof.IdealNames

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev 𝒱₀ : Variants := Variants.none
local notation "𝕄" => MT nD τ sig Unit (Elt F) ℕ (Pipeline.UD sig nD τ) ℕ

/-- What a buffer of core `c` holds. -/
abbrev BufC (F : FTy → Type) (c : Dev nD) (b : Ref sig .tc) : Type := Buf (Elt F) ((c : Thread nD τ).loc b)
/-- Buffer `b` of core `c` held whole at `f`. -/
abbrev at_ {sp : Space} {s : Shape} {e : EltTy} (c : Dev nD) (M : Memref sig .tc sp s e) (f : Buf (Elt F) (M.view.loc (c : Thread nD τ))) : sProp 𝕄 :=
  M.view.loc (c : Thread nD τ) ↦[M.view.set]{fullShare} f

abbrev xB : Memref sig .tc .vmem S40x5120 .bf16 := Memref.whole cc0_scratch3
abbrev vB : Memref sig .tc .vmem S117x5120 .i8 := Memref.whole cc0_scratch2
abbrev maskB : Memref sig .tc .vmem S14x8x128 .i32 := Memref.whole cc0_scratch14
abbrev vzB : Memref sig .tc .vmem S512x128 .bf16 := Memref.whole cc0_scratch16
abbrev vsB : Memref sig .tc .vmem S512x128 .bf16 := Memref.whole cc0_scratch17
abbrev accB : Memref sig .tc .vmem S40x512 .f32 := Memref.whole cc0_scratch20

/-- The region of the loop on the kernel's buffers. -/
abbrev regionZ : Fin k0_t1_loop.trips → Unit → Prog (TpuEff nD τ sig (Elt F) Λ₀ .tc) Unit :=
  k0_t1_body (F := F) (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_arg6) (Memref.isWhole_whole _) (Memref.whole main_v5) (Memref.isWhole_whole _) (Memref.whole main_v6) (Memref.isWhole_whole _) (Memref.whole main_arg9) (Memref.isWhole_whole _) (Memref.whole main_v7_0) (Memref.isWhole_whole _) (Memref.whole main_v7_1) (Memref.isWhole_whole _) (Memref.whole main_v7_2) (Memref.isWhole_whole _) (Memref.whole main_v7_3) (Memref.isWhole_whole _) (Memref.whole main_v7_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 cc0_scratch29

section
variable (c : Dev nD) (Xv : Buf (Elt F) (vB.view.loc (c : Thread nD τ))) (Xx : Buf (Elt F) (xB.view.loc (c : Thread nD τ)))
  (Xm : Buf (Elt F) (maskB.view.loc (c : Thread nD τ))) (Xz : Buf (Elt F) (vzB.view.loc (c : Thread nD τ))) (Xs : Buf (Elt F) (vsB.view.loc (c : Thread nD τ)))

/-- What a trip of the loop touches: five buffers it reads and the accumulator. -/
abbrev resZ (f : Buf (Elt F) (accB.view.loc (c : Thread nD τ))) : sProp 𝕄 :=
  iprop(at_ c vB Xv ∗ at_ c xB Xx ∗ at_ c maskB Xm ∗ at_ c vzB Xz ∗ at_ c vsB Xs ∗ at_ c accB f)

set_option backward.proofsInPublic true in
/-- One trip: the accumulator gets one store; its payload is found by the run, as a function of what the accumulator
    held. -/
@[irreducible] def tripZ (k : Fin k0_t1_loop.trips) :
    { L : Buf (Elt F) (accB.view.loc (c : Thread nD τ)) → List (View.Piece (Elt F) S40x512 .f32) // ∀ f : Buf (Elt F) (accB.view.loc (c : Thread nD τ)),
      resZ c Xv Xx Xm Xz Xs f ⊢ wp frame (wpE (defs₀ (F := F)) 𝒱₀ (c : Thread nD τ) none) Set.univ (regionZ (F := F) k PUnit.unit)
        (fun _ => resZ c Xv Xx Xm Xz Xs (accB.view.writes (Elt F) f (L f))) } := by
  have hk : k.val < 5 := Nat.lt_of_lt_of_le k.isLt k0_t1_abs.2.1
  refine ⟨?_, fun f => ?run⟩
  case run =>
    unfold regionZ k0_t1_body
    iintro ⟨HR17, HR18, HR29, HR31, HR32, HW35⟩
    sl_exec
    sl_step
    sl_close

/-- The accumulator before trip `k`. -/
def accZ (f₀ : Buf (Elt F) (accB.view.loc (c : Thread nD τ))) : ℕ → Buf (Elt F) (accB.view.loc (c : Thread nD τ))
  | 0 => f₀
  | k + 1 => if h : k < k0_t1_loop.trips then accB.view.writes (Elt F) (accZ f₀ k) ((tripZ c Xv Xx Xm Xz Xs ⟨k, h⟩).1 (accZ f₀ k)) else accZ f₀ k

/-- One more trip adds its chunk to the accumulator. -/
theorem accZ_succ (f₀ : Buf (Elt F) (accB.view.loc (c : Thread nD τ))) (k : Fin k0_t1_loop.trips) :
    accZ c Xv Xx Xm Xz Xs f₀ (k.val + 1) = accB.view.writes (Elt F) (accZ c Xv Xx Xm Xz Xs f₀ k.val) ((tripZ c Xv Xx Xm Xz Xs k).1 (accZ c Xv Xx Xm Xz Xs f₀ k.val)) := by
  rw [accZ.eq_2]; exact dif_pos k.isLt

set_option warn.classDefReducibility false in
/-- The loop's invariant: the five buffers as they are, the accumulator at `accZ` of the trips before. -/
@[sl_loop] def loopInvZ (f₀ : Buf (Elt F) (accB.view.loc (c : Thread nD τ))) :
    LoopInvTy_k0_t1 (F := F) Unit ℕ (Pipeline.UD sig nD τ) ℕ 𝒱₀ c none Set.univ (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_arg6) (Memref.isWhole_whole _) (Memref.whole main_v5) (Memref.isWhole_whole _) (Memref.whole main_v6) (Memref.isWhole_whole _) (Memref.whole main_arg9) (Memref.isWhole_whole _) (Memref.whole main_v7_0) (Memref.isWhole_whole _) (Memref.whole main_v7_1) (Memref.isWhole_whole _) (Memref.whole main_v7_2) (Memref.isWhole_whole _) (Memref.whole main_v7_3) (Memref.isWhole_whole _) (Memref.whole main_v7_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 cc0_scratch29 where
  inv k _ := iprop(resZ c Xv Xx Xm Xz Xs (accZ c Xv Xx Xm Xz Xs f₀ k))
  step k acc := by
    rw [accZ_succ]
    exact (tripZ c Xv Xx Xm Xz Xs k).2 _
end

end Cert.Proof.IdealRun

end
-- ==== Proof.IdealPieces.lean ====
/-
  What the tile loop holds between trips.

  Before trip `k`: weight blocks `k … k + 6` are in flight (those that exist), the other blocks are at home and the
  ring's remaining slots are free; the tiles of the two outputs up to `k - 3` are written, tile `k - 2` is in flight
  and tile `k - 1` lies in its slot.
-/
module

public import proofs.«01_k».proof.Proof.IdealZ
public import Idealize.ShloMosaic.Lib.DeliveryRep

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The other buffers -/

abbrev uB : Memref sig .tc .vmem S117x27648 .i8 := Memref.whole cc0_scratch1
abbrev wsB : Memref sig .tc .vmem S1x27648 .f32 := Memref.whole cc0_scratch4
abbrev xqB : Memref sig .tc .vmem S64x5120 .fp8e4m3 := Memref.whole cc0_scratch10
abbrev xcB : Memref sig .tc .vmem S40x5120 .fp8e4m3 := Memref.whole cc0_scratch11
abbrev xsColB : Memref sig .tc .vmem S40x128 .f32 := Memref.whole cc0_scratch12
abbrev xsRowB : Memref sig .tc .vmem S1x40 .f32 := Memref.whole cc0_scratch13
abbrev uzB : Memref sig .tc .vmem S512x128 .bf16 := Memref.whole cc0_scratch18
abbrev usB : Memref sig .tc .vmem S512x128 .bf16 := Memref.whole cc0_scratch19
abbrev zB : Memref sig .tc .vmem S40x1x446 .f32 := Memref.whole cc0_scratch21
abbrev tB : Memref sig .tc .vmem S40x512 .bf16 := Memref.whole cc0_scratch22
abbrev zM : Memref sig .tc .hbm S40x1x446 .f32 := Memref.whole main_v7_2
abbrev xcM : Memref sig .tc .hbm S40x5120 .fp8e4m3 := Memref.whole main_v7_3
abbrev xsM : Memref sig .tc .hbm S1x40 .f32 := Memref.whole main_v7_4

def osem0 : DmaSems sig S_ := (cc0_scratch29.slice (Rect.unit (s := S3) ![0] S1.size inb_S3_S1_0)).squeeze S_ squeezes_S1_S_
def osem1 : DmaSems sig S_ := (cc0_scratch29.slice (Rect.unit (s := S3) ![1] S1.size inb_S3_S1_1)).squeeze S_ squeezes_S1_S_
def osem2 : DmaSems sig S_ := (cc0_scratch29.slice (Rect.unit (s := S3) ![2] S1.size inb_S3_S1_2)).squeeze S_ squeezes_S1_S_
/-- A semaphore of the copies out, as the body names it. -/
@[sl_canon] theorem osemC0 (hh) : (cc0_scratch29.slice (Rect.unit (s := S3) ![0] S1.size hh)).squeeze S_ squeezes_S1_S_ = osem0 := rfl
/-- A semaphore of the copies out, as the body names it. -/
@[sl_canon] theorem osemC1 (hh) : (cc0_scratch29.slice (Rect.unit (s := S3) ![1] S1.size hh)).squeeze S_ squeezes_S1_S_ = osem1 := rfl
/-- A semaphore of the copies out, as the body names it. -/
@[sl_canon] theorem osemC2 (hh) : (cc0_scratch29.slice (Rect.unit (s := S3) ![2] S1.size hh)).squeeze S_ squeezes_S1_S_ = osem2 := rfl

section Pieces
variable (c : Dev nD)

/-- A DMA semaphore's cell at zero. -/
abbrev cell (A : DmaSems sig S_) : sProp 𝕄 := semVal ((c : Thread nD τ), SemLoc.dma A.sem) 0
/-- A transfer in flight from `src`, held at `f`, to `dst`, over what `dst` held, `g`. -/
abbrev flying {sp sp' : Space} {s : Shape} {e : EltTy} (A : DmaSems sig S_) (n : ℕ) (src : Memref sig .tc sp s e) (dst : Memref sig .tc sp' s e)
    (f : Buf (Elt F) (src.view.loc (c : Thread nD τ))) (g : Buf (Elt F) (dst.view.loc (c : Thread nD τ))) : sProp 𝕄 :=
  Transfers.Flight countersEmb (c : Thread nD τ) (SemLoc.dma A.sem) () n
    iprop((at_ c dst (dst.view.writes (Elt F) g [⟨Rect.whole s, ReadAs.same.apply (src.view.read (Elt F) f)⟩])) ∗ at_ c src f)

/-! ### The weight ring -/

variable (XW : Buf (Elt F) (wM.view.loc (c : Thread nD τ)))

abbrev whome (b : Fin 27) : sProp 𝕄 := at_ c (wblk b) XW
abbrev wfly (s : Fin 8) (b : Fin 27) (g : Buf (Elt F) ((wslot s).view.loc (c : Thread nD τ))) : sProp 𝕄 := flying c (wsem s) 163840 (wblk b) (wslot s) XW g
/-- The ring slot of block number `b` free. -/
abbrev wfree (b : ℕ) : sProp 𝕄 := iprop(cell c (wsem (Ring.sl 8 b)) ∗ ∃ g, at_ c (wslot (Ring.sl 8 b)) g)
/-- The slot of block number `b`: the block in flight, or free past the last block. -/
def wrole (b : ℕ) : sProp 𝕄 := if b < 27 then iprop(∃ g, wfly c XW (Ring.sl 8 b) (Ring.bk 27 b) g) else wfree c b
/-- The slots of the next six blocks. -/
def wnext (k : ℕ) : sProp 𝕄 :=
  iprop(wrole c XW (k + 1) ∗ wrole c XW (k + 2) ∗ wrole c XW (k + 3) ∗ wrole c XW (k + 4) ∗ wrole c XW (k + 5) ∗ wrole c XW (k + 6))
/-- The weight ring before trip `k`. -/
def wI (k : ℕ) : sProp 𝕄 :=
  iprop(bigSep (Ring.homeSet 7 k) (whome c XW) ∗ wrole c XW k ∗ wnext c XW k ∗ wfree c (k + 7))
/-- The weight ring inside trip `k`, block `k` landed. -/
def wMid (k : ℕ) : sProp 𝕄 :=
  iprop(bigSep (Ring.homeSet 7 (k + 1)) (whome c XW) ∗ wnext c XW k ∗ wrole c XW (k + 7) ∗ cell c (wsem (Ring.sl 8 k)))

/-- Numbers with one remainder name one slot. -/
theorem sl_congr {n : ℕ} [NeZero n] {a b : ℕ} (h : a % n = b % n) : Ring.sl n a = Ring.sl n b := by
  apply Fin.ext; simpa [Ring.sl, Fin.ofNat] using h

/-- The landed slot freed, the ring stands as before trip `k + 1`. -/
theorem wMid_next (k : ℕ) : iprop(wMid c XW k ∗ ∃ g, at_ c (wslot (Ring.sl 8 k)) g) ⊢ wI c XW (k + 1) := by
  have e : Ring.sl 8 (k + 1 + 7) = Ring.sl 8 k := sl_congr (by omega)
  unfold wMid wI wnext wfree
  rw [e]
  iintro ⟨⟨HH, ⟨H1, H2, H3, H4, H5, H6⟩, H7, HC⟩, HG⟩
  isplitl [HH]; · iexact HH
  isplitl [H1]; · iexact H1
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [HC]; · iexact HC
  iexact HG

/-- The weight tiles still at home, with the tile a trip fetches set apart. -/
theorem whomes_here (k : ℕ) (hk : k + 7 < 27) :
    bigSep (Ring.homeSet 7 k) (whome c XW) = iprop(whome c XW (Ring.bk 27 (k + 7)) ∗ bigSep ((Ring.homeSet 7 k).erase (Ring.bk 27 (k + 7))) (whome c XW)) := by
  conv_lhs => rw [Ring.homeSet_out 7 k hk, bigSep_insert (Ring.bkL_not_mem_erase 7 k)]
  rfl
/-- The weight tiles at home after such a trip: the fetched one has left, the one that landed is back. -/
theorem whomes_next (k : ℕ) (hk : k + 7 < 27) :
    bigSep (Ring.homeSet 7 (k + 1)) (whome c XW) = iprop(whome c XW (Ring.bk 27 k) ∗ bigSep ((Ring.homeSet 7 k).erase (Ring.bk 27 (k + 7))) (whome c XW)) := by
  conv_lhs => rw [Ring.homeSet_succ 7 k hk, bigSep_insert (Ring.bk_not_mem_erase 7 k (by omega) (by decide))]
  rfl
/-- On the last trips nothing more leaves; the tile that landed is back. -/
theorem whomes_tail (k : ℕ) (h : 27 ≤ k + 7) (hk : k < 27) :
    bigSep (Ring.homeSet 7 (k + 1)) (whome c XW) = iprop(whome c XW (Ring.bk 27 k) ∗ bigSep (Ring.homeSet 7 k) (whome c XW)) := by
  conv_lhs => rw [Ring.homeSet_succ_tail 7 k h hk, bigSep_insert (Ring.bk_not_mem_homeSet 7 k hk (by decide))]
  rfl

/-! ### The two written results -/

variable (gy : Buf (Elt F) (yM.view.loc (c : Thread nD τ))) (gd : Buf (Elt F) (dM.view.loc (c : Thread nD τ)))
  (yv : ℕ → S40x1024.Idx → Elt F .bf16) (dv : ℕ → S40x1x1024.Idx → Elt F .f32)

/-- Tile `b` of both results not yet written, -/
abbrev tini (b : Fin 27) : sProp 𝕄 := iprop(at_ c (ytile b) gy ∗ at_ c (dtile b) gd)
/-- and written. -/
abbrev tfin (b : Fin 27) : sProp 𝕄 := iprop(at_ c (ytile b) ((ytile b).view.rep (yv b.val)) ∗ at_ c (dtile b) ((dtile b).view.rep (dv b.val)))
/-- The slots of parity `p` free, -/
abbrev sfree (p : ℕ) : sProp 𝕄 :=
  iprop(cell c (ysem (Ring.sl 2 p)) ∗ cell c (dsem (Ring.sl 2 p)) ∗ (∃ f, at_ c (yslot (Ring.sl 2 p)) f) ∗ (∃ f, at_ c (dslot (Ring.sl 2 p)) f))
/-- holding tile `b`, -/
abbrev sdone (p b : ℕ) : sProp 𝕄 :=
  iprop(cell c (ysem (Ring.sl 2 p)) ∗ cell c (dsem (Ring.sl 2 p)) ∗ at_ c (yslot (Ring.sl 2 p)) ((yslot (Ring.sl 2 p)).view.rep (yv b))
    ∗ at_ c (dslot (Ring.sl 2 p)) ((dslot (Ring.sl 2 p)).view.rep (dv b)))
/-- and being written out to tile `b`. -/
abbrev sfly (p b : ℕ) : sProp 𝕄 :=
  iprop(flying c (ysem (Ring.sl 2 p)) 2560 (yslot (Ring.sl 2 p)) (ytile (Ring.bk 27 b)) ((yslot (Ring.sl 2 p)).view.rep (yv b)) gy
    ∗ flying c (dsem (Ring.sl 2 p)) 5120 (dslot (Ring.sl 2 p)) (dtile (Ring.bk 27 b)) ((dslot (Ring.sl 2 p)).view.rep (dv b)) gd)
/-- The slots of trip `k`'s parity before trip `k`: tile `k - 2` going out, -/
def sold (k : ℕ) : sProp 𝕄 := if k < 2 then sfree c k else sfly c gy gd yv dv k (k - 2)
/-- and the other slots: tile `k - 1` computed. -/
def snew (k : ℕ) : sProp 𝕄 := if k = 0 then sfree c (k + 1) else sdone c yv dv (k + 1) (k - 1)
/-- The results before trip `k`. -/
def yI (k : ℕ) : sProp 𝕄 :=
  iprop(bigSep (Ring.aheadSet (k - 1)) (tini c gy gd) ∗ bigSep (Ring.behindSet 2 k) (tfin c yv dv) ∗ sold c gy gd yv dv k ∗ snew c yv dv k)
/-- The results inside trip `k`: tile `k - 1` going out, trip `k`'s slots free. -/
def yMid (k : ℕ) : sProp 𝕄 :=
  iprop(bigSep (Ring.aheadSet k) (tini c gy gd) ∗ bigSep (Ring.behindSet 2 (k + 1)) (tfin c yv dv) ∗ sold c gy gd yv dv (k + 1) ∗ sfree c k)

/-! ### The three small results -/

variable (Zz : Buf (Elt F) (zB.view.loc (c : Thread nD τ))) (Zc : Buf (Elt F) (xcB.view.loc (c : Thread nD τ))) (Zs : Buf (Elt F) (xsRowB.view.loc (c : Thread nD τ)))
  (gz : Buf (Elt F) (zM.view.loc (c : Thread nD τ))) (gc : Buf (Elt F) (xcM.view.loc (c : Thread nD τ))) (gs : Buf (Elt F) (xsM.view.loc (c : Thread nD τ)))

/-- The three small results ready to go out, -/
def oIdle : sProp 𝕄 :=
  iprop(at_ c zB Zz ∗ at_ c xcB Zc ∗ at_ c xsRowB Zs ∗ at_ c zM gz ∗ at_ c xcM gc ∗ at_ c xsM gs ∗ cell c osem0 ∗ cell c osem1 ∗ cell c osem2)
/-- and going out. -/
def oFly : sProp 𝕄 :=
  iprop(flying c osem0 2560 zB zM Zz gz ∗ flying c osem1 10240 xcB xcM Zc gc ∗ flying c osem2 16 xsRowB xsM Zs gs)
def oI (k : ℕ) : sProp 𝕄 := if k = 0 then oIdle c Zz Zc Zs gz gc gs else oFly c Zz Zc Zs gz gc gs

end Pieces

end Cert.Proof.IdealRun

end
-- ==== Proof.IdealDma.lean ====
/-
  The transfers of a trip of the tile loop: wait for this trip's weight block, start the next block and the write of
  the tile before, wait for the write of the tile before that. Trips 0 and 1 and the trips after the last start differ
  in which of these happen.
-/
module

public import proofs.«01_k».proof.Proof.IdealPieces

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (XW : Buf (Elt F) (wM.view.loc (c : Thread nD τ)))
  (gy : Buf (Elt F) (yM.view.loc (c : Thread nD τ))) (gd : Buf (Elt F) (dM.view.loc (c : Thread nD τ)))
  (yv : ℕ → S40x1024.Idx → Elt F .bf16) (dv : ℕ → S40x1x1024.Idx → Elt F .f32)
  (Zz : Buf (Elt F) (zB.view.loc (c : Thread nD τ))) (Zc : Buf (Elt F) (xcB.view.loc (c : Thread nD τ))) (Zs : Buf (Elt F) (xsRowB.view.loc (c : Thread nD τ)))
  (gz : Buf (Elt F) (zM.view.loc (c : Thread nD τ))) (gc : Buf (Elt F) (xcM.view.loc (c : Thread nD τ))) (gs : Buf (Elt F) (xsM.view.loc (c : Thread nD τ)))
  (Xu : Buf (Elt F) (uB.view.loc (c : Thread nD τ)))

/-- The weight block `b` as it lies in memory. -/
abbrev wval (b : ℕ) : S5120x1024.Idx → Elt F .fp8e4m3 := (wblk (Ring.bk 27 b)).view.read (Elt F) XW
/-- The packed digits' columns of tile `k`, as loaded. -/
abbrev uval (k : Fin k0_t2_loop.trips) : Vec F S117x1024 .i8 :=
  uB.view.readAt (Elt F) (Rect.unit (s := S117x27648) (k0_off21 k) S117x1024.size (k0_off21_inb k)).toLoadRect Xu

/-- What a trip holds before its transfers, -/
def dPre (k : ℕ) : sProp 𝕄 :=
  iprop(wI c XW k ∗ yI c gy gd yv dv k ∗ oI c Zz Zc Zs gz gc gs k ∗ at_ c uB Xu ∗ ∃ W, owes (c : Thread nD τ) 0 W)
/-- and after them. -/
def dPost (k : ℕ) : sProp 𝕄 :=
  iprop(wMid c XW k ∗ at_ c (wslot (Ring.sl 8 k)) ((wslot (Ring.sl 8 k)).view.rep (wval c XW k)) ∗ yMid c gy gd yv dv k
    ∗ oFly c Zz Zc Zs gz gc gs ∗ at_ c uB Xu ∗ ∃ W, owes (c : Thread nD τ) 0 W)

/-- The part of a trip with the transfers. -/
abbrev part (k : Fin k0_t2_loop.trips) := k0_part29 (F := F) (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_arg6) (Memref.isWhole_whole _) (Memref.whole main_v5) (Memref.isWhole_whole _) (Memref.whole main_v6) (Memref.isWhole_whole _) (Memref.whole main_arg9) (Memref.isWhole_whole _) (Memref.whole main_v7_0) (Memref.isWhole_whole _) (Memref.whole main_v7_1) (Memref.isWhole_whole _) (Memref.whole main_v7_2) (Memref.isWhole_whole _) (Memref.whole main_v7_3) (Memref.isWhole_whole _) (Memref.whole main_v7_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 cc0_scratch29 0#32 1#32 k

/-- What that part hands on: the trip's words and the first digits of the tile's columns. -/
abbrev ret (k : Fin k0_t2_loop.trips) : Σ' (arg45 : BitVec 32) (v696 : BitVec 32) (v697 : BitVec 32) (v702 : IVec S32x1024 32) (v704 : IVec S8x128 32) (v705 : IVec S24x128 32), IVec S8x128 32 :=
  ⟨Scf.iv 0#32 1#32 k, Scalar.muli (Scf.iv 0#32 1#32 k) 1024#32, Scalar.remsi (Scf.iv 0#32 1#32 k) 2#32,
    k0_pay110 (uval c Xu k), k0_pay112 (uval c Xu k), k0_pay113 (uval c Xu k), k0_pay114 (uval c Xu k)⟩

/-- Equal assertions entail each other. -/
theorem ent_of_eq {P Q : sProp 𝕄} (e : P = Q) : P ⊢ Q := e ▸ .rfl

/-- Ahead of trip p stand the home of tile p and those after it. -/
theorem aheads_open (p : ℕ) (h : p < 27) :
    bigSep (Ring.aheadSet p) (tini c gy gd) = iprop(tini c gy gd (Ring.bk 27 p) ∗ bigSep (Ring.aheadSet (p + 1)) (tini c gy gd)) := by
  conv_lhs => rw [Ring.aheadSet_open p h, bigSep_insert (Ring.bk_not_mem_aheadSet_succ p h)]
  rfl
/-- Ahead of trip k - 1 stand the home of tile k - 1 and those after it, counted from k. -/
theorem aheads_here (k : ℕ) (h0 : 0 < k) (h : k ≤ 27) :
    bigSep (Ring.aheadSet (k - 1)) (tini c gy gd) = iprop(tini c gy gd (Ring.bk 27 (k - 1)) ∗ bigSep (Ring.aheadSet k) (tini c gy gd)) := by
  have e := aheads_open c gy gd (k - 1) (by omega)
  rwa [show k - 1 + 1 = k by omega] at e
/-- Before the first trip nothing has left the tiles ahead. -/
theorem aheads_boot (k : ℕ) (h0 : k = 0) : bigSep (Ring.aheadSet (k - 1)) (tini c gy gd) = bigSep (Ring.aheadSet k) (tini c gy gd) := by
  rw [show k - 1 = k by omega]
/-- Before the third trip no tile has been written back. -/
theorem behinds_boot (k : ℕ) (h0 : k < 2) : bigSep (Ring.behindSet 2 (k + 1)) (tfin c yv dv) = bigSep (Ring.behindSet 2 k) (tfin c yv dv) := by
  rw [Ring.behindSet_boot 2 (k + 1) (by omega), Ring.behindSet_boot 2 k (by omega)]
/-- After the next start the slot in flight carries the tile before. -/
theorem sold_succ (k : ℕ) (h : 0 < k) : sold c gy gd yv dv (k + 1) = sfly c gy gd yv dv (k + 1) (k - 1) := by
  unfold sold
  rw [if_neg (by omega)]
  exact congrArg (sfly c gy gd yv dv (k + 1)) (by omega)
/-- From the third trip on a slot holds the copy of two tiles before. -/
theorem sold_late (k : ℕ) (h : 1 < k) : sold c gy gd yv dv k = sfly c gy gd yv dv k (k - 2) := if_neg (by omega)
/-- On the first two trips a slot is free. -/
theorem sold_early (k : ℕ) (h : k < 2) : sold c gy gd yv dv k = sfree c k := if_pos h
/-- From the second trip on the other slot holds the finished tile before. -/
theorem snew_late (k : ℕ) (h : 0 < k) : snew c yv dv k = sdone c yv dv (k + 1) (k - 1) := if_neg (by omega)
/-- On the first trip the other slot is free. -/
theorem snew_early (k : ℕ) (h : k = 0) : snew c yv dv k = sfree c (k + 1) := if_pos h
/-- A tile written back joins those behind. -/
theorem behinds_close (p : ℕ) (hp : 2 ≤ p) (h : p < 27) :
    bigSep (Ring.behindSet 2 (p + 1)) (tfin c yv dv) = iprop(tfin c yv dv (Ring.bk 27 (p - 2)) ∗ bigSep (Ring.behindSet 2 p) (tfin c yv dv)) := by
  conv_lhs => rw [Ring.behindSet_close (d := 2) p hp (by omega), bigSep_insert (Ring.bk_not_mem_behindSet 2 p hp (by omega))]
  rfl

/-- What a landed transfer leaves in its destination. -/
theorem landed {sp sp' : Space} {s : Shape} {e : EltTy} (src : Memref sig .tc sp s e) (dst : Memref sig .tc sp' s e)
    (f : Buf (Elt F) (src.view.loc (c : Thread nD τ))) (g : Buf (Elt F) (dst.view.loc (c : Thread nD τ))) (X : s.Idx → Elt F e) (hX : src.view.read (Elt F) f = X) :
    (at_ c dst (dst.view.writes (Elt F) g [⟨Rect.whole s, ReadAs.same.apply (src.view.read (Elt F) f)⟩]) : sProp 𝕄)
      ⊢ at_ c dst (dst.view.rep X) := by
  subst hX
  refine (ent_of_eq (pointsTo_rep (Ix := Unit) (Name := ℕ) (U := Pipeline.UD sig nD τ) (Lvl := ℕ) (Val := Elt F) (c : Thread nD τ) dst
    (dst.view.writes (Elt F) g [⟨Rect.whole s, ReadAs.same.apply (src.view.read (Elt F) f)⟩]) fullShare)).trans ?_
  rw [View.read_writes_whole]

/-- The first trip: the small results go out and weight block 7 starts. -/
theorem part_zero (k : Fin k0_t2_loop.trips) (h0 : k.val = 0) (Q) :
    iprop(dPre c XW gy gd yv dv Zz Zc Zs gz gc gs Xu k.val ∗ (dPost c XW gy gd yv dv Zz Zc Zs gz gc gs Xu k.val -∗ Q (ret c Xu k)))
      ⊢ wp frame (wpE (defs₀ (F := F)) 𝒱₀ (c : Thread nD τ) none) Set.univ (part (F := F) k) Q := by
  have hlt := k_lt k
  have hk : k.val < 20 := by omega
  have c1 := (cond1_iff k).mpr (by omega)
  have c2 : ¬ (k0_cond2 k = 1#1) := fun h => by have := (cond2_iff k).mp h; omega
  have c3 := (cond3_iff k).mpr (by omega)
  have c4 : ¬ (k0_cond4 k = 1#1) := fun h => by have := (cond4_iff k).mp h; omega
  unfold dPre dPost wI wMid yI yMid oI oIdle oFly wrole
  rw [if_pos (show k.val < 27 by omega), if_pos (show k.val + 7 < 27 by omega), if_pos h0, sold_early c gy gd yv dv k.val (by omega), sold_early c gy gd yv dv (k.val + 1) (by omega), snew_early c yv dv k.val h0,
    aheads_boot c gy gd k.val h0, behinds_boot c yv dv k.val (by omega),
    whomes_here c XW k.val (by omega), whomes_next c XW k.val (by omega)]
  iintro ⟨⟨⟨⟨Hh7, Hh⟩, ⟨%g0, HF⟩, Hn, HC7, %g7, HS7⟩, ⟨Ha, Hb, Hs0, Hs1⟩, ⟨Hz, Hxc, Hxs, HZ, HXC, HXS, HO0, HO1, HO2⟩, Hu, %W, HW⟩, HQ⟩
  unfold part
  sl_exec
  sl_step
  iapply (ent_of_eq (congrArg Q (show ret c Xu k = ⟨part_zero.sl.arg45 k, part_zero.sl.v695 k, part_zero.sl.v697 k, part_zero.sl.v702 c Xu k, part_zero.sl.v704 c Xu k, part_zero.sl.v705 c Xu k, part_zero.sl.v707 c Xu k⟩ from rfl)))
  iapply HQ
  isplitl [Hh HF_src Hn HC7 HF]
  · isplitl [Hh HF_src]; · isplitl [HF_src]; · iexact HF_src
                           iexact Hh
    isplitl [Hn]; · iexact Hn
    isplitl [HC7]; · iexists g7; iexact HC7
    iexact HF
  isplitl [HF_dst]; · iapply (landed c _ _ _ _ _ rfl); iexact HF_dst
  isplitl [Ha Hb Hs0 Hs1]
  · isplitl [Ha]; · iexact Ha
    isplitl [Hb]; · iexact Hb
    isplitl [Hs1]; · iexact Hs1
    iexact Hs0
  isplitl [HO0 HO1 HO2]
  · isplitl [HO0]; · iexact HO0
    isplitl [HO1]; · iexact HO1
    iexact HO2
  isplitl [Hu]; · iexact Hu
  iexists _; iexact HW

/-- The second trip: the first tile goes out and weight block 8 starts. -/
theorem part_one (k : Fin k0_t2_loop.trips) (h1 : k.val = 1) (Q) :
    iprop(dPre c XW gy gd yv dv Zz Zc Zs gz gc gs Xu k.val ∗ (dPost c XW gy gd yv dv Zz Zc Zs gz gc gs Xu k.val -∗ Q (ret c Xu k)))
      ⊢ wp frame (wpE (defs₀ (F := F)) 𝒱₀ (c : Thread nD τ) none) Set.univ (part (F := F) k) Q := by
  have hlt := k_lt k
  have hk : k.val < 20 := by omega
  have hk0 : 0 < k.val := by omega
  have c1 : ¬ (Scalar.cmpi CmpIPredicate.ne (Scalar.extui (Scalar.cmpi CmpIPredicate.eq (Scf.iv 0#32 1#32 k.val) 0#32)) 0#32 = 1#1) := fun h => by have := (cond1_iff k).mp h; omega
  have c2 := (cond2_iff k).mpr (by omega)
  have c3 := (cond3_iff k).mpr (by omega)
  have c4 : ¬ (k0_cond4 k = 1#1) := fun h => by have := (cond4_iff k).mp h; omega
  unfold dPre dPost wI wMid yI yMid oI oFly wrole
  rw [if_pos (show k.val < 27 by omega), if_pos (show k.val + 7 < 27 by omega), if_neg (show ¬ k.val = 0 by omega), sold_early c gy gd yv dv k.val (by omega), sold_succ c gy gd yv dv k.val (by omega), snew_late c yv dv k.val (by omega),
    behinds_boot c yv dv k.val (by omega),
    whomes_here c XW k.val (by omega), whomes_next c XW k.val (by omega), aheads_here c gy gd k.val (by omega) (by omega)]
  iintro ⟨⟨⟨⟨Hh7, Hh⟩, ⟨%g0, HF⟩, Hn, HC7, %g7, HS7⟩, ⟨⟨⟨HTY, HTD⟩, Ha⟩, Hb, Hs0, ⟨HCY, HCD, HSY, HSD⟩⟩, ⟨HO0, HO1, HO2⟩, Hu, %W, HW⟩, HQ⟩
  unfold part
  sl_exec
  sl_step
  iapply (ent_of_eq (congrArg Q (show ret c Xu k = ⟨part_one.sl.arg45 k, part_one.sl.v695 k, part_one.sl.v697 k, part_one.sl.v702 c Xu k, part_one.sl.v704 c Xu k, part_one.sl.v705 c Xu k, part_one.sl.v707 c Xu k⟩ from rfl)))
  iapply HQ
  isplitl [Hh HF_src Hn HC7 HF]
  · isplitl [Hh HF_src]; · isplitl [HF_src]; · iexact HF_src
                           iexact Hh
    isplitl [Hn]; · iexact Hn
    isplitl [HC7]; · iexists g7; iexact HC7
    iexact HF
  isplitl [HF_dst]; · iapply (landed c _ _ _ _ _ rfl); iexact HF_dst
  isplitl [Ha Hb Hs0 HCY HCD]
  · isplitl [Ha]; · iexact Ha
    isplitl [Hb]; · iexact Hb
    isplitl [HCY HCD]
    · isplitl [HCY]; · iexact HCY
      iexact HCD
    iexact Hs0
  isplitl [HO0 HO1 HO2]
  · isplitl [HO0]; · iexact HO0
    isplitl [HO1]; · iexact HO1
    iexact HO2
  isplitl [Hu]; · iexact Hu
  iexists _; iexact HW

/-- A middle trip: the tile before goes out, the one before that is waited for and a weight block starts. -/
theorem part_mid (k : Fin k0_t2_loop.trips) (hk1 : 1 < k.val) (hk : k.val < 20) (Q) :
    iprop(dPre c XW gy gd yv dv Zz Zc Zs gz gc gs Xu k.val ∗ (dPost c XW gy gd yv dv Zz Zc Zs gz gc gs Xu k.val -∗ Q (ret c Xu k)))
      ⊢ wp frame (wpE (defs₀ (F := F)) 𝒱₀ (c : Thread nD τ) none) Set.univ (part (F := F) k) Q := by
  have hlt := k_lt k
  have hk0 : 0 < k.val := by omega
  have hk1 : 1 < k.val := by omega
  have c1 : ¬ (Scalar.cmpi CmpIPredicate.ne (Scalar.extui (Scalar.cmpi CmpIPredicate.eq (Scf.iv 0#32 1#32 k.val) 0#32)) 0#32 = 1#1) := fun h => by have := (cond1_iff k).mp h; omega
  have c2 := (cond2_iff k).mpr (by omega)
  have c3 := (cond3_iff k).mpr (by omega)
  have c4 := (cond4_iff k).mpr (by omega)
  unfold dPre dPost wI wMid yI yMid oI oFly wrole
  rw [if_pos (show k.val < 27 by omega), if_pos (show k.val + 7 < 27 by omega), if_neg (show ¬ k.val = 0 by omega), sold_late c gy gd yv dv k.val (by omega), sold_succ c gy gd yv dv k.val (by omega), snew_late c yv dv k.val (by omega),

    whomes_here c XW k.val (by omega), whomes_next c XW k.val (by omega), aheads_here c gy gd k.val (by omega) (by omega),
    behinds_close c yv dv k.val (by omega) (by omega)]
  iintro ⟨⟨⟨⟨Hh7, Hh⟩, ⟨%g0, HF⟩, Hn, HC7, %g7, HS7⟩, ⟨⟨⟨HTY, HTD⟩, Ha⟩, Hb, ⟨HFY, HFD⟩, ⟨HCY, HCD, HSY, HSD⟩⟩, ⟨HO0, HO1, HO2⟩, Hu, %W, HW⟩, HQ⟩
  unfold part
  sl_exec
  sl_step
  iapply (ent_of_eq (congrArg Q (show ret c Xu k = ⟨part_mid.sl.arg45 k, part_mid.sl.v695 k, part_mid.sl.v697 k, part_mid.sl.v702 c Xu k, part_mid.sl.v704 c Xu k, part_mid.sl.v705 c Xu k, part_mid.sl.v707 c Xu k⟩ from rfl)))
  iapply HQ
  isplitl [Hh HF_src Hn HC7 HF]
  · isplitl [Hh HF_src]; · isplitl [HF_src]; · iexact HF_src
                           iexact Hh
    isplitl [Hn]; · iexact Hn
    isplitl [HC7]; · iexists g7; iexact HC7
    iexact HF
  isplitl [HF_dst]; · iapply (landed c _ _ _ _ _ rfl); iexact HF_dst
  isplitl [Ha Hb HCY HCD HFY HFD HFY_dst HFD_dst HFY_src HFD_src]
  · isplitl [Ha]; · iexact Ha
    isplitl [Hb HFY_dst HFD_dst]
    · isplitl [HFY_dst HFD_dst]
      · isplitl [HFY_dst]; · iapply (landed c _ _ _ _ _ ((View.read_rep _ _).trans (congrArg yv (Ring.bk_val (by omega)).symm))); iexact HFY_dst
        iapply (landed c _ _ _ _ _ ((View.read_rep _ _).trans (congrArg dv (Ring.bk_val (by omega)).symm))); iexact HFD_dst
      iexact Hb
    isplitl [HCY HCD]
    · isplitl [HCY]; · iexact HCY
      iexact HCD
    isplitl [HFY]; · iexact HFY
    isplitl [HFD]; · iexact HFD
    isplitl [HFY_src]; · iexists _; iexact HFY_src
    iexists _; iexact HFD_src
  isplitl [HO0 HO1 HO2]
  · isplitl [HO0]; · iexact HO0
    isplitl [HO1]; · iexact HO1
    iexact HO2
  isplitl [Hu]; · iexact Hu
  iexists _; iexact HW

/-- A late trip: no weight block is left to start. -/
theorem part_tail (k : Fin k0_t2_loop.trips) (hk20 : 20 ≤ k.val) (Q) :
    iprop(dPre c XW gy gd yv dv Zz Zc Zs gz gc gs Xu k.val ∗ (dPost c XW gy gd yv dv Zz Zc Zs gz gc gs Xu k.val -∗ Q (ret c Xu k)))
      ⊢ wp frame (wpE (defs₀ (F := F)) 𝒱₀ (c : Thread nD τ) none) Set.univ (part (F := F) k) Q := by
  have hlt := k_lt k
  have hk0 : 0 < k.val := by omega
  have hk1 : 1 < k.val := by omega
  have c1 : ¬ (Scalar.cmpi CmpIPredicate.ne (Scalar.extui (Scalar.cmpi CmpIPredicate.eq (Scf.iv 0#32 1#32 k.val) 0#32)) 0#32 = 1#1) := fun h => by have := (cond1_iff k).mp h; omega
  have c2 := (cond2_iff k).mpr (by omega)
  have c3 : ¬ (k0_cond3 k = 1#1) := fun h => by have := (cond3_iff k).mp h; omega
  have c4 := (cond4_iff k).mpr (by omega)
  unfold dPre dPost wI wMid yI yMid oI oFly wrole
  rw [if_pos (show k.val < 27 by omega), if_neg (show ¬ k.val + 7 < 27 by omega), if_neg (show ¬ k.val = 0 by omega), sold_late c gy gd yv dv k.val (by omega), sold_succ c gy gd yv dv k.val (by omega), snew_late c yv dv k.val (by omega),

    whomes_tail c XW k.val (by omega) (by omega), aheads_here c gy gd k.val (by omega) (by omega),
    behinds_close c yv dv k.val (by omega) (by omega)]
  iintro ⟨⟨⟨Hh, ⟨%g0, HF⟩, Hn, HC7⟩, ⟨⟨⟨HTY, HTD⟩, Ha⟩, Hb, ⟨HFY, HFD⟩, ⟨HCY, HCD, HSY, HSD⟩⟩, ⟨HO0, HO1, HO2⟩, Hu, %W, HW⟩, HQ⟩
  unfold part
  sl_exec
  sl_step
  iapply (ent_of_eq (congrArg Q (show ret c Xu k = ⟨part_tail.sl.arg45 k, part_tail.sl.v695 k, part_tail.sl.v697 k, part_tail.sl.v702 c Xu k, part_tail.sl.v704 c Xu k, part_tail.sl.v705 c Xu k, part_tail.sl.v707 c Xu k⟩ from rfl)))
  iapply HQ
  isplitl [Hh HF_src Hn HC7 HF]
  · isplitl [Hh HF_src]; · isplitl [HF_src]; · iexact HF_src
                           iexact Hh
    isplitl [Hn]; · iexact Hn
    isplitl [HC7]; · iexact HC7
    iexact HF
  isplitl [HF_dst]; · iapply (landed c _ _ _ _ _ rfl); iexact HF_dst
  isplitl [Ha Hb HCY HCD HFY HFD HFY_dst HFD_dst HFY_src HFD_src]
  · isplitl [Ha]; · iexact Ha
    isplitl [Hb HFY_dst HFD_dst]
    · isplitl [HFY_dst HFD_dst]
      · isplitl [HFY_dst]; · iapply (landed c _ _ _ _ _ ((View.read_rep _ _).trans (congrArg yv (Ring.bk_val (by omega)).symm))); iexact HFY_dst
        iapply (landed c _ _ _ _ _ ((View.read_rep _ _).trans (congrArg dv (Ring.bk_val (by omega)).symm))); iexact HFD_dst
      iexact Hb
    isplitl [HCY HCD]
    · isplitl [HCY]; · iexact HCY
      iexact HCD
    isplitl [HFY]; · iexact HFY
    isplitl [HFD]; · iexact HFD
    isplitl [HFY_src]; · iexists _; iexact HFY_src
    iexists _; iexact HFD_src
  isplitl [HO0 HO1 HO2]
  · isplitl [HO0]; · iexact HO0
    isplitl [HO1]; · iexact HO1
    iexact HO2
  isplitl [Hu]; · iexact Hu
  iexists _; iexact HW

/-- Every trip's transfers. -/
theorem part_all (k : Fin k0_t2_loop.trips) (Q) :
    iprop(dPre c XW gy gd yv dv Zz Zc Zs gz gc gs Xu k.val ∗ (dPost c XW gy gd yv dv Zz Zc Zs gz gc gs Xu k.val -∗ Q (ret c Xu k)))
      ⊢ wp frame (wpE (defs₀ (F := F)) 𝒱₀ (c : Thread nD τ) none) Set.univ (part (F := F) k) Q := by
  by_cases h0 : k.val = 0
  · exact part_zero c XW gy gd yv dv Zz Zc Zs gz gc gs Xu k h0 Q
  by_cases h1 : k.val = 1
  · exact part_one c XW gy gd yv dv Zz Zc Zs gz gc gs Xu k h1 Q
  by_cases h2 : k.val < 20
  · exact part_mid c XW gy gd yv dv Zz Zc Zs gz gc gs Xu k (by omega) h2 Q
  · exact part_tail c XW gy gd yv dv Zz Zc Zs gz gc gs Xu k (by omega) Q

end

end Cert.Proof.IdealRun

end
-- ==== Proof.IdealTrip.lean ====
/-
  One trip of the tile loop: its transfers (`IdealDma`) and then its computation, which stores the tile of both
  results into the staging slots of the trip's parity.
-/
module

public import proofs.«01_k».proof.Proof.IdealDma
public import Idealize.ShloMosaic.Lib.VecWindow

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD)
  (Xu : Buf (Elt F) (uB.view.loc (c : Thread nD τ))) (Xws : Buf (Elt F) (wsB.view.loc (c : Thread nD τ)))
  (Xq : Buf (Elt F) (xqB.view.loc (c : Thread nD τ))) (Xc : Buf (Elt F) (xsColB.view.loc (c : Thread nD τ)))
  (Xm : Buf (Elt F) (maskB.view.loc (c : Thread nD τ))) (Xuz : Buf (Elt F) (uzB.view.loc (c : Thread nD τ)))
  (Xus : Buf (Elt F) (usB.view.loc (c : Thread nD τ))) (Xt : Buf (Elt F) (tB.view.loc (c : Thread nD τ)))

/-- The buffers a trip's computation reads besides the digits. -/
def resT : sProp 𝕄 :=
  iprop(at_ c wsB Xws ∗ at_ c xqB Xq ∗ at_ c xsColB Xc ∗ at_ c maskB Xm ∗ at_ c uzB Xuz ∗ at_ c usB Xus ∗ at_ c tB Xt)

/-- The rest of a trip, after its transfers. -/
abbrev region2 (v620 : FVec F S40x512 .bf16) : Fin k0_t2_loop.trips → Unit → Prog (TpuEff nD τ sig (Elt F) Λ₀ .tc) Unit :=
  k0_t2_body (F := F) (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_arg6) (Memref.isWhole_whole _) (Memref.whole main_v5) (Memref.isWhole_whole _) (Memref.whole main_v6) (Memref.isWhole_whole _) (Memref.whole main_arg9) (Memref.isWhole_whole _) (Memref.whole main_v7_0) (Memref.isWhole_whole _) (Memref.whole main_v7_1) (Memref.isWhole_whole _) (Memref.whole main_v7_2) (Memref.isWhole_whole _) (Memref.whole main_v7_3) (Memref.isWhole_whole _) (Memref.whole main_v7_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 cc0_scratch29 v620

variable (XW : Buf (Elt F) (wM.view.loc (c : Thread nD τ)))
  (gy : Buf (Elt F) (yM.view.loc (c : Thread nD τ))) (gd : Buf (Elt F) (dM.view.loc (c : Thread nD τ)))
  (yv : ℕ → S40x1024.Idx → Elt F .bf16) (dv : ℕ → S40x1x1024.Idx → Elt F .f32)
  (Zz : Buf (Elt F) (zB.view.loc (c : Thread nD τ))) (Zc : Buf (Elt F) (xcB.view.loc (c : Thread nD τ))) (Zs : Buf (Elt F) (xsRowB.view.loc (c : Thread nD τ)))
  (gz : Buf (Elt F) (zM.view.loc (c : Thread nD τ))) (gc : Buf (Elt F) (xcM.view.loc (c : Thread nD τ))) (gs : Buf (Elt F) (xsM.view.loc (c : Thread nD τ)))

/-- The staging slots of trip `k` after its stores of `wy` and `wd`. -/
abbrev storedY (k : Fin k0_t2_loop.trips) (w : Vec F S1x40x1024 .bf16) (f : Buf (Elt F) (yR.view.loc (c : Thread nD τ))) :=
  (yR.access (Rect.unit (s := S2x40x1024) (k0_off25 k) S1x40x1024.size (k0_off25_inb k))).write (Elt F) f w Finset.univ
abbrev storedD (k : Fin k0_t2_loop.trips) (w : Vec F S1x40x1x1024 .f32) (f : Buf (Elt F) (dR.view.loc (c : Thread nD τ))) :=
  (dR.access (Rect.unit (s := S2x40x1x1024) (k0_off24 k) S1x40x1x1024.size (k0_off24_inb k))).write (Elt F) f w Finset.univ

/-- The stored payloads as the tiles' own shapes. -/
abbrev asY (w : Vec F S1x40x1024 .bf16) : S40x1024.Idx → Elt F .bf16 := fun x => w (Shape.reshapeEquiv squeezes_S1x40x1024_S40x1024.numel_eq x)
abbrev asD (w : Vec F S1x40x1x1024 .f32) : S40x1x1024.Idx → Elt F .f32 := fun x => w (Shape.reshapeEquiv squeezes_S1x40x1x1024_S40x1x1024.numel_eq x)

/-- What is stored to a slot of y is what is read from it. -/
theorem yslot_read (k : Fin k0_t2_loop.trips) (w : Vec F S1x40x1024 .bf16) (f : Buf (Elt F) (yR.view.loc (c : Thread nD τ))) :
    (yslot (Ring.sl 2 k.val)).view.read (Elt F) (storedY c k w f) = asY w := by
  have h := Memref.read_slice_write (Val := Elt F) yR (k0_off25_inb k) (off25_eq k) (yslotOff_inb _) f w
  funext x
  exact congrFun h (Shape.reshapeEquiv squeezes_S1x40x1024_S40x1024.numel_eq x)
/-- What is stored to a slot of d is what is read from it. -/
theorem dslot_read (k : Fin k0_t2_loop.trips) (w : Vec F S1x40x1x1024 .f32) (f : Buf (Elt F) (dR.view.loc (c : Thread nD τ))) :
    (dslot (Ring.sl 2 k.val)).view.read (Elt F) (storedD c k w f) = asD w := by
  have h := Memref.read_slice_write (Val := Elt F) dR (k0_off24_inb k) (off24_eq k) (dslotOff_inb _) f w
  funext x
  exact congrFun h (Shape.reshapeEquiv squeezes_S1x40x1x1024_S40x1x1024.numel_eq x)

/-- What a trip's computation holds: the landed weight block, the staging slots and the buffers it reads. -/
def resC (k : Fin k0_t2_loop.trips) (XB : S5120x1024.Idx → Elt F .fp8e4m3) (fy : Buf (Elt F) (yR.view.loc (c : Thread nD τ))) (fd : Buf (Elt F) (dR.view.loc (c : Thread nD τ))) : sProp 𝕄 :=
  iprop(at_ c (wslot (Ring.sl 8 k.val)) ((wslot (Ring.sl 8 k.val)).view.rep XB) ∗ at_ c uB Xu ∗ resT c Xws Xq Xc Xm Xuz Xus Xt
    ∗ at_ c (yslot (Ring.sl 2 k.val)) fy ∗ at_ c (dslot (Ring.sl 2 k.val)) fd)

set_option backward.proofsInPublic true in
/-- The computation of a trip: the two payloads it stores, found by the run. -/
@[irreducible] def tripC (v620 : FVec F S40x512 .bf16) (k : Fin k0_t2_loop.trips) (XB : S5120x1024.Idx → Elt F .fp8e4m3) :
    Σ' (wy : Vec F S1x40x1024 .bf16) (wd : Vec F S1x40x1x1024 .f32), ∀ (Q : Unit → sProp 𝕄) (P P' : sProp 𝕄)
        (_ : ∀ R, iprop(P ∗ (iprop(P' ∗ at_ c (wslot (Ring.sl 8 k.val)) ((wslot (Ring.sl 8 k.val)).view.rep XB) ∗ at_ c uB Xu ∗ (∃ fy, at_ c (yslot (Ring.sl 2 k.val)) fy) ∗ ∃ fd, at_ c (dslot (Ring.sl 2 k.val)) fd) -∗ R (ret c Xu k))) ⊢ wp frame (wpE (defs₀ (F := F)) 𝒱₀ (c : Thread nD τ) none) Set.univ (part (F := F) k) R),
      iprop(P ∗ resT c Xws Xq Xc Xm Xuz Xus Xt
        ∗ (iprop(P' ∗ ∃ fy fd, resC c Xu Xws Xq Xc Xm Xuz Xus Xt k XB (storedY c k wy fy) (storedD c k wd fd)) -∗ Q PUnit.unit))
      ⊢ wp frame (wpE (defs₀ (F := F)) 𝒱₀ (c : Thread nD τ) none) Set.univ (region2 (F := F) v620 k PUnit.unit) Q := by
  refine ⟨?wy, ?wd, fun Q P P' hp => ?run⟩
  case run =>
    unfold region2 k0_t2_body
    rw [wp_bind]
    unfold resC resT
    iintro ⟨HP, ⟨H19, H25, H27, H29, H33, H34, H37⟩, HQ⟩
    iapply (hp _)
    isplitl [HP]; · iexact HP
    iintro ⟨HP', HS, HU, ⟨%fy, HY⟩, ⟨%fd, HD⟩⟩
    sl_exec
    sl_step
    unfold tripC.sl.HY_w2 tripC.sl.HD_w1
    iapply HQ
    isplitl [HP']; · iexact HP'
    iexists fy; iexists fd
    isplitl [HS]; · iexact HS
    isplitl [HU]; · iexact HU
    isplitl [H19 H25 H27 H29 H33 H34 H37]
    · sl_close
    isplitl [HY]; · iexact HY
    iexact HD

/-- The tile of both results that trip `n` computes. -/
def yT (v620 : FVec F S40x512 .bf16) (n : ℕ) : S40x1024.Idx → Elt F .bf16 :=
  if h : n < k0_t2_loop.trips then asY (tripC c Xu Xws Xq Xc Xm Xuz Xus Xt v620 ⟨n, h⟩ (wval c XW n)).1 else (yslot 0).view.read (Elt F) (yslot 0).view.junk
def dT (v620 : FVec F S40x512 .bf16) (n : ℕ) : S40x1x1024.Idx → Elt F .f32 :=
  if h : n < k0_t2_loop.trips then asD (tripC c Xu Xws Xq Xc Xm Xuz Xus Xt v620 ⟨n, h⟩ (wval c XW n)).2.1 else (dslot 0).view.read (Elt F) (dslot 0).view.junk
/-- The tile of y that a trip stores, named. -/
theorem yT_eq (v620 : FVec F S40x512 .bf16) (k : Fin k0_t2_loop.trips) :
    yT c Xu Xws Xq Xc Xm Xuz Xus Xt XW v620 k.val = asY (tripC c Xu Xws Xq Xc Xm Xuz Xus Xt v620 k (wval c XW k)).1 := by
  unfold yT; exact dif_pos k.isLt
/-- The tile of d that a trip stores, named. -/
theorem dT_eq (v620 : FVec F S40x512 .bf16) (k : Fin k0_t2_loop.trips) :
    dT c Xu Xws Xq Xc Xm Xuz Xus Xt XW v620 k.val = asD (tripC c Xu Xws Xq Xc Xm Xuz Xus Xt v620 k (wval c XW k)).2.1 := by
  unfold dT; exact dif_pos k.isLt

/-- What the loop holds before trip `k`. -/
def inv2 (v620 : FVec F S40x512 .bf16) (k : ℕ) : sProp 𝕄 :=
  iprop(dPre c XW gy gd (yT c Xu Xws Xq Xc Xm Xuz Xus Xt XW v620) (dT c Xu Xws Xq Xc Xm Xuz Xus Xt XW v620) Zz Zc Zs gz gc gs Xu k ∗ resT c Xws Xq Xc Xm Xuz Xus Xt)

/-- Trip `k`'s staging slots filled, the results stand as before trip `k + 1`. -/
theorem yMid_next (k : Fin k0_t2_loop.trips) (wy : Vec F S1x40x1024 .bf16) (wd : Vec F S1x40x1x1024 .f32)
    (fy : Buf (Elt F) (yR.view.loc (c : Thread nD τ))) (fd : Buf (Elt F) (dR.view.loc (c : Thread nD τ)))
    (hy : yv k.val = asY wy) (hd : dv k.val = asD wd) :
    iprop(bigSep (Ring.aheadSet k.val) (tini c gy gd) ∗ bigSep (Ring.behindSet 2 (k.val + 1)) (tfin c yv dv) ∗ sold c gy gd yv dv (k.val + 1)
      ∗ cell c (ysem (Ring.sl 2 k.val)) ∗ cell c (dsem (Ring.sl 2 k.val)) ∗ at_ c (yslot (Ring.sl 2 k.val)) (storedY c k wy fy) ∗ at_ c (dslot (Ring.sl 2 k.val)) (storedD c k wd fd))
    ⊢ yI c gy gd yv dv (k.val + 1) := by
  have e : Ring.sl 2 (k.val + 1 + 1) = Ring.sl 2 k.val := Ring.sl_add 2 k.val
  unfold yI
  rw [snew_late c yv dv (k.val + 1) (by omega)]
  unfold sdone
  rw [e]
  iintro ⟨HA, HB, HS, HCY, HCD, HY, HD⟩
  isplitl [HA]; · iexact HA
  isplitl [HB]; · iexact HB
  isplitl [HS]; · iexact HS
  isplitl [HCY]; · iexact HCY
  isplitl [HCD]; · iexact HCD
  isplitl [HY]
  · iapply (pointsTo_rep_of_read (Val := Elt F) (c : Thread nD τ) (yslot (Ring.sl 2 k.val)) _ fullShare (yv k.val) ((yslot_read c k wy fy).trans hy.symm)); iexact HY
  iapply (pointsTo_rep_of_read (Val := Elt F) (c : Thread nD τ) (dslot (Ring.sl 2 k.val)) _ fullShare (dv k.val) ((dslot_read c k wd fd).trans hd.symm)); iexact HD

/-- One trip of the loop. -/
theorem trip2 (v620 : FVec F S40x512 .bf16) (k : Fin k0_t2_loop.trips) :
    inv2 c Xu Xws Xq Xc Xm Xuz Xus Xt XW gy gd Zz Zc Zs gz gc gs v620 k.val
      ⊢ wp frame (wpE (defs₀ (F := F)) 𝒱₀ (c : Thread nD τ) none) Set.univ (region2 (F := F) v620 k PUnit.unit)
        (fun _ => inv2 c Xu Xws Xq Xc Xm Xuz Xus Xt XW gy gd Zz Zc Zs gz gc gs v620 (k.val + 1)) := by
  unfold inv2
  have hp : ∀ R, iprop(dPre c XW gy gd (yT c Xu Xws Xq Xc Xm Xuz Xus Xt XW v620) (dT c Xu Xws Xq Xc Xm Xuz Xus Xt XW v620) Zz Zc Zs gz gc gs Xu k
      ∗ (iprop((wMid c XW k.val ∗ (bigSep (Ring.aheadSet k.val) (tini c gy gd) ∗ bigSep (Ring.behindSet 2 (k.val + 1)) (tfin c (yT c Xu Xws Xq Xc Xm Xuz Xus Xt XW v620) (dT c Xu Xws Xq Xc Xm Xuz Xus Xt XW v620)) ∗ sold c gy gd (yT c Xu Xws Xq Xc Xm Xuz Xus Xt XW v620) (dT c Xu Xws Xq Xc Xm Xuz Xus Xt XW v620) (k.val + 1)
      ∗ cell c (ysem (Ring.sl 2 k.val)) ∗ cell c (dsem (Ring.sl 2 k.val))) ∗ oFly c Zz Zc Zs gz gc gs ∗ ∃ W, owes (c : Thread nD τ) 0 W)
        ∗ at_ c (wslot (Ring.sl 8 k.val)) ((wslot (Ring.sl 8 k.val)).view.rep (wval c XW k)) ∗ at_ c uB Xu ∗ (∃ fy, at_ c (yslot (Ring.sl 2 k.val)) fy) ∗ ∃ fd, at_ c (dslot (Ring.sl 2 k.val)) fd) -∗ R (ret c Xu k)))
      ⊢ wp frame (wpE (defs₀ (F := F)) 𝒱₀ (c : Thread nD τ) none) Set.univ (part (F := F) k) R := by
    intro R
    iintro ⟨HD, HQ⟩
    iapply (part_all c XW gy gd _ _ Zz Zc Zs gz gc gs Xu k R)
    isplitl [HD]; · iexact HD
    unfold dPost yMid
    iintro ⟨HWM, HS, ⟨HA, HB, HN, HCY, HCD, HY, HD⟩, HO, HU, HOW⟩
    iapply HQ
    isplitl [HWM HA HB HN HCY HCD HO HOW]
    · isplitl [HWM]; · iexact HWM
      isplitl [HA HB HN HCY HCD]
      · isplitl [HA]; · iexact HA
        isplitl [HB]; · iexact HB
        isplitl [HN]; · iexact HN
        isplitl [HCY]; · iexact HCY
        iexact HCD
      isplitl [HO]; · iexact HO
      iexact HOW
    isplitl [HS]; · iexact HS
    isplitl [HU]; · iexact HU
    isplitl [HY]; · iexact HY
    iexact HD
  iintro ⟨HD, HR⟩
  iapply ((tripC c Xu Xws Xq Xc Xm Xuz Xus Xt v620 k (wval c XW k)).2.2 _ _ _ hp)
  isplitl [HD]; · iexact HD
  isplitl [HR]; · iexact HR
  iintro ⟨⟨HWM, ⟨HA, HB, HN, HCY, HCD⟩, HO, HOW⟩, %fy, %fd, HC⟩
  unfold resC dPre
  icases HC with ⟨HS, HU, HR, HY, HDD⟩
  isplitr [HR]
  · isplitl [HWM HS]
    · iapply (wMid_next c XW k.val)
      isplitl [HWM]; · iexact HWM
      iexists _; iexact HS
    isplitl [HA HB HN HCY HCD HY HDD]
    · iapply (yMid_next c gy gd _ _ k _ _ fy fd (yT_eq c Xu Xws Xq Xc Xm Xuz Xus Xt XW v620 k) (dT_eq c Xu Xws Xq Xc Xm Xuz Xus Xt XW v620 k))
      isplitl [HA]; · iexact HA
      isplitl [HB]; · iexact HB
      isplitl [HN]; · iexact HN
      isplitl [HCY]; · iexact HCY
      isplitl [HCD]; · iexact HCD
      isplitl [HY]; · iexact HY
      iexact HDD
    isplitl [HO]
    · unfold oI
      rw [if_neg (show ¬ k.val + 1 = 0 by omega)]
      iexact HO
    isplitl [HU]; · iexact HU
    iexact HOW
  iexact HR

set_option warn.classDefReducibility false in
/-- The loop's invariant. -/
@[sl_loop] def loopInv2 (v620 : FVec F S40x512 .bf16) :
    LoopInvTy_k0_t2 (F := F) Unit ℕ (Pipeline.UD sig nD τ) ℕ 𝒱₀ c none Set.univ (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_arg6) (Memref.isWhole_whole _) (Memref.whole main_v5) (Memref.isWhole_whole _) (Memref.whole main_v6) (Memref.isWhole_whole _) (Memref.whole main_arg9) (Memref.isWhole_whole _) (Memref.whole main_v7_0) (Memref.isWhole_whole _) (Memref.whole main_v7_1) (Memref.isWhole_whole _) (Memref.whole main_v7_2) (Memref.isWhole_whole _) (Memref.whole main_v7_3) (Memref.isWhole_whole _) (Memref.whole main_v7_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 cc0_scratch27 cc0_scratch28 cc0_scratch29 v620 where
  inv k _ := inv2 c Xu Xws Xq Xc Xm Xuz Xus Xt XW gy gd Zz Zc Zs gz gc gs v620 k
  step k _ := trip2 c Xu Xws Xq Xc Xm Xuz Xus Xt XW gy gd Zz Zc Zs gz gc gs v620 k

end

end Cert.Proof.IdealRun

end
-- ==== Proof.IdealBody0.lean ====
/-
  The kernel's body run: the transfers in, the tables, the quantiser, the loop over the contraction, the loop over the
  tiles (`IdealTrip`) and the last writes out.
-/
module

public import proofs.«01_k».proof.Proof.IdealTrip

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev xA : Memref sig .tc .hbm S40x5120 .bf16 := Memref.whole main_v0
abbrev wsA : Memref sig .tc .hbm S1x27648 .f32 := Memref.whole main_v1
abbrev sgA : Memref sig .tc .hbm S1x446 .f32 := Memref.whole main_v2
abbrev vA : Memref sig .tc .hbm S117x5120 .i8 := Memref.whole main_v3
abbrev vsA : Memref sig .tc .hbm S1x446 .f32 := Memref.whole main_v4
abbrev vzA : Memref sig .tc .hbm S446 .i8 := Memref.whole main_arg6
abbrev uA : Memref sig .tc .hbm S117x27648 .i8 := Memref.whole main_v5
abbrev usA : Memref sig .tc .hbm S1x446 .f32 := Memref.whole main_v6
abbrev uzA : Memref sig .tc .hbm S446 .i8 := Memref.whole main_arg9
abbrev sgB : Memref sig .tc .vmem S1x446 .f32 := Memref.whole cc0_scratch5
abbrev vsrB : Memref sig .tc .vmem S1x446 .f32 := Memref.whole cc0_scratch6
abbrev vzrB : Memref sig .tc .vmem S446 .i8 := Memref.whole cc0_scratch7
abbrev usrB : Memref sig .tc .vmem S1x446 .f32 := Memref.whole cc0_scratch8
abbrev uzrB : Memref sig .tc .vmem S446 .i8 := Memref.whole cc0_scratch9
abbrev permB : Memref sig .tc .vmem S512x512 .bf16 := Memref.whole cc0_scratch15
def isem0 : DmaSems sig S_ := (cc0_scratch25.slice (Rect.unit (s := S9) ![0] S1.size inb_S9_S1_0)).squeeze S_ squeezes_S1_S_
def isem1 : DmaSems sig S_ := (cc0_scratch25.slice (Rect.unit (s := S9) ![1] S1.size inb_S9_S1_1)).squeeze S_ squeezes_S1_S_
def isem2 : DmaSems sig S_ := (cc0_scratch25.slice (Rect.unit (s := S9) ![2] S1.size inb_S9_S1_2)).squeeze S_ squeezes_S1_S_
def isem3 : DmaSems sig S_ := (cc0_scratch25.slice (Rect.unit (s := S9) ![3] S1.size inb_S9_S1_3)).squeeze S_ squeezes_S1_S_
def isem4 : DmaSems sig S_ := (cc0_scratch25.slice (Rect.unit (s := S9) ![4] S1.size inb_S9_S1_4)).squeeze S_ squeezes_S1_S_
def isem5 : DmaSems sig S_ := (cc0_scratch25.slice (Rect.unit (s := S9) ![5] S1.size inb_S9_S1_5)).squeeze S_ squeezes_S1_S_
def isem6 : DmaSems sig S_ := (cc0_scratch25.slice (Rect.unit (s := S9) ![6] S1.size inb_S9_S1_6)).squeeze S_ squeezes_S1_S_
def isem7 : DmaSems sig S_ := (cc0_scratch25.slice (Rect.unit (s := S9) ![7] S1.size inb_S9_S1_7)).squeeze S_ squeezes_S1_S_
def isem8 : DmaSems sig S_ := (cc0_scratch25.slice (Rect.unit (s := S9) ![8] S1.size inb_S9_S1_8)).squeeze S_ squeezes_S1_S_
/-- A semaphore of the copies in, as the body names it. -/
@[sl_canon] theorem isemC0 (hh) : (cc0_scratch25.slice (Rect.unit (s := S9) ![0] S1.size hh)).squeeze S_ squeezes_S1_S_ = isem0 := rfl
/-- A semaphore of the copies in, as the body names it. -/
@[sl_canon] theorem isemC1 (hh) : (cc0_scratch25.slice (Rect.unit (s := S9) ![1] S1.size hh)).squeeze S_ squeezes_S1_S_ = isem1 := rfl
/-- A semaphore of the copies in, as the body names it. -/
@[sl_canon] theorem isemC2 (hh) : (cc0_scratch25.slice (Rect.unit (s := S9) ![2] S1.size hh)).squeeze S_ squeezes_S1_S_ = isem2 := rfl
/-- A semaphore of the copies in, as the body names it. -/
@[sl_canon] theorem isemC3 (hh) : (cc0_scratch25.slice (Rect.unit (s := S9) ![3] S1.size hh)).squeeze S_ squeezes_S1_S_ = isem3 := rfl
/-- A semaphore of the copies in, as the body names it. -/
@[sl_canon] theorem isemC4 (hh) : (cc0_scratch25.slice (Rect.unit (s := S9) ![4] S1.size hh)).squeeze S_ squeezes_S1_S_ = isem4 := rfl
/-- A semaphore of the copies in, as the body names it. -/
@[sl_canon] theorem isemC5 (hh) : (cc0_scratch25.slice (Rect.unit (s := S9) ![5] S1.size hh)).squeeze S_ squeezes_S1_S_ = isem5 := rfl
/-- A semaphore of the copies in, as the body names it. -/
@[sl_canon] theorem isemC6 (hh) : (cc0_scratch25.slice (Rect.unit (s := S9) ![6] S1.size hh)).squeeze S_ squeezes_S1_S_ = isem6 := rfl
/-- A semaphore of the copies in, as the body names it. -/
@[sl_canon] theorem isemC7 (hh) : (cc0_scratch25.slice (Rect.unit (s := S9) ![7] S1.size hh)).squeeze S_ squeezes_S1_S_ = isem7 := rfl
/-- A semaphore of the copies in, as the body names it. -/
@[sl_canon] theorem isemC8 (hh) : (cc0_scratch25.slice (Rect.unit (s := S9) ![8] S1.size hh)).squeeze S_ squeezes_S1_S_ = isem8 := rfl

section
variable (c : Dev nD)
  (XW : Buf (Elt F) (wM.view.loc (c : Thread nD τ)))
  (x0 : Buf (Elt F) (xA.view.loc (c : Thread nD τ)))
  (x2 : Buf (Elt F) (wsA.view.loc (c : Thread nD τ)))
  (x3 : Buf (Elt F) (sgA.view.loc (c : Thread nD τ)))
  (x4 : Buf (Elt F) (vA.view.loc (c : Thread nD τ)))
  (x5 : Buf (Elt F) (vsA.view.loc (c : Thread nD τ)))
  (x6 : Buf (Elt F) (vzA.view.loc (c : Thread nD τ)))
  (x7 : Buf (Elt F) (uA.view.loc (c : Thread nD τ)))
  (x8 : Buf (Elt F) (usA.view.loc (c : Thread nD τ)))
  (x9 : Buf (Elt F) (uzA.view.loc (c : Thread nD τ)))
  (gy : Buf (Elt F) (yM.view.loc (c : Thread nD τ))) (gd : Buf (Elt F) (dM.view.loc (c : Thread nD τ)))
  (gz : Buf (Elt F) (zM.view.loc (c : Thread nD τ))) (gc : Buf (Elt F) (xcM.view.loc (c : Thread nD τ))) (gs : Buf (Elt F) (xsM.view.loc (c : Thread nD τ)))

/-- The inputs other than the weights. -/
def resIn : sProp 𝕄 :=
  iprop(at_ c xA x0 ∗ at_ c wsA x2 ∗ at_ c sgA x3 ∗ at_ c vA x4 ∗ at_ c vsA x5 ∗ at_ c vzA x6 ∗ at_ c uA x7 ∗ at_ c usA x8 ∗ at_ c uzA x9)
/-- The scratch buffers other than the rings, at some contents. -/
def resScratch : sProp 𝕄 :=
  iprop((∃ f, at_ c uB f) ∗ (∃ f, at_ c vB f) ∗ (∃ f, at_ c xB f) ∗ (∃ f, at_ c wsB f) ∗ (∃ f, at_ c sgB f) ∗ (∃ f, at_ c vsrB f) ∗ (∃ f, at_ c vzrB f) ∗ (∃ f, at_ c usrB f) ∗ (∃ f, at_ c uzrB f) ∗ (∃ f, at_ c xqB f) ∗ (∃ f, at_ c xcB f) ∗ (∃ f, at_ c xsColB f) ∗ (∃ f, at_ c xsRowB f) ∗ (∃ f, at_ c maskB f) ∗ (∃ f, at_ c permB f) ∗ (∃ f, at_ c vzB f) ∗ (∃ f, at_ c vsB f) ∗ (∃ f, at_ c uzB f) ∗ (∃ f, at_ c usB f) ∗ (∃ f, at_ c accB f) ∗ (∃ f, at_ c zB f) ∗ (∃ f, at_ c tB f))
/-- The semaphores of the transfers in and of the three small results. -/
def resSems : sProp 𝕄 :=
  iprop(cell c isem0 ∗ cell c isem1 ∗ cell c isem2 ∗ cell c isem3 ∗ cell c isem4 ∗ cell c isem5 ∗ cell c isem6 ∗ cell c isem7 ∗ cell c isem8 ∗ cell c osem0 ∗ cell c osem1 ∗ cell c osem2)
/-- The rings idle. -/
def resRings : sProp 𝕄 :=
  iprop(cell c (wsem 0) ∗ (∃ f, at_ c (wslot 0) f) ∗ cell c (wsem 1) ∗ (∃ f, at_ c (wslot 1) f) ∗ cell c (wsem 2) ∗ (∃ f, at_ c (wslot 2) f) ∗ cell c (wsem 3) ∗ (∃ f, at_ c (wslot 3) f) ∗ cell c (wsem 4) ∗ (∃ f, at_ c (wslot 4) f) ∗ cell c (wsem 5) ∗ (∃ f, at_ c (wslot 5) f) ∗ cell c (wsem 6) ∗ (∃ f, at_ c (wslot 6) f) ∗ cell c (wsem 7) ∗ (∃ f, at_ c (wslot 7) f)
    ∗ cell c (ysem 0) ∗ cell c (dsem 0) ∗ (∃ f, at_ c (yslot 0) f) ∗ (∃ f, at_ c (dslot 0) f) ∗ cell c (ysem 1) ∗ cell c (dsem 1) ∗ (∃ f, at_ c (yslot 1) f) ∗ (∃ f, at_ c (dslot 1) f))
/-- The weights' blocks: the first seven apart from the others. -/
def resW : sProp 𝕄 :=
  iprop(whome c XW 0 ∗ whome c XW 1 ∗ whome c XW 2 ∗ whome c XW 3 ∗ whome c XW 4 ∗ whome c XW 5 ∗ whome c XW 6 ∗ bigSep (Ring.homeSet 7 0) (whome c XW))
/-- What the body starts from. -/
def bodyPre : sProp 𝕄 :=
  iprop(resW c XW ∗ resIn c x0 x2 x3 x4 x5 x6 x7 x8 x9 ∗ resScratch c ∗ resSems c ∗ resRings c ∗ bigSep Finset.univ (tini c gy gd)
    ∗ at_ c zM gz ∗ at_ c xcM gc ∗ at_ c xsM gs ∗ ∃ W, owes (c : Thread nD τ) 0 W)

variable (yv : ℕ → S40x1024.Idx → Elt F .bf16) (dv : ℕ → S40x1x1024.Idx → Elt F .f32)
  (Zz : Buf (Elt F) (zB.view.loc (c : Thread nD τ))) (Zc : Buf (Elt F) (xcB.view.loc (c : Thread nD τ))) (Zs : Buf (Elt F) (xsRowB.view.loc (c : Thread nD τ)))

/-- What the body leaves. -/
def bodyPost : sProp 𝕄 :=
  iprop(bigSep Finset.univ (whome c XW) ∗ resIn c x0 x2 x3 x4 x5 x6 x7 x8 x9 ∗ resScratch c ∗ resSems c ∗ resRings c ∗ bigSep Finset.univ (tfin c yv dv)
    ∗ at_ c zM (zM.view.rep (zB.view.read (Elt F) Zz)) ∗ at_ c xcM (xcM.view.rep (xcB.view.read (Elt F) Zc)) ∗ at_ c xsM (xsM.view.rep (xsRowB.view.read (Elt F) Zs)) ∗ ∃ W, owes (c : Thread nD τ) 0 W)

/-- The weight ring before the first trip. -/
theorem wI_zero :
    iprop((∃ g, wfly c XW 0 0 g) ∗ (∃ g, wfly c XW 1 1 g) ∗ (∃ g, wfly c XW 2 2 g) ∗ (∃ g, wfly c XW 3 3 g) ∗ (∃ g, wfly c XW 4 4 g) ∗ (∃ g, wfly c XW 5 5 g) ∗ (∃ g, wfly c XW 6 6 g) ∗ cell c (wsem 7) ∗ (∃ f, at_ c (wslot 7) f) ∗ bigSep (Ring.homeSet 7 0) (whome c XW)) ⊢ wI c XW 0 := by
  unfold wI wnext wrole wfree
  rw [if_pos (show 0 < 27 by omega), if_pos (show 0 + 1 < 27 by omega), if_pos (show 0 + 2 < 27 by omega), if_pos (show 0 + 3 < 27 by omega), if_pos (show 0 + 4 < 27 by omega), if_pos (show 0 + 5 < 27 by omega), if_pos (show 0 + 6 < 27 by omega)]
  iintro ⟨H0, H1, H2, H3, H4, H5, H6, HC, H7, HH⟩
  isplitl [HH]; · iexact HH
  isplitl [H0]; · iexact H0
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HC]; · iexact HC
  iexact H7

/-- The results before the first trip. -/
theorem yI_zero :
    iprop(bigSep Finset.univ (tini c gy gd) ∗ (cell c (ysem 0) ∗ cell c (dsem 0) ∗ (∃ f, at_ c (yslot 0) f) ∗ (∃ f, at_ c (dslot 0) f))
      ∗ (cell c (ysem 1) ∗ cell c (dsem 1) ∗ (∃ f, at_ c (yslot 1) f) ∗ (∃ f, at_ c (dslot 1) f))) ⊢ yI c gy gd yv dv 0 := by
  unfold yI
  rw [sold_early c gy gd yv dv 0 (by omega), snew_early c yv dv 0 rfl, Ring.behindSet_boot 2 0 (by omega), bigSep_empty,
    show (Ring.aheadSet (0 - 1) : Finset (Fin 27)) = Finset.univ from Ring.aheadSet_zero]
  iintro ⟨HA, H0, H1⟩
  isplitl [HA]; · iexact HA
  isplitr; · iempintro
  isplitl [H0]; · iexact H0
  iexact H1

/-- The rings after the last trip. -/
theorem wI_last :
    wI c XW 27 ⊢ iprop(bigSep Finset.univ (whome c XW) ∗ cell c (wsem 0) ∗ (∃ f, at_ c (wslot 0) f) ∗ cell c (wsem 1) ∗ (∃ f, at_ c (wslot 1) f) ∗ cell c (wsem 2) ∗ (∃ f, at_ c (wslot 2) f) ∗ cell c (wsem 3) ∗ (∃ f, at_ c (wslot 3) f) ∗ cell c (wsem 4) ∗ (∃ f, at_ c (wslot 4) f) ∗ cell c (wsem 5) ∗ (∃ f, at_ c (wslot 5) f) ∗ cell c (wsem 6) ∗ (∃ f, at_ c (wslot 6) f) ∗ cell c (wsem 7) ∗ (∃ f, at_ c (wslot 7) f)) := by
  unfold wI wnext wrole wfree
  rw [Ring.homeSet_last 7 27 (by omega), if_neg (show ¬ 27 < 27 by omega), if_neg (show ¬ 27 + 1 < 27 by omega), if_neg (show ¬ 27 + 2 < 27 by omega), if_neg (show ¬ 27 + 3 < 27 by omega), if_neg (show ¬ 27 + 4 < 27 by omega), if_neg (show ¬ 27 + 5 < 27 by omega), if_neg (show ¬ 27 + 6 < 27 by omega)]
  iintro ⟨HH, ⟨HC3, H3⟩, ⟨⟨HC4, H4⟩, ⟨HC5, H5⟩, ⟨HC6, H6⟩, ⟨HC7, H7⟩, ⟨HC0, H0⟩, ⟨HC1, H1⟩⟩, ⟨HC2, H2⟩⟩
  isplitl [HH]; · iexact HH
  isplitl [HC0]; · iexact HC0
  isplitl [H0]; · iexact H0
  isplitl [HC1]; · iexact HC1
  isplitl [H1]; · iexact H1
  isplitl [HC2]; · iexact HC2
  isplitl [H2]; · iexact H2
  isplitl [HC3]; · iexact HC3
  isplitl [H3]; · iexact H3
  isplitl [HC4]; · iexact HC4
  isplitl [H4]; · iexact H4
  isplitl [HC5]; · iexact HC5
  isplitl [H5]; · iexact H5
  isplitl [HC6]; · iexact HC6
  isplitl [H6]; · iexact H6
  isplitl [HC7]; · iexact HC7
  iexact H7

/-- What the last trip leaves, piece by piece: the last tile still to be written, the one in flight, the tiles behind. -/
theorem yI_last :
    yI c gy gd yv dv 27 ⊢ iprop(at_ c (ytile 26) gy ∗ at_ c (dtile 26) gd ∗ bigSep (Ring.behindSet 2 27) (tfin c yv dv)
      ∗ flying c (ysem 1) 2560 (yslot 1) (ytile 25) ((yslot 1).view.rep (yv 25)) gy ∗ flying c (dsem 1) 5120 (dslot 1) (dtile 25) ((dslot 1).view.rep (dv 25)) gd
      ∗ cell c (ysem 0) ∗ cell c (dsem 0) ∗ at_ c (yslot 0) ((yslot 0).view.rep (yv 26)) ∗ at_ c (dslot 0) ((dslot 0).view.rep (dv 26))) := by
  unfold yI
  rw [sold_late c gy gd yv dv 27 (by omega), snew_late c yv dv 27 (by omega), aheads_here c gy gd 27 (by omega) (by omega)]
  iintro ⟨⟨⟨HY, HD⟩, HE⟩, HB, ⟨HFY, HFD⟩, ⟨HCY, HCD, HSY, HSD⟩⟩
  isplitl [HY]; · iexact HY
  isplitl [HD]; · iexact HD
  isplitl [HB]; · iexact HB
  isplitl [HFY]; · iexact HFY
  isplitl [HFD]; · iexact HFD
  isplitl [HCY]; · iexact HCY
  isplitl [HCD]; · iexact HCD
  isplitl [HSY]; · iexact HSY
  iexact HSD

/-- The two last tiles written, every tile is. -/
theorem tiles_all :
    iprop(bigSep (Ring.behindSet 2 27) (tfin c yv dv) ∗ tfin c yv dv 25 ∗ tfin c yv dv 26) ⊢ bigSep Finset.univ (tfin c yv dv) := by
  have e : (Finset.univ : Finset (Fin 27)) = insert 25 (insert 26 (Ring.behindSet 2 27)) := by decide
  have h : bigSep Finset.univ (tfin c yv dv) = iprop(tfin c yv dv 25 ∗ tfin c yv dv 26 ∗ bigSep (Ring.behindSet 2 27) (tfin c yv dv)) := by
    rw [e, bigSep_insert (by decide), bigSep_insert (by decide)]; rfl
  rw [h]
  iintro ⟨HB, H5, H6⟩
  isplitl [H5]; · iexact H5
  isplitl [H6]; · iexact H6
  iexact HB

/-- The tile loop's invariant before its first trip. -/
theorem inv2_zero (Xu : Buf (Elt F) (uB.view.loc (c : Thread nD τ))) (Xws : Buf (Elt F) (wsB.view.loc (c : Thread nD τ)))
    (Xq : Buf (Elt F) (xqB.view.loc (c : Thread nD τ))) (Xc : Buf (Elt F) (xsColB.view.loc (c : Thread nD τ)))
    (Xm : Buf (Elt F) (maskB.view.loc (c : Thread nD τ))) (Xuz : Buf (Elt F) (uzB.view.loc (c : Thread nD τ)))
    (Xus : Buf (Elt F) (usB.view.loc (c : Thread nD τ))) (Xt : Buf (Elt F) (tB.view.loc (c : Thread nD τ))) (v620 : FVec F S40x512 .bf16) (W : Waits sig Unit) :
    iprop(wI c XW 0 ∗ (bigSep Finset.univ (tini c gy gd) ∗ (cell c (ysem 0) ∗ cell c (dsem 0) ∗ (∃ f, at_ c (yslot 0) f) ∗ (∃ f, at_ c (dslot 0) f))
      ∗ (cell c (ysem 1) ∗ cell c (dsem 1) ∗ (∃ f, at_ c (yslot 1) f) ∗ (∃ f, at_ c (dslot 1) f)))
      ∗ (at_ c zB Zz ∗ at_ c xcB Zc ∗ at_ c xsRowB Zs ∗ at_ c zM gz ∗ at_ c xcM gc ∗ at_ c xsM gs ∗ cell c osem0 ∗ cell c osem1 ∗ cell c osem2)
      ∗ at_ c uB Xu ∗ owes (c : Thread nD τ) 0 W ∗ (at_ c wsB Xws ∗ at_ c xqB Xq ∗ at_ c xsColB Xc ∗ at_ c maskB Xm ∗ at_ c uzB Xuz ∗ at_ c usB Xus ∗ at_ c tB Xt))
    ⊢ inv2 c Xu Xws Xq Xc Xm Xuz Xus Xt XW gy gd Zz Zc Zs gz gc gs v620 0 := by
  unfold inv2 dPre resT oI oIdle
  rw [if_pos (rfl : 0 = 0)]
  iintro ⟨HW, HY, HO, HU, HOW, HR⟩
  isplitr [HR]
  · isplitl [HW]; · iexact HW
    isplitl [HY]; · iapply (yI_zero c gy gd _ _); iexact HY
    isplitl [HO]; · iexact HO
    isplitl [HU]; · iexact HU
    iexists W; iexact HOW
  iexact HR

/-- The tile loop's invariant after its last trip. -/
theorem inv2_last (Xu : Buf (Elt F) (uB.view.loc (c : Thread nD τ))) (Xws : Buf (Elt F) (wsB.view.loc (c : Thread nD τ)))
    (Xq : Buf (Elt F) (xqB.view.loc (c : Thread nD τ))) (Xc : Buf (Elt F) (xsColB.view.loc (c : Thread nD τ)))
    (Xm : Buf (Elt F) (maskB.view.loc (c : Thread nD τ))) (Xuz : Buf (Elt F) (uzB.view.loc (c : Thread nD τ)))
    (Xus : Buf (Elt F) (usB.view.loc (c : Thread nD τ))) (Xt : Buf (Elt F) (tB.view.loc (c : Thread nD τ))) (v620 : FVec F S40x512 .bf16) (n : ℕ) (hn : n = 27) :
    inv2 c Xu Xws Xq Xc Xm Xuz Xus Xt XW gy gd Zz Zc Zs gz gc gs v620 n ⊢
    iprop((bigSep Finset.univ (whome c XW) ∗ cell c (wsem 0) ∗ (∃ f, at_ c (wslot 0) f) ∗ cell c (wsem 1) ∗ (∃ f, at_ c (wslot 1) f) ∗ cell c (wsem 2) ∗ (∃ f, at_ c (wslot 2) f) ∗ cell c (wsem 3) ∗ (∃ f, at_ c (wslot 3) f) ∗ cell c (wsem 4) ∗ (∃ f, at_ c (wslot 4) f) ∗ cell c (wsem 5) ∗ (∃ f, at_ c (wslot 5) f) ∗ cell c (wsem 6) ∗ (∃ f, at_ c (wslot 6) f) ∗ cell c (wsem 7) ∗ (∃ f, at_ c (wslot 7) f))
      ∗ (at_ c (ytile 26) gy ∗ at_ c (dtile 26) gd ∗ bigSep (Ring.behindSet 2 27) (tfin c (yT c Xu Xws Xq Xc Xm Xuz Xus Xt XW v620) (dT c Xu Xws Xq Xc Xm Xuz Xus Xt XW v620))
      ∗ flying c (ysem 1) 2560 (yslot 1) (ytile 25) ((yslot 1).view.rep (yT c Xu Xws Xq Xc Xm Xuz Xus Xt XW v620 25)) gy ∗ flying c (dsem 1) 5120 (dslot 1) (dtile 25) ((dslot 1).view.rep (dT c Xu Xws Xq Xc Xm Xuz Xus Xt XW v620 25)) gd
      ∗ cell c (ysem 0) ∗ cell c (dsem 0) ∗ at_ c (yslot 0) ((yslot 0).view.rep (yT c Xu Xws Xq Xc Xm Xuz Xus Xt XW v620 26)) ∗ at_ c (dslot 0) ((dslot 0).view.rep (dT c Xu Xws Xq Xc Xm Xuz Xus Xt XW v620 26)))
      ∗ (flying c osem0 2560 zB zM Zz gz ∗ flying c osem1 10240 xcB xcM Zc gc ∗ flying c osem2 16 xsRowB xsM Zs gs)
      ∗ at_ c uB Xu ∗ (∃ W, owes (c : Thread nD τ) 0 W) ∗ (at_ c wsB Xws ∗ at_ c xqB Xq ∗ at_ c xsColB Xc ∗ at_ c maskB Xm ∗ at_ c uzB Xuz ∗ at_ c usB Xus ∗ at_ c tB Xt)) := by
  subst hn
  unfold inv2 dPre resT oI oFly
  rw [if_neg (show ¬ 27 = 0 by omega)]
  iintro ⟨⟨HW, HY, HO, HU, HOW⟩, HR⟩
  isplitl [HW]; · iapply (wI_last c XW); iexact HW
  isplitl [HY]; · iapply (yI_last c gy gd _ _); iexact HY
  isplitl [HO]; · iexact HO
  isplitl [HU]; · iexact HU
  isplitl [HOW]; · iexact HOW
  iexact HR

end

end Cert.Proof.IdealRun

end
-- ==== Proof.IdealBody.lean ====
/-
  The kernel's body, run whole.
-/
module

public import proofs.«01_k».proof.Proof.IdealBody0

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD)
  (XW : Buf (Elt F) (wM.view.loc (c : Thread nD τ)))
  (x0 : Buf (Elt F) (xA.view.loc (c : Thread nD τ)))
  (x2 : Buf (Elt F) (wsA.view.loc (c : Thread nD τ)))
  (x3 : Buf (Elt F) (sgA.view.loc (c : Thread nD τ)))
  (x4 : Buf (Elt F) (vA.view.loc (c : Thread nD τ)))
  (x5 : Buf (Elt F) (vsA.view.loc (c : Thread nD τ)))
  (x6 : Buf (Elt F) (vzA.view.loc (c : Thread nD τ)))
  (x7 : Buf (Elt F) (uA.view.loc (c : Thread nD τ)))
  (x8 : Buf (Elt F) (usA.view.loc (c : Thread nD τ)))
  (x9 : Buf (Elt F) (uzA.view.loc (c : Thread nD τ)))
  (gy : Buf (Elt F) (yM.view.loc (c : Thread nD τ))) (gd : Buf (Elt F) (dM.view.loc (c : Thread nD τ)))
  (gz : Buf (Elt F) (zM.view.loc (c : Thread nD τ))) (gc : Buf (Elt F) (xcM.view.loc (c : Thread nD τ))) (gs : Buf (Elt F) (xsM.view.loc (c : Thread nD τ)))

set_option maxHeartbeats 4000000 in
set_option backward.proofsInPublic true in
/-- The body's run, and what it leaves in each result. -/
@[irreducible] def bodyRun (t : Fin cfg0.N) :
    Σ' (yv : ℕ → S40x1024.Idx → Elt F .bf16) (dv : ℕ → S40x1x1024.Idx → Elt F .f32)
      (Zz : Buf (Elt F) (zB.view.loc (c : Thread nD τ))) (Zc : Buf (Elt F) (xcB.view.loc (c : Thread nD τ))) (Zs : Buf (Elt F) (xsRowB.view.loc (c : Thread nD τ))), ∀ Q : PUnit → sProp 𝕄,
      iprop(bodyPre c XW x0 x2 x3 x4 x5 x6 x7 x8 x9 gy gd gz gc gs ∗ (bodyPost c XW x0 x2 x3 x4 x5 x6 x7 x8 x9 yv dv Zz Zc Zs -∗ Q PUnit.unit))
        ⊢ wp frame (wpE (defs₀ (F := F)) 𝒱₀ (c : Thread nD τ) none) Set.univ (bodyAt0 (F := F) t) Q := by
  refine ⟨?yv, ?dv, ?Zz, ?Zc, ?Zs, fun Q => ?run⟩
  case run =>
    unfold bodyPre resW resIn resScratch resSems resRings
    iintro ⟨⟨⟨HW0, HW1, HW2, HW3, HW4, HW5, HW6, HWW⟩, ⟨Ix0, Ix2, Ix3, Ix4, Ix5, Ix6, Ix7, Ix8, Ix9⟩, ⟨⟨%fuB, SuB⟩, ⟨%fvB, SvB⟩, ⟨%fxB, SxB⟩, ⟨%fwsB, SwsB⟩, ⟨%fsgB, SsgB⟩, ⟨%fvsrB, SvsrB⟩, ⟨%fvzrB, SvzrB⟩, ⟨%fusrB, SusrB⟩, ⟨%fuzrB, SuzrB⟩, ⟨%fxqB, SxqB⟩, ⟨%fxcB, SxcB⟩, ⟨%fxsColB, SxsColB⟩, ⟨%fxsRowB, SxsRowB⟩, ⟨%fmaskB, SmaskB⟩, ⟨%fpermB, SpermB⟩, ⟨%fvzB, SvzB⟩, ⟨%fvsB, SvsB⟩, ⟨%fuzB, SuzB⟩, ⟨%fusB, SusB⟩, ⟨%faccB, SaccB⟩, ⟨%fzB, SzB⟩, ⟨%ftB, StB⟩⟩, ⟨CI0, CI1, CI2, CI3, CI4, CI5, CI6, CI7, CI8, CO0, CO1, CO2⟩, ⟨CW0, ⟨%fw0, SW0⟩, CW1, ⟨%fw1, SW1⟩, CW2, ⟨%fw2, SW2⟩, CW3, ⟨%fw3, SW3⟩, CW4, ⟨%fw4, SW4⟩, CW5, ⟨%fw5, SW5⟩, CW6, ⟨%fw6, SW6⟩, CW7, ⟨%fw7, SW7⟩, CY0, CD0, ⟨%fy0, SY0⟩, ⟨%fd0, SD0⟩, CY1, CD1, ⟨%fy1, SY1⟩, ⟨%fd1, SD1⟩⟩, HT, HZ, HXC, HXS, %W, HOW⟩, HQ⟩
    unfold bodyAt0
    rw [cc0_delta_come_eq_skeleton]
    sl_exec
    ihave HWI := (wI_zero c XW) $$ [CW0 CW1 CW2 CW3 CW4 CW5 CW6 CW7 SW7 HWW]
    · isplitl [CW0]; · iexists fw0; iexact CW0
      isplitl [CW1]; · iexists fw1; iexact CW1
      isplitl [CW2]; · iexists fw2; iexact CW2
      isplitl [CW3]; · iexists fw3; iexact CW3
      isplitl [CW4]; · iexists fw4; iexact CW4
      isplitl [CW5]; · iexists fw5; iexact CW5
      isplitl [CW6]; · iexists fw6; iexact CW6
      isplitl [CW7]; · iexact CW7
      isplitl [SW7]; · iexists fw7; iexact SW7
      iexact HWW
    ihave HI := (inv2_zero c XW gy gd gz gc gs (zB.view.writes (Elt F) zB.view.junk (bodyRun.sl.SzB_1 c x0 x4 x5 x6 x8 x9)) (xcB.view.writes (Elt F) xcB.view.junk (bodyRun.sl.SxcB_1 c x0)) (xsRowB.view.writes (Elt F) xsRowB.view.junk (bodyRun.sl.SxsRowB_1 c x0)) (uB.view.writes (Elt F) uB.view.junk [⟨Rect.whole S117x27648, bodyRun.sl.dma0_8 c x7⟩]) (wsB.view.writes (Elt F) wsB.view.junk [⟨Rect.whole S1x27648, bodyRun.sl.dma0_9 c x2⟩]) (xqB.view.writes (Elt F) xqB.view.junk (bodyRun.sl.SxqB_1 c x0)) (xsColB.view.writes (Elt F) xsColB.view.junk (bodyRun.sl.SxsColB_1 c x0)) (maskB.view.writes (Elt F) maskB.view.junk bodyRun.sl.SmaskB_14) (uzB.view.writes (Elt F) uzB.view.junk (bodyRun.sl.SuzB_1 c x5 x6 x8 x9)) (usB.view.writes (Elt F) usB.view.junk (bodyRun.sl.SusB_1 c x5 x6 x8 x9)) (tB.view.writes (Elt F) tB.view.junk (bodyRun.sl.StB_1 c x0 x3 x4 x5 x6 x8 x9)) (bodyRun.sl.r_10 c x0 x3 x4 x5 x6 x8 x9) _) $$ [HWI HT CY0 CD0 SY0 SD0 CY1 CD1 SY1 SD1 SzB SxcB SxsRowB HZ HXC HXS CO0 CO1 CO2 SuB HOW SwsB SxqB SxsColB SmaskB SuzB SusB StB]
    · isplitl [HWI]; · iexact HWI
      isplitl [HT CY0 CD0 SY0 SD0 CY1 CD1 SY1 SD1]
      · isplitl [HT]; · iexact HT
        isplitl [CY0 CD0 SY0 SD0]
        · isplitl [CY0]; · iexact CY0
          isplitl [CD0]; · iexact CD0
          isplitl [SY0]; · iexists fy0; iexact SY0
          iexists fd0; iexact SD0
        isplitl [CY1]; · iexact CY1
        isplitl [CD1]; · iexact CD1
        isplitl [SY1]; · iexists fy1; iexact SY1
        iexists fd1; iexact SD1
      isplitl [SzB SxcB SxsRowB HZ HXC HXS CO0 CO1 CO2]
      · isplitl [SzB]; · iexact SzB
        isplitl [SxcB]; · iexact SxcB
        isplitl [SxsRowB]; · iexact SxsRowB
        isplitl [HZ]; · iexact HZ
        isplitl [HXC]; · iexact HXC
        isplitl [HXS]; · iexact HXS
        isplitl [CO0]; · iexact CO0
        isplitl [CO1]; · iexact CO1
        iexact CO2
      isplitl [SuB]; · iexact SuB
      isplitl [HOW]; · iexact HOW
      isplitl [SwsB]; · iexact SwsB
      isplitl [SxqB]; · iexact SxqB
      isplitl [SxsColB]; · iexact SxsColB
      isplitl [SmaskB]; · iexact SmaskB
      isplitl [SuzB]; · iexact SuzB
      isplitl [SusB]; · iexact SusB
      iexact StB
    sl_for (fun k _ => inv2 c (uB.view.writes (Elt F) uB.view.junk [⟨Rect.whole S117x27648, bodyRun.sl.dma0_8 c x7⟩]) (wsB.view.writes (Elt F) wsB.view.junk [⟨Rect.whole S1x27648, bodyRun.sl.dma0_9 c x2⟩]) (xqB.view.writes (Elt F) xqB.view.junk (bodyRun.sl.SxqB_1 c x0)) (xsColB.view.writes (Elt F) xsColB.view.junk (bodyRun.sl.SxsColB_1 c x0)) (maskB.view.writes (Elt F) maskB.view.junk bodyRun.sl.SmaskB_14) (uzB.view.writes (Elt F) uzB.view.junk (bodyRun.sl.SuzB_1 c x5 x6 x8 x9)) (usB.view.writes (Elt F) usB.view.junk (bodyRun.sl.SusB_1 c x5 x6 x8 x9)) (tB.view.writes (Elt F) tB.view.junk (bodyRun.sl.StB_1 c x0 x3 x4 x5 x6 x8 x9)) XW gy gd (zB.view.writes (Elt F) zB.view.junk (bodyRun.sl.SzB_1 c x0 x4 x5 x6 x8 x9)) (xcB.view.writes (Elt F) xcB.view.junk (bodyRun.sl.SxcB_1 c x0)) (xsRowB.view.writes (Elt F) xsRowB.view.junk (bodyRun.sl.SxsRowB_1 c x0)) gz gc gs (bodyRun.sl.r_10 c x0 x3 x4 x5 x6 x8 x9) k) $$ [HI]
    · intro k acc
      unfold bodyRun.sl.prog.body_1
      exact (loopInv2 c (uB.view.writes (Elt F) uB.view.junk [⟨Rect.whole S117x27648, bodyRun.sl.dma0_8 c x7⟩]) (wsB.view.writes (Elt F) wsB.view.junk [⟨Rect.whole S1x27648, bodyRun.sl.dma0_9 c x2⟩]) (xqB.view.writes (Elt F) xqB.view.junk (bodyRun.sl.SxqB_1 c x0)) (xsColB.view.writes (Elt F) xsColB.view.junk (bodyRun.sl.SxsColB_1 c x0)) (maskB.view.writes (Elt F) maskB.view.junk bodyRun.sl.SmaskB_14) (uzB.view.writes (Elt F) uzB.view.junk (bodyRun.sl.SuzB_1 c x5 x6 x8 x9)) (usB.view.writes (Elt F) usB.view.junk (bodyRun.sl.SusB_1 c x5 x6 x8 x9)) (tB.view.writes (Elt F) tB.view.junk (bodyRun.sl.StB_1 c x0 x3 x4 x5 x6 x8 x9)) XW gy gd (zB.view.writes (Elt F) zB.view.junk (bodyRun.sl.SzB_1 c x0 x4 x5 x6 x8 x9)) (xcB.view.writes (Elt F) xcB.view.junk (bodyRun.sl.SxcB_1 c x0)) (xsRowB.view.writes (Elt F) xsRowB.view.junk (bodyRun.sl.SxsRowB_1 c x0)) gz gc gs (bodyRun.sl.r_10 c x0 x3 x4 x5 x6 x8 x9)).step k acc
    · iexact HI
    · iintro %acc HI
      ihave HJ := (inv2_last c XW gy gd gz gc gs (zB.view.writes (Elt F) zB.view.junk (bodyRun.sl.SzB_1 c x0 x4 x5 x6 x8 x9)) (xcB.view.writes (Elt F) xcB.view.junk (bodyRun.sl.SxcB_1 c x0)) (xsRowB.view.writes (Elt F) xsRowB.view.junk (bodyRun.sl.SxsRowB_1 c x0)) (uB.view.writes (Elt F) uB.view.junk [⟨Rect.whole S117x27648, bodyRun.sl.dma0_8 c x7⟩]) (wsB.view.writes (Elt F) wsB.view.junk [⟨Rect.whole S1x27648, bodyRun.sl.dma0_9 c x2⟩]) (xqB.view.writes (Elt F) xqB.view.junk (bodyRun.sl.SxqB_1 c x0)) (xsColB.view.writes (Elt F) xsColB.view.junk (bodyRun.sl.SxsColB_1 c x0)) (maskB.view.writes (Elt F) maskB.view.junk bodyRun.sl.SmaskB_14) (uzB.view.writes (Elt F) uzB.view.junk (bodyRun.sl.SuzB_1 c x5 x6 x8 x9)) (usB.view.writes (Elt F) usB.view.junk (bodyRun.sl.SusB_1 c x5 x6 x8 x9)) (tB.view.writes (Elt F) tB.view.junk (bodyRun.sl.StB_1 c x0 x3 x4 x5 x6 x8 x9)) (bodyRun.sl.r_10 c x0 x3 x4 x5 x6 x8 x9) _ trips2) $$ [HI]
      · iexact HI
      icases HJ with ⟨⟨HWW, CW0, SW0, CW1, SW1, CW2, SW2, CW3, SW3, CW4, SW4, CW5, SW5, CW6, SW6, CW7, SW7⟩, ⟨TY, TD, HB, FY1, FD1, CY0, CD0, SY0, SD0⟩, ⟨FZ, FC, FS⟩, SuB, ⟨%W2, HOW⟩, ⟨SwsB, SxqB, SxsColB, SmaskB, SuzB, SusB, StB⟩⟩
      sl_exec
      sl_step
      iapply HQ
      unfold bodyPost resIn resScratch resSems resRings
      isplitl [HWW]; · iexact HWW
      isplitl [Ix0 Ix2 Ix3 Ix4 Ix5 Ix6 Ix7 Ix8 Ix9]
      · isplitl [Ix0]; · iexact Ix0
        isplitl [Ix2]; · iexact Ix2
        isplitl [Ix3]; · iexact Ix3
        isplitl [Ix4]; · iexact Ix4
        isplitl [Ix5]; · iexact Ix5
        isplitl [Ix6]; · iexact Ix6
        isplitl [Ix7]; · iexact Ix7
        isplitl [Ix8]; · iexact Ix8
        iexact Ix9
      isplitl [SuB SvB SxB SwsB SsgB SvsrB SvzrB SusrB SuzrB SxqB FC_src SxsColB FS_src SmaskB SpermB SvzB SvsB SuzB SusB SaccB FZ_src StB]
      · isplitl [SuB]; · iexists _; iexact SuB
        isplitl [SvB]; · iexists _; iexact SvB
        isplitl [SxB]; · iexists _; iexact SxB
        isplitl [SwsB]; · iexists _; iexact SwsB
        isplitl [SsgB]; · iexists _; iexact SsgB
        isplitl [SvsrB]; · iexists _; iexact SvsrB
        isplitl [SvzrB]; · iexists _; iexact SvzrB
        isplitl [SusrB]; · iexists _; iexact SusrB
        isplitl [SuzrB]; · iexists _; iexact SuzrB
        isplitl [SxqB]; · iexists _; iexact SxqB
        isplitl [FC_src]; · iexists _; iexact FC_src
        isplitl [SxsColB]; · iexists _; iexact SxsColB
        isplitl [FS_src]; · iexists _; iexact FS_src
        isplitl [SmaskB]; · iexists _; iexact SmaskB
        isplitl [SpermB]; · iexists _; iexact SpermB
        isplitl [SvzB]; · iexists _; iexact SvzB
        isplitl [SvsB]; · iexists _; iexact SvsB
        isplitl [SuzB]; · iexists _; iexact SuzB
        isplitl [SusB]; · iexists _; iexact SusB
        isplitl [SaccB]; · iexists _; iexact SaccB
        isplitl [FZ_src]; · iexists _; iexact FZ_src
        iexists _; iexact StB
      isplitl [CI0 CI1 CI2 CI3 CI4 CI5 CI6 CI7 CI8 FZ FC FS]
      · isplitl [CI0]; · iexact CI0
        isplitl [CI1]; · iexact CI1
        isplitl [CI2]; · iexact CI2
        isplitl [CI3]; · iexact CI3
        isplitl [CI4]; · iexact CI4
        isplitl [CI5]; · iexact CI5
        isplitl [CI6]; · iexact CI6
        isplitl [CI7]; · iexact CI7
        isplitl [CI8]; · iexact CI8
        isplitl [FZ]; · iexact FZ
        isplitl [FC]; · iexact FC
        iexact FS
      isplitl [CW0 SW0 CW1 SW1 CW2 SW2 CW3 SW3 CW4 SW4 CW5 SW5 CW6 SW6 CW7 SW7 CY0 CD0 SY0 SD0 FY1 FD1 FY1_src FD1_src]
      · isplitl [CW0]; · iexact CW0
        isplitl [SW0]; · iexact SW0
        isplitl [CW1]; · iexact CW1
        isplitl [SW1]; · iexact SW1
        isplitl [CW2]; · iexact CW2
        isplitl [SW2]; · iexact SW2
        isplitl [CW3]; · iexact CW3
        isplitl [SW3]; · iexact SW3
        isplitl [CW4]; · iexact CW4
        isplitl [SW4]; · iexact SW4
        isplitl [CW5]; · iexact CW5
        isplitl [SW5]; · iexact SW5
        isplitl [CW6]; · iexact CW6
        isplitl [SW6]; · iexact SW6
        isplitl [CW7]; · iexact CW7
        isplitl [SW7]; · iexact SW7
        isplitl [CY0]; · iexact CY0
        isplitl [CD0]; · iexact CD0
        isplitl [SY0]; · iexists _; iexact SY0
        isplitl [SD0]; · iexists _; iexact SD0
        isplitl [FY1]; · iexact FY1
        isplitl [FD1]; · iexact FD1
        isplitl [FY1_src]; · iexists _; iexact FY1_src
        iexists _; iexact FD1_src
      isplitl [HB FY1_dst FD1_dst TY TD]
      · iapply (tiles_all c (yT c (uB.view.writes (Elt F) uB.view.junk [⟨Rect.whole S117x27648, bodyRun.sl.dma0_8 c x7⟩]) (wsB.view.writes (Elt F) wsB.view.junk [⟨Rect.whole S1x27648, bodyRun.sl.dma0_9 c x2⟩]) (xqB.view.writes (Elt F) xqB.view.junk (bodyRun.sl.SxqB_1 c x0)) (xsColB.view.writes (Elt F) xsColB.view.junk (bodyRun.sl.SxsColB_1 c x0)) (maskB.view.writes (Elt F) maskB.view.junk bodyRun.sl.SmaskB_14) (uzB.view.writes (Elt F) uzB.view.junk (bodyRun.sl.SuzB_1 c x5 x6 x8 x9)) (usB.view.writes (Elt F) usB.view.junk (bodyRun.sl.SusB_1 c x5 x6 x8 x9)) (tB.view.writes (Elt F) tB.view.junk (bodyRun.sl.StB_1 c x0 x3 x4 x5 x6 x8 x9)) XW (bodyRun.sl.r_10 c x0 x3 x4 x5 x6 x8 x9)) (dT c (uB.view.writes (Elt F) uB.view.junk [⟨Rect.whole S117x27648, bodyRun.sl.dma0_8 c x7⟩]) (wsB.view.writes (Elt F) wsB.view.junk [⟨Rect.whole S1x27648, bodyRun.sl.dma0_9 c x2⟩]) (xqB.view.writes (Elt F) xqB.view.junk (bodyRun.sl.SxqB_1 c x0)) (xsColB.view.writes (Elt F) xsColB.view.junk (bodyRun.sl.SxsColB_1 c x0)) (maskB.view.writes (Elt F) maskB.view.junk bodyRun.sl.SmaskB_14) (uzB.view.writes (Elt F) uzB.view.junk (bodyRun.sl.SuzB_1 c x5 x6 x8 x9)) (usB.view.writes (Elt F) usB.view.junk (bodyRun.sl.SusB_1 c x5 x6 x8 x9)) (tB.view.writes (Elt F) tB.view.junk (bodyRun.sl.StB_1 c x0 x3 x4 x5 x6 x8 x9)) XW (bodyRun.sl.r_10 c x0 x3 x4 x5 x6 x8 x9)))
        isplitl [HB]; · iexact HB
        isplitl [FY1_dst FD1_dst]
        · isplitl [FY1_dst]; · iapply (landed c _ _ _ _ _ (View.read_rep _ _)); iexact FY1_dst
          iapply (landed c _ _ _ _ _ (View.read_rep _ _)); iexact FD1_dst
        unfold bodyRun.sl.dma0_16 bodyRun.sl.dma0_17
        isplitl [TY]; · iapply (landed c _ _ _ _ _ (View.read_rep _ _)); iexact TY
        iapply (landed c _ _ _ _ _ (View.read_rep _ _)); iexact TD
      isplitl [FZ_dst]; · iapply (landed c _ _ _ _ _ rfl); iexact FZ_dst
      isplitl [FC_dst]; · iapply (landed c _ _ _ _ _ rfl); iexact FC_dst
      isplitl [FS_dst]; · iapply (landed c _ _ _ _ _ rfl); iexact FS_dst
      iexists _; iexact HOW

end

end Cert.Proof.IdealRun

end
-- ==== Proof.IdealSets.lean ====
/-
  The buffers cut into the blocks and slots the body's run (`IdealBody`) names, and joined again.
-/
module

public import proofs.«01_k».proof.Proof.IdealBody
public import proofs.«01_k».proof.Proof.Gen.KernelIdeal.Frame

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Element sets of the blocks -/

/-- Two blocks told apart by a number share no element. -/
theorem fam_disjoint {X B : Type} [DecidableEq X] {I : B → Finset X} (φ : X → B) (h : ∀ b y, y ∈ I b ↔ φ y = b) :
    ∀ b b', b ≠ b' → Disjoint (I b) (I b') := by
  intro b b' hne; rw [Finset.disjoint_left]; intro y hy hy'
  exact hne (((h b y).mp hy).symm.trans ((h b' y).mp hy'))
/-- Blocks told apart by a number cover everything. -/
theorem fam_cover {X B : Type} [Fintype X] [DecidableEq X] [Fintype B] {I : B → Finset X} (φ : X → B) (h : ∀ b y, y ∈ I b ↔ φ y = b) :
    (Finset.univ : Finset B).biUnion I = Finset.univ := by
  ext y; simp only [Finset.mem_biUnion, Finset.mem_univ, true_and, iff_true]; exact ⟨φ y, (h _ y).mpr rfl⟩

abbrev Iw (b : Fin 27) : Finset S5120x27648.Idx := (Rect.unit (s := S5120x27648) (wblkOff b) S5120x1024.size (wblkOff_inb b)).set
/-- The block an element lies in. -/
def Nw (y : S5120x27648.Idx) : Fin 27 := ⟨(y 1).val / 1024, by have h : (y 1).val < 27648 := (y 1).isLt; omega⟩
/-- An index lies in a block exactly if the block is its own. -/
theorem mem_Iw (b : Fin 27) (y : S5120x27648.Idx) : y ∈ Iw b ↔ Nw y = b := by
  rw [Rect.mem_set_unit, Fin.ext_iff]
  have h0 : (y 0).val < 5120 := (y 0).isLt
  have h1 : (y 1).val < 27648 := (y 1).isLt
  unfold Nw
  constructor
  · intro H; have a0 : 1024 * b.val ≤ (y 1).val ∧ (y 1).val < 1024 * b.val + 1024 := H 1; show (y 1).val / 1024 = b.val; omega
  · intro H i; replace H : (y 1).val / 1024 = b.val := H; fin_cases i
    · show 0 ≤ (y 0).val ∧ (y 0).val < 0 + 5120; omega
    · show 1024 * b.val ≤ (y 1).val ∧ (y 1).val < 1024 * b.val + 1024; omega
/-- The entries of this block or slot. -/
theorem wblk_set (b : Fin 27) : (wblk b).view.set = Iw b := View.set_slice_whole _ _
/-- Owning this block or slot is owning its entries of the whole buffer. -/
theorem wblk_at (c : Dev nD) (b : Fin 27) (f : Buf (Elt F) (wM.view.loc (c : Thread nD τ))) :
    (at_ c (wblk b) f : sProp 𝕄) = (((c : Thread nD τ).loc main_arg1) ↦[Iw b]{fullShare} f) :=
  congrArg (fun S => (((c : Thread nD τ).loc main_arg1) ↦[S]{fullShare} f : sProp 𝕄)) (wblk_set b)
/-- The whole buffer is its blocks. -/
theorem wblk_blocks (c : Dev nD) (f : Buf (Elt F) (wM.view.loc (c : Thread nD τ))) :
    ((((c : Thread nD τ).loc main_arg1) ↦{fullShare} f : sProp 𝕄)) = bigSep Finset.univ fun b => at_ c (wblk b) f := by
  rw [Ring.pointsTo_blocks (ℓ := (c : Thread nD τ).loc main_arg1) Iw (fam_disjoint Nw mem_Iw) (fam_cover Nw mem_Iw)]
  exact bigSep_congr fun b _ => (wblk_at c b f).symm

abbrev Iy (b : Fin 27) : Finset S40x27648.Idx := (Rect.unit (s := S40x27648) (wblkOff b) S40x1024.size (ytileOff_inb b)).set
/-- The block an element lies in. -/
def Ny (y : S40x27648.Idx) : Fin 27 := ⟨(y 1).val / 1024, by have h : (y 1).val < 27648 := (y 1).isLt; omega⟩
/-- An index lies in a block exactly if the block is its own. -/
theorem mem_Iy (b : Fin 27) (y : S40x27648.Idx) : y ∈ Iy b ↔ Ny y = b := by
  rw [Rect.mem_set_unit, Fin.ext_iff]
  have h0 : (y 0).val < 40 := (y 0).isLt
  have h1 : (y 1).val < 27648 := (y 1).isLt
  unfold Ny
  constructor
  · intro H; have a0 : 1024 * b.val ≤ (y 1).val ∧ (y 1).val < 1024 * b.val + 1024 := H 1; show (y 1).val / 1024 = b.val; omega
  · intro H i; replace H : (y 1).val / 1024 = b.val := H; fin_cases i
    · show 0 ≤ (y 0).val ∧ (y 0).val < 0 + 40; omega
    · show 1024 * b.val ≤ (y 1).val ∧ (y 1).val < 1024 * b.val + 1024; omega
/-- The entries of this block or slot. -/
theorem ytile_set (b : Fin 27) : (ytile b).view.set = Iy b := View.set_slice_whole _ _
/-- Owning this block or slot is owning its entries of the whole buffer. -/
theorem ytile_at (c : Dev nD) (b : Fin 27) (f : Buf (Elt F) (yM.view.loc (c : Thread nD τ))) :
    (at_ c (ytile b) f : sProp 𝕄) = (((c : Thread nD τ).loc main_v7_0) ↦[Iy b]{fullShare} f) :=
  congrArg (fun S => (((c : Thread nD τ).loc main_v7_0) ↦[S]{fullShare} f : sProp 𝕄)) (ytile_set b)
/-- The whole buffer is its blocks. -/
theorem ytile_blocks (c : Dev nD) (f : Buf (Elt F) (yM.view.loc (c : Thread nD τ))) :
    ((((c : Thread nD τ).loc main_v7_0) ↦{fullShare} f : sProp 𝕄)) = bigSep Finset.univ fun b => at_ c (ytile b) f := by
  rw [Ring.pointsTo_blocks (ℓ := (c : Thread nD τ).loc main_v7_0) Iy (fam_disjoint Ny mem_Iy) (fam_cover Ny mem_Iy)]
  exact bigSep_congr fun b _ => (ytile_at c b f).symm

abbrev Id (b : Fin 27) : Finset S40x1x27648.Idx := (Rect.unit (s := S40x1x27648) (dtileOff b) S40x1x1024.size (dtileOff_inb b)).set
/-- The block an element lies in. -/
def Nd (y : S40x1x27648.Idx) : Fin 27 := ⟨(y 2).val / 1024, by have h : (y 2).val < 27648 := (y 2).isLt; omega⟩
/-- An index lies in a block exactly if the block is its own. -/
theorem mem_Id (b : Fin 27) (y : S40x1x27648.Idx) : y ∈ Id b ↔ Nd y = b := by
  rw [Rect.mem_set_unit, Fin.ext_iff]
  have h0 : (y 0).val < 40 := (y 0).isLt
  have h1 : (y 1).val < 1 := (y 1).isLt
  have h2 : (y 2).val < 27648 := (y 2).isLt
  unfold Nd
  constructor
  · intro H; have a0 : 1024 * b.val ≤ (y 2).val ∧ (y 2).val < 1024 * b.val + 1024 := H 2; show (y 2).val / 1024 = b.val; omega
  · intro H i; replace H : (y 2).val / 1024 = b.val := H; fin_cases i
    · show 0 ≤ (y 0).val ∧ (y 0).val < 0 + 40; omega
    · show 0 ≤ (y 1).val ∧ (y 1).val < 0 + 1; omega
    · show 1024 * b.val ≤ (y 2).val ∧ (y 2).val < 1024 * b.val + 1024; omega
/-- The entries of this block or slot. -/
theorem dtile_set (b : Fin 27) : (dtile b).view.set = Id b := View.set_slice_whole _ _
/-- Owning this block or slot is owning its entries of the whole buffer. -/
theorem dtile_at (c : Dev nD) (b : Fin 27) (f : Buf (Elt F) (dM.view.loc (c : Thread nD τ))) :
    (at_ c (dtile b) f : sProp 𝕄) = (((c : Thread nD τ).loc main_v7_1) ↦[Id b]{fullShare} f) :=
  congrArg (fun S => (((c : Thread nD τ).loc main_v7_1) ↦[S]{fullShare} f : sProp 𝕄)) (dtile_set b)
/-- The whole buffer is its blocks. -/
theorem dtile_blocks (c : Dev nD) (f : Buf (Elt F) (dM.view.loc (c : Thread nD τ))) :
    ((((c : Thread nD τ).loc main_v7_1) ↦{fullShare} f : sProp 𝕄)) = bigSep Finset.univ fun b => at_ c (dtile b) f := by
  rw [Ring.pointsTo_blocks (ℓ := (c : Thread nD τ).loc main_v7_1) Id (fam_disjoint Nd mem_Id) (fam_cover Nd mem_Id)]
  exact bigSep_congr fun b _ => (dtile_at c b f).symm

abbrev Iws (b : Fin 8) : Finset S8x5120x1024.Idx := (Rect.unit (s := S8x5120x1024) (wslotOff b) S1x5120x1024.size (wslotOff_inb b)).set
/-- The slot an element lies in. -/
def Nws (y : S8x5120x1024.Idx) : Fin 8 := ⟨(y 0).val, (y 0).isLt⟩
/-- An index lies in a block exactly if the block is its own. -/
theorem mem_Iws (b : Fin 8) (y : S8x5120x1024.Idx) : y ∈ Iws b ↔ Nws y = b := by
  rw [Rect.mem_set_unit, Fin.ext_iff]
  have h0 : (y 0).val < 8 := (y 0).isLt
  have h1 : (y 1).val < 5120 := (y 1).isLt
  have h2 : (y 2).val < 1024 := (y 2).isLt
  unfold Nws
  constructor
  · intro H; have a0 : b.val ≤ (y 0).val ∧ (y 0).val < b.val + 1 := H 0; show (y 0).val = b.val; omega
  · intro H i; replace H : (y 0).val = b.val := H; fin_cases i
    · show b.val ≤ (y 0).val ∧ (y 0).val < b.val + 1; omega
    · show 0 ≤ (y 1).val ∧ (y 1).val < 0 + 5120; omega
    · show 0 ≤ (y 2).val ∧ (y 2).val < 0 + 1024; omega
/-- The entries of this block or slot. -/
theorem wslot_set (b : Fin 8) : (wslot b).view.set = Iws b := (View.set_reshape _ _).trans (View.set_slice_whole _ _)
/-- Owning this block or slot is owning its entries of the whole buffer. -/
theorem wslot_at (c : Dev nD) (b : Fin 8) (f : Buf (Elt F) (wR.view.loc (c : Thread nD τ))) :
    (at_ c (wslot b) f : sProp 𝕄) = (((c : Thread nD τ).loc cc0_scratch0) ↦[Iws b]{fullShare} f) :=
  congrArg (fun S => (((c : Thread nD τ).loc cc0_scratch0) ↦[S]{fullShare} f : sProp 𝕄)) (wslot_set b)
/-- The whole buffer is its blocks. -/
theorem wslot_blocks (c : Dev nD) (f : Buf (Elt F) (wR.view.loc (c : Thread nD τ))) :
    ((((c : Thread nD τ).loc cc0_scratch0) ↦{fullShare} f : sProp 𝕄)) = bigSep Finset.univ fun b => at_ c (wslot b) f := by
  rw [Ring.pointsTo_blocks (ℓ := (c : Thread nD τ).loc cc0_scratch0) Iws (fam_disjoint Nws mem_Iws) (fam_cover Nws mem_Iws)]
  exact bigSep_congr fun b _ => (wslot_at c b f).symm

abbrev Iys (b : Fin 2) : Finset S2x40x1024.Idx := (Rect.unit (s := S2x40x1024) (yslotOff b) S1x40x1024.size (yslotOff_inb b)).set
/-- The slot an element lies in. -/
def Nys (y : S2x40x1024.Idx) : Fin 2 := ⟨(y 0).val, (y 0).isLt⟩
/-- An index lies in a block exactly if the block is its own. -/
theorem mem_Iys (b : Fin 2) (y : S2x40x1024.Idx) : y ∈ Iys b ↔ Nys y = b := by
  rw [Rect.mem_set_unit, Fin.ext_iff]
  have h0 : (y 0).val < 2 := (y 0).isLt
  have h1 : (y 1).val < 40 := (y 1).isLt
  have h2 : (y 2).val < 1024 := (y 2).isLt
  unfold Nys
  constructor
  · intro H; have a0 : b.val ≤ (y 0).val ∧ (y 0).val < b.val + 1 := H 0; show (y 0).val = b.val; omega
  · intro H i; replace H : (y 0).val = b.val := H; fin_cases i
    · show b.val ≤ (y 0).val ∧ (y 0).val < b.val + 1; omega
    · show 0 ≤ (y 1).val ∧ (y 1).val < 0 + 40; omega
    · show 0 ≤ (y 2).val ∧ (y 2).val < 0 + 1024; omega
/-- The entries of this block or slot. -/
theorem yslot_set (b : Fin 2) : (yslot b).view.set = Iys b := (View.set_reshape _ _).trans (View.set_slice_whole _ _)
/-- Owning this block or slot is owning its entries of the whole buffer. -/
theorem yslot_at (c : Dev nD) (b : Fin 2) (f : Buf (Elt F) (yR.view.loc (c : Thread nD τ))) :
    (at_ c (yslot b) f : sProp 𝕄) = (((c : Thread nD τ).loc cc0_scratch23) ↦[Iys b]{fullShare} f) :=
  congrArg (fun S => (((c : Thread nD τ).loc cc0_scratch23) ↦[S]{fullShare} f : sProp 𝕄)) (yslot_set b)
/-- The whole buffer is its blocks. -/
theorem yslot_blocks (c : Dev nD) (f : Buf (Elt F) (yR.view.loc (c : Thread nD τ))) :
    ((((c : Thread nD τ).loc cc0_scratch23) ↦{fullShare} f : sProp 𝕄)) = bigSep Finset.univ fun b => at_ c (yslot b) f := by
  rw [Ring.pointsTo_blocks (ℓ := (c : Thread nD τ).loc cc0_scratch23) Iys (fam_disjoint Nys mem_Iys) (fam_cover Nys mem_Iys)]
  exact bigSep_congr fun b _ => (yslot_at c b f).symm

abbrev Ids (b : Fin 2) : Finset S2x40x1x1024.Idx := (Rect.unit (s := S2x40x1x1024) (dslotOff b) S1x40x1x1024.size (dslotOff_inb b)).set
/-- The slot an element lies in. -/
def Nds (y : S2x40x1x1024.Idx) : Fin 2 := ⟨(y 0).val, (y 0).isLt⟩
/-- An index lies in a block exactly if the block is its own. -/
theorem mem_Ids (b : Fin 2) (y : S2x40x1x1024.Idx) : y ∈ Ids b ↔ Nds y = b := by
  rw [Rect.mem_set_unit, Fin.ext_iff]
  have h0 : (y 0).val < 2 := (y 0).isLt
  have h1 : (y 1).val < 40 := (y 1).isLt
  have h2 : (y 2).val < 1 := (y 2).isLt
  have h3 : (y 3).val < 1024 := (y 3).isLt
  unfold Nds
  constructor
  · intro H; have a0 : b.val ≤ (y 0).val ∧ (y 0).val < b.val + 1 := H 0; show (y 0).val = b.val; omega
  · intro H i; replace H : (y 0).val = b.val := H; fin_cases i
    · show b.val ≤ (y 0).val ∧ (y 0).val < b.val + 1; omega
    · show 0 ≤ (y 1).val ∧ (y 1).val < 0 + 40; omega
    · show 0 ≤ (y 2).val ∧ (y 2).val < 0 + 1; omega
    · show 0 ≤ (y 3).val ∧ (y 3).val < 0 + 1024; omega
/-- The entries of this block or slot. -/
theorem dslot_set (b : Fin 2) : (dslot b).view.set = Ids b := (View.set_reshape _ _).trans (View.set_slice_whole _ _)
/-- Owning this block or slot is owning its entries of the whole buffer. -/
theorem dslot_at (c : Dev nD) (b : Fin 2) (f : Buf (Elt F) (dR.view.loc (c : Thread nD τ))) :
    (at_ c (dslot b) f : sProp 𝕄) = (((c : Thread nD τ).loc cc0_scratch24) ↦[Ids b]{fullShare} f) :=
  congrArg (fun S => (((c : Thread nD τ).loc cc0_scratch24) ↦[S]{fullShare} f : sProp 𝕄)) (dslot_set b)
/-- The whole buffer is its blocks. -/
theorem dslot_blocks (c : Dev nD) (f : Buf (Elt F) (dR.view.loc (c : Thread nD τ))) :
    ((((c : Thread nD τ).loc cc0_scratch24) ↦{fullShare} f : sProp 𝕄)) = bigSep Finset.univ fun b => at_ c (dslot b) f := by
  rw [Ring.pointsTo_blocks (ℓ := (c : Thread nD τ).loc cc0_scratch24) Ids (fam_disjoint Nds mem_Ids) (fam_cover Nds mem_Ids)]
  exact bigSep_congr fun b _ => (dslot_at c b f).symm

/-! ## The rings -/

/-- Eight assertions, one by one. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ
/-- The ring whole is its slots, -/
theorem wslot_split (c : Dev nD) :
    (iprop(∃ f : Buf (Elt F) ((c : Thread nD τ).loc cc0_scratch0), ((c : Thread nD τ).loc cc0_scratch0) ↦{fullShare} f) : sProp 𝕄)
      ⊢ iprop((∃ f, at_ c (wslot 0) f) ∗ (∃ f, at_ c (wslot 1) f) ∗ (∃ f, at_ c (wslot 2) f) ∗ (∃ f, at_ c (wslot 3) f) ∗ (∃ f, at_ c (wslot 4) f) ∗ (∃ f, at_ c (wslot 5) f) ∗ (∃ f, at_ c (wslot 6) f) ∗ (∃ f, at_ c (wslot 7) f)) := by
  iintro ⟨%f, H⟩
  ihave H2 := (ent_of_eq ((wslot_blocks c f).trans (bigSep_fin8 _))) $$ [H]
  · iexact H
  icases H2 with ⟨G0, G1, G2, G3, G4, G5, G6, G7⟩
  isplitl [G0]; · iexists f; iexact G0
  isplitl [G1]; · iexists f; iexact G1
  isplitl [G2]; · iexists f; iexact G2
  isplitl [G3]; · iexists f; iexact G3
  isplitl [G4]; · iexists f; iexact G4
  isplitl [G5]; · iexists f; iexact G5
  isplitl [G6]; · iexists f; iexact G6
  iexists f; iexact G7
/-- and back. -/
theorem wslot_join (c : Dev nD) :
    iprop((∃ f, at_ c (wslot 0) f) ∗ (∃ f, at_ c (wslot 1) f) ∗ (∃ f, at_ c (wslot 2) f) ∗ (∃ f, at_ c (wslot 3) f) ∗ (∃ f, at_ c (wslot 4) f) ∗ (∃ f, at_ c (wslot 5) f) ∗ (∃ f, at_ c (wslot 6) f) ∗ (∃ f, at_ c (wslot 7) f))
      ⊢ (iprop(∃ f : Buf (Elt F) ((c : Thread nD τ).loc cc0_scratch0), ((c : Thread nD τ).loc cc0_scratch0) ↦{fullShare} f) : sProp 𝕄) := by
  iintro ⟨⟨%f0, G0⟩, ⟨%f1, G1⟩, ⟨%f2, G2⟩, ⟨%f3, G3⟩, ⟨%f4, G4⟩, ⟨%f5, G5⟩, ⟨%f6, G6⟩, ⟨%f7, G7⟩⟩
  iapply (Ring.pointsTo_blocks_join_exists (ℓ := (c : Thread nD τ).loc cc0_scratch0) Iws (fam_disjoint Nws mem_Iws) (fam_cover Nws mem_Iws) f0)
  irw [bigSep_fin8]
  isplitl [G0]
  · iexists f0; iapply (ent_of_eq (wslot_at c 0 f0)); iexact G0
  isplitl [G1]
  · iexists f1; iapply (ent_of_eq (wslot_at c 1 f1)); iexact G1
  isplitl [G2]
  · iexists f2; iapply (ent_of_eq (wslot_at c 2 f2)); iexact G2
  isplitl [G3]
  · iexists f3; iapply (ent_of_eq (wslot_at c 3 f3)); iexact G3
  isplitl [G4]
  · iexists f4; iapply (ent_of_eq (wslot_at c 4 f4)); iexact G4
  isplitl [G5]
  · iexists f5; iapply (ent_of_eq (wslot_at c 5 f5)); iexact G5
  isplitl [G6]
  · iexists f6; iapply (ent_of_eq (wslot_at c 6 f6)); iexact G6
  iexists f7; iapply (ent_of_eq (wslot_at c 7 f7)); iexact G7
/-- Two assertions, one by one. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
/-- The ring whole is its slots, -/
theorem yslot_split (c : Dev nD) :
    (iprop(∃ f : Buf (Elt F) ((c : Thread nD τ).loc cc0_scratch23), ((c : Thread nD τ).loc cc0_scratch23) ↦{fullShare} f) : sProp 𝕄)
      ⊢ iprop((∃ f, at_ c (yslot 0) f) ∗ (∃ f, at_ c (yslot 1) f)) := by
  iintro ⟨%f, H⟩
  ihave H2 := (ent_of_eq ((yslot_blocks c f).trans (bigSep_fin2 _))) $$ [H]
  · iexact H
  icases H2 with ⟨G0, G1⟩
  isplitl [G0]; · iexists f; iexact G0
  iexists f; iexact G1
/-- and back. -/
theorem yslot_join (c : Dev nD) :
    iprop((∃ f, at_ c (yslot 0) f) ∗ (∃ f, at_ c (yslot 1) f))
      ⊢ (iprop(∃ f : Buf (Elt F) ((c : Thread nD τ).loc cc0_scratch23), ((c : Thread nD τ).loc cc0_scratch23) ↦{fullShare} f) : sProp 𝕄) := by
  iintro ⟨⟨%f0, G0⟩, ⟨%f1, G1⟩⟩
  iapply (Ring.pointsTo_blocks_join_exists (ℓ := (c : Thread nD τ).loc cc0_scratch23) Iys (fam_disjoint Nys mem_Iys) (fam_cover Nys mem_Iys) f0)
  irw [bigSep_fin2]
  isplitl [G0]
  · iexists f0; iapply (ent_of_eq (yslot_at c 0 f0)); iexact G0
  iexists f1; iapply (ent_of_eq (yslot_at c 1 f1)); iexact G1
/-- The ring whole is its slots, -/
theorem dslot_split (c : Dev nD) :
    (iprop(∃ f : Buf (Elt F) ((c : Thread nD τ).loc cc0_scratch24), ((c : Thread nD τ).loc cc0_scratch24) ↦{fullShare} f) : sProp 𝕄)
      ⊢ iprop((∃ f, at_ c (dslot 0) f) ∗ (∃ f, at_ c (dslot 1) f)) := by
  iintro ⟨%f, H⟩
  ihave H2 := (ent_of_eq ((dslot_blocks c f).trans (bigSep_fin2 _))) $$ [H]
  · iexact H
  icases H2 with ⟨G0, G1⟩
  isplitl [G0]; · iexists f; iexact G0
  iexists f; iexact G1
/-- and back. -/
theorem dslot_join (c : Dev nD) :
    iprop((∃ f, at_ c (dslot 0) f) ∗ (∃ f, at_ c (dslot 1) f))
      ⊢ (iprop(∃ f : Buf (Elt F) ((c : Thread nD τ).loc cc0_scratch24), ((c : Thread nD τ).loc cc0_scratch24) ↦{fullShare} f) : sProp 𝕄) := by
  iintro ⟨⟨%f0, G0⟩, ⟨%f1, G1⟩⟩
  iapply (Ring.pointsTo_blocks_join_exists (ℓ := (c : Thread nD τ).loc cc0_scratch24) Ids (fam_disjoint Nds mem_Ids) (fam_cover Nds mem_Ids) f0)
  irw [bigSep_fin2]
  isplitl [G0]
  · iexists f0; iapply (ent_of_eq (dslot_at c 0 f0)); iexact G0
  iexists f1; iapply (ent_of_eq (dslot_at c 1 f1)); iexact G1

/-! ## The results -/

section
variable (c : Dev nD)
/-- The output whole, from its tiles. -/
def yWhole (yv : ℕ → S40x1024.Idx → Elt F .bf16) : Buf (Elt F) (yM.view.loc (c : Thread nD τ)) :=
  fun i => (ytile (Ny i)).view.rep (yv (Ny i).val) i
/-- The delta whole, from its tiles. -/
def dWhole (dv : ℕ → S40x1x1024.Idx → Elt F .f32) : Buf (Elt F) (dM.view.loc (c : Thread nD τ)) :=
  fun i => (dtile (Nd i)).view.rep (dv (Nd i).val) i

/-- A tile of y in the whole array holds the tile's values. -/
theorem ytile_whole (yv : ℕ → S40x1024.Idx → Elt F .bf16) (b : Fin 27) :
    (at_ c (ytile b) ((ytile b).view.rep (yv b.val)) : sProp 𝕄) = at_ c (ytile b) (yWhole c yv) := by
  refine (ytile_at c b _).trans (Eq.trans ?_ (ytile_at c b _).symm)
  refine pointsTo_congr fun i hi => ?_
  have e := (mem_Iy b i).mp hi
  subst e; rfl
/-- A tile of d in the whole array holds the tile's values. -/
theorem dtile_whole (dv : ℕ → S40x1x1024.Idx → Elt F .f32) (b : Fin 27) :
    (at_ c (dtile b) ((dtile b).view.rep (dv b.val)) : sProp 𝕄) = at_ c (dtile b) (dWhole c dv) := by
  refine (dtile_at c b _).trans (Eq.trans ?_ (dtile_at c b _).symm)
  refine pointsTo_congr fun i hi => ?_
  have e := (mem_Id b i).mp hi
  subst e; rfl

/-- The two tiled results whole are their tiles, -/
theorem tiles_split (gy : Buf (Elt F) (yM.view.loc (c : Thread nD τ))) (gd : Buf (Elt F) (dM.view.loc (c : Thread nD τ))) :
    iprop((((c : Thread nD τ).loc main_v7_0) ↦{fullShare} gy) ∗ (((c : Thread nD τ).loc main_v7_1) ↦{fullShare} gd)) ⊢ (bigSep Finset.univ (tini c gy gd) : sProp 𝕄) := by
  rw [ytile_blocks, dtile_blocks]
  exact ent_of_eq (BI.bigSep_sep _ _ _).symm
/-- and back at the written values. -/
theorem tiles_join (yv : ℕ → S40x1024.Idx → Elt F .bf16) (dv : ℕ → S40x1x1024.Idx → Elt F .f32) :
    (bigSep Finset.univ (tfin c yv dv) : sProp 𝕄) ⊢ iprop((((c : Thread nD τ).loc main_v7_0) ↦{fullShare} yWhole c yv) ∗ (((c : Thread nD τ).loc main_v7_1) ↦{fullShare} dWhole c dv)) := by
  rw [ytile_blocks, dtile_blocks]
  refine (ent_of_eq (bigSep_congr fun b _ => ?_)).trans (ent_of_eq (BI.bigSep_sep _ _ _))
  unfold tfin
  rw [ytile_whole, dtile_whole]; rfl

/-- The weight whole is its blocks, the first seven apart. -/
theorem w_split (XW : Buf (Elt F) (wM.view.loc (c : Thread nD τ))) :
    (((c : Thread nD τ).loc main_arg1) ↦{fullShare} XW : sProp 𝕄) = resW c XW := by
  rw [wblk_blocks]
  have e : (Finset.univ : Finset (Fin 27)) = insert 0 (insert 1 (insert 2 (insert 3 (insert 4 (insert 5 (insert 6 (Ring.homeSet (NB := 27) 7 0))))))) := by decide
  rw [e, bigSep_insert (by decide), bigSep_insert (by decide), bigSep_insert (by decide), bigSep_insert (by decide), bigSep_insert (by decide), bigSep_insert (by decide), bigSep_insert (by decide)]; rfl
end

end Cert.Proof.IdealRun

end
-- ==== Proof.IdealLaunch.lean ====
/-
  The kernel's launch: the buffers and semaphores the region hands the body are cut into the pieces the body's run
  (`IdealBody`) names, the run is applied, and the pieces are joined again. Every run ends, changes no argument,
  leaves every semaphore at zero, and leaves the five results at the values the run names.
-/
module

public import proofs.«01_k».proof.Proof.IdealSets
public import proofs.«01_k».proof.Proof.Gen.KernelIdeal.Frame

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The launch -/

/-- A buffer held through its whole view, to the buffer held, -/
theorem whole_in {sp : Space} {s : Shape} {e : EltTy} (c : Dev nD) (M : Memref sig .tc sp s e) (h : M.view.set = Finset.univ) (f : Buf (Elt F) (M.view.loc (c : Thread nD τ))) :
    (M.view.loc (c : Thread nD τ) ↦{fullShare} f : sProp 𝕄) ⊢ at_ c M f :=
  ent_of_eq (congrArg (fun S => (M.view.loc (c : Thread nD τ) ↦[S]{fullShare} f : sProp 𝕄)) h.symm)
/-- and back; -/
theorem whole_out {sp : Space} {s : Shape} {e : EltTy} (c : Dev nD) (M : Memref sig .tc sp s e) (h : M.view.set = Finset.univ) (f : Buf (Elt F) (M.view.loc (c : Thread nD τ))) :
    at_ c M f ⊢ (M.view.loc (c : Thread nD τ) ↦{fullShare} f : sProp 𝕄) :=
  ent_of_eq (congrArg (fun S => (M.view.loc (c : Thread nD τ) ↦[S]{fullShare} f : sProp 𝕄)) h)
/-- the same at contents nothing names. -/
theorem some_in {sp : Space} {s : Shape} {e : EltTy} (c : Dev nD) (M : Memref sig .tc sp s e) (h : M.view.set = Finset.univ) :
    (iprop(∃ f, M.view.loc (c : Thread nD τ) ↦{fullShare} f) : sProp 𝕄) ⊢ iprop(∃ f, at_ c M f) := by
  iintro ⟨%f, H⟩; iexists f; iapply (whole_in c M h f); iexact H
/-- A buffer owned whole at contents nothing names, as the launch keeps it. -/
theorem some_out {sp : Space} {s : Shape} {e : EltTy} (c : Dev nD) (M : Memref sig .tc sp s e) (h : M.view.set = Finset.univ) :
    (iprop(∃ f, at_ c M f) : sProp 𝕄) ⊢ iprop(∃ f, M.view.loc (c : Thread nD τ) ↦{fullShare} f) := by
  iintro ⟨%f, H⟩; iexists f; iapply (whole_out c M h f); iexact H

section
variable (m : (ℓ : Loc nD τ sig) → Buf (Elt F) ℓ) (ρ : Dev nD → PrngReg)

abbrev osemK : Fin 24 → SemLoc sig := ![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23]
/-- The kernel's semaphores are its own. -/
theorem ownSemFactsK : Pipeline.OwnSemFacts (cfg0.spec) osemK := by decide
def H0 : Finset (Ref sig .tc) := {main_v0, main_arg1, main_v1, main_v2, main_v3, main_v4, main_arg6, main_v5, main_v6, main_arg9}
def R0 : Finset (Ref sig .tc) := {main_v7_0, main_v7_1, main_v7_2, main_v7_3, main_v7_4}
/-- The arrays that are only read are among those left to the kernel. -/
theorem H0_sub : H0 ⊆ Pipeline.restRefs sig (cfg0.spec) := by decide
/-- The arrays that are written are among the others left to it. -/
theorem R0_sub : R0 ⊆ Pipeline.restRefs sig (cfg0.spec) \ H0 := by decide

/-- The semaphores at rest, one by one. -/
theorem ownSems_list (c : Dev nD) :
    (Pipeline.ownSems0 (Ix := Unit) (Name := ℕ) (U := Pipeline.UD sig nD τ) (Lvl := ℕ) (Val := Elt F) (τ := τ) osemK c : sProp 𝕄)
      = iprop(cell c isem0 ∗ cell c isem1 ∗ cell c isem2 ∗ cell c isem3 ∗ cell c isem4 ∗ cell c isem5 ∗ cell c isem6 ∗ cell c isem7 ∗ cell c isem8 ∗ cell c (wsem 0) ∗ cell c (wsem 1) ∗ cell c (wsem 2) ∗ cell c (wsem 3) ∗ cell c (wsem 4) ∗ cell c (wsem 5) ∗ cell c (wsem 6) ∗ cell c (wsem 7) ∗ cell c (ysem 0) ∗ cell c (ysem 1) ∗ cell c (dsem 0) ∗ cell c (dsem 1) ∗ cell c osem0 ∗ cell c osem1 ∗ cell c osem2) := by
  rw [Pipeline.ownSems0_eq_of_list c osemK [0, 1, 2, 3, 4, 5, 6, 7, 8, 9, 10, 11, 12, 13, 14, 15, 16, 17, 18, 19, 20, 21, 22, 23] (by decide) (by decide)]; rfl
/-- The arrays that are only read, one by one. -/
theorem read_list (c : Dev nD) (X : (b : Ref sig .tc) → Buf (Elt F) ((c : Thread nD τ).loc b)) :
    (bigSep H0 (fun b => ((c : Thread nD τ).loc b) ↦{fullShare} X b) : sProp 𝕄) = iprop((((c : Thread nD τ).loc main_v0) ↦{fullShare} X main_v0) ∗ (((c : Thread nD τ).loc main_arg1) ↦{fullShare} X main_arg1) ∗ (((c : Thread nD τ).loc main_v1) ↦{fullShare} X main_v1) ∗ (((c : Thread nD τ).loc main_v2) ↦{fullShare} X main_v2) ∗ (((c : Thread nD τ).loc main_v3) ↦{fullShare} X main_v3) ∗ (((c : Thread nD τ).loc main_v4) ↦{fullShare} X main_v4) ∗ (((c : Thread nD τ).loc main_arg6) ↦{fullShare} X main_arg6) ∗ (((c : Thread nD τ).loc main_v5) ↦{fullShare} X main_v5) ∗ (((c : Thread nD τ).loc main_v6) ↦{fullShare} X main_v6) ∗ (((c : Thread nD τ).loc main_arg9) ↦{fullShare} X main_arg9)) := by
  rw [BI.bigSep_eq_bigSepL_of_eq [main_v0, main_arg1, main_v1, main_v2, main_v3, main_v4, main_arg6, main_v5, main_v6, main_arg9] (by decide) (by decide)]; rfl
/-- The arrays that are written, one by one. -/
theorem written_list (c : Dev nD) (X : (b : Ref sig .tc) → Buf (Elt F) ((c : Thread nD τ).loc b)) :
    (Pipeline.routed R0 c X : sProp 𝕄) = iprop((((c : Thread nD τ).loc main_v7_0) ↦{fullShare} X main_v7_0) ∗ (((c : Thread nD τ).loc main_v7_1) ↦{fullShare} X main_v7_1) ∗ (((c : Thread nD τ).loc main_v7_2) ↦{fullShare} X main_v7_2) ∗ (((c : Thread nD τ).loc main_v7_3) ↦{fullShare} X main_v7_3) ∗ (((c : Thread nD τ).loc main_v7_4) ↦{fullShare} X main_v7_4)) := by
  unfold Pipeline.routed
  rw [BI.bigSep_eq_bigSepL_of_eq [main_v7_0, main_v7_1, main_v7_2, main_v7_3, main_v7_4] (by decide) (by decide)]; rfl

/-- The body's run from the arrays as the region finds them. -/
def theRun (c : Dev nD) := bodyRun c (V m c main_arg1) (V m c main_v0) (V m c main_v1) (V m c main_v2) (V m c main_v3) (V m c main_v4) (V m c main_arg6) (V m c main_v5) (V m c main_v6) (V m c main_arg9) (V m c main_v7_0) (V m c main_v7_1) (V m c main_v7_2) (V m c main_v7_3) (V m c main_v7_4) t0_0

/-- What the region leaves in each buffer. -/
def G (c : Dev nD) (b : Ref sig .tc) : Buf (Elt F) ((c : Thread nD τ).loc b) :=
  Function.update (Function.update (Function.update (Function.update (Function.update (V m c)
    main_v7_0 (yWhole c (theRun m c).1)) main_v7_1 (dWhole c (theRun m c).2.1))
    main_v7_2 (zM.view.rep (zB.view.read (Elt F) (theRun m c).2.2.1)))
    main_v7_3 (xcM.view.rep (xcB.view.read (Elt F) (theRun m c).2.2.2.1)))
    main_v7_4 (xsM.view.rep (xsRowB.view.read (Elt F) (theRun m c).2.2.2.2.1)) b
/-- What the run leaves in y. -/
theorem G_0 (c : Dev nD) : G m c main_v7_0 = yWhole c (theRun m c).1 := by
  unfold G; rw [Function.update_of_ne (by decide), Function.update_of_ne (by decide), Function.update_of_ne (by decide), Function.update_of_ne (by decide), Function.update_self]
/-- What the run leaves in d. -/
theorem G_1 (c : Dev nD) : G m c main_v7_1 = dWhole c (theRun m c).2.1 := by
  unfold G; rw [Function.update_of_ne (by decide), Function.update_of_ne (by decide), Function.update_of_ne (by decide), Function.update_self]
/-- What the run leaves in z. -/
theorem G_2 (c : Dev nD) : G m c main_v7_2 = zM.view.rep (zB.view.read (Elt F) (theRun m c).2.2.1) := by
  unfold G; rw [Function.update_of_ne (by decide), Function.update_of_ne (by decide), Function.update_self]
/-- What the run leaves in the codes. -/
theorem G_3 (c : Dev nD) : G m c main_v7_3 = xcM.view.rep (xcB.view.read (Elt F) (theRun m c).2.2.2.1) := by
  unfold G; rw [Function.update_of_ne (by decide), Function.update_self]
/-- What the run leaves in the scales. -/
theorem G_4 (c : Dev nD) : G m c main_v7_4 = xsM.view.rep (xsRowB.view.read (Elt F) (theRun m c).2.2.2.2.1) := by
  unfold G; rw [Function.update_self]

/-- The proof data: nothing staged; the invariant is every buffer and cell, the results at the launch before the body and at `G` after. -/
def dats (_ : Fin 1) (c : Dev nD) : Dat τ (Elt F) Unit ℕ (Pipeline.UD sig nD τ) ℕ cfg0 c where
  A w := V m c (Pipeline.arrRef (cfg0.spec) w)
  after w t := w.elim0
  Φ t := Pipeline.ΦDRG osemK (cfg0.spec) H0 R0 (V m) (if t.val = 0 then V m else G m) c
  q _ := fullShare
  owed _ := 0

/-- The call has no windowed operand. -/
theorem A_eq (c : Dev nD) (w : Fin cfg0.W) : (dats m 0 c).A w = V m c (Pipeline.arrRef (cfg0.spec) w) := w.elim0

set_option maxHeartbeats 1000000 in
/-- What the region hands the body is what the body's run starts from. -/
theorem open_region (c : Dev nD) (X : (b : Ref sig .tc) → Buf (Elt F) ((c : Thread nD τ).loc b)) :
    iprop((Pipeline.scopedRest (Ix := Unit) (Name := ℕ) (U := Pipeline.UD sig nD τ) (Lvl := ℕ) (Val := Elt F) (cfg0.spec) c ∗ (∃ r, prngReg c r) ∗ Pipeline.ownSems0 (Ix := Unit) (Name := ℕ) (U := Pipeline.UD sig nD τ) (Lvl := ℕ) (Val := Elt F) (τ := τ) osemK c ∗ (bigSep H0 fun b => ((c.tc : Thread nD τ).loc b) ↦{fullShare} X b) ∗ Pipeline.routed R0 c X) ∗ ∃ W, owes (c : Thread nD τ) 0 W) ⊢ (iprop(bodyPre c (X main_arg1) (X main_v0) (X main_v1) (X main_v2) (X main_v3) (X main_v4) (X main_arg6) (X main_v5) (X main_v6) (X main_arg9) (X main_v7_0) (X main_v7_1) (X main_v7_2) (X main_v7_3) (X main_v7_4) ∗ ∃ r, prngReg c r) : sProp 𝕄) := by
  rw [scopedRest0_eq, ownSems_list, read_list, written_list]
  unfold bodyPre resIn resScratch resSems resRings
  iintro ⟨⟨⟨SW, SuB, SvB, SxB, SwsB, SsgB, SvsrB, SvzrB, SusrB, SuzrB, SxqB, SxcB, SxsColB, SxsRowB, SmaskB, SpermB, SvzB, SvsB, SuzB, SusB, SaccB, SzB, StB, SY, SD⟩, Hg, ⟨CI0, CI1, CI2, CI3, CI4, CI5, CI6, CI7, CI8, CW0, CW1, CW2, CW3, CW4, CW5, CW6, CW7, CY0, CY1, CD0, CD1, CO0, CO1, CO2⟩, ⟨Ix0, HW, Ix2, Ix3, Ix4, Ix5, Ix6, Ix7, Ix8, Ix9⟩, ⟨HY, HD, HZ, HC, HS⟩⟩, HOW⟩
  ihave QW := (wslot_split c) $$ [SW]
  · iexact SW
  icases QW with ⟨SW0, SW1, SW2, SW3, SW4, SW5, SW6, SW7⟩
  ihave QY := (yslot_split c) $$ [SY]
  · iexact SY
  icases QY with ⟨SY0, SY1⟩
  ihave QD := (dslot_split c) $$ [SD]
  · iexact SD
  icases QD with ⟨SD0, SD1⟩
  isplitr [Hg]
  swap; · iexact Hg
  isplitl [HW]; · iapply (ent_of_eq (w_split c _)); iexact HW
  isplitl [Ix0 Ix2 Ix3 Ix4 Ix5 Ix6 Ix7 Ix8 Ix9]
  · isplitl [Ix0]; · iapply (whole_in c xA (View.set_whole _) _); iexact Ix0
    isplitl [Ix2]; · iapply (whole_in c wsA (View.set_whole _) _); iexact Ix2
    isplitl [Ix3]; · iapply (whole_in c sgA (View.set_whole _) _); iexact Ix3
    isplitl [Ix4]; · iapply (whole_in c vA (View.set_whole _) _); iexact Ix4
    isplitl [Ix5]; · iapply (whole_in c vsA (View.set_whole _) _); iexact Ix5
    isplitl [Ix6]; · iapply (whole_in c vzA (View.set_whole _) _); iexact Ix6
    isplitl [Ix7]; · iapply (whole_in c uA (View.set_whole _) _); iexact Ix7
    isplitl [Ix8]; · iapply (whole_in c usA (View.set_whole _) _); iexact Ix8
    iapply (whole_in c uzA (View.set_whole _) _); iexact Ix9
  isplitl [SuB SvB SxB SwsB SsgB SvsrB SvzrB SusrB SuzrB SxqB SxcB SxsColB SxsRowB SmaskB SpermB SvzB SvsB SuzB SusB SaccB SzB StB]
  · isplitl [SuB]; · iapply (some_in c uB (View.set_whole _)); iexact SuB
    isplitl [SvB]; · iapply (some_in c vB (View.set_whole _)); iexact SvB
    isplitl [SxB]; · iapply (some_in c xB (View.set_whole _)); iexact SxB
    isplitl [SwsB]; · iapply (some_in c wsB (View.set_whole _)); iexact SwsB
    isplitl [SsgB]; · iapply (some_in c sgB (View.set_whole _)); iexact SsgB
    isplitl [SvsrB]; · iapply (some_in c vsrB (View.set_whole _)); iexact SvsrB
    isplitl [SvzrB]; · iapply (some_in c vzrB (View.set_whole _)); iexact SvzrB
    isplitl [SusrB]; · iapply (some_in c usrB (View.set_whole _)); iexact SusrB
    isplitl [SuzrB]; · iapply (some_in c uzrB (View.set_whole _)); iexact SuzrB
    isplitl [SxqB]; · iapply (some_in c xqB (View.set_whole _)); iexact SxqB
    isplitl [SxcB]; · iapply (some_in c xcB (View.set_whole _)); iexact SxcB
    isplitl [SxsColB]; · iapply (some_in c xsColB (View.set_whole _)); iexact SxsColB
    isplitl [SxsRowB]; · iapply (some_in c xsRowB (View.set_whole _)); iexact SxsRowB
    isplitl [SmaskB]; · iapply (some_in c maskB (View.set_whole _)); iexact SmaskB
    isplitl [SpermB]; · iapply (some_in c permB (View.set_whole _)); iexact SpermB
    isplitl [SvzB]; · iapply (some_in c vzB (View.set_whole _)); iexact SvzB
    isplitl [SvsB]; · iapply (some_in c vsB (View.set_whole _)); iexact SvsB
    isplitl [SuzB]; · iapply (some_in c uzB (View.set_whole _)); iexact SuzB
    isplitl [SusB]; · iapply (some_in c usB (View.set_whole _)); iexact SusB
    isplitl [SaccB]; · iapply (some_in c accB (View.set_whole _)); iexact SaccB
    isplitl [SzB]; · iapply (some_in c zB (View.set_whole _)); iexact SzB
    iapply (some_in c tB (View.set_whole _)); iexact StB
  isplitl [CI0 CI1 CI2 CI3 CI4 CI5 CI6 CI7 CI8 CO0 CO1 CO2]
  · isplitl [CI0]; · iexact CI0
    isplitl [CI1]; · iexact CI1
    isplitl [CI2]; · iexact CI2
    isplitl [CI3]; · iexact CI3
    isplitl [CI4]; · iexact CI4
    isplitl [CI5]; · iexact CI5
    isplitl [CI6]; · iexact CI6
    isplitl [CI7]; · iexact CI7
    isplitl [CI8]; · iexact CI8
    isplitl [CO0]; · iexact CO0
    isplitl [CO1]; · iexact CO1
    iexact CO2
  isplitl [CW0 SW0 CW1 SW1 CW2 SW2 CW3 SW3 CW4 SW4 CW5 SW5 CW6 SW6 CW7 SW7 CY0 CD0 SY0 SD0 CY1 CD1 SY1 SD1]
  · isplitl [CW0]; · iexact CW0
    isplitl [SW0]; · iexact SW0
    isplitl [CW1]; · iexact CW1
    isplitl [SW1]; · iexact SW1
    isplitl [CW2]; · iexact CW2
    isplitl [SW2]; · iexact SW2
    isplitl [CW3]; · iexact CW3
    isplitl [SW3]; · iexact SW3
    isplitl [CW4]; · iexact CW4
    isplitl [SW4]; · iexact SW4
    isplitl [CW5]; · iexact CW5
    isplitl [SW5]; · iexact SW5
    isplitl [CW6]; · iexact CW6
    isplitl [SW6]; · iexact SW6
    isplitl [CW7]; · iexact CW7
    isplitl [SW7]; · iexact SW7
    isplitl [CY0]; · iexact CY0
    isplitl [CD0]; · iexact CD0
    isplitl [SY0]; · iexact SY0
    isplitl [SD0]; · iexact SD0
    isplitl [CY1]; · iexact CY1
    isplitl [CD1]; · iexact CD1
    isplitl [SY1]; · iexact SY1
    iexact SD1
  isplitl [HY HD]
  · iapply (tiles_split c _ _)
    isplitl [HY]; · iexact HY
    iexact HD
  isplitl [HZ]; · iapply (whole_in c zM (View.set_whole _) _); iexact HZ
  isplitl [HC]; · iapply (whole_in c xcM (View.set_whole _) _); iexact HC
  isplitl [HS]; · iapply (whole_in c xsM (View.set_whole _) _); iexact HS
  iexact HOW

set_option maxHeartbeats 1000000 in
/-- What the body's run leaves is what the region takes back, the results at `G`. -/
theorem close_region (c : Dev nD) (X Y : (b : Ref sig .tc) → Buf (Elt F) ((c : Thread nD τ).loc b))
    (yv : ℕ → S40x1024.Idx → Elt F .bf16) (dv : ℕ → S40x1x1024.Idx → Elt F .f32)
    (Zz : Buf (Elt F) (zB.view.loc (c : Thread nD τ))) (Zc : Buf (Elt F) (xcB.view.loc (c : Thread nD τ))) (Zs : Buf (Elt F) (xsRowB.view.loc (c : Thread nD τ)))
    (h0 : Y main_v7_0 = yWhole c yv) (h1 : Y main_v7_1 = dWhole c dv) (h2 : Y main_v7_2 = zM.view.rep (zB.view.read (Elt F) Zz))
    (h3 : Y main_v7_3 = xcM.view.rep (xcB.view.read (Elt F) Zc)) (h4 : Y main_v7_4 = xsM.view.rep (xsRowB.view.read (Elt F) Zs)) :
    iprop(bodyPost c (X main_arg1) (X main_v0) (X main_v1) (X main_v2) (X main_v3) (X main_v4) (X main_arg6) (X main_v5) (X main_v6) (X main_arg9) yv dv Zz Zc Zs ∗ ∃ r, prngReg c r) ⊢ (iprop((Pipeline.scopedRest (Ix := Unit) (Name := ℕ) (U := Pipeline.UD sig nD τ) (Lvl := ℕ) (Val := Elt F) (cfg0.spec) c ∗ (∃ r, prngReg c r) ∗ Pipeline.ownSems0 (Ix := Unit) (Name := ℕ) (U := Pipeline.UD sig nD τ) (Lvl := ℕ) (Val := Elt F) (τ := τ) osemK c ∗ (bigSep H0 fun b => ((c.tc : Thread nD τ).loc b) ↦{fullShare} X b) ∗ Pipeline.routed R0 c Y) ∗ ∃ W, owes (c : Thread nD τ) 0 W) : sProp 𝕄) := by
  rw [scopedRest0_eq, ownSems_list, read_list, written_list, h0, h1, h2, h3, h4]
  unfold bodyPost resIn resScratch resSems resRings
  iintro ⟨⟨HW, ⟨Ix0, Ix2, Ix3, Ix4, Ix5, Ix6, Ix7, Ix8, Ix9⟩, ⟨SuB, SvB, SxB, SwsB, SsgB, SvsrB, SvzrB, SusrB, SuzrB, SxqB, SxcB, SxsColB, SxsRowB, SmaskB, SpermB, SvzB, SvsB, SuzB, SusB, SaccB, SzB, StB⟩, ⟨CI0, CI1, CI2, CI3, CI4, CI5, CI6, CI7, CI8, CO0, CO1, CO2⟩, ⟨CW0, SW0, CW1, SW1, CW2, SW2, CW3, SW3, CW4, SW4, CW5, SW5, CW6, SW6, CW7, SW7, CY0, CD0, SY0, SD0, CY1, CD1, SY1, SD1⟩, HT, HZ, HC, HS, HOW⟩, Hg⟩
  ihave QT := (tiles_join c _ _) $$ [HT]
  · iexact HT
  icases QT with ⟨HY, HD⟩
  isplitr [HOW]
  swap; · iexact HOW
  isplitl [SuB SvB SxB SwsB SsgB SvsrB SvzrB SusrB SuzrB SxqB SxcB SxsColB SxsRowB SmaskB SpermB SvzB SvsB SuzB SusB SaccB SzB StB SW0 SW1 SW2 SW3 SW4 SW5 SW6 SW7 SY0 SY1 SD0 SD1]
  · isplitl [SW0 SW1 SW2 SW3 SW4 SW5 SW6 SW7]
    · iapply (wslot_join c)
      isplitl [SW0]; · iexact SW0
      isplitl [SW1]; · iexact SW1
      isplitl [SW2]; · iexact SW2
      isplitl [SW3]; · iexact SW3
      isplitl [SW4]; · iexact SW4
      isplitl [SW5]; · iexact SW5
      isplitl [SW6]; · iexact SW6
      iexact SW7
    isplitl [SuB]; · iapply (some_out c uB (View.set_whole _)); iexact SuB
    isplitl [SvB]; · iapply (some_out c vB (View.set_whole _)); iexact SvB
    isplitl [SxB]; · iapply (some_out c xB (View.set_whole _)); iexact SxB
    isplitl [SwsB]; · iapply (some_out c wsB (View.set_whole _)); iexact SwsB
    isplitl [SsgB]; · iapply (some_out c sgB (View.set_whole _)); iexact SsgB
    isplitl [SvsrB]; · iapply (some_out c vsrB (View.set_whole _)); iexact SvsrB
    isplitl [SvzrB]; · iapply (some_out c vzrB (View.set_whole _)); iexact SvzrB
    isplitl [SusrB]; · iapply (some_out c usrB (View.set_whole _)); iexact SusrB
    isplitl [SuzrB]; · iapply (some_out c uzrB (View.set_whole _)); iexact SuzrB
    isplitl [SxqB]; · iapply (some_out c xqB (View.set_whole _)); iexact SxqB
    isplitl [SxcB]; · iapply (some_out c xcB (View.set_whole _)); iexact SxcB
    isplitl [SxsColB]; · iapply (some_out c xsColB (View.set_whole _)); iexact SxsColB
    isplitl [SxsRowB]; · iapply (some_out c xsRowB (View.set_whole _)); iexact SxsRowB
    isplitl [SmaskB]; · iapply (some_out c maskB (View.set_whole _)); iexact SmaskB
    isplitl [SpermB]; · iapply (some_out c permB (View.set_whole _)); iexact SpermB
    isplitl [SvzB]; · iapply (some_out c vzB (View.set_whole _)); iexact SvzB
    isplitl [SvsB]; · iapply (some_out c vsB (View.set_whole _)); iexact SvsB
    isplitl [SuzB]; · iapply (some_out c uzB (View.set_whole _)); iexact SuzB
    isplitl [SusB]; · iapply (some_out c usB (View.set_whole _)); iexact SusB
    isplitl [SaccB]; · iapply (some_out c accB (View.set_whole _)); iexact SaccB
    isplitl [SzB]; · iapply (some_out c zB (View.set_whole _)); iexact SzB
    isplitl [StB]; · iapply (some_out c tB (View.set_whole _)); iexact StB
    isplitl [SY0 SY1]
    · iapply (yslot_join c)
      isplitl [SY0]; · iexact SY0
      iexact SY1
    iapply (dslot_join c)
    isplitl [SD0]; · iexact SD0
    iexact SD1
  isplitl [Hg]; · iexact Hg
  isplitl [CI0 CI1 CI2 CI3 CI4 CI5 CI6 CI7 CI8 CW0 CW1 CW2 CW3 CW4 CW5 CW6 CW7 CY0 CY1 CD0 CD1 CO0 CO1 CO2]
  · isplitl [CI0]; · iexact CI0
    isplitl [CI1]; · iexact CI1
    isplitl [CI2]; · iexact CI2
    isplitl [CI3]; · iexact CI3
    isplitl [CI4]; · iexact CI4
    isplitl [CI5]; · iexact CI5
    isplitl [CI6]; · iexact CI6
    isplitl [CI7]; · iexact CI7
    isplitl [CI8]; · iexact CI8
    isplitl [CW0]; · iexact CW0
    isplitl [CW1]; · iexact CW1
    isplitl [CW2]; · iexact CW2
    isplitl [CW3]; · iexact CW3
    isplitl [CW4]; · iexact CW4
    isplitl [CW5]; · iexact CW5
    isplitl [CW6]; · iexact CW6
    isplitl [CW7]; · iexact CW7
    isplitl [CY0]; · iexact CY0
    isplitl [CY1]; · iexact CY1
    isplitl [CD0]; · iexact CD0
    isplitl [CD1]; · iexact CD1
    isplitl [CO0]; · iexact CO0
    isplitl [CO1]; · iexact CO1
    iexact CO2
  isplitl [Ix0 HW Ix2 Ix3 Ix4 Ix5 Ix6 Ix7 Ix8 Ix9]
  · isplitl [Ix0]; · iapply (whole_out c xA (View.set_whole _) _); iexact Ix0
    isplitl [HW]; · iapply (ent_of_eq (wblk_blocks c _).symm); iexact HW
    isplitl [Ix2]; · iapply (whole_out c wsA (View.set_whole _) _); iexact Ix2
    isplitl [Ix3]; · iapply (whole_out c sgA (View.set_whole _) _); iexact Ix3
    isplitl [Ix4]; · iapply (whole_out c vA (View.set_whole _) _); iexact Ix4
    isplitl [Ix5]; · iapply (whole_out c vsA (View.set_whole _) _); iexact Ix5
    isplitl [Ix6]; · iapply (whole_out c vzA (View.set_whole _) _); iexact Ix6
    isplitl [Ix7]; · iapply (whole_out c uA (View.set_whole _) _); iexact Ix7
    isplitl [Ix8]; · iapply (whole_out c usA (View.set_whole _) _); iexact Ix8
    iapply (whole_out c uzA (View.set_whole _) _); iexact Ix9
  isplitl [HY]; · iexact HY
  isplitl [HD]; · iexact HD
  isplitl [HZ]; · iapply (whole_out c zM (View.set_whole _) _); iexact HZ
  isplitl [HC]; · iapply (whole_out c xcM (View.set_whole _) _); iexact HC
  iapply (whole_out c xsM (View.set_whole _) _); iexact HS

/-- The body called at a grid point is the kernel's body. -/
theorem defs₀_row (t : Fin cfg0.N) :
    defs₀ (F := F) .tc cfg0.body (cfg0.bodyArgs t (cfg0.slots t)) = bodyAt0 t := by
  unfold defs₀; rw [Defs.onTc_tc]

/-- The body meets its specification at the grid point. -/
theorem sound_body (c : Dev nD) (t : Fin cfg0.N) :
    iprop((dats m 0 c).Φ t.castSucc ∗ (dats m 0 c).owesAt () t.castSucc)
      ⊢ wp frame (wpE (defs₀ (F := F)) 𝒱₀ (c : Thread nD τ) none) Set.univ (bodyAt0 (F := F) t) (fun _ => iprop((dats m 0 c).Φ t.succ ∗ (dats m 0 c).owesAt () t.succ)) := by
  rw [fin_N0 t]
  rw [show (dats m 0 c).Φ (Fin.castSucc t0_0) = Pipeline.ΦDRG osemK (cfg0.spec) H0 R0 (V m) (V m) c from rfl, show (dats m 0 c).Φ (Fin.succ t0_0) = Pipeline.ΦDRG osemK (cfg0.spec) H0 R0 (V m) (G m) c from rfl]
  rw [Pipeline.ΦDRG_eq, Pipeline.ΦDRG_eq]
  unfold Dat.owesAt Pipeline.owesWithin
  rw [show (dats m 0 c).owed (Fin.castSucc t0_0) = 0 from rfl, show (dats m 0 c).owed (Fin.succ t0_0) = 0 from rfl]
  iintro ⟨HΦ, ⟨%W, -, HW⟩⟩
  ihave HP := (open_region c (V m c)) $$ [HΦ HW]
  · isplitl [HΦ]; · iexact HΦ
    iexists W; iexact HW
  icases HP with ⟨HP, Hg⟩
  iapply ((theRun m c).2.2.2.2.2 _)
  isplitl [HP]; · iexact HP
  iintro HQ
  ihave HE := (close_region c (V m c) (G m c) _ _ _ _ _ (G_0 m c) (G_1 m c) (G_2 m c) (G_3 m c) (G_4 m c)) $$ [HQ Hg]
  · isplitl [HQ]; · iexact HQ
    iexact Hg
  icases HE with ⟨HΦ, ⟨%W', HW'⟩⟩
  isplitl [HΦ]; · iexact HΦ
  iexists W'; isplitr; · ipureintro; exact fun _ _ => Or.inl trivial
  iexact HW'

/-- The empty assertion on the right changes nothing. -/
theorem emp_right (P : sProp 𝕄) : iprop(P ∗ emp) = P :=
  Idealize.SL.BI.Entails.antisymm Idealize.SL.BI.sep_emp.1 Idealize.SL.BI.sep_emp.2

/-- What the launch asks of the body holds. -/
theorem body_obligation (c : Dev nD) : BodyObligation (dats m 0 c) (defs₀ (F := F)) 𝒱₀ () Set.univ := fun t => by
  have e : (Finset.univ : Finset (Fin cfg0.W)) = ∅ := rfl
  rw [e, bigSep_empty, bigSep_empty, defs₀_row]
  refine triple_restated (sound_body m c t) rfl (ent_of_eq ?_) (fun _ => ent_of_eq ?_)
  · exact congrArg (fun X => iprop((dats m 0 c).Φ t.castSucc ∗ X)) (emp_right _)
  · exact congrArg (fun X => iprop((dats m 0 c).Φ t.succ ∗ X)) (emp_right _).symm

set_option maxHeartbeats 800000 in
/-- The program is its host operations and then the kernel's launch. -/
theorem hmainK : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with the results at `G` and nothing else changed. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osemK defs₀ 𝒱₀ ownSemFactsK H0 R0 H0_sub R0_sub m ρ main
    (hbody := fun c => (body_obligation m c).loose) (hshare := fun c => (dats m 0 c).share_full fun _ => rfl)
    (howed := fun _ _ => rfl) (V := V m) (hmain := hmainK m) (hA := A_eq m) (G := G m)
    (hin := fun _ => .rfl) (hout := fun _ => .rfl)

/-- THE FRAME: every run ends, changes no argument and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c),
      ((h.1.1 c).2 main_arg8 (Finset.mem_sdiff.mpr ⟨Pipeline.mem_restRefs_of main_arg8 (by decide) (by decide), by decide⟩)).trans (V_main_arg8 m c),
      ((h.1.1 c).2 main_arg9 (Finset.mem_sdiff.mpr ⟨Pipeline.mem_restRefs_of main_arg9 (by decide) (by decide), by decide⟩)).trans (V_main_arg9 m c)⟩, h.2⟩) (run_main m ρ)

/-- THE VALUES: every run ends with the five results at `G`, and changes no argument. -/
theorem values : θ_run defs (onTc (τ := τ) (main (F := F))) ⟨m, fun _ => 0, ρ⟩ (fun r => (∀ c : Dev nD,
      r.2.mem ((c.tc : Thread nD τ).loc main_v7_0) = G m c main_v7_0
      ∧ r.2.mem ((c.tc : Thread nD τ).loc main_v7_1) = G m c main_v7_1
      ∧ r.2.mem ((c.tc : Thread nD τ).loc main_v7_2) = G m c main_v7_2
      ∧ r.2.mem ((c.tc : Thread nD τ).loc main_v7_3) = G m c main_v7_3
      ∧ r.2.mem ((c.tc : Thread nD τ).loc main_v7_4) = G m c main_v7_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))) :=
  (θ_run defs _ _).mono (fun _ h c => ⟨h.1.2 c main_v7_0 (by decide), h.1.2 c main_v7_1 (by decide), h.1.2 c main_v7_2 (by decide), h.1.2 c main_v7_3 (by decide), h.1.2 c main_v7_4 (by decide), ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c),
      ((h.1.1 c).2 main_arg8 (Finset.mem_sdiff.mpr ⟨Pipeline.mem_restRefs_of main_arg8 (by decide) (by decide), by decide⟩)).trans (V_main_arg8 m c),
      ((h.1.1 c).2 main_arg9 (Finset.mem_sdiff.mpr ⟨Pipeline.mem_restRefs_of main_arg9 (by decide) (by decide), by decide⟩)).trans (V_main_arg9 m c)⟩) (run_main m ρ)

end

end Cert.Proof.IdealRun

end
-- ==== Proof.ValChunk.lean ====
/-
  The dequantiser of the kernel, one column chunk of 128 at a time, as one function; and the tile's and the loop's
  results as products over eight such chunks.
-/
module

public import proofs.«01_k».proof.Proof.IdealTrip

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic

variable {F : FTy → Type} [FloatOps F]

section
variable (H : IVec S8x128 32) (B : IVec S24x128 32) (M : Fin 14 → IVec S1x8x128 32)

/-- One mask's word, without its unit axis. -/
def mk (n : Fin 14) : IVec S8x128 32 := shapeCast S8x128 (M n) shapeCasts_S1x8x128_S8x128
/-- The head words shifted right. -/
def hr (n : BitVec 32) : IVec S8x128 32 := shrui H (broadcast S8x128 n)
/-- The bytes from one on: the word shifted by a byte, filled from the word below. -/
def fol : IVec S8x128 32 :=
  ori (hr H 8#32) (shli (dynamicRotate 0 7#32 none H rotates_S8x128_d0) (broadcast S8x128 24#32))
/-- The two-bit codes of one plane. -/
def low2 (B : IVec S24x128 32) : IVec S24x128 32 := andi B (broadcast S24x128 50529027#32)
/-- The codes of one plane as bytes, then as numbers. -/
def asCodes (A : IVec S8x128 32) (R : IVec S24x128 32) : FVec F S128x128 .bf16 :=
  sitofp .bf16 (bitcast S128x128 8 (concatenate S32x128 0 [⟨S8x128, A⟩, ⟨S24x128, R⟩] concatenates_S8x128_S24x128_S32x128_d0) bitcasts_S32x128_w32_S128x128_w8)

/-- The head words of plane 0. -/
def head0 : IVec S8x128 32 := xori (ori (ori (andi H (mk M 0)) (andi (hr H 1#32) (mk M 1))) (andi (hr H 2#32) (mk M 2))) (mk M 13)
/-- The head words of plane 1. -/
def head1 : IVec S8x128 32 :=
  ori (ori (ori (andi (hr H 2#32) (mk M 3)) (andi (hr H 3#32) (mk M 4))) (andi (hr H 4#32) (mk M 5))) (andi (hr H 5#32) (mk M 6))
/-- The head words of plane 2. -/
def head2 : IVec S8x128 32 :=
  ori (ori (ori (ori (andi (hr H 4#32) (mk M 7)) (andi (hr H 6#32) (mk M 8))) (andi (hr H 7#32) (mk M 9)))
    (andi (shli (fol H) (broadcast S8x128 2#32)) (mk M 10))) (andi (shli (fol H) (broadcast S8x128 1#32)) (mk M 11))
/-- The head words of plane 3. -/
def head3 : IVec S8x128 32 := andi (hr H 6#32) (mk M 12)

end

/-- One chunk of 128 columns, dequantised: the four planes of codes, each less its zero and times its scale. -/
def chunk (W : IVec S32x1024 32) (M : Fin 14 → IVec S1x8x128 32) (Z S : Fin 4 → FVec F S128x128 .bf16) (o : ℕ)
    (h : S32x1024.Slices ![0, o] S32x128) : FVec F S512x128 .bf16 :=
  have P := extractStridedSlice S32x128 ![0, o] W h
  have H := extractStridedSlice S8x128 ![0, 0] P slices_S32x128_o0_0_S8x128
  have B := extractStridedSlice S24x128 ![8, 0] P slices_S32x128_o8_0_S24x128
  concatenate S512x128 0
    [⟨S128x128, mulf (subf (asCodes (head0 H M) (low2 B)) (Z 0)) (S 0)⟩,
     ⟨S128x128, mulf (subf (asCodes (head1 H M) (low2 (shrui B (broadcast S24x128 2#32)))) (Z 1)) (S 1)⟩,
     ⟨S128x128, mulf (subf (asCodes (head2 H M) (low2 (shrui B (broadcast S24x128 4#32)))) (Z 2)) (S 2)⟩,
     ⟨S128x128, mulf (subf (asCodes (head3 H M) (low2 (shrui B (broadcast S24x128 6#32)))) (Z 3)) (S 3)⟩]
    concatenates_S128x128_S128x128_S128x128_S128x128_S512x128_d0

/-- The packed bytes of 1024 columns as words. -/
def words (U : Vec F S117x1024 .i8) : IVec S32x1024 32 :=
  bitcast S32x1024 32 (concatenate S128x1024 0 [⟨S117x1024, U⟩, ⟨S11x1024, broadcast S11x1024 0#8⟩] concatenates_S117x1024_S11x1024_S128x1024_d0) bitcasts_S128x1024_w8_S32x1024_w32

/-- 1024 columns, dequantised. -/
def deq (U : Vec F S117x1024 .i8) (M : Fin 14 → IVec S1x8x128 32) (Z S : Fin 4 → FVec F S128x128 .bf16) : FVec F S512x1024 .bf16 :=
  concatenate S512x1024 1
    [⟨S512x128, chunk (words U) M Z S 0 slices_S32x1024_o0_0_S32x128⟩, ⟨S512x128, chunk (words U) M Z S 128 slices_S32x1024_o0_128_S32x128⟩,
     ⟨S512x128, chunk (words U) M Z S 256 slices_S32x1024_o0_256_S32x128⟩, ⟨S512x128, chunk (words U) M Z S 384 slices_S32x1024_o0_384_S32x128⟩,
     ⟨S512x128, chunk (words U) M Z S 512 slices_S32x1024_o0_512_S32x128⟩, ⟨S512x128, chunk (words U) M Z S 640 slices_S32x1024_o0_640_S32x128⟩,
     ⟨S512x128, chunk (words U) M Z S 768 slices_S32x1024_o0_768_S32x128⟩, ⟨S512x128, chunk (words U) M Z S 896 slices_S32x1024_o0_896_S32x128⟩]
    concatenates_S512x128_S512x128_S512x128_S512x128_S512x128_S512x128_S512x128_S512x128_S512x1024_d1

section
variable (c : Dev nD)
  (Xm : Buf (Elt F) (maskB.view.loc (c : Thread nD τ)))

/-- A mask lies in the array of masks. -/
theorem inbM (n : Fin 14) : ∀ a, (![n.val, 0, 0] : Fin 3 → ℕ) a + S1x8x128.size a ≤ S14x8x128.size a := by
  revert n; decide
/-- A plane lies in the spread rows. -/
theorem inbP (p : Fin 4) : ∀ a, (![128 * p.val, 0] : Fin 2 → ℕ) a + S128x128.size a ≤ S512x128.size a := by
  revert p; decide

/-- The masks, as loaded. -/
def loadM : Fin 14 → IVec S1x8x128 32 := fun n =>
  View.readAt (Elt F) maskB.view (Rect.unit (s := S14x8x128) ![n.val, 0, 0] S1x8x128.size (inbM n)).toLoadRect Xm
/-- A column of 512 numbers spread over the lanes, one plane of it as loaded. -/
def loadP (B : Memref sig .tc .vmem S512x128 .bf16) (X : Buf (Elt F) (B.view.loc (c : Thread nD τ))) : Fin 4 → FVec F S128x128 .bf16 := fun p =>
  View.readAt (Elt F) B.view (Rect.unit (s := S512x128) ![128 * p.val, 0] S128x128.size (inbP p)).toLoadRect X

attribute [local irreducible] concatenate bitcast extractStridedSlice shrui shli andi ori xori dynamicRotate subf mulf sitofp shapeCast View.readAt broadcast

variable (Xu : Buf (Elt F) (uB.view.loc (c : Thread nD τ))) (Xuz : Buf (Elt F) (uzB.view.loc (c : Thread nD τ)))
    (Xus : Buf (Elt F) (usB.view.loc (c : Thread nD τ))) (Xt : Buf (Elt F) (tB.view.loc (c : Thread nD τ))) (k : Fin k0_t2_loop.trips)

set_option maxHeartbeats 1000000 in
/-- The tile's delta is the product of `t` with the dequantised tile. -/
theorem delta_eq :
    tripC.sl.r_100 c Xu Xm Xuz Xus Xt k
      = matmul dot_S40x512_S512x1024_S40x1024_1_0_0_1_n_n none
          (View.readAt (Elt F) tB.view (Rect.unit (s := S40x512) ![0, 0] S40x512.size inb_S40x512_S40x512_0_0).toLoadRect Xt)
          (deq (uval c Xu k) (loadM c Xm) (loadP c uzB Xuz) (loadP c usB Xus)) (constant S40x1024 .f32 0x00000000#32) := by
  rfl

end

end Cert.Proof.IdealRun

end
-- ==== Proof.ValZ.lean ====
/-
  The middle factor's loop: each of its five trips adds one product with a dequantised chunk.
-/
module

public import proofs.«01_k».proof.Proof.IdealZ
import all proofs.«01_k».proof.Proof.IdealZ
public import proofs.«01_k».proof.Proof.ValChunk

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic

variable {F : FTy → Type} [FloatOps F]
variable (c : Dev nD)
variable (Xv : Buf (Elt F) (vB.view.loc (c : Thread nD τ))) (Xx : Buf (Elt F) (xB.view.loc (c : Thread nD τ))) (Xm : Buf (Elt F) (maskB.view.loc (c : Thread nD τ)))
variable (Xz : Buf (Elt F) (vzB.view.loc (c : Thread nD τ))) (Xs : Buf (Elt F) (vsB.view.loc (c : Thread nD τ)))
variable (k : Fin k0_t1_loop.trips)

/-- The columns of the packed bytes one trip reads. -/
abbrev vval (k : Fin k0_t1_loop.trips) : Vec F S117x1024 .i8 :=
  View.readAt (Elt F) vB.view (Rect.unit (s := S117x5120) (k0_off4 k) S117x1024.size (k0_off4_inb k)).toLoadRect Xv
/-- The columns of the activation one trip reads. -/
abbrev xval (k : Fin k0_t1_loop.trips) : Vec F S40x1024 .bf16 :=
  View.readAt (Elt F) xB.view (Rect.unit (s := S40x5120) (k0_off3 k) S40x1024.size (k0_off3_inb k)).toLoadRect Xx

/-- The sum one trip stores. -/
def zsum (f : Buf (Elt F) (accB.view.loc (c : Thread nD τ))) : FVec F S40x512 .f32 :=
  addf (View.readAt (Elt F) accB.view (Rect.unit (s := S40x512) ![0, 0] S40x512.size inb_S40x512_S40x512_0_0).toLoadRect f)
    (matmul dot_S40x1024_S512x1024_S40x512_1_1_0_0_n_n none (xval c Xx k)
      (deq (vval c Xv k) (loadM c Xm) (loadP c vzB Xz) (loadP c vsB Xs)) (constant S40x512 .f32 0x00000000#32))

attribute [local irreducible] concatenate bitcast extractStridedSlice shrui shli andi ori xori dynamicRotate subf mulf addf sitofp shapeCast View.readAt broadcast

set_option maxHeartbeats 1000000 in
/-- One trip stores the sum of what it found and its chunk's product. -/
theorem tripZ_eq (f : Buf (Elt F) (accB.view.loc (c : Thread nD τ))) :
    (tripZ c Xv Xx Xm Xz Xs k).1 f = [⟨Rect.unit (s := S40x512) ![0, 0] S40x512.size inb_S40x512_S40x512_0_0, k0_pay275 (zsum c Xv Xx Xm Xz Xs k f)⟩] := by
  unfold tripZ
  rfl

end Cert.Proof.IdealRun

end
-- ==== Proof.ValPerm.lean ====
/-
  The permutation the kernel builds between the order of the packed ranks and the order of its planes.
-/
module

public import proofs.«01_k».proof.Proof.IdealLaunch
public import Idealize.ShloMosaic.Lib.Pointwise
public import Idealize.ShloMosaic.Lib.VecWindow

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic

/-- The rank at row `l` of the planes, as the kernel computes it: minus one where there is none. -/
def rankWord (l : BitVec 32) : BitVec 32 :=
  let plane := IntOp.shrsi .vector l 7#32
  let b := IntOp.andi l 127#32
  let g := IntOp.shrsi .vector (IntOp.muli (IntOp.subi b 2#32) 11#32) 5#32
  let mm := IntOp.subi (IntOp.subi b 2#32) (IntOp.muli 3#32 g)
  let r3 := Scalar.select (IntOp.cmpi .slt (IntOp.addi (IntOp.muli 3#32 mm) plane) 8#32)
    (IntOp.addi (IntOp.addi (IntOp.addi 2#32 (IntOp.muli 8#32 g)) (IntOp.muli 3#32 mm)) plane) 4294967295#32
  let r3' := Scalar.select (IntOp.cmpi .slt plane 3#32) r3 4294967295#32
  let r2 := Scalar.select (IntOp.cmpi .slt b 117#32)
    (IntOp.addi (IntOp.addi 34#32 (IntOp.muli 4#32 (IntOp.subi b 14#32))) plane) 4294967295#32
  let r8 := Scalar.select (IntOp.cmpi .eq plane 0#32) b 4294967295#32
  Scalar.select (IntOp.cmpi .slt b 2#32) r8 (Scalar.select (IntOp.cmpi .slt b 14#32) r3' r2)

/-- The row of the planes that holds rank `r`. -/
def place (r : ℕ) : ℕ :=
  if r < 2 then r else if r < 34 then 128 * ((r - 2) % 8 % 3) + (2 + 3 * ((r - 2) / 8) + (r - 2) % 8 / 3)
  else 128 * ((r - 34) % 4) + (14 + (r - 34) / 4)

/-- Every rank has a row among the 512. -/
theorem place_lt : ∀ r : Fin 446, place r.val < 512 := by decide +kernel
/-- The kernel's word at a rank's row is the rank. -/
theorem rankWord_place : ∀ r : Fin 446, rankWord (BitVec.ofNat 32 (place r.val)) = BitVec.ofNat 32 r.val := by decide +kernel
/-- Every row either belongs to no rank, or is the row of the rank its word names. -/
theorem rankWord_cases : ∀ l : Fin 512, rankWord (BitVec.ofNat 32 l.val) = 4294967295#32 ∨
    ((rankWord (BitVec.ofNat 32 l.val)).toNat < 446 ∧ place (rankWord (BitVec.ofNat 32 l.val)).toNat = l.val) := by decide +kernel

/-- The word the kernel computes at a row of the permutation. -/
theorem perm_word (l : Fin 512) (j : Fin 128) : bodyRun.sl.r (ix2 l j) = rankWord (BitVec.ofNat 32 l.val) := by
  unfold bodyRun.sl.r k0_pay246
  pointwise [bodyRun.sl.v350, bodyRun.sl.v351, bodyRun.sl.v353, bodyRun.sl.v355, bodyRun.sl.v356, bodyRun.sl.v357, bodyRun.sl.v359, bodyRun.sl.v360, bodyRun.sl.v363, bodyRun.sl.v365, bodyRun.sl.v368, bodyRun.sl.v369, bodyRun.sl.v374, bodyRun.sl.v377, bodyRun.sl.v378, bodyRun.sl.v380, bodyRun.sl.v379, bodyRun.sl.v382, bodyRun.sl.v385, bodyRun.sl.v386, bodyRun.sl.v387, bodyRun.sl.v388, bodyRun.sl.v389, bodyRun.sl.v391, bodyRun.sl.v392, bodyRun.sl.v393]
  rfl

/-- One where the column is the row's rank, zero elsewhere. -/
def hit (l r : ℕ) : EReal := if rankWord (BitVec.ofNat 32 l) = BitVec.ofNat 32 r then 1 else 0

/-- Choosing by equality of a row's word and a rank. -/
theorem select_hit (l r : ℕ) (a b : EReal) : Scalar.select (IntOp.cmpi .eq (rankWord (BitVec.ofNat 32 l)) (BitVec.ofNat 32 r)) a b
    = if rankWord (BitVec.ofNat 32 l) = BitVec.ofNat 32 r then a else b := by
  by_cases h : rankWord (BitVec.ofNat 32 l) = BitVec.ofNat 32 r
  · simp [Scalar.select, IntOp.cmpi, h]
  · have h' : (rankWord (BitVec.ofNat 32 l) == BitVec.ofNat 32 r) = false := beq_eq_false_iff_ne.mpr h
    simp [Scalar.select, IntOp.cmpi, h, h']

/-- Adding two words of natural numbers. -/
theorem addi_ofNat (a b : ℕ) : IntOp.addi (BitVec.ofNat 32 a) (BitVec.ofNat 32 b) = BitVec.ofNat 32 (b + a) := by
  rw [Nat.add_comm]; exact (BitVec.ofNat_add a b).symm

/-- The first 128 columns of the permutation are ones where the column is the row's rank. -/
theorem piece0 (l : Fin 512) (j : Fin 128) : k0_pay247 (F := Ideal) (shrsi bodyRun.sl.v350 bodyRun.sl.v351) (andi bodyRun.sl.v350 bodyRun.sl.v353) (select bodyRun.sl.v382 bodyRun.sl.v380 bodyRun.sl.v379) bodyRun.sl.v386 bodyRun.sl.v393 (ix2 l j) = hit l.val (0 + j.val) := by
  have := perm_word l j
  unfold bodyRun.sl.r at this
  unfold k0_pay247
  pointwise [this]
  rw [addi_ofNat, select_hit, Nat.zero_add]; rfl
/-- The second 128 columns of the permutation, likewise. -/
theorem piece1 (l : Fin 512) (j : Fin 128) : k0_pay248 (F := Ideal) (shrsi bodyRun.sl.v350 bodyRun.sl.v351) (andi bodyRun.sl.v350 bodyRun.sl.v353) (select bodyRun.sl.v382 bodyRun.sl.v380 bodyRun.sl.v379) bodyRun.sl.v386 bodyRun.sl.v393 (ix2 l j) = hit l.val (128 + j.val) := by
  have := perm_word l j
  unfold bodyRun.sl.r at this
  unfold k0_pay248
  pointwise [this]
  rw [addi_ofNat, select_hit]; rfl
/-- The third 128 columns of the permutation, likewise. -/
theorem piece2 (l : Fin 512) (j : Fin 128) : k0_pay250 (F := Ideal) bodyRun.sl.r_1 (ix2 l j) = hit l.val (256 + j.val) := by
  have := perm_word l j
  unfold bodyRun.sl.r at this
  unfold k0_pay250 bodyRun.sl.r_1 k0_pay249
  pointwise [this]
  rw [addi_ofNat, select_hit]; rfl
/-- The last 128 columns of the permutation, likewise. -/
theorem piece3 (l : Fin 512) (j : Fin 128) : k0_pay251 (F := Ideal) bodyRun.sl.r bodyRun.sl.v406 (ix2 l j) = hit l.val (384 + j.val) := by
  unfold k0_pay251
  pointwise [perm_word l j, bodyRun.sl.v406]
  rw [addi_ofNat, select_hit]; rfl

/-- A 128-column piece read at a column of its own. -/
theorem perm_mem (o : ℕ) (h : ∀ a, (![0, o] : Fin 2 → ℕ) a + S512x128.size a ≤ S512x512.size a) (w : S512x128.Idx → Elt Ideal .bf16) (L : List (View.Piece (Elt Ideal) S512x512 .bf16))
    (hw : ∀ l j, w (ix2 l j) = hit l.val (o + j.val)) (l r : Fin 512) (h1 : o ≤ r.val) (h2 : r.val < o + 128) :
    permB.view.read (Elt Ideal) (permB.view.writes (Elt Ideal) permB.view.junk (⟨Rect.unit ![0, o] S512x128.size h, w⟩ :: L)) (ix2 l r) = hit l.val r.val := by
  rw [View.read_writes_cons_unit_of_mem permB.view _ h w L (ix2 l r) (ix2 l ⟨r.val - o, by omega⟩) rfl (by
    intro a; match a with
    | ⟨0, _⟩ => show l.val = 0 + l.val; omega
    | ⟨1, _⟩ => show r.val = o + (r.val - o); omega)]
  rw [hw]; congr 1; show o + (r.val - o) = r.val; omega
/-- And at a column of another. -/
theorem perm_not_mem (o : ℕ) (h : ∀ a, (![0, o] : Fin 2 → ℕ) a + S512x128.size a ≤ S512x512.size a) (w : S512x128.Idx → Elt Ideal .bf16) (L : List (View.Piece (Elt Ideal) S512x512 .bf16))
    (l r : Fin 512) (h1 : r.val < o) :
    permB.view.read (Elt Ideal) (permB.view.writes (Elt Ideal) permB.view.junk (⟨Rect.unit ![0, o] S512x128.size h, w⟩ :: L)) (ix2 l r)
      = permB.view.read (Elt Ideal) (permB.view.writes (Elt Ideal) permB.view.junk L) (ix2 l r) :=
  View.read_writes_cons_unit_of_not_mem permB.view _ h w L (ix2 l r) rfl 1 (Or.inl h1)

/-- The permutation as loaded. -/
theorem v603_at (l r : Fin 512) : bodyRun.sl.v603 (F := Ideal) (ix2 l r) = hit l.val r.val := by
  have e : bodyRun.sl.v603 (F := Ideal) = permB.view.read (Elt Ideal) (permB.view.writes (Elt Ideal) permB.view.junk (bodyRun.sl.SpermB_4 (F := Ideal)))  :=
    View.readAt_full (s := S512x512) permB.view (permB.view.writes (Elt Ideal) permB.view.junk (bodyRun.sl.SpermB_4 (F := Ideal))) (off := ![0, 0]) inb_S512x512_S512x512_0_0
  rw [e]
  unfold bodyRun.sl.SpermB_4
  by_cases h3 : 384 ≤ r.val
  · exact perm_mem 384 _ _ _ piece3 l r h3 (by omega)
  rw [perm_not_mem 384 _ _ _ l r (by omega)]
  by_cases h2 : 256 ≤ r.val
  · exact perm_mem 256 _ _ _ piece2 l r h2 (by omega)
  rw [perm_not_mem 256 _ _ _ l r (by omega)]
  by_cases h1 : 128 ≤ r.val
  · exact perm_mem 128 _ _ _ piece1 l r h1 (by omega)
  rw [perm_not_mem 128 _ _ _ l r (by omega)]
  exact perm_mem 0 _ _ _ piece0 l r (by omega) (by omega)
/-- The permutation is loaded twice with the same contents. -/
theorem v558_eq : bodyRun.sl.v558 (F := Ideal) = bodyRun.sl.v603 (F := Ideal) := rfl

/-- A rank's row is the one that is hit. -/
theorem hit_iff (l : Fin 512) (r : Fin 512) : hit l.val r.val = if r.val < 446 ∧ l.val = place r.val then 1 else 0 := by
  unfold hit
  congr 1
  apply propext
  constructor
  · intro h
    rcases rankWord_cases l with h1 | ⟨h1, h2⟩
    · rw [h1] at h
      have := congrArg BitVec.toNat h
      simp only [BitVec.toNat_ofNat] at this
      omega
    · have h3 : (rankWord (BitVec.ofNat 32 l.val)).toNat = r.val := by
        rw [h, BitVec.toNat_ofNat]; omega
      rw [h3] at h1 h2; exact ⟨h1, h2.symm⟩
  · rintro ⟨h1, h2⟩
    rw [h2]; exact rankWord_place ⟨r.val, h1⟩

/-- Different ranks have different rows. -/
theorem place_inj (r r' : Fin 446) (h : place r.val = place r'.val) : r = r' := by
  have h1 := rankWord_place r
  rw [h, rankWord_place r'] at h1
  have := congrArg BitVec.toNat h1
  simp only [BitVec.toNat_ofNat] at this
  ext; omega

end Cert.Proof.IdealRun

end
-- ==== Proof.ValBits.lean ====
/-
  The bits of the dequantiser's codes: the packed bytes of one column as a stream of bits, and the codes of the
  planes as stretches of that stream.
-/
module

public import proofs.«01_k».proof.Proof.ValChunk
public import proofs.«01_k».proof.Proof.ValPerm
public import Idealize.ShloMosaic.Lib.Pointwise
public import Idealize.ShloMosaic.Lib.BitcastFour
public import Idealize.ShloMosaic.Lib.BitcastPair

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic

/-- The byte of mask `n` at byte `b` of a column: which bits of the shifted source the code there keeps. -/
def maskByte (n b : ℕ) : ℕ :=
  let three := fun m v => if 2 ≤ b ∧ b < 14 ∧ (b - 2) % 3 = m then v else 0
  let two := if 14 ≤ b then 3 else 0
  match n with
  | 0 => (if b < 2 then 255 else 0) + three 0 7 + two
  | 1 => three 1 7
  | 2 => three 2 7
  | 3 => two
  | 4 => three 0 7
  | 5 => three 1 7
  | 6 => three 2 7
  | 7 => two
  | 8 => three 0 3
  | 9 => three 1 1
  | 10 => three 0 4
  | 11 => three 1 6
  | 12 => two
  | _ => if b < 2 then 128 else 0
/-- Mask `n`'s word at word `s`. -/
def maskWord (n s : ℕ) : BitVec 32 :=
  BitVec.ofNat 32 (maskByte n (4 * s) + 2 ^ 8 * maskByte n (4 * s + 1) + 2 ^ 16 * maskByte n (4 * s + 2) + 2 ^ 24 * maskByte n (4 * s + 3))

/-- How far up the stream the bit that entry `n` puts at a place comes from. -/
def off (n : ℕ) : ℕ := ([0, 1, 2, 2, 3, 4, 5, 4, 6, 7, 6, 7, 6] : List ℕ).getD n 0
/-- Where rank `r` starts in the stream. -/
def start (r : ℕ) : ℕ := if r < 2 then 8 * r else if r < 34 then 16 + 3 * (r - 2) else 112 + 2 * (r - 34)
/-- How many bits rank `r` has. -/
def width (r : ℕ) : ℕ := if r < 2 then 8 else if r < 34 then 3 else 2

/-- Entry `n`'s mask bit. -/
abbrev mb (n s q : ℕ) : Bool := (maskWord n s).getLsbD q

/-- Where an entry that shifts right keeps a bit, the bit comes from inside the word. -/
theorem inside : ∀ n : Fin 13, n.val ≠ 10 → n.val ≠ 11 → ∀ s : Fin 8, ∀ q : Fin 32, mb n.val s.val q.val = true → q.val + off n.val < 32 := by decide +kernel
/-- Where the two entries that reach into the following byte keep a bit, there is one. -/
theorem follow : ∀ s : Fin 8, ∀ q : Fin 32, (mb 10 s.val q.val = true → 2 ≤ q.val ∧ q.val + 6 < 32 + 32 ∧ s.val < 7) ∧ (mb 11 s.val q.val = true → 1 ≤ q.val ∧ s.val < 7) := by decide +kernel

/-- The entries of each plane. -/
def entries (p : ℕ) : List ℕ := ([[0, 1, 2], [3, 4, 5, 6], [7, 8, 9, 10, 11], [12]] : List (List ℕ)).getD p []

/-- Every kept bit of the head is the rank's own bit of the stream, and all of the rank's bits are kept. -/
theorem head_fact : ∀ r : Fin 446, place r.val % 128 < 32 → ∀ t : Fin 8,
    (∀ n ∈ entries (place r.val / 128), mb n (place r.val % 128 / 4) (8 * (place r.val % 4) + t.val) = true →
        32 * (place r.val % 128 / 4) + (8 * (place r.val % 4) + t.val) + off n = start r.val + t.val) ∧
    ((entries (place r.val / 128)).any fun n => mb n (place r.val % 128 / 4) (8 * (place r.val % 4) + t.val)) = decide (t.val < width r.val) := by
  decide +kernel
/-- Past the head: the two bits of every byte. -/
theorem body_fact : ∀ r : Fin 446, 32 ≤ place r.val % 128 → ∀ t : Fin 8,
    ((50529027#32).getLsbD (8 * (place r.val % 4) + t.val) = decide (t.val < width r.val)) ∧
    (t.val < width r.val → 32 * (place r.val % 128 / 4) + (8 * (place r.val % 4) + t.val) + 2 * (place r.val / 128) = start r.val + t.val
      ∧ (8 * (place r.val % 4) + t.val) + 2 * (place r.val / 128) < 32) := by decide +kernel

/-- One plane of codes, still as words. -/
def planeW (P : IVec S32x128 32) (M : Fin 14 → IVec S1x8x128 32) (p : Fin 4) : IVec S32x128 32 :=
  have H := extractStridedSlice S8x128 ![0, 0] P slices_S32x128_o0_0_S8x128
  have B := extractStridedSlice S24x128 ![8, 0] P slices_S32x128_o8_0_S24x128
  match p with
  | 0 => concatenate S32x128 0 [⟨S8x128, head0 H M⟩, ⟨S24x128, low2 B⟩] concatenates_S8x128_S24x128_S32x128_d0
  | 1 => concatenate S32x128 0 [⟨S8x128, head1 H M⟩, ⟨S24x128, low2 (shrui B (broadcast S24x128 2#32))⟩] concatenates_S8x128_S24x128_S32x128_d0
  | 2 => concatenate S32x128 0 [⟨S8x128, head2 H M⟩, ⟨S24x128, low2 (shrui B (broadcast S24x128 4#32))⟩] concatenates_S8x128_S24x128_S32x128_d0
  | 3 => concatenate S32x128 0 [⟨S8x128, head3 H M⟩, ⟨S24x128, low2 (shrui B (broadcast S24x128 6#32))⟩] concatenates_S8x128_S24x128_S32x128_d0

section
variable (σ : ℕ → Bool) (x x' : BitVec 32) (s : Fin 8) (hx : ∀ q, q < 32 → x.getLsbD q = σ (32 * s.val + q))
  (hx' : s.val < 7 → ∀ q, q < 32 → x'.getLsbD q = σ (32 * (s.val + 1) + q))

include hx
/-- A bit that an entry keeps of the shifted word is a bit of the stream. -/
theorem term_w (n : Fin 13) (h10 : n.val ≠ 10) (h11 : n.val ≠ 11) (q : ℕ) (hq : q < 32) :
    (x.getLsbD (off n.val + q) && mb n.val s.val q) = (mb n.val s.val q && σ (32 * s.val + q + off n.val)) := by
  cases hm : mb n.val s.val q
  · simp
  · have h : q + off n.val < 32 := inside n h10 h11 s ⟨q, hq⟩ hm
    rw [hx _ (by omega)]
    simp only [Bool.and_true, Bool.true_and]
    congr 1; omega
include hx'
/-- And of the word that starts a byte later, shifted left by `d`. -/
theorem term_n (n d : ℕ) (hd : off n + d = 8) (q : ℕ) (hq : q < 32) (hd8 : d < 8) (hm : mb n s.val q = true → d ≤ q ∧ s.val < 7) :
    ((((x >>> 8) ||| (x' <<< 24)) <<< d).getLsbD q && mb n s.val q) = (mb n s.val q && σ (32 * s.val + q + off n)) := by
  cases hb : mb n s.val q
  · simp
  · obtain ⟨h1, h2⟩ := hm hb
    simp only [Bool.and_true, Bool.true_and, BitVec.getLsbD_shiftLeft, BitVec.getLsbD_or, BitVec.getLsbD_ushiftRight]
    by_cases h3 : q - d < 24
    · rw [hx (8 + (q - d)) (by omega)]
      simp only [h3, decide_true, Bool.not_true, Bool.and_false, Bool.false_and, Bool.or_false]
      rw [show 32 * s.val + (8 + (q - d)) = 32 * s.val + q + off n by omega]
      simp [hq, h1]
    · rw [BitVec.getLsbD_of_ge x (8 + (q - d)) (by omega), hx' h2 (q - d - 24) (by omega)]
      rw [show 32 * (s.val + 1) + (q - d - 24) = 32 * s.val + q + off n by omega]
      simp [hq, h3, show q - d < 32 by omega, show ¬ q < d by omega]
end

section
variable (P : IVec S32x128 32) (M : Fin 14 → IVec S1x8x128 32) (hM : ∀ (n : Fin 14) (s : Fin 8) (j : Fin 128), M n (ix3 (0 : Fin 1) s j) = maskWord n.val s.val)
  (σ : ℕ → Bool) (j : Fin 128) (hP : ∀ (s : Fin 32) (q : ℕ), q < 32 → (P (ix2 s j)).getLsbD q = σ (32 * s.val + q))

/-- The shifts by a literal. -/
theorem shr (x : BitVec 32) : IntOp.shrui .vector x 1#32 = x >>> 1 ∧ IntOp.shrui .vector x 2#32 = x >>> 2 ∧ IntOp.shrui .vector x 3#32 = x >>> 3
    ∧ IntOp.shrui .vector x 4#32 = x >>> 4 ∧ IntOp.shrui .vector x 5#32 = x >>> 5 ∧ IntOp.shrui .vector x 6#32 = x >>> 6 ∧ IntOp.shrui .vector x 7#32 = x >>> 7
    ∧ IntOp.shrui .vector x 8#32 = x >>> 8 ∧ IntOp.shli .vector x 1#32 = x <<< 1 ∧ IntOp.shli .vector x 2#32 = x <<< 2 ∧ IntOp.shli .vector x 24#32 = x <<< 24 :=
  ⟨rfl, rfl, rfl, rfl, rfl, rfl, rfl, rfl, rfl, rfl, rfl⟩

include hM hP
/-- The head words of plane 0, bit by bit: the entries' stretches of the stream, the two whole bytes flipped in their top bit. -/
theorem head_bits0 (s : Fin 8) (q : ℕ) (hq : q < 32) : (planeW P M 0 (ix2 (⟨s.val, by omega⟩ : Fin 32) j)).getLsbD q
    = (((entries 0).any fun n => mb n s.val q && σ (32 * s.val + q + off n)) ^^ mb 13 s.val q) := by
  have T := fun n h1 h2 => term_w σ (P (ix2 (⟨s.val, by omega⟩ : Fin 32) j)) s (fun q hq => hP ⟨s.val, by omega⟩ q hq) n h1 h2 q hq
  pointwise [planeW, head0, mk, hr, fol, hM]
  simp only [shr]
  have t0 : ((P (ix2 (⟨s.val, by omega⟩ : Fin 32) j)).getLsbD (q) && (maskWord 0 s.val).getLsbD q) = ((maskWord 0 s.val).getLsbD q && σ (32 * s.val + q + 0)) := by
    simpa [show off 0 = 0 from rfl] using T 0 (by decide) (by decide)
  have t1 : ((P (ix2 (⟨s.val, by omega⟩ : Fin 32) j)).getLsbD (1 + q) && (maskWord 1 s.val).getLsbD q) = ((maskWord 1 s.val).getLsbD q && σ (32 * s.val + q + 1)) := by
    simpa [show off 1 = 1 from rfl] using T 1 (by decide) (by decide)
  have t2 : ((P (ix2 (⟨s.val, by omega⟩ : Fin 32) j)).getLsbD (2 + q) && (maskWord 2 s.val).getLsbD q) = ((maskWord 2 s.val).getLsbD q && σ (32 * s.val + q + 2)) := by
    simpa [show off 2 = 2 from rfl] using T 2 (by decide) (by decide)
  simp only [IntOp.xori, IntOp.ori, IntOp.andi, BitVec.getLsbD_xor, BitVec.getLsbD_or (x := _ &&& _), BitVec.getLsbD_or (x := _ ||| _), BitVec.getLsbD_and, BitVec.getLsbD_ushiftRight]
  have e : ((entries 0).any fun n => mb n s.val q && σ (32 * s.val + q + off n)) = (((maskWord 0 s.val).getLsbD q && σ (32 * s.val + q + 0)) || (((maskWord 1 s.val).getLsbD q && σ (32 * s.val + q + 1)) || (((maskWord 2 s.val).getLsbD q && σ (32 * s.val + q + 2)) || (false)))) := rfl
  rw [e, t0, t1, t2]
  simp only [Bool.or_false, Bool.or_assoc]

/-- The head words of plane 1, bit by bit: the entries' stretches of the stream. -/
theorem head_bits1 (s : Fin 8) (q : ℕ) (hq : q < 32) : (planeW P M 1 (ix2 (⟨s.val, by omega⟩ : Fin 32) j)).getLsbD q
    = ((entries 1).any fun n => mb n s.val q && σ (32 * s.val + q + off n)) := by
  have T := fun n h1 h2 => term_w σ (P (ix2 (⟨s.val, by omega⟩ : Fin 32) j)) s (fun q hq => hP ⟨s.val, by omega⟩ q hq) n h1 h2 q hq
  pointwise [planeW, head1, mk, hr, fol, hM]
  simp only [shr]
  have t3 : ((P (ix2 (⟨s.val, by omega⟩ : Fin 32) j)).getLsbD (2 + q) && (maskWord 3 s.val).getLsbD q) = ((maskWord 3 s.val).getLsbD q && σ (32 * s.val + q + 2)) := by
    simpa [show off 3 = 2 from rfl] using T 3 (by decide) (by decide)
  have t4 : ((P (ix2 (⟨s.val, by omega⟩ : Fin 32) j)).getLsbD (3 + q) && (maskWord 4 s.val).getLsbD q) = ((maskWord 4 s.val).getLsbD q && σ (32 * s.val + q + 3)) := by
    simpa [show off 4 = 3 from rfl] using T 4 (by decide) (by decide)
  have t5 : ((P (ix2 (⟨s.val, by omega⟩ : Fin 32) j)).getLsbD (4 + q) && (maskWord 5 s.val).getLsbD q) = ((maskWord 5 s.val).getLsbD q && σ (32 * s.val + q + 4)) := by
    simpa [show off 5 = 4 from rfl] using T 5 (by decide) (by decide)
  have t6 : ((P (ix2 (⟨s.val, by omega⟩ : Fin 32) j)).getLsbD (5 + q) && (maskWord 6 s.val).getLsbD q) = ((maskWord 6 s.val).getLsbD q && σ (32 * s.val + q + 5)) := by
    simpa [show off 6 = 5 from rfl] using T 6 (by decide) (by decide)
  simp only [IntOp.xori, IntOp.ori, IntOp.andi, BitVec.getLsbD_xor, BitVec.getLsbD_or (x := _ &&& _), BitVec.getLsbD_or (x := _ ||| _), BitVec.getLsbD_and, BitVec.getLsbD_ushiftRight]
  have e : ((entries 1).any fun n => mb n s.val q && σ (32 * s.val + q + off n)) = (((maskWord 3 s.val).getLsbD q && σ (32 * s.val + q + 2)) || (((maskWord 4 s.val).getLsbD q && σ (32 * s.val + q + 3)) || (((maskWord 5 s.val).getLsbD q && σ (32 * s.val + q + 4)) || (((maskWord 6 s.val).getLsbD q && σ (32 * s.val + q + 5)) || (false))))) := rfl
  rw [e, t3, t4, t5, t6]
  simp only [Bool.or_false, Bool.or_assoc]

/-- The head words of plane 2, bit by bit: the entries' stretches of the stream. -/
theorem head_bits2 (s : Fin 8) (q : ℕ) (hq : q < 32) : (planeW P M 2 (ix2 (⟨s.val, by omega⟩ : Fin 32) j)).getLsbD q
    = ((entries 2).any fun n => mb n s.val q && σ (32 * s.val + q + off n)) := by
  have T := fun n h1 h2 => term_w σ (P (ix2 (⟨s.val, by omega⟩ : Fin 32) j)) s (fun q hq => hP ⟨s.val, by omega⟩ q hq) n h1 h2 q hq
  pointwise [planeW, head2, mk, hr, fol, hM]
  simp only [shr]
  have t7 : ((P (ix2 (⟨s.val, by omega⟩ : Fin 32) j)).getLsbD (4 + q) && (maskWord 7 s.val).getLsbD q) = ((maskWord 7 s.val).getLsbD q && σ (32 * s.val + q + 4)) := by
    simpa [show off 7 = 4 from rfl] using T 7 (by decide) (by decide)
  have t8 : ((P (ix2 (⟨s.val, by omega⟩ : Fin 32) j)).getLsbD (6 + q) && (maskWord 8 s.val).getLsbD q) = ((maskWord 8 s.val).getLsbD q && σ (32 * s.val + q + 6)) := by
    simpa [show off 8 = 6 from rfl] using T 8 (by decide) (by decide)
  have t9 : ((P (ix2 (⟨s.val, by omega⟩ : Fin 32) j)).getLsbD (7 + q) && (maskWord 9 s.val).getLsbD q) = ((maskWord 9 s.val).getLsbD q && σ (32 * s.val + q + 7)) := by
    simpa [show off 9 = 7 from rfl] using T 9 (by decide) (by decide)
  have N := fun n d => term_n σ (P (ix2 (⟨s.val, by omega⟩ : Fin 32) j)) (P (ix2 (⟨(s.val + 8 - 7) % 8, by omega⟩ : Fin 32) j)) s (fun q hq => hP ⟨s.val, by omega⟩ q hq)
    (fun h q hq => by rw [hP _ q hq]; congr 1; show 32 * ((s.val + 8 - 7) % 8) + q = _; omega) n d
  have t10 := N 10 2 rfl q hq (by decide) (fun h => ⟨((follow s ⟨q, hq⟩).1 h).1, ((follow s ⟨q, hq⟩).1 h).2.2⟩)
  have t11 := N 11 1 rfl q hq (by decide) ((follow s ⟨q, hq⟩).2)
  rw [show off 10 = 6 from rfl] at t10
  rw [show off 11 = 7 from rfl] at t11
  unfold mb at t10 t11
  simp only [IntOp.ori, IntOp.andi, BitVec.getLsbD_or (y := _ &&& _), BitVec.getLsbD_and, BitVec.getLsbD_ushiftRight (x := P _)]
  have e : ((entries 2).any fun n => mb n s.val q && σ (32 * s.val + q + off n)) = (((maskWord 7 s.val).getLsbD q && σ (32 * s.val + q + 4)) || (((maskWord 8 s.val).getLsbD q && σ (32 * s.val + q + 6)) || (((maskWord 9 s.val).getLsbD q && σ (32 * s.val + q + 7)) || (((maskWord 10 s.val).getLsbD q && σ (32 * s.val + q + 6)) || (((maskWord 11 s.val).getLsbD q && σ (32 * s.val + q + 7)) || (false)))))) := rfl
  rw [e, t7, t8, t9, t10, t11]
  simp only [Bool.or_false, Bool.or_assoc]

/-- The head words of plane 3, bit by bit: the entries' stretches of the stream. -/
theorem head_bits3 (s : Fin 8) (q : ℕ) (hq : q < 32) : (planeW P M 3 (ix2 (⟨s.val, by omega⟩ : Fin 32) j)).getLsbD q
    = ((entries 3).any fun n => mb n s.val q && σ (32 * s.val + q + off n)) := by
  have T := fun n h1 h2 => term_w σ (P (ix2 (⟨s.val, by omega⟩ : Fin 32) j)) s (fun q hq => hP ⟨s.val, by omega⟩ q hq) n h1 h2 q hq
  pointwise [planeW, head3, mk, hr, fol, hM]
  simp only [shr]
  have t12 : ((P (ix2 (⟨s.val, by omega⟩ : Fin 32) j)).getLsbD (6 + q) && (maskWord 12 s.val).getLsbD q) = ((maskWord 12 s.val).getLsbD q && σ (32 * s.val + q + 6)) := by
    simpa [show off 12 = 6 from rfl] using T 12 (by decide) (by decide)
  simp only [IntOp.xori, IntOp.ori, IntOp.andi, BitVec.getLsbD_xor, BitVec.getLsbD_or (x := _ &&& _), BitVec.getLsbD_or (x := _ ||| _), BitVec.getLsbD_and, BitVec.getLsbD_ushiftRight]
  have e : ((entries 3).any fun n => mb n s.val q && σ (32 * s.val + q + off n)) = (((maskWord 12 s.val).getLsbD q && σ (32 * s.val + q + 6)) || (false)) := rfl
  rw [e, t12]
  simp only [Bool.or_false, Bool.or_assoc]

omit hM in
/-- Past the head every plane is the same: two bits of each byte. -/
theorem body_bits (p : Fin 4) (s : Fin 32) (hs : 8 ≤ s.val) (q : ℕ) (hq : q < 32) :
    (planeW P M p (ix2 s j)).getLsbD q = ((50529027#32).getLsbD q && (P (ix2 s j)).getLsbD (2 * p.val + q)) := by
  obtain ⟨s, hs32⟩ := s
  have hs : 8 ≤ s := hs
  match p with
  | 0 =>
    pointwise [planeW, low2]
    rw [dif_neg (by omega)]
    simp only [show 8 + (s - 8) = s by omega, shr, IntOp.andi, BitVec.getLsbD_and, BitVec.getLsbD_ushiftRight]
    simpa using Bool.and_comm _ _
  | 1 =>
    pointwise [planeW, low2]
    rw [dif_neg (by omega)]
    simp only [show 8 + (s - 8) = s by omega, shr, IntOp.andi, BitVec.getLsbD_and, BitVec.getLsbD_ushiftRight]
    exact Bool.and_comm _ _
  | 2 =>
    pointwise [planeW, low2]
    rw [dif_neg (by omega)]
    simp only [show 8 + (s - 8) = s by omega, shr, IntOp.andi, BitVec.getLsbD_and, BitVec.getLsbD_ushiftRight]
    exact Bool.and_comm _ _
  | 3 =>
    pointwise [planeW, low2]
    rw [dif_neg (by omega)]
    simp only [show 8 + (s - 8) = s by omega, shr, IntOp.andi, BitVec.getLsbD_and, BitVec.getLsbD_ushiftRight]
    exact Bool.and_comm _ _

end
section
variable (M : Fin 14 → IVec S1x8x128 32)

/-- A chunk's entry: its plane's code, less the zero, times the scale. -/
theorem chunk_at (W : IVec S32x1024 32) (Z S : Fin 4 → FVec Ideal S128x128 .bf16) (o : ℕ)
    (h : S32x1024.Slices ![0, o] S32x128) (p : Fin 4) (b j : Fin 128) :
    chunk W M Z S o h (ix2 (⟨128 * p.val + b.val, by omega⟩ : Fin 512) j)
      = (FloatOps.sitofp (F := Ideal) .bf16 (bitcast S128x128 8 (planeW (extractStridedSlice S32x128 ![0, o] W h) M p) bitcasts_S32x128_w32_S128x128_w8 (ix2 b j)) - Z p (ix2 b j)) * S p (ix2 b j) := by
  match p with
  | 0 =>
    pointwise [chunk, asCodes]
    unfold planeW; rfl
  | 1 =>
    pointwise [chunk, asCodes]
    unfold planeW; rfl
  | 2 =>
    pointwise [chunk, asCodes]
    rw [dif_neg (by omega), dif_neg (by omega), dif_pos (by omega)]
    simp only [show 256 + b.val - 128 - 128 = b.val by omega, Fin.eta, planeW]
  | 3 =>
    pointwise [chunk, asCodes]
    rw [dif_neg (by omega), dif_neg (by omega), dif_neg (by omega)]
    simp only [show 384 + b.val - 128 - 128 - 128 = b.val by omega, Fin.eta, planeW]
end

/-- Words read as bytes: byte `a` of a column is in word `a / 4`. -/
theorem bytes_at (x : IVec S32x128 32) (a l : Fin 128) (q : ℕ) (hq : q < 8) :
    (bitcast S128x128 8 x bitcasts_S32x128_w32_S128x128_w8 (ix2 a l)).getLsbD q
      = (x (ix2 (⟨a.val / 4, by omega⟩ : Fin 32) l)).getLsbD (8 * (a.val % 4) + q) := by
  have h := bitcasts_S32x128_w32_S128x128_w8
  rw [bitcast_getLsbD x h _ q hq (by decide)]
  have hr : S128x128.row (ix2 a l) = a.val := rfl
  have e2 : (S128x128.row (ix2 a l) * 8 + q) % 32 = 8 * (a.val % 4) + q := by rw [hr]; omega
  rw [e2]
  congr 2
  funext c
  match c with
  | ⟨0, _⟩ => exact Fin.ext ((h.srcIdx_row _ _ _ ⟨0, Nat.zero_lt_two⟩ rfl).trans (by rw [hr]; show _ = a.val / 4; omega))
  | ⟨1, _⟩ => exact Fin.ext (h.srcIdx_other _ _ _ ⟨1, Nat.one_lt_two⟩ (by show ¬ 1 + 2 = 2; omega))

/-- The flip of the two whole bytes is of their top bit, and of no other rank in plane 0. -/
theorem flip_fact : ∀ r : Fin 446, place r.val / 128 = 0 → place r.val % 128 < 32 → ∀ t : Fin 8,
    mb 13 (place r.val % 128 / 4) (8 * (place r.val % 4) + t.val) = (decide (r.val < 2) && decide (t.val = 7)) := by decide +kernel
/-- The two whole bytes are in plane 0's head. -/
theorem whole_fact : ∀ r : Fin 446, r.val < 2 → place r.val / 128 = 0 ∧ place r.val % 128 < 32 := by decide +kernel

/-- Rank `r`'s code as the stream spells it. -/
def IsCode (σ : ℕ → Bool) (r : ℕ) (x : BitVec 32) : Prop := ∀ t, t < 32 → x.getLsbD t = (decide (t < width r) && σ (start r + t))
/-- What the kernel's whole bytes are short of. -/
def shift (r : ℕ) : ℕ := if r < 2 then 128 else 0

/-- If every entry that passes the test gives one value, so does the search over the list. -/
theorem any_and (l : List ℕ) (f : ℕ → Bool) (g : ℕ → Bool) (v : Bool) (h : ∀ n ∈ l, f n = true → g n = v) :
    (l.any fun n => f n && g n) = (l.any f && v) := by
  induction l with
  | nil => simp
  | cons a l ih =>
    simp only [List.any_cons]
    rw [ih fun n hn => h n (List.mem_cons_of_mem a hn)]
    have := h a List.mem_cons_self
    cases hf : f a
    · simp
    · rw [this hf]; cases v <;> simp

/-- A byte without its top bit reads the same with and without sign. -/
theorem byte_lo : ∀ K : BitVec 8, K.getLsbD 7 = false → K.toInt = (K.setWidth 32).toInt := by decide +kernel
/-- A signed byte is the byte with the top bit turned, less 128. -/
theorem byte_hi : ∀ K : BitVec 8, K.toInt = ((K ^^^ 128#8).setWidth 32).toInt - 128 := by decide +kernel

/-- A byte whose bits are the code's, the top one flipped for the two whole bytes, as a number. -/
theorem byte_code (σ : ℕ → Bool) (r : Fin 446) (x : BitVec 32) (hx : IsCode σ r.val x) (K : BitVec 8)
    (hb : ∀ t, t < 8 → K.getLsbD t = ((decide (t < width r.val) && σ (start r.val + t)) ^^ (decide (r.val < 2) && decide (t = 7)))) :
    K.toInt = x.toInt - shift r.val := by
  by_cases h2 : r.val < 2
  · have e : x = (K ^^^ 128#8).setWidth 32 := by
      apply BitVec.eq_of_getLsbD_eq
      intro t ht
      rw [hx t ht]
      simp only [BitVec.getLsbD_setWidth, BitVec.getLsbD_xor, ht, decide_true, Bool.true_and]
      by_cases h8 : t < 8
      · rw [hb t h8]
        have : (128#8).getLsbD t = decide (t = 7) := by interval_cases t <;> rfl
        rw [this]; simp [h2, width, h8]
      · rw [BitVec.getLsbD_of_ge K t (by omega), BitVec.getLsbD_of_ge (128#8) t (by omega)]; simp [width, h2, h8]
    rw [byte_hi K, e]; simp [shift, h2]
  · have hw : width r.val ≤ 3 := by unfold width; split <;> [omega; (split <;> omega)]
    have e : x = K.setWidth 32 := by
      apply BitVec.eq_of_getLsbD_eq
      intro t ht
      rw [hx t ht]
      simp only [BitVec.getLsbD_setWidth, ht, decide_true, Bool.true_and]
      by_cases h8 : t < 8
      · rw [hb t h8]; simp [h2]
      · rw [BitVec.getLsbD_of_ge K t (by omega)]; simp [show ¬ t < width r.val by omega]
    rw [byte_lo K (by rw [hb 7 (by omega)]; simp [h2, show ¬ 7 < width r.val by omega]), e]; simp [shift, h2]

section
variable (P : IVec S32x128 32) (M : Fin 14 → IVec S1x8x128 32) (hM : ∀ (n : Fin 14) (s : Fin 8) (j : Fin 128), M n (ix3 (0 : Fin 1) s j) = maskWord n.val s.val)
  (σ : ℕ → Bool) (j : Fin 128) (hP : ∀ (s : Fin 32) (q : ℕ), q < 32 → (P (ix2 s j)).getLsbD q = σ (32 * s.val + q))

include hM hP
/-- Every plane's head bits at once. -/
theorem head_bits (p : Fin 4) (s : Fin 8) (q : ℕ) (hq : q < 32) : (planeW P M p (ix2 (⟨s.val, by omega⟩ : Fin 32) j)).getLsbD q
    = (((entries p.val).any fun n => mb n s.val q && σ (32 * s.val + q + off n)) ^^ (decide (p.val = 0) && mb 13 s.val q)) := by
  match p with
  | 0 => simpa using head_bits0 P M hM σ j hP s q hq
  | 1 => simpa using head_bits1 P M hM σ j hP s q hq
  | 2 => simpa using head_bits2 P M hM σ j hP s q hq
  | 3 => simpa using head_bits3 P M hM σ j hP s q hq

/-- The bits of the byte at rank `r`'s place. -/
theorem byte_bits (r : Fin 446) (t : ℕ) (ht : t < 8) :
    (bitcast S128x128 8 (planeW P M ⟨place r.val / 128, by have := place_lt r; omega⟩) bitcasts_S32x128_w32_S128x128_w8 (ix2 (⟨place r.val % 128, by omega⟩ : Fin 128) j)).getLsbD t
      = ((decide (t < width r.val) && σ (start r.val + t)) ^^ (decide (r.val < 2) && decide (t = 7))) := by
  have hpl := place_lt r
  rw [bytes_at _ _ _ t ht]
  simp only [show place r.val % 128 % 4 = place r.val % 4 by omega]
  by_cases h : place r.val % 128 < 32
  · obtain ⟨f1, f2⟩ := head_fact r h ⟨t, ht⟩
    have hb := head_bits P M hM σ j hP ⟨place r.val / 128, by omega⟩ ⟨place r.val % 128 / 4, by omega⟩ (8 * (place r.val % 4) + t) (by omega)
    refine hb.trans ?_
    congr 1
    · rw [any_and _ _ _ (σ (start r.val + t)) (fun n hn hm => by rw [f1 n hn hm]), f2]
    · by_cases hp : place r.val / 128 = 0
      · simpa [hp] using flip_fact r hp h ⟨t, ht⟩
      · have : ¬ r.val < 2 := fun h2 => hp (whole_fact r h2).1
        simp [hp, this]
  · have h2 : ¬ r.val < 2 := fun h2 => h (whole_fact r h2).2
    obtain ⟨f1, f2⟩ := body_fact r (by omega) ⟨t, ht⟩
    rw [body_bits P M σ j hP ⟨place r.val / 128, by omega⟩ _ (by show 8 ≤ place r.val % 128 / 4; omega) _ (by omega)]
    rw [f1]
    simp only [h2, decide_false, Bool.false_and, Bool.xor_false]
    by_cases hw : t < width r.val
    · obtain ⟨e1, e2⟩ := f2 hw
      have e2' : 8 * (place r.val % 4) + t + 2 * (place r.val / 128) < 32 := e2
      rw [hP _ _ (by show 2 * (place r.val / 128) + (8 * (place r.val % 4) + t) < 32; omega)]
      congr 2
      show 32 * (place r.val % 128 / 4) + (2 * (place r.val / 128) + (8 * (place r.val % 4) + t)) = _
      have e1' : 32 * (place r.val % 128 / 4) + (8 * (place r.val % 4) + t) + 2 * (place r.val / 128) = start r.val + t := e1
      omega
    · simp [hw]

/-- The number at rank `r`'s place is the code, less 128 for the two whole bytes. -/
theorem byte_val (r : Fin 446) (x : BitVec 32) (hx : IsCode σ r.val x) :
    (bitcast S128x128 8 (planeW P M ⟨place r.val / 128, by have := place_lt r; omega⟩) bitcasts_S32x128_w32_S128x128_w8 (ix2 (⟨place r.val % 128, by omega⟩ : Fin 128) j)).toInt
      = x.toInt - shift r.val := by
  exact byte_code σ r x hx _ (byte_bits P M hM σ j hP r)

end

end Cert.Proof.IdealRun

end
-- ==== Proof.ValHost.lean ====
/-
  The reference's unpacking of the low-rank factors on the host, read at an entry: rank `r`'s code is its stretch of the
  column's stream of bits.
-/
module

public import proofs.«01_k».proof.Proof.ValBits
public import proofs.«01_k».proof.Proof.Gen.ReferenceIdeal.Run
public import Idealize.ShloMosaic.Lib.Pointwise

@[expose] public section

set_option maxRecDepth 16384

noncomputable section

namespace Cert.Proof.RefRun

open Cert.ReferenceIdeal Cert.ReferenceIdeal.Gen
open Idealize.ShloMosaic
open Idealize.ShloMosaic.TcCoe Idealize.ShloMosaic.Tactic
open Cert.Proof.IdealRun (IsCode start width)

/-- The stream of bits of a run of bytes. -/
def stream (b : ℕ → BitVec 8) (q : ℕ) : Bool := (b (q / 8)).getLsbD (q % 8)

/-- A small shift to the right, at a bit: within reach, the bit that far up. -/
theorem shr_bit (x y : BitVec 32) (n t : ℕ) (hy : y.toNat = n) (hn : n + t < 32) : (IntOp.shrsi .host x y).getLsbD t = x.getLsbD (n + t) := by
  subst hy
  unfold IntOp.shrsi
  rw [if_pos (by omega)]
  show (x.sshiftRight y.toNat).getLsbD t = _
  rw [BitVec.getLsbD_sshiftRight]
  simp [show ¬ 32 ≤ t by omega, hn]

/-- Three bytes joined to a word, at a bit. -/
theorem word3 (b : ℕ → BitVec 8) (n i : ℕ) (hi : i < 24) (m1 m2 : ℕ) (h1 : m1 = n + 1) (h2 : m2 = n + 2) :
    (IntOp.ori (IntOp.ori ((b n).setWidth 32) (IntOp.shli .host ((b m1).setWidth 32) 8#32)) (IntOp.shli .host ((b m2).setWidth 32) 16#32)).getLsbD i
      = (b (n + i / 8)).getLsbD (i % 8) := by
  subst h1 h2
  rw [show ∀ x : BitVec 32, IntOp.shli .host x 8#32 = x <<< 8 from fun _ => rfl, show ∀ x : BitVec 32, IntOp.shli .host x 16#32 = x <<< 16 from fun _ => rfl]
  simp only [IntOp.ori, BitVec.getLsbD_or, BitVec.getLsbD_shiftLeft, BitVec.getLsbD_setWidth]
  have past : ∀ (x : BitVec 8) (i : ℕ), 8 ≤ i → x.getLsbD i = false := fun x i h => BitVec.getLsbD_of_ge x i h
  have hc : i / 8 = 0 ∨ i / 8 = 1 ∨ i / 8 = 2 := by omega
  rcases hc with h | h | h
  · simp [h, show i % 8 = i by omega, show i < 8 by omega, show i < 16 by omega, show i < 32 by omega]
  · simp [h, show i % 8 = i - 8 by omega, past (b n) i (by omega), show ¬ i < 8 by omega, show i < 16 by omega, show i < 32 by omega, show i - 8 < 32 by omega]
  · simp [h, show i % 8 = i - 16 by omega, past (b n) i (by omega), past (b (n + 1)) (i - 8) (by omega), show ¬ i < 8 by omega, show ¬ i < 16 by omega, show i < 32 by omega, show i - 16 < 32 by omega]

/-- A whole byte is its rank's code. -/
theorem code8 (b : ℕ → BitVec 8) (r : ℕ) (h : r < 2) : IsCode (stream b) r ((b r).setWidth 32) := by
  intro t ht
  rw [BitVec.getLsbD_setWidth]
  unfold width start stream
  rw [if_pos h, if_pos h]
  by_cases h8 : t < 8
  · simp [ht, h8, show (8 * r + t) / 8 = r by omega, show (8 * r + t) % 8 = t by omega]
  · simp [h8, BitVec.getLsbD_of_ge (b r) t (by omega)]

/-- A three-bit code, out of its group of three bytes. -/
theorem code3 (b : ℕ → BitVec 8) (r : ℕ) (h : ¬ r < 2) (h' : r - 2 < 32) (m0 m1 m2 : ℕ) (h0 : m0 = 2 + (r - 2) / 8 * 3) (h1 : m1 = m0 + 1) (h2 : m2 = m0 + 2) :
    IsCode (stream b) r (IntOp.andi (IntOp.shrsi .host (IntOp.ori (IntOp.ori ((b m0).setWidth 32) (IntOp.shli .host ((b m1).setWidth 32) 8#32)) (IntOp.shli .host ((b m2).setWidth 32) 16#32))
      (IntOp.muli 3#32 (BitVec.ofNat 32 ((r - 2) % 8)))) 7#32) := by
  intro t ht
  unfold width start stream
  rw [if_neg h, if_pos (by omega), if_neg h, if_pos (by omega)]
  simp only [IntOp.andi, BitVec.getLsbD_and]
  have h7 : (7#32).getLsbD t = decide (t < 3) := by interval_cases t <;> rfl
  rw [h7]
  by_cases h3 : t < 3
  · rw [shr_bit _ _ (3 * ((r - 2) % 8)) t (by unfold IntOp.muli; rw [BitVec.toNat_mul, BitVec.toNat_ofNat, BitVec.toNat_ofNat]; omega) (by omega),
      word3 b m0 _ (by omega) m1 m2 h1 h2]
    simp only [h3, decide_true, Bool.and_true, Bool.true_and]
    rw [show (16 + 3 * (r - 2) + t) / 8 = m0 + (3 * ((r - 2) % 8) + t) / 8 by omega, show (16 + 3 * (r - 2) + t) % 8 = (3 * ((r - 2) % 8) + t) % 8 by omega]
  · simp [h3]

/-- A two-bit code, out of its byte. -/
theorem code2 (b : ℕ → BitVec 8) (r : ℕ) (h : ¬ r < 2) (h' : ¬ r - 2 < 32) (m0 : ℕ) (h0 : m0 = 14 + (r - 2 - 32) / 4) :
    IsCode (stream b) r (IntOp.andi (IntOp.shrsi .host ((b m0).setWidth 32) (IntOp.muli 2#32 (BitVec.ofNat 32 ((r - 2 - 32) % 4)))) 3#32) := by
  intro t ht
  unfold width start stream
  rw [if_neg h, if_neg (by omega), if_neg h, if_neg (by omega)]
  simp only [IntOp.andi, BitVec.getLsbD_and]
  have h7 : (3#32).getLsbD t = decide (t < 2) := by interval_cases t <;> rfl
  rw [h7]
  by_cases h3 : t < 2
  · rw [shr_bit _ _ (2 * ((r - 2 - 32) % 4)) t (by unfold IntOp.muli; rw [BitVec.toNat_mul, BitVec.toNat_ofNat, BitVec.toNat_ofNat]; omega) (by omega), BitVec.getLsbD_setWidth]
    simp only [h3, show 2 * ((r - 2 - 32) % 4) + t < 32 by omega, decide_true, Bool.and_true, Bool.true_and]
    congr 2 <;> omega
  · simp [h3]

/-- The codes of 5120 packed rows, as the reference unpacks them. -/
def codes5120 (U : IVec S5120x117 8) : IVec S5120x446 32 :=
  have E := extui 32 U natLt_8_32
  have T := shapeCast S5120x4x3 (extractStridedSlice S5120x12 ![0, 2] E slices_S5120x117_S5120x12_0_2) shapeCasts_S5120x12_S5120x4x3
  concatenate S5120x446 1 [⟨S5120x2, ((extractStridedSlice S5120x2 ![0, 0] E slices_S5120x117_S5120x2_0_0))⟩, ⟨S5120x32, ((shapeCast _ (andi (Host.shrsi (broadcastInDim S5120x4x8 ![0, 1, 2] bcast_S5120x4x1_S5120x4x8_0_1_2 (broadcastInDim S5120x4x1 ![0, 1] bcast_S5120x4_S5120x4x1_0_1 (ori (ori (shapeCast _ (extractStridedSlice S5120x4x1 ![0, 0, 0] T slices_S5120x4x3_S5120x4x1_0_0_0) shapeCasts_S5120x4x1_S5120x4) (Host.shli (shapeCast _ (extractStridedSlice S5120x4x1 ![0, 0, 1] T slices_S5120x4x3_S5120x4x1_0_0_1) shapeCasts_S5120x4x1_S5120x4) (broadcastInDim S5120x4 ![] bcast_S_S5120x4 (constantI S_ 32 8#32)))) (Host.shli (shapeCast _ (extractStridedSlice S5120x4x1 ![0, 0, 2] T slices_S5120x4x3_S5120x4x1_0_0_2) shapeCasts_S5120x4x1_S5120x4) (broadcastInDim S5120x4 ![] bcast_S_S5120x4 (constantI S_ 32 16#32)))))) (broadcastInDim S5120x4x8 ![0, 1, 2] bcast_S1x1x8_S5120x4x8_0_1_2 (broadcastInDim S1x1x8 ![2] bcast_S8_S1x1x8_2 (muli (broadcastInDim S8 ![] bcast_S_S8 (constantI S_ 32 3#32)) (iotaInDim S8 32 0))))) (broadcastInDim S5120x4x8 ![] bcast_S_S5120x4x8 (constantI S_ 32 7#32))) shapeCasts_S5120x4x8_S5120x32))⟩, ⟨S5120x412, ((shapeCast _ (andi (Host.shrsi (broadcastInDim S5120x103x4 ![0, 1, 2] bcast_S5120x103x1_S5120x103x4_0_1_2 (broadcastInDim S5120x103x1 ![0, 1] bcast_S5120x103_S5120x103x1_0_1 (extractStridedSlice S5120x103 ![0, 14] E slices_S5120x117_S5120x103_0_14))) (broadcastInDim S5120x103x4 ![0, 1, 2] bcast_S1x1x4_S5120x103x4_0_1_2 (broadcastInDim S1x1x4 ![2] bcast_S4_S1x1x4_2 (muli (broadcastInDim S4 ![] bcast_S_S4 (constantI S_ 32 2#32)) (iotaInDim S4 32 0))))) (broadcastInDim S5120x103x4 ![] bcast_S_S5120x103x4 (constantI S_ 32 3#32))) shapeCasts_S5120x103x4_S5120x412))⟩] concatenates_S5120x2_S5120x32_S5120x412_S5120x446_d1
/-- The bytes of packed row `l`. -/
def bytes5120 (U : IVec S5120x117 8) (l : Fin 5120) (n : ℕ) : BitVec 8 := if h : n < 117 then U (ix2 l ⟨n, h⟩) else 0#8
/-- A byte inside the row. -/
theorem bytes5120_eq (U : IVec S5120x117 8) (l : Fin 5120) (n : ℕ) (h : n < 117) : U (ix2 l ⟨n, h⟩) = bytes5120 U l n := by unfold bytes5120; rw [dif_pos h]

/-- The unpacked codes are the ranks' codes. -/
theorem codes5120_at (U : IVec S5120x117 8) (l : Fin 5120) (r : Fin 446) : IsCode (stream (bytes5120 U l)) r.val (codes5120 U (ix2 l r)) := by
  pointwise [codes5120]
  simp only [bytes5120_eq]
  by_cases h : r.val < 2
  · rw [dif_pos h]; exact code8 _ _ h
  · rw [dif_neg h]
    by_cases h' : r.val - 2 < 32
    · rw [dif_pos h']; exact code3 _ _ h h' _ _ _ rfl (by omega) (by omega)
    · rw [dif_neg h']; exact code2 _ _ h h' _ rfl

/-- The codes of 27648 packed rows, as the reference unpacks them. -/
def codes27648 (U : IVec S27648x117 8) : IVec S27648x446 32 :=
  have E := extui 32 U natLt_8_32
  have T := shapeCast S27648x4x3 (extractStridedSlice S27648x12 ![0, 2] E slices_S27648x117_S27648x12_0_2) shapeCasts_S27648x12_S27648x4x3
  concatenate S27648x446 1 [⟨S27648x2, ((extractStridedSlice S27648x2 ![0, 0] E slices_S27648x117_S27648x2_0_0))⟩, ⟨S27648x32, ((shapeCast _ (andi (Host.shrsi (broadcastInDim S27648x4x8 ![0, 1, 2] bcast_S27648x4x1_S27648x4x8_0_1_2 (broadcastInDim S27648x4x1 ![0, 1] bcast_S27648x4_S27648x4x1_0_1 (ori (ori (shapeCast _ (extractStridedSlice S27648x4x1 ![0, 0, 0] T slices_S27648x4x3_S27648x4x1_0_0_0) shapeCasts_S27648x4x1_S27648x4) (Host.shli (shapeCast _ (extractStridedSlice S27648x4x1 ![0, 0, 1] T slices_S27648x4x3_S27648x4x1_0_0_1) shapeCasts_S27648x4x1_S27648x4) (broadcastInDim S27648x4 ![] bcast_S_S27648x4 (constantI S_ 32 8#32)))) (Host.shli (shapeCast _ (extractStridedSlice S27648x4x1 ![0, 0, 2] T slices_S27648x4x3_S27648x4x1_0_0_2) shapeCasts_S27648x4x1_S27648x4) (broadcastInDim S27648x4 ![] bcast_S_S27648x4 (constantI S_ 32 16#32)))))) (broadcastInDim S27648x4x8 ![0, 1, 2] bcast_S1x1x8_S27648x4x8_0_1_2 (broadcastInDim S1x1x8 ![2] bcast_S8_S1x1x8_2 (muli (broadcastInDim S8 ![] bcast_S_S8 (constantI S_ 32 3#32)) (iotaInDim S8 32 0))))) (broadcastInDim S27648x4x8 ![] bcast_S_S27648x4x8 (constantI S_ 32 7#32))) shapeCasts_S27648x4x8_S27648x32))⟩, ⟨S27648x412, ((shapeCast _ (andi (Host.shrsi (broadcastInDim S27648x103x4 ![0, 1, 2] bcast_S27648x103x1_S27648x103x4_0_1_2 (broadcastInDim S27648x103x1 ![0, 1] bcast_S27648x103_S27648x103x1_0_1 (extractStridedSlice S27648x103 ![0, 14] E slices_S27648x117_S27648x103_0_14))) (broadcastInDim S27648x103x4 ![0, 1, 2] bcast_S1x1x4_S27648x103x4_0_1_2 (broadcastInDim S1x1x4 ![2] bcast_S4_S1x1x4_2 (muli (broadcastInDim S4 ![] bcast_S_S4 (constantI S_ 32 2#32)) (iotaInDim S4 32 0))))) (broadcastInDim S27648x103x4 ![] bcast_S_S27648x103x4 (constantI S_ 32 3#32))) shapeCasts_S27648x103x4_S27648x412))⟩] concatenates_S27648x2_S27648x32_S27648x412_S27648x446_d1
/-- The bytes of packed row `l`. -/
def bytes27648 (U : IVec S27648x117 8) (l : Fin 27648) (n : ℕ) : BitVec 8 := if h : n < 117 then U (ix2 l ⟨n, h⟩) else 0#8
/-- A byte inside the row. -/
theorem bytes27648_eq (U : IVec S27648x117 8) (l : Fin 27648) (n : ℕ) (h : n < 117) : U (ix2 l ⟨n, h⟩) = bytes27648 U l n := by unfold bytes27648; rw [dif_pos h]

/-- The unpacked codes are the ranks' codes. -/
theorem codes27648_at (U : IVec S27648x117 8) (l : Fin 27648) (r : Fin 446) : IsCode (stream (bytes27648 U l)) r.val (codes27648 U (ix2 l r)) := by
  pointwise [codes27648]
  simp only [bytes27648_eq]
  by_cases h : r.val < 2
  · rw [dif_pos h]; exact code8 _ _ h
  · rw [dif_neg h]
    by_cases h' : r.val - 2 < 32
    · rw [dif_pos h']; exact code3 _ _ h h' _ _ _ rfl (by omega) (by omega)
    · rw [dif_neg h']; exact code2 _ _ h h' _ rfl

/-- A factor's entry: the code, less the zero, times the scale. -/
def mat5120 (U : IVec S5120x117 8) (zp : IVec S446 8) (sc : FVec Ideal S446 .f32) : FVec Ideal S5120x446 .bf16 :=
  mulf (subf (truncf .bf16 (sitofp .f32 (codes5120 U)) bitsLt_bf16_f32) (broadcastInDim S5120x446 ![0, 1] bcast_S1x446_S5120x446_0_1 (broadcastInDim S1x446 ![1] bcast_S446_S1x446_1 (truncf .bf16 (sitofp .f32 (extui 32 zp natLt_8_32)) bitsLt_bf16_f32)))) (broadcastInDim S5120x446 ![0, 1] bcast_S1x446_S5120x446_0_1 (broadcastInDim S1x446 ![1] bcast_S446_S1x446_1 (truncf .bf16 sc bitsLt_bf16_f32)))
/-- The same of the second factor. -/
def mat27648 (U : IVec S27648x117 8) (zp : IVec S446 8) (sc : FVec Ideal S446 .f32) : FVec Ideal S27648x446 .bf16 :=
  mulf (subf (truncf .bf16 (sitofp .f32 (codes27648 U)) bitsLt_bf16_f32) (broadcastInDim S27648x446 ![0, 1] bcast_S1x446_S27648x446_0_1 (broadcastInDim S1x446 ![1] bcast_S446_S1x446_1 (truncf .bf16 (sitofp .f32 (extui 32 zp natLt_8_32)) bitsLt_bf16_f32)))) (broadcastInDim S27648x446 ![0, 1] bcast_S1x446_S27648x446_0_1 (broadcastInDim S1x446 ![1] bcast_S446_S1x446_1 (truncf .bf16 sc bitsLt_bf16_f32)))

/-- The zero point of rank `r`, as a number. -/
def zpN (zp : IVec S446 8) (r : Fin 446) : EReal := FloatOps.sitofp (F := Ideal) .f32 ((zp (ix1 r)).setWidth 32)

/-- The first factor's entry. -/
theorem mat5120_at (U : IVec S5120x117 8) (zp : IVec S446 8) (sc : FVec Ideal S446 .f32) (l : Fin 5120) (r : Fin 446) :
    mat5120 U zp sc (ix2 l r) = (FloatOps.sitofp (F := Ideal) .f32 (codes5120 U (ix2 l r)) - zpN zp r) * sc (ix1 r) := by
  pointwise [mat5120, zpN]
/-- The second factor's entry. -/
theorem mat27648_at (U : IVec S27648x117 8) (zp : IVec S446 8) (sc : FVec Ideal S446 .f32) (l : Fin 27648) (r : Fin 446) :
    mat27648 U zp sc (ix2 l r) = (FloatOps.sitofp (F := Ideal) .f32 (codes27648 U (ix2 l r)) - zpN zp r) * sc (ix1 r) := by
  pointwise [mat27648, zpN]

open Cert.ReferenceIdeal.Value in
/-- The first product on the host. -/
theorem z_eq (V0 : Valuation τ sig (Elt Ideal)) : res_main_v107 V0 = Host.dotGeneral dot_S40x5120_S5120x446_S40x446_1_0_0_1_n_n none (φ₁ := .bf16) (φ₂ := .bf16) (V0 (Proc.devRef .tc main_v0))
    (mat5120 (V0 (Proc.devRef .tc main_arg4)) (V0 (Proc.devRef .tc main_arg6)) (V0 (Proc.devRef .tc main_arg5))) := rfl
open Cert.ReferenceIdeal.Value in
/-- The second product on the host. -/
theorem d_eq (V0 : Valuation τ sig (Elt Ideal)) : res_main_v112 V0 = Host.dotGeneral dot_S40x446_S27648x446_S40x27648_1_1_0_0_n_n none
    (truncf .bf16 (mulf (res_main_v107 V0) (broadcastInDim S40x446 ![0, 1] bcast_S1x446_S40x446_0_1 (broadcastInDim S1x446 ![1] bcast_S446_S1x446_1 (V0 (Proc.devRef .tc main_arg3))))) bitsLt_bf16_f32)
    (mat27648 (V0 (Proc.devRef .tc main_arg7)) (V0 (Proc.devRef .tc main_arg9)) (V0 (Proc.devRef .tc main_arg8))) := rfl

end Cert.Proof.RefRun

end
-- ==== Proof.ValSpread.lean ====
/-
  The permutation's products: what a row of scales or zeros becomes when it is spread over the lanes, and how the
  accumulator's columns and the middle factor's move between the two orders.
-/
module

public import proofs.«01_k».proof.Proof.ValPerm
public import Idealize.ShloMosaic.Lib.Pointwise

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic

/-- Rank `r`'s row. -/
def pl (r : Fin 446) : Fin 512 := ⟨place r.val, place_lt r⟩
/-- Rank `r` among the padded ranks. -/
def up (r : Fin 446) : Fin 512 := ⟨r.val, by omega⟩
/-- Two ranks have two rows. -/
theorem pl_inj : Function.Injective pl := fun r r' h => place_inj r r' (congrArg Fin.val h)

/-- A permutation's row picks one rank. -/
theorem hit_pl (r : Fin 446) (k : Fin 512) : hit (pl r).val k.val = if k = up r then 1 else 0 := by
  rw [hit_iff]
  by_cases h : k = up r
  · subst h; rw [if_pos rfl, if_pos ⟨r.isLt, rfl⟩]
  · rw [if_neg h, if_neg]
    rintro ⟨h1, h2⟩
    exact h (Fin.ext (congrArg (fun q : Fin 446 => q.val) (place_inj ⟨k.val, h1⟩ r h2.symm)))
/-- A permutation's column picks one row. -/
theorem hit_up (r : Fin 446) (l : Fin 512) : hit l.val (up r).val = if l = pl r then 1 else 0 := by
  rw [hit_iff]
  by_cases h : l = pl r
  · subst h; rw [if_pos rfl, if_pos ⟨r.isLt, rfl⟩]
  · rw [if_neg h, if_neg]
    rintro ⟨h1, h2⟩
    exact h (Fin.ext h2)
/-- A row that is no rank's row is zero. -/
theorem hit_not (l : Fin 512) (hl : l ∉ Set.range pl) (k : Fin 512) : hit l.val k.val = 0 := by
  rw [hit_iff, if_neg]
  rintro ⟨h1, h2⟩
  exact hl ⟨⟨k.val, h1⟩, Fin.ext h2.symm⟩

/-- Summing over the columns at a rank's row leaves the rank's term. -/
theorem sum_row (r : Fin 446) (f : Fin 512 → EReal) : ∑ k, hit (pl r).val k.val * f k = f (up r) := by
  simp only [hit_pl, ite_mul, one_mul, zero_mul, Finset.sum_ite_eq', Finset.mem_univ, if_true]
/-- The same with the factors exchanged. -/
theorem sum_row' (r : Fin 446) (f : Fin 512 → EReal) : ∑ k, f k * hit (pl r).val k.val = f (up r) := by
  simp only [hit_pl, mul_ite, mul_one, mul_zero, Finset.sum_ite_eq', Finset.mem_univ, if_true]
/-- Summing over the rows at a rank's column leaves the term of the rank's row. -/
theorem sum_col (r : Fin 446) (f : Fin 512 → EReal) : ∑ l, f l * hit l.val (up r).val = f (pl r) := by
  simp only [hit_up, mul_ite, mul_one, mul_zero, Finset.sum_ite_eq', Finset.mem_univ, if_true]
/-- A row that belongs to no rank sums to zero. -/
theorem sum_not (l : Fin 512) (hl : l ∉ Set.range pl) (f : Fin 512 → EReal) : ∑ k, f k * hit l.val k.val = 0 := by
  simp only [hit_not l hl, mul_zero, Finset.sum_const_zero]

/-- What the kernel's whole bytes are short of, as a number. -/
def off128 (l : ℕ) : EReal := if l < 2 then ((128 : ℝ) : EReal) else 0

/-- Summing over the 446 ranks at a rank's row leaves the rank's term. -/
theorem sum_446 (r : Fin 446) (f : Fin 446 → EReal) : ∑ k : Fin 446, hit (pl r).val k.val * f k = f r := by
  have h (k : Fin 446) : hit (pl r).val k.val = if k = r then 1 else 0 := by
    rw [show k.val = (up k).val from rfl, hit_pl]
    exact if_congr ⟨fun e => Fin.ext (congrArg (fun q : Fin 512 => q.val) e), fun e => by rw [e]⟩ rfl rfl
  simp only [h, ite_mul, one_mul, zero_mul, Finset.sum_ite_eq', Finset.mem_univ, if_true]
/-- The 66 columns of padding add nothing at a rank's row. -/
theorem sum_pad (r : Fin 446) (f : Fin 66 → EReal) : ∑ k : Fin 66, hit (pl r).val (446 + k.val) * f k = 0 := by
  refine Finset.sum_eq_zero fun k _ => ?_
  rw [show 446 + k.val = (⟨446 + k.val, by omega⟩ : Fin 512).val from rfl, hit_iff, if_neg (by rintro ⟨h, _⟩; simp only at h; omega), zero_mul]

section
variable (a : FVec Ideal S1x446 .bf16) (b d : FVec Ideal S128x512 .bf16) (e : FVec Ideal S1x512 .bf16) (r : Fin 446) (j : Fin 128)

/-- The shift of a row: 128 on the 8-bit ranks' rows, zero elsewhere. -/
theorem pay269_at (l : Fin 512) : k0_pay269 (F := Ideal) (ix2 l j) = off128 l.val := by
  pointwise [k0_pay269]
  have e : Ideal.ofBits FTy.f32 1124073472#32 = ((128 : ℝ) : EReal) := by
    simp [Ideal.ofBits, Ideal.ieee, -EReal.coe_mul]; norm_num
  rw [e]
  have h : IntOp.cmpi CmpIPredicate.slt (BitVec.ofNat 32 l.val) 2#32 = if l.val < 2 then 1#1 else 0#1 := by
    revert l; decide +kernel
  rw [h]; unfold off128
  split_ifs <;> rfl

/-- The spread scales of V hold each rank's scale at its row. -/
theorem pay270_at : k0_pay270 a b d e (bodyRun.sl.v558 (F := Ideal)) (ix2 (pl r) j) = b (ix2 j (up r)) := by
  rw [v558_eq]
  pointwise [k0_pay270, k0_pay268]
  simp only [v603_at]
  exact sum_row r fun x => b (ix2 j x)
/-- The spread zeros of V hold each rank's zero, less the shift, at its row. -/
theorem pay271_at : k0_pay271 a b d e (bodyRun.sl.v558 (F := Ideal)) (ix2 (pl r) j) = d (ix2 j (up r)) - off128 (place r.val) := by
  rw [v558_eq]
  pointwise [k0_pay271, k0_pay268]
  rw [pay269_at]
  simp only [v603_at]
  rw [sum_row r fun x => d (ix2 j x)]
  rfl
/-- The spread scales of U hold each rank's scale at its row. -/
theorem pay272_at : k0_pay272 a b d e (bodyRun.sl.v558 (F := Ideal)) (ix2 (pl r) j) = e (ix2 0 (up r)) := by
  rw [v558_eq]
  pointwise [k0_pay272, k0_pay268]
  simp only [v603_at]
  rw [sum_pad r (fun x => if h : 256 + j.val < 128 then b (ix2 ⟨256 + j.val, h⟩ ⟨446 + x.val, by omega⟩)
            else
              if h : 256 + j.val - 128 < 128 then d (ix2 ⟨256 + j.val - 128, h⟩ ⟨446 + x.val, by omega⟩)
              else if h : 256 + j.val - 128 - 128 < 128 then e (ix2 0 ⟨446 + x.val, by omega⟩) else 0), add_zero,
    sum_446 r (fun x => if h : 256 + j.val < 128 then b (ix2 ⟨256 + j.val, h⟩ ⟨x.val, by omega⟩)
            else
              if h : 256 + j.val - 128 < 128 then d (ix2 ⟨256 + j.val - 128, h⟩ ⟨x.val, by omega⟩)
              else if h : 256 + j.val - 128 - 128 < 128 then e (ix2 0 ⟨x.val, by omega⟩) else a (ix2 0 x)),
    dif_neg (by omega), dif_neg (by omega), dif_pos (by omega)]
  rfl
/-- The spread zeros of U hold each rank's zero, less the shift, at its row. -/
theorem pay273_at : k0_pay273 a b d e (bodyRun.sl.v558 (F := Ideal)) (ix2 (pl r) j) = a (ix2 0 r) - off128 (place r.val) := by
  rw [v558_eq]
  pointwise [k0_pay273, k0_pay268]
  rw [pay269_at]
  simp only [v603_at]
  rw [sum_pad r (fun x => if h : 384 + j.val < 128 then b (ix2 ⟨384 + j.val, h⟩ ⟨446 + x.val, by omega⟩)
            else
              if h : 384 + j.val - 128 < 128 then d (ix2 ⟨384 + j.val - 128, h⟩ ⟨446 + x.val, by omega⟩)
              else if h : 384 + j.val - 128 - 128 < 128 then e (ix2 0 ⟨446 + x.val, by omega⟩) else 0), add_zero,
    sum_446 r (fun x => if h : 384 + j.val < 128 then b (ix2 ⟨384 + j.val, h⟩ ⟨x.val, by omega⟩)
            else
              if h : 384 + j.val - 128 < 128 then d (ix2 ⟨384 + j.val - 128, h⟩ ⟨x.val, by omega⟩)
              else if h : 384 + j.val - 128 - 128 < 128 then e (ix2 0 ⟨x.val, by omega⟩) else a (ix2 0 x)),
    dif_neg (by omega), dif_neg (by omega), dif_neg (by omega)]
  rfl
end

section
variable (v : FVec Ideal S40x512 .f32) (i : Fin 40) (r : Fin 446)
/-- The accumulator's columns in the ranks' order: the three rounded terms of a finite number add up to it. -/
theorem pay276_at (x : ℝ) (hx : v (ix2 i (pl r)) = (x : EReal)) : k0_pay276 v (bodyRun.sl.v603 (F := Ideal)) (bodyRun.sl.v603 (F := Ideal)) (bodyRun.sl.v603 (F := Ideal)) (ix2 i (up r)) = (x : EReal) := by
  pointwise [k0_pay276]
  simp only [v603_at]
  have h0 : (x : EReal) - x = 0 := by rw [← EReal.coe_sub, sub_self]; rfl
  rw [sum_col r fun y => v (ix2 i y), sum_col r fun y => v (ix2 i y) - v (ix2 i y),
    sum_col r fun y => v (ix2 i y) - v (ix2 i y) - (v (ix2 i y) - v (ix2 i y)), hx, h0, sub_zero, add_zero, add_zero]
/-- The permuted t is the product with the permutation. -/
theorem pay279_at (t : FVec Ideal S40x512 .bf16) (l : Fin 512) : k0_pay279 t (bodyRun.sl.v603 (F := Ideal)) (ix2 i l) = ∑ k, t (ix2 i k) * hit l.val k.val := by
  pointwise [k0_pay279]
  simp only [v603_at]
/-- The stored z is the permuted accumulator, without the padding. -/
theorem pay277_at (w : FVec Ideal S512x512 .bf16) : k0_pay277 (F := Ideal) v w w w (ix3 i 0 r) = k0_pay276 (F := Ideal) v w w w (ix2 i (up r)) := by
  pointwise [k0_pay277]
  rfl
/-- The product t at a rank is z times sigma. -/
theorem pay278_at (w : FVec Ideal S512x512 .bf16) (s : FVec Ideal S1x446 .f32) : k0_pay278 (F := Ideal) v w w w s (ix2 i (up r)) = (k0_pay276 (F := Ideal) v w w w (ix2 i (up r)) * s (ix2 0 r) : EReal) := by
  pointwise [k0_pay278]
  rw [dif_pos (show (up r).val < 446 from r.isLt)]
  rfl
/-- The product t on the padding is zero. -/
theorem pay278_pad (w : FVec Ideal S512x512 .bf16) (s : FVec Ideal S1x446 .f32) (k : Fin 512) (hk : 446 ≤ k.val) : k0_pay278 (F := Ideal) v w w w s (ix2 i k) = (0 : EReal) := by
  pointwise [k0_pay278]
  rw [dif_neg (by omega), mul_zero]
/-- The scales of V, as the rows that are spread. -/
theorem pay265_at (s : FVec Ideal S1x446 .f32) (j : Fin 128) : k0_pay265 (F := Ideal) s (ix2 j (up r)) = (s (ix2 0 r) : EReal) := by
  pointwise [k0_pay265]
  rw [dif_pos (show (up r).val < 446 from r.isLt)]
  rfl
/-- The zeros of V, as the rows that are spread. -/
theorem pay266_at (s : IVec S446 8) (j : Fin 128) : k0_pay266 (F := Ideal) s (ix2 j (up r)) = FloatOps.sitofp (F := Ideal) .bf16 ((s (ix1 r)).setWidth 32) := by
  pointwise [k0_pay266]
  rw [dif_pos (show (up r).val < 446 from r.isLt)]
  rfl
/-- The scales of U, as the row that is spread. -/
theorem pay267_at (s : FVec Ideal S1x446 .f32) : k0_pay267 (F := Ideal) s (ix2 0 (up r)) = (s (ix2 0 r) : EReal) := by
  pointwise [k0_pay267]
  rw [dif_pos (show (up r).val < 446 from r.isLt)]
  rfl
/-- The zeros of U, as the row that is spread. -/
theorem pay264_at (s : IVec S446 8) : k0_pay264 (F := Ideal) s (ix2 0 r) = FloatOps.sitofp (F := Ideal) .bf16 ((s (ix1 r)).setWidth 32) := by
  pointwise [k0_pay264]
  rfl
end

end Cert.Proof.IdealRun

end
-- ==== Proof.ValDeq.lean ====
/-
  The kernel's packed words are the stream of bits of their column's bytes.
-/
module

public import proofs.«01_k».proof.Proof.ValBits
public import proofs.«01_k».proof.Proof.ValHost
public import proofs.«01_k».proof.Proof.ValSpread

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Cert.Proof.RefRun (stream)

section
variable (U : IVec S117x1024 8)

/-- The bytes of one column; past its 117 rows, zero. -/
def colBytes (J : Fin 1024) (n : ℕ) : BitVec 8 := if h : n < 117 then U (ix2 ⟨n, h⟩ J) else 0#8

/-- A bit of a packed word is the bit of the column's stream of bytes. -/
theorem words_bit (s : Fin 32) (J : Fin 1024) (q : ℕ) (hq : q < 32) :
    (words (F := Ideal) U (ix2 s J)).getLsbD q = stream (colBytes U J) (32 * s.val + q) := by
  unfold words
  refine (bitcast_8_32_getLsbD_ix2 _ _ s J q hq ⟨4 * s.val + q / 8, by omega⟩ rfl).trans ?_
  unfold stream colBytes
  rw [show (32 * s.val + q) / 8 = 4 * s.val + q / 8 by omega, show (32 * s.val + q) % 8 = q % 8 by omega]
  congr 1
  pointwise []

/-- An entry of the dequantised chunk lies in one of its eight groups of columns. -/
theorem deq_at (M : Fin 14 → IVec S1x8x128 32) (Z S : Fin 4 → FVec Ideal S128x128 .bf16) (p : Fin 4) (b : Fin 128) (g : Fin 8) (j : Fin 128) :
    ∃ (o : ℕ) (h : S32x1024.Slices ![0, o] S32x128), o = 128 * g.val ∧ deq (F := Ideal) U M Z S (ix2 (⟨128 * p.val + b.val, by omega⟩ : Fin 512) (⟨128 * g.val + j.val, by omega⟩ : Fin 1024)) = chunk (words (F := Ideal) U) M Z S o h (ix2 (⟨128 * p.val + b.val, by omega⟩ : Fin 512) j) := by
  fin_cases g
  · refine ⟨0, slices_S32x1024_o0_0_S32x128, rfl, ?_⟩
    pointwise [deq]
  · refine ⟨128, slices_S32x1024_o0_128_S32x128, rfl, ?_⟩
    pointwise [deq]
  · refine ⟨256, slices_S32x1024_o0_256_S32x128, rfl, ?_⟩
    pointwise [deq]
    rw [dif_neg (by omega), dif_neg (by omega), dif_pos (by omega)]
    exact congrArg (fun x => chunk (F := Ideal) _ M Z S _ _ (ix2 _ x)) (Fin.ext (by simp only; omega))
  · refine ⟨384, slices_S32x1024_o0_384_S32x128, rfl, ?_⟩
    pointwise [deq]
    rw [dif_neg (by omega), dif_neg (by omega), dif_neg (by omega), dif_pos (by omega)]
    exact congrArg (fun x => chunk (F := Ideal) _ M Z S _ _ (ix2 _ x)) (Fin.ext (by simp only; omega))
  · refine ⟨512, slices_S32x1024_o0_512_S32x128, rfl, ?_⟩
    pointwise [deq]
    rw [dif_neg (by omega), dif_neg (by omega), dif_neg (by omega), dif_neg (by omega), dif_pos (by omega)]
    exact congrArg (fun x => chunk (F := Ideal) _ M Z S _ _ (ix2 _ x)) (Fin.ext (by simp only; omega))
  · refine ⟨640, slices_S32x1024_o0_640_S32x128, rfl, ?_⟩
    pointwise [deq]
    rw [dif_neg (by omega), dif_neg (by omega), dif_neg (by omega), dif_neg (by omega), dif_neg (by omega), dif_pos (by omega)]
    exact congrArg (fun x => chunk (F := Ideal) _ M Z S _ _ (ix2 _ x)) (Fin.ext (by simp only; omega))
  · refine ⟨768, slices_S32x1024_o0_768_S32x128, rfl, ?_⟩
    pointwise [deq]
    rw [dif_neg (by omega), dif_neg (by omega), dif_neg (by omega), dif_neg (by omega), dif_neg (by omega), dif_neg (by omega), dif_pos (by omega)]
    exact congrArg (fun x => chunk (F := Ideal) _ M Z S _ _ (ix2 _ x)) (Fin.ext (by simp only; omega))
  · refine ⟨896, slices_S32x1024_o0_896_S32x128, rfl, ?_⟩
    pointwise [deq]
    rw [dif_neg (by omega), dif_neg (by omega), dif_neg (by omega), dif_neg (by omega), dif_neg (by omega), dif_neg (by omega), dif_neg (by omega)]
    exact congrArg (fun x => chunk (F := Ideal) _ M Z S _ _ (ix2 _ x)) (Fin.ext (by simp only; omega))

/-- A rank's row of the dequantised columns: the code, short of 128 for the whole bytes, less the zero as spread, times
    the scale as spread. -/
theorem deq_rank (M : Fin 14 → IVec S1x8x128 32) (hM : ∀ n s j, M n (ix3 0 s j) = maskWord n.val s.val) (Z S : Fin 4 → FVec Ideal S128x128 .bf16)
    (r : Fin 446) (J : Fin 1024) (x : BitVec 32) (hx : IsCode (stream (colBytes U J)) r.val x) :
    deq (F := Ideal) U M Z S (ix2 (pl r) J) = (((((x.toInt - shift r.val : ℤ)) : ℝ) : EReal) - Z ⟨place r.val / 128, by have := place_lt r; omega⟩ (ix2 (⟨place r.val % 128, by omega⟩ : Fin 128) (⟨J.val % 128, by omega⟩ : Fin 128)))
      * S ⟨place r.val / 128, by have := place_lt r; omega⟩ (ix2 (⟨place r.val % 128, by omega⟩ : Fin 128) (⟨J.val % 128, by omega⟩ : Fin 128)) := by
  have hp := place_lt r
  have hJ := J.isLt
  obtain ⟨o, h, ho, e⟩ := deq_at U M Z S ⟨place r.val / 128, by omega⟩ ⟨place r.val % 128, by omega⟩ ⟨J.val / 128, by omega⟩ ⟨J.val % 128, by omega⟩
  have e1 : (pl r : Fin 512) = ⟨128 * (place r.val / 128) + place r.val % 128, by omega⟩ := Fin.ext (Nat.div_add_mod _ _).symm
  have e2 : J = ⟨128 * (J.val / 128) + J.val % 128, by omega⟩ := Fin.ext (Nat.div_add_mod _ _).symm
  have e3 : deq (F := Ideal) U M Z S (ix2 (pl r) J) = deq (F := Ideal) U M Z S (ix2 (⟨128 * (place r.val / 128) + place r.val % 128, by omega⟩ : Fin 512) (⟨128 * (J.val / 128) + J.val % 128, by omega⟩ : Fin 1024)) :=
    (congrArg (fun a => deq (F := Ideal) U M Z S (ix2 a J)) e1).trans (congrArg (fun b => deq (F := Ideal) U M Z S (ix2 _ b)) e2)
  refine e3.trans (e.trans ((chunk_at M _ Z S o h _ _ _).trans ?_))
  have key := byte_val (extractStridedSlice S32x128 ![0, o] (words (F := Ideal) U) h) M hM (stream (colBytes U J)) ⟨J.val % 128, by omega⟩ (fun s q hq => by
    refine Eq.trans ?_ (words_bit U s J q hq)
    refine congrArg (fun w : BitVec 32 => w.getLsbD q) ?_
    have ho' : o + J.val % 128 = J.val := by simp only at ho; omega
    refine congrArg (words (F := Ideal) U) (funext fun a => ?_)
    match a with
    | 0 => exact Fin.ext (Nat.zero_add _)
    | 1 => exact Fin.ext ho') r x hx
  rw [← key]
  rfl

/-- The shift at a rank's place is the rank's own. -/
theorem place_two (r : Fin 446) : off128 (place r.val) = (((shift r.val : ℤ) : ℝ) : EReal) := by
  have h : (place r.val < 2) ↔ r.val < 2 := by revert r; decide +kernel
  unfold off128 shift
  by_cases h2 : r.val < 2
  · rw [if_pos (h.2 h2), if_pos h2]; norm_num
  · rw [if_neg (mt h.1 h2), if_neg h2]; norm_num

/-- The bias of the whole bytes cancels against the bias of their zeros. -/
theorem bias (x y z : ℤ) (s : EReal) :
    ((((x - y : ℤ) : ℝ) : EReal) - ((((z : ℤ) : ℝ) : EReal) - (((y : ℤ) : ℝ) : EReal))) * s = ((((x : ℤ) : ℝ) : EReal) - (((z : ℤ) : ℝ) : EReal)) * s := by
  congr 1
  rw [← EReal.coe_sub, ← EReal.coe_sub, ← EReal.coe_sub]
  congr 1; push_cast; ring
end
end Cert.Proof.IdealRun

end
-- ==== Proof.ValMasks.lean ====
/-
  The masks as loaded: each word is the word of its table.
-/
module

public import proofs.«01_k».proof.Proof.ValBits
public import Idealize.ShloMosaic.Lib.Pipeline.ValueKit

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic

/-- What the masks' buffer holds. -/
def maskAll : S14x8x128.Idx → BitVec 32 := fun i => maskWord (i 0).val (i 1).val

/-- One row of masks agrees with the table. -/
def Agrees (n : ℕ) (w : IVec S8x128 32) : Prop := ∀ (s : Fin 8) (j : Fin 128), w (ix2 s j) = maskWord n s.val

/-- Storing one row of masks that agrees with the table over rows that do leaves the array in agreement. -/
theorem chain_mem (n : ℕ) (h : ∀ a, (![n, 0, 0] : Fin 3 → ℕ) a + S1x8x128.size a ≤ S14x8x128.size a) (w : IVec S8x128 32) (L : List (View.Piece (Elt Ideal) S14x8x128 .i32))
    (hw : Agrees n w) (y : S14x8x128.Idx)
    (hr : (y 0).val ≠ n → maskB.view.read (Elt Ideal) (maskB.view.writes (Elt Ideal) maskB.view.junk L) y = maskAll y) :
    maskB.view.read (Elt Ideal) (maskB.view.writes (Elt Ideal) maskB.view.junk (⟨Rect.unit ![n, 0, 0] S1x8x128.size h, shapeCast S1x8x128 w shapeCasts_S8x128_S1x8x128⟩ :: L)) y = maskAll y := by
  by_cases e : (y 0).val = n
  · rw [View.read_writes_cons_unit_of_mem maskB.view _ h _ L y (ix3 (0 : Fin 1) (y 1) (y 2)) rfl (by
      intro a; match a with
      | ⟨0, _⟩ => show (y 0).val = n + 0; omega
      | ⟨1, _⟩ => show (y 1).val = 0 + (y 1).val; omega
      | ⟨2, _⟩ => show (y 2).val = 0 + (y 2).val; omega)]
    have := hw (y 1) (y 2)
    pointwise [this]
    subst e; rfl
  · rw [View.read_writes_cons_unit_of_not_mem maskB.view _ h _ L y rfl 0 (by
      show (y 0).val < n ∨ n + 1 ≤ (y 0).val; omega)]
    exact hr e

/-- The masks the kernel builds agree with the table. -/
theorem agrees : Agrees 0 bodyRun.sl.v93 ∧ Agrees 1 bodyRun.sl.v114 ∧ Agrees 2 bodyRun.sl.v131 ∧ Agrees 3 bodyRun.sl.v156 ∧ Agrees 4 bodyRun.sl.v173 ∧ Agrees 5 bodyRun.sl.v114 ∧ Agrees 6 bodyRun.sl.v131 ∧ Agrees 7 bodyRun.sl.v156 ∧ Agrees 8 bodyRun.sl.v253 ∧ Agrees 9 bodyRun.sl.v274 ∧ Agrees 10 bodyRun.sl.v291 ∧ Agrees 11 bodyRun.sl.v312 ∧ Agrees 12 bodyRun.sl.v156 ∧ Agrees 13 bodyRun.sl.v346 := by
  refine ⟨?_, ?_, ?_, ?_, ?_, ?_, ?_, ?_, ?_, ?_, ?_, ?_, ?_, ?_⟩ <;> intro s j <;>
    pointwise [bodyRun.sl.v101, bodyRun.sl.v102, bodyRun.sl.v105, bodyRun.sl.v106, bodyRun.sl.v110, bodyRun.sl.v114, bodyRun.sl.v123, bodyRun.sl.v127, bodyRun.sl.v131, bodyRun.sl.v140, bodyRun.sl.v144, bodyRun.sl.v148, bodyRun.sl.v152, bodyRun.sl.v156, bodyRun.sl.v165, bodyRun.sl.v169, bodyRun.sl.v173, bodyRun.sl.v244, bodyRun.sl.v245, bodyRun.sl.v248, bodyRun.sl.v249, bodyRun.sl.v252, bodyRun.sl.v253, bodyRun.sl.v261, bodyRun.sl.v262, bodyRun.sl.v265, bodyRun.sl.v266, bodyRun.sl.v269, bodyRun.sl.v270, bodyRun.sl.v274, bodyRun.sl.v282, bodyRun.sl.v283, bodyRun.sl.v286, bodyRun.sl.v287, bodyRun.sl.v290, bodyRun.sl.v291, bodyRun.sl.v299, bodyRun.sl.v300, bodyRun.sl.v303, bodyRun.sl.v304, bodyRun.sl.v307, bodyRun.sl.v308, bodyRun.sl.v312, bodyRun.sl.v345, bodyRun.sl.v346, bodyRun.sl.v61, bodyRun.sl.v64, bodyRun.sl.v65, bodyRun.sl.v66, bodyRun.sl.v68, bodyRun.sl.v69, bodyRun.sl.v70, bodyRun.sl.v72, bodyRun.sl.v73, bodyRun.sl.v74, bodyRun.sl.v76, bodyRun.sl.v77, bodyRun.sl.v78, bodyRun.sl.v80, bodyRun.sl.v81, bodyRun.sl.v82, bodyRun.sl.v85, bodyRun.sl.v86, bodyRun.sl.v89, bodyRun.sl.v90, bodyRun.sl.v93, bodyRun.sl.v60] <;> revert s <;> decide +kernel

/-- The masks' buffer after its fourteen stores. -/
theorem mask_read (y : S14x8x128.Idx) : maskB.view.read (Elt Ideal) (maskB.view.writes (Elt Ideal) maskB.view.junk (bodyRun.sl.SmaskB_14 (F := Ideal))) y = maskAll y := by
  obtain ⟨a0, a1, a2, a3, a4, a5, a6, a7, a8, a9, a10, a11, a12, a13⟩ := agrees
  have hy : (y 0).val < 14 := (y 0).isLt
  unfold bodyRun.sl.SmaskB_14
  refine chain_mem 13 _ _ _ a13 y fun h13 => ?_
  refine chain_mem 12 _ _ _ a12 y fun h12 => ?_
  refine chain_mem 11 _ _ _ a11 y fun h11 => ?_
  refine chain_mem 10 _ _ _ a10 y fun h10 => ?_
  refine chain_mem 9 _ _ _ a9 y fun h9 => ?_
  refine chain_mem 8 _ _ _ a8 y fun h8 => ?_
  refine chain_mem 7 _ _ _ a7 y fun h7 => ?_
  refine chain_mem 6 _ _ _ a6 y fun h6 => ?_
  refine chain_mem 5 _ _ _ a5 y fun h5 => ?_
  refine chain_mem 4 _ _ _ a4 y fun h4 => ?_
  refine chain_mem 3 _ _ _ a3 y fun h3 => ?_
  refine chain_mem 2 _ _ _ a2 y fun h2 => ?_
  refine chain_mem 1 _ _ _ a1 y fun h1 => ?_
  refine chain_mem 0 _ _ _ a0 y fun h0 => ?_
  omega

/-- Mask `n` as loaded. -/
theorem mask_at (c : Dev nD) (n : Fin 14) (s : Fin 8) (j : Fin 128) :
    loadM (F := Ideal) c (maskB.view.writes (Elt Ideal) maskB.view.junk (bodyRun.sl.SmaskB_14 (F := Ideal))) n (ix3 (0 : Fin 1) s j) = maskWord n.val s.val := by
  refine Eq.trans ?_ (mask_read (ix3 n s j))
  refine congrArg (maskB.view.read (Elt Ideal) (maskB.view.writes (Elt Ideal) maskB.view.junk (bodyRun.sl.SmaskB_14 (F := Ideal)))) (funext fun a => Fin.ext ?_)
  match a with
  | ⟨0, _⟩ => show n.val + 1 * 0 = n.val; omega
  | ⟨1, _⟩ => show 0 + 1 * s.val = s.val; omega
  | ⟨2, _⟩ => show 0 + 1 * j.val = j.val; omega

end Cert.Proof.IdealRun

end
-- ==== Proof.ValExp.lean ====
/-
  The quantiser: the kernel's exponent, scale and codes are the reference's.
-/
module

public import proofs.«01_k».proof.Proof.Gen.KernelIdeal.Skeleton
public import proofs.«01_k».proof.Proof.Gen.ReferenceIdeal.Skeleton
public import Idealize.ShloMosaic.Lib.Pointwise
public import Idealize.ShloMosaic.Lib.IndicatorCount

@[expose] public section

set_option maxRecDepth 16384

noncomputable section

namespace Cert.Proof.Quant

open Idealize.ShloMosaic

/-- Two to a power, as an extended real. -/
def two (e : ℤ) : EReal := (((2 : ℝ) ^ e : ℝ) : EReal)

/-- The exponent field of a power of two, as bits: no sign, the number itself, no fraction. -/
theorem field_bits : ∀ n : Fin 255, ((IntOp.shli ArithUnit.vector (BitVec.ofNat 32 n.val) 23#32).extractLsb' 31 1 == 1#1) = false ∧
    ((IntOp.shli ArithUnit.vector (BitVec.ofNat 32 n.val) 23#32).extractLsb' 23 8).toNat = n.val ∧
    ((IntOp.shli ArithUnit.vector (BitVec.ofNat 32 n.val) 23#32).extractLsb' 0 23).toNat = 0 := by decide +kernel

/-- A float with a field between the extremes and no fraction is that power of two. -/
theorem ieee_field (b : BitVec 32) (n : ℕ) (h0 : n ≠ 0) (h : n < 255) (h1 : (b.extractLsb' 31 1 == 1#1) = false)
    (h2 : (b.extractLsb' 23 8).toNat = n) (h3 : (b.extractLsb' 0 23).toNat = 0) : Ideal.ieee 8 23 b = two ((n : ℤ) - 127) := by
  have e : ∀ (ex fr : ℕ) (neg : Bool), ex = n → fr = 0 → neg = false →
      (if ex = 2 ^ 8 - 1 then (if fr = 0 then (if neg then (⊥ : EReal) else ⊤) else ⊥)
        else if ex = 0 then (((if neg then -1 else 1 : ℝ) * fr * (2 : ℝ) ^ (1 - (2 ^ (8 - 1) - 1) - (23 : ℕ) : ℤ) : ℝ) : EReal)
        else (((if neg then -1 else 1 : ℝ) * (2 ^ 23 + fr : ℕ) * (2 : ℝ) ^ ((ex : ℤ) - (2 ^ (8 - 1) - 1) - (23 : ℕ)) : ℝ) : EReal)) = two ((n : ℤ) - 127) := by
    intro ex fr neg e1 e2 e3
    subst e1 e2 e3
    rw [if_neg (by norm_num; omega), if_neg h0]
    unfold two
    have : (2 : ℝ) ^ ((ex : ℤ) - 127) = 2 ^ 23 * 2 ^ ((ex : ℤ) - 150) := by
      rw [show ((2 : ℝ) ^ 23) = 2 ^ (23 : ℤ) by norm_num, ← zpow_add₀ (by norm_num : (2 : ℝ) ≠ 0)]; congr 1; ring
    rw [this, show (ex : ℤ) - (2 ^ (8 - 1) - 1) - (23 : ℕ) = (ex : ℤ) - 150 by push_cast; norm_num; ring]
    norm_num
  exact e _ _ _ h2 h3 h1

/-- A word with only its exponent field set denotes a power of two. -/
theorem bits_pow (n : ℕ) (h0 : n ≠ 0) (h : n < 255) :
    Ideal.ofBits .f32 (IntOp.shli ArithUnit.vector (BitVec.ofNat 32 n) 23#32) = two ((n : ℤ) - 127) :=
  ieee_field _ n h0 h (field_bits ⟨n, h⟩).1 (field_bits ⟨n, h⟩).2.1 (field_bits ⟨n, h⟩).2.2

/-- The word of a difference is the difference of the words. -/
theorem ofInt_diff (a b : ℤ) : BitVec.ofInt 32 (a - b) = BitVec.ofInt 32 a - BitVec.ofInt 32 b := by
  rw [sub_eq_add_neg, BitVec.ofInt_add, BitVec.ofInt_neg, BitVec.sub_eq_add_neg]
/-- The word of a natural number is the word of the same integer. -/
theorem ofNat_int (n : ℕ) : BitVec.ofNat 32 n = BitVec.ofInt 32 (n : ℤ) := (BitVec.ofInt_natCast ..).symm

/-- The reference's power of two. -/
theorem exp2_int (e : ℤ) : Ideal.exp2 (((e : ℝ)) : EReal) = two e := by
  rw [Ideal.exp2_coe]; unfold two; congr 1; exact Real.rpow_intCast 2 e

/-- The constant 126. -/
theorem c126 : Ideal.ofBits .f32 1123811328#32 = ((126 : ℝ) : EReal) := by
  simp [Ideal.ofBits, Ideal.ieee, -EReal.coe_mul]; norm_num
/-- The constant 1/448 is not zero. -/
theorem c448 : Ideal.ofBits .f32 991054117#32 ≠ 0 := by
  simp [Ideal.ofBits, Ideal.ieee, -EReal.coe_mul]

/-- The integer count of a predicate. -/
theorem count_int {n : ℕ} (P : Fin n → Prop) [DecidablePred P] :
    Finset.fold IntOp.addi (0#32) (fun x => if P x then 1#32 else 0#32) Finset.univ = BitVec.ofNat 32 (Finset.univ.filter P).card := by
  have h := IndicatorCount.fold_addi_setWidth_eq_card (w := 32) (fun x => if P x then 1#1 else 0#1) (Finset.univ : Finset (Fin n))
  have e1 : (fun k => BitVec.setWidth 32 (if P k then 1#1 else 0#1)) = fun x => if P x then 1#32 else 0#32 := by
    funext k; split <;> rfl
  have e2 : (Finset.univ.filter fun k => (if P k then 1#1 else 0#1) = 1#1) = Finset.univ.filter P := by
    congr 1; funext k; by_cases hk : P k <;> simp [hk]
  rw [e1, e2] at h; exact h

/-- The count of a predicate as a sum. -/
theorem count_sum {n : ℕ} (P : Fin n → Prop) [DecidablePred P] :
    (∑ x, if P x then (1 : EReal) else 0) = (((Finset.univ.filter P).card : ℝ) : EReal) := by
  rw [← Finset.sum_filter, Finset.sum_const, nsmul_one]; rfl

/-- The largest magnitude of a row. -/
def amax {n : ℕ} (f : Fin n → EReal) : EReal := Finset.fold max (Ideal.ofBits FTy.f32 4286578688#32) (fun x => FloatOps.absf (F := Ideal) (φ := .f32) (f x)) Finset.univ

open Classical in
/-- The exponent of a row whose largest magnitude is `a`. -/
def expo (a : EReal) : ℤ :=
  if a = 0 then 0 else ((Finset.univ.filter fun k : Fin 252 => two ((k.val : ℤ) - 126) ≤ a * Ideal.ofBits FTy.f32 991054117#32).card : ℤ) - 126

/-- The exponent is at least -126. -/
theorem expo_lo (a : EReal) : -126 ≤ expo a := by unfold expo; split <;> omega
/-- The exponent is at most 126. -/
theorem expo_hi (a : EReal) : expo a ≤ 126 := by
  unfold expo; split
  · omega
  · have := Finset.card_le_univ (Finset.univ.filter fun k : Fin 252 => two ((k.val : ℤ) - 126) ≤ a * Ideal.ofBits FTy.f32 991054117#32)
    rw [Fintype.card_fin] at this; omega

/-- The kernel's words, read as floats, are the powers of two from 2^-126 on. -/
theorem pw_kernel (x : Fin 252) : Ideal.ofBits FTy.f32 (IntOp.shli ArithUnit.vector (IntOp.addi (BitVec.ofNat 32 x.val) 1#32) 23#32) = two ((x.val : ℤ) - 126) := by
  rw [show IntOp.addi (BitVec.ofNat 32 x.val) 1#32 = BitVec.ofNat 32 (x.val + 1) from (BitVec.ofNat_add _ _).symm, bits_pow _ (by omega) (by omega)]
  congr 1; push_cast; ring
/-- The reference's powers of two are the same ones. -/
theorem pw_reference (x : Fin 252) : FloatOps.exp2 (F := Ideal) (φ := .f32) (FloatOps.sitofp (F := Ideal) FTy.f32 (BitVec.ofNat 32 x.val) - Ideal.ofBits FTy.f32 1123811328#32 : EReal) = two ((x.val : ℤ) - 126) := by
  rw [c126]
  have h : (BitVec.ofNat 32 x.val).toInt = (x.val : ℤ) := by
    rw [BitVec.toInt_eq_toNat_cond, BitVec.toNat_ofNat]; have := x.isLt; rw [Nat.mod_eq_of_lt (by omega), if_pos (by omega)]
  show Ideal.exp2 ((((BitVec.ofNat 32 x.val).toInt : ℝ) : EReal) - ((126 : ℝ) : EReal)) = _
  rw [h, ← EReal.coe_sub, ← exp2_int]; push_cast; rfl

/-- The kernel's exponent word of a row. -/
theorem expo_word (a : EReal) [Decidable (a * Ideal.ofBits FTy.f32 991054117#32 = 0)] [DecidablePred fun x : Fin 252 =>
      Ideal.ofBits FTy.f32 (IntOp.shli ArithUnit.vector (IntOp.addi (BitVec.ofNat 32 x.val) 1#32) 23#32) ≤ a * Ideal.ofBits FTy.f32 991054117#32] :
    (if a * Ideal.ofBits FTy.f32 991054117#32 = 0 then 0#32 else
      IntOp.subi (Finset.fold IntOp.addi (0#32) (fun x : Fin 252 =>
        if Ideal.ofBits FTy.f32 (IntOp.shli ArithUnit.vector (IntOp.addi (BitVec.ofNat 32 x.val) 1#32) 23#32) ≤ a * Ideal.ofBits FTy.f32 991054117#32 then 1#32 else 0#32) Finset.univ) 126#32)
      = BitVec.ofInt 32 (expo a) := by
  classical
  by_cases h : a = 0
  · subst h; rw [if_pos (by simp)]; unfold expo; rw [if_pos rfl]; rfl
  · rw [if_neg (by simpa [c448] using h), count_int]
    unfold expo; rw [if_neg h]
    simp only [pw_kernel]
    generalize Finset.card _ = n
    show BitVec.ofNat 32 n - 126#32 = _
    rw [ofInt_diff, ofNat_int]
    rfl

/-- The reference's exponent of a row. -/
theorem expo_ref (a : EReal) [Decidable (a = 0)] [DecidablePred fun x : Fin 252 =>
      FloatOps.exp2 (F := Ideal) (φ := .f32) (FloatOps.sitofp (F := Ideal) FTy.f32 (BitVec.ofNat 32 x.val) - Ideal.ofBits FTy.f32 1123811328#32 : EReal) ≤ a * Ideal.ofBits FTy.f32 991054117#32] :
    (if a = 0 then (0 : EReal) else (∑ x : Fin 252,
        if FloatOps.exp2 (F := Ideal) (φ := .f32) (FloatOps.sitofp (F := Ideal) FTy.f32 (BitVec.ofNat 32 x.val) - Ideal.ofBits FTy.f32 1123811328#32 : EReal) ≤ a * Ideal.ofBits FTy.f32 991054117#32 then (1 : EReal) else 0) - Ideal.ofBits FTy.f32 1123811328#32)
      = ((expo a : ℝ) : EReal) := by
  classical
  unfold expo
  by_cases h : a = 0
  · rw [if_pos h, if_pos h]; simp
  · rw [if_neg h, if_neg h, count_sum]
    simp only [pw_reference]
    rw [c126, ← EReal.coe_sub]
    push_cast; rfl

/-- The kernel's word of the scale, read as a float, is two to the exponent. -/
theorem scale_word (a : EReal) : Ideal.ofBits FTy.f32 (IntOp.shli ArithUnit.vector (IntOp.addi (127#32) (BitVec.ofInt 32 (expo a))) 23#32) = two (expo a) := by
  have h1 := expo_lo a; have h2 := expo_hi a
  obtain ⟨n, hn⟩ : ∃ n : ℕ, (n : ℤ) = 127 + expo a := ⟨(127 + expo a).toNat, by omega⟩
  rw [show IntOp.addi (127#32) (BitVec.ofInt 32 (expo a)) = BitVec.ofNat 32 n by
    rw [ofNat_int n, hn, BitVec.ofInt_add]; rfl, bits_pow n (by omega) (by omega)]
  congr 1; omega
/-- The kernel's word of the inverse scale is two to minus the exponent. -/
theorem inverse_word (a : EReal) : Ideal.ofBits FTy.f32 (IntOp.shli ArithUnit.vector (IntOp.subi (127#32) (BitVec.ofInt 32 (expo a))) 23#32) = two (-expo a) := by
  have h1 := expo_lo a; have h2 := expo_hi a
  obtain ⟨n, hn⟩ : ∃ n : ℕ, (n : ℤ) = 127 - expo a := ⟨(127 - expo a).toNat, by omega⟩
  rw [show IntOp.subi (127#32) (BitVec.ofInt 32 (expo a)) = BitVec.ofNat 32 n by
    rw [ofNat_int n, hn, ofInt_diff]; rfl, bits_pow n (by omega) (by omega)]
  congr 1; omega

/-- The code of an element `v` of a row with exponent `e`. -/
def code (v : EReal) (e : ℤ) : EReal := min (Ideal.ofBits FTy.f32 1138753536#32) (max (Ideal.ofBits FTy.f32 3286237184#32) (v * two (-e)))

variable (X : FVec Ideal Cert.KernelIdeal.S40x5120 .bf16)

/-- The exponent of row `r`. -/
def rowExp (r : Fin 40) : ℤ := expo (amax fun l : Fin 5120 => X (ix2 r l))

open Cert.KernelIdeal.Gen in
/-- The kernel's scale of a token, as the row it copies out. -/
theorem k_scale (r : Fin 40) : k0_pay263 (F := Ideal) (k0_pay262 (k0_pay253 X) (k0_pay254 (F := Ideal) X) k0_pay255) (ix2 0 r) = two (rowExp X r) := by
  pointwise [k0_pay263, k0_pay262, k0_pay260, k0_pay256, k0_pay253, k0_pay254, k0_pay255, k0_pay252]
  exact (congrArg (fun w => Ideal.ofBits FTy.f32 (IntOp.shli ArithUnit.vector (IntOp.addi (127#32) w) 23#32)) (expo_word _)).trans (scale_word _)
open Cert.KernelIdeal.Gen in
/-- The kernel's scale of a token, as the column it multiplies by. -/
theorem k_col (r : Fin 40) (l : Fin 128) : k0_pay261 (F := Ideal) (k0_pay253 X) (k0_pay254 (F := Ideal) X) k0_pay255 (ix2 r l) = two (rowExp X r) := by
  pointwise [k0_pay261, k0_pay260, k0_pay256, k0_pay253, k0_pay254, k0_pay255, k0_pay252]
  exact (congrArg (fun w => Ideal.ofBits FTy.f32 (IntOp.shli ArithUnit.vector (IntOp.addi (127#32) w) 23#32)) (expo_word _)).trans (scale_word _)
open Cert.KernelIdeal.Gen in
/-- The kernel's code of an activation. -/
theorem k_codes (r : Fin 40) (l : Fin 5120) : k0_pay258 (F := Ideal) (k0_pay252 X) (k0_pay253 X) (k0_pay254 (F := Ideal) X) k0_pay255 (ix2 r l) = code (X (ix2 r l)) (rowExp X r) := by
  pointwise [k0_pay258, k0_pay257, k0_pay256, k0_pay253, k0_pay254, k0_pay255, k0_pay252]
  exact congrArg (fun w => min (Ideal.ofBits FTy.f32 1138753536#32) (max (Ideal.ofBits FTy.f32 3286237184#32) (X (ix2 r l) * w)))
    ((congrArg (fun w => Ideal.ofBits FTy.f32 (IntOp.shli ArithUnit.vector (IntOp.subi (127#32) w) 23#32)) (expo_word _)).trans (inverse_word _))
open Cert.ReferenceIdeal.Gen in
/-- The reference's scale of a token. -/
theorem r_scale (r : Fin 40) : k0_pay4 (F := Ideal) X (ix2 r 0) = two (rowExp X r) := by
  pointwise [k0_pay4, k0_pay3, k0_pay2]
  exact (congrArg Ideal.exp2 (expo_ref _)).trans (exp2_int _)
open Cert.ReferenceIdeal.Gen in
/-- The reference's code of an activation. -/
theorem r_codes (r : Fin 40) (l : Fin 5120) : k0_pay5 (F := Ideal) X (ix2 r l) = code (X (ix2 r l)) (rowExp X r) := by
  pointwise [k0_pay5, k0_pay3, k0_pay2]
  exact congrArg (fun w => min (Ideal.ofBits FTy.f32 1138753536#32) (max (Ideal.ofBits FTy.f32 3286237184#32) (X (ix2 r l) * w)))
    ((congrArg (fun w : EReal => Ideal.exp2 (0 - w)) (expo_ref _)).trans (by
      rw [zero_sub, ← EReal.coe_neg, ← exp2_int]; unfold rowExp amax; push_cast; rfl))
end Cert.Proof.Quant

end
-- ==== Proof.ValRun.lean ====
/-
  What the run leaves in the codes and the scale.
-/
module

public import proofs.«01_k».proof.Proof.IdealLaunch
public import proofs.«01_k».proof.Proof.ValExp
public import Idealize.ShloMosaic.Lib.VecWindow

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic

section
variable {F : FTy → Type} [FloatOps F]

/-- A whole buffer made to read `x` is `x`. -/
theorem rep_whole (b : Ref sig .tc) (x : b.ty.shape.Idx → Elt F b.ty.elt) : (Memref.whole b).view.rep x = x := View.read_rep (Memref.whole b).view x
/-- The codes, copied out whole, are what was copied. -/
theorem rep_xc (x : S40x5120.Idx → Elt F .fp8e4m3) : xcM.view.rep x = x := rep_whole main_v7_3 x
/-- The scales, copied out whole, are what was copied. -/
theorem rep_xs (x : S1x40.Idx → Elt F .f32) : xsM.view.rep x = x := rep_whole main_v7_4 x
/-- The array z, copied out whole, is what was copied. -/
theorem rep_z (x : S40x1x446.Idx → Elt F .f32) : zM.view.rep x = x := rep_whole main_v7_2 x

attribute [local irreducible] View.writes
variable (m : (ℓ : Loc nD τ sig) → Buf (Elt F) ℓ) (c : Dev nD)

/-- The codes' buffer after the run. -/
theorem run_codes : (theRun m c).2.2.2.1 = xcB.view.writes (Elt F) xcB.view.junk (bodyRun.sl.SxcB_1 c (V m c main_v0)) := by
  unfold theRun bodyRun; rfl
/-- The run's buffer of scales, by the body's stores. -/
theorem run_scale : (theRun m c).2.2.2.2.1 = xsRowB.view.writes (Elt F) xsRowB.view.junk (bodyRun.sl.SxsRowB_1 c (V m c main_v0)) := by
  unfold theRun bodyRun; rfl
/-- The run's buffer of z, by the body's stores. -/
theorem run_z : (theRun m c).2.2.1 = zB.view.writes (Elt F) zB.view.junk (bodyRun.sl.SzB_1 c (V m c main_v0) (V m c main_v3) (V m c main_v4) (V m c main_arg6) (V m c main_v6) (V m c main_arg9)) := by
  unfold theRun bodyRun; rfl

/-- The load of the input reads the input. -/
theorem load_x (x0 : Buf (Elt F) (xA.view.loc (c : Thread nD τ))) : bodyRun.sl.v449 c x0 = x0 :=
  View.readCov_full xB.view _ _ (bodyRun.sl.dma0 c x0) []
end

variable (m : (ℓ : Loc nD τ sig) → Buf (Elt Ideal) ℓ) (c : Dev nD)

/-- The input as 40 rows. -/
abbrev Xin : FVec Ideal S40x5120 .bf16 := V m c main_v0

/-- The codes' result. -/
theorem codes_eq : G m c main_v7_3 = k0_pay258 (F := Ideal) (k0_pay252 (Xin m c)) (k0_pay253 (Xin m c)) (k0_pay254 (F := Ideal) (Xin m c)) k0_pay255 := by
  rw [G_3, run_codes, rep_xc]
  unfold bodyRun.sl.SxcB_1 bodyRun.sl.r_2 bodyRun.sl.r_3 bodyRun.sl.r_4
  rw [View.read_writes_full, load_x]
/-- The scale's result. -/
theorem scale_eq : G m c main_v7_4 = k0_pay263 (F := Ideal) (k0_pay262 (k0_pay253 (Xin m c)) (k0_pay254 (F := Ideal) (Xin m c)) k0_pay255) := by
  rw [G_4, run_scale, rep_xs]
  unfold bodyRun.sl.SxsRowB_1 bodyRun.sl.r_5 bodyRun.sl.r_3 bodyRun.sl.r_4
  rw [View.read_writes_full, load_x]

end Cert.Proof.IdealRun

end
-- ==== Proof.ValZval.lean ====
/-
  The middle factor's value: after the loop's five trips the accumulator's row of a rank is the product of the
  activation with that rank's column of the dequantised first factor.
-/
module

public import proofs.«01_k».proof.Proof.ValZ
public import proofs.«01_k».proof.Proof.ValDeq
public import proofs.«01_k».proof.Proof.ValMasks
public import proofs.«01_k».proof.Proof.ValRun

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Cert.Proof.RefRun (stream zpN)

/-- The columns a trip reads. -/
theorem off3_val : ∀ k : Fin k0_t1_loop.trips, k0_off3 k = ![0, 1024 * k.val] := by decide
/-- The columns of the packed bytes a trip reads. -/
theorem off4_val : ∀ k : Fin k0_t1_loop.trips, k0_off4 k = ![0, 1024 * k.val] := by decide
/-- The loop over the chunks has five trips. -/
theorem trips_five : k0_t1_loop.trips = 5 := by decide
/-- The columns of the packed bytes a tile reads. -/
theorem off21_val : ∀ k : Fin k0_t2_loop.trips, k0_off21 k = ![0, 1024 * k.val] := by decide
/-- The columns of the weight scales a tile reads. -/
theorem off23_val : ∀ k : Fin k0_t2_loop.trips, k0_off23 k = ![0, 1024 * k.val] := by decide

variable (c : Dev nD)

section
variable (x5 : Buf (Elt Ideal) (vsA.view.loc (c : Thread nD τ))) (x6 : Buf (Elt Ideal) (vzA.view.loc (c : Thread nD τ)))
  (x8 : Buf (Elt Ideal) (usA.view.loc (c : Thread nD τ))) (x9 : Buf (Elt Ideal) (uzA.view.loc (c : Thread nD τ)))

/-- The scales of V are loaded as they were copied in. -/
theorem load_vs : bodyRun.sl.v527 c x5 = x5 := by
  unfold bodyRun.sl.v527
  exact View.readCov_full vsrB.view (off := ![0, 0]) (off' := fun _ => 0) _ _ (bodyRun.sl.dma0_1 c x5) []
/-- The zeros of V are loaded as they were copied in. -/
theorem load_vz : bodyRun.sl.v529 c x6 = x6 := by
  unfold bodyRun.sl.v529
  exact View.readCov_full vzrB.view (off := ![0]) (off' := fun _ => 0) _ _ (bodyRun.sl.dma0_2 c x6) []
/-- The scales of U are loaded as they were copied in. -/
theorem load_us : bodyRun.sl.v534 c x8 = x8 := by
  unfold bodyRun.sl.v534
  exact View.readCov_full usrB.view (off := ![0, 0]) (off' := fun _ => 0) _ _ (bodyRun.sl.dma0_3 c x8) []
/-- The zeros of U are loaded as they were copied in. -/
theorem load_uz : bodyRun.sl.v536 c x9 = x9 := by
  unfold bodyRun.sl.v536
  exact View.readCov_full uzrB.view (off := ![0]) (off' := fun _ => 0) _ _ (bodyRun.sl.dma0_4 c x9) []

/-- The plane and the row in it of a rank. -/
abbrev plP (r : Fin 446) : Fin 4 := ⟨place r.val / 128, by have := place_lt r; omega⟩
abbrev plB (r : Fin 446) : Fin 128 := ⟨place r.val % 128, by omega⟩

/-- A plane of a spread array, read back, is what was stored whole. -/
theorem loadP_full (B : Memref sig .tc .vmem S512x128 .bf16) (f : Buf (Elt Ideal) (B.view.loc (c : Thread nD τ))) (w : S512x128.Idx → EReal) (r : Fin 446) (j : Fin 128) :
    loadP (F := Ideal) c B (B.view.writes (Elt Ideal) f [⟨Rect.unit (s := S512x128) ![0, 0] S512x128.size inb_S512x128_S512x128_0_0, w⟩]) (plP r) (ix2 (plB r) j) = w (ix2 (pl r) j) := by
  refine Eq.trans ?_ (congrFun (View.read_writes_full B.view f (off := ![0, 0]) inb_S512x128_S512x128_0_0 w []) (ix2 (pl r) j))
  refine congrArg (B.view.read (Elt Ideal) (B.view.writes (Elt Ideal) f [⟨Rect.unit (s := S512x128) ![0, 0] S512x128.size inb_S512x128_S512x128_0_0, w⟩])) (funext fun a => Fin.ext ?_)
  match a with
  | ⟨0, _⟩ => show 128 * (place r.val / 128) + 1 * (place r.val % 128) = place r.val; omega
  | ⟨1, _⟩ => show 0 + 1 * j.val = j.val; omega

/-- The scale of V that a rank's row is multiplied by is the rank's. -/
theorem vs_at (r : Fin 446) (j : Fin 128) :
    loadP (F := Ideal) c vsB (vsB.view.writes (Elt Ideal) vsB.view.junk (bodyRun.sl.SvsB_1 c x5 x6 x8 x9)) (plP r) (ix2 (plB r) j) = x5 (ix2 (0 : Fin 1) r) := by
  unfold bodyRun.sl.SvsB_1
  refine (loadP_full c vsB _ _ r j).trans ((pay270_at _ _ _ _ r j).trans ?_)
  unfold bodyRun.sl.r_7
  rw [load_vs]
  exact pay265_at r x5 j
/-- The zero of V that is subtracted at a rank's row is the rank's, less the shift. -/
theorem vz_at (r : Fin 446) (j : Fin 128) :
    loadP (F := Ideal) c vzB (vzB.view.writes (Elt Ideal) vzB.view.junk (bodyRun.sl.SvzB_1 c x5 x6 x8 x9)) (plP r) (ix2 (plB r) j) = zpN x6 r - off128 (place r.val) := by
  unfold bodyRun.sl.SvzB_1
  refine (loadP_full c vzB _ _ r j).trans ((pay271_at _ _ _ _ r j).trans ?_)
  unfold bodyRun.sl.r_8
  rw [load_vz, pay266_at r x6 j]
  rfl
/-- The scale of U that a rank's row is multiplied by is the rank's. -/
theorem us_at (r : Fin 446) (j : Fin 128) :
    loadP (F := Ideal) c usB (usB.view.writes (Elt Ideal) usB.view.junk (bodyRun.sl.SusB_1 c x5 x6 x8 x9)) (plP r) (ix2 (plB r) j) = x8 (ix2 (0 : Fin 1) r) := by
  unfold bodyRun.sl.SusB_1
  refine (loadP_full c usB _ _ r j).trans ((pay272_at _ _ _ _ r j).trans ?_)
  unfold bodyRun.sl.r_9
  rw [load_us]
  exact pay267_at r x8
/-- The zero of U that is subtracted at a rank's row is the rank's, less the shift. -/
theorem uz_at (r : Fin 446) (j : Fin 128) :
    loadP (F := Ideal) c uzB (uzB.view.writes (Elt Ideal) uzB.view.junk (bodyRun.sl.SuzB_1 c x5 x6 x8 x9)) (plP r) (ix2 (plB r) j) = zpN x9 r - off128 (place r.val) := by
  unfold bodyRun.sl.SuzB_1
  refine (loadP_full c uzB _ _ r j).trans ((pay273_at _ _ _ _ r j).trans ?_)
  unfold bodyRun.sl.r_6
  rw [load_uz, pay264_at r x9]
  rfl

/-- An entry of the first factor in a rank's row: the code less its zero, times its scale. -/
theorem deq_v (U : IVec S117x1024 8) (r : Fin 446) (J : Fin 1024) (x : BitVec 32) (hx : IsCode (stream (colBytes U J)) r.val x) :
    deq (F := Ideal) U (loadM c (maskB.view.writes (Elt Ideal) maskB.view.junk (bodyRun.sl.SmaskB_14 (F := Ideal))))
      (loadP c vzB (vzB.view.writes (Elt Ideal) vzB.view.junk (bodyRun.sl.SvzB_1 c x5 x6 x8 x9)))
      (loadP c vsB (vsB.view.writes (Elt Ideal) vsB.view.junk (bodyRun.sl.SvsB_1 c x5 x6 x8 x9))) (ix2 (pl r) J)
      = (FloatOps.sitofp (F := Ideal) .f32 x - zpN x6 r) * x5 (ix2 (0 : Fin 1) r) := by
  refine (deq_rank U _ (mask_at c) _ _ r J x hx).trans ?_
  rw [vz_at, vs_at, place_two]
  exact bias x.toInt (shift r.val) ((x6 (ix1 r)).setWidth 32).toInt _
/-- An entry of the second factor in a rank's row. -/
theorem deq_u (U : IVec S117x1024 8) (r : Fin 446) (J : Fin 1024) (x : BitVec 32) (hx : IsCode (stream (colBytes U J)) r.val x) :
    deq (F := Ideal) U (loadM c (maskB.view.writes (Elt Ideal) maskB.view.junk (bodyRun.sl.SmaskB_14 (F := Ideal))))
      (loadP c uzB (uzB.view.writes (Elt Ideal) uzB.view.junk (bodyRun.sl.SuzB_1 c x5 x6 x8 x9)))
      (loadP c usB (usB.view.writes (Elt Ideal) usB.view.junk (bodyRun.sl.SusB_1 c x5 x6 x8 x9))) (ix2 (pl r) J)
      = (FloatOps.sitofp (F := Ideal) .f32 x - zpN x9 r) * x8 (ix2 (0 : Fin 1) r) := by
  refine (deq_rank U _ (mask_at c) _ _ r J x hx).trans ?_
  rw [uz_at, us_at, place_two]
  exact bias x.toInt (shift r.val) ((x9 (ix1 r)).setWidth 32).toInt _
end

section
variable (Xv : Buf (Elt Ideal) (vB.view.loc (c : Thread nD τ))) (Xx : Buf (Elt Ideal) (xB.view.loc (c : Thread nD τ))) (Xm : Buf (Elt Ideal) (maskB.view.loc (c : Thread nD τ)))
variable (Xz : Buf (Elt Ideal) (vzB.view.loc (c : Thread nD τ))) (Xs : Buf (Elt Ideal) (vsB.view.loc (c : Thread nD τ))) (f₀ : Buf (Elt Ideal) (accB.view.loc (c : Thread nD τ)))

/-- What a load of the whole accumulator reads. -/
def accAt (f : Buf (Elt Ideal) (accB.view.loc (c : Thread nD τ))) : S40x512.Idx → EReal :=
  View.readAt (Elt Ideal) accB.view (Rect.unit (s := S40x512) ![0, 0] S40x512.size inb_S40x512_S40x512_0_0).toLoadRect f

/-- One trip adds its chunk's products to an entry of the accumulator. -/
theorem acc_step (k : Fin k0_t1_loop.trips) (i : Fin 40) (l : Fin 512) :
    accAt c (accZ c Xv Xx Xm Xz Xs f₀ (k.val + 1)) (ix2 i l) = accAt c (accZ c Xv Xx Xm Xz Xs f₀ k.val) (ix2 i l)
      + ∑ J : Fin 1024, xval c Xx k (ix2 i J) * deq (F := Ideal) (vval c Xv k) (loadM c Xm) (loadP c vzB Xz) (loadP c vsB Xs) (ix2 l J) := by
  rw [accZ_succ, tripZ_eq]
  unfold accAt
  rw [View.readAt_writes_full accB.view _ (off := ![0, 0]) (off' := ![0, 0]) inb_S40x512_S40x512_0_0 inb_S40x512_S40x512_0_0]
  pointwise [k0_pay275, zsum]

/-- The accumulator after `n` trips. -/
theorem acc_sum (i : Fin 40) (l : Fin 512) (g : ℕ → EReal) (h0 : accAt c f₀ (ix2 i l) = 0)
    (hg : ∀ (k : Fin k0_t1_loop.trips) (J : Fin 1024), xval c Xx k (ix2 i J) * deq (F := Ideal) (vval c Xv k) (loadM c Xm) (loadP c vzB Xz) (loadP c vsB Xs) (ix2 l J) = g (1024 * k.val + J.val))
    (n : ℕ) (hn : n ≤ k0_t1_loop.trips) :
    accAt c (accZ c Xv Xx Xm Xz Xs f₀ n) (ix2 i l) = ∑ L ∈ Finset.range (1024 * n), g L := by
  induction n with
  | zero => exact h0
  | succ n ih =>
    rw [acc_step c Xv Xx Xm Xz Xs f₀ ⟨n, hn⟩ i l, ih (Nat.le_of_succ_le hn), Nat.mul_succ, Finset.sum_range_add]
    congr 1
    rw [Finset.sum_range]
    exact Finset.sum_congr rfl fun J _ => hg ⟨n, hn⟩ J
end

/-- A load of some columns of a buffer that holds `w`. -/
theorem load_cols {R N C : ℕ} {e : EltTy} (B : Memref sig .tc .vmem ⟨2, ![R, N]⟩ e) (f : Buf (Elt Ideal) (B.view.loc (c : Thread nD τ)))
    (w : (⟨2, ![R, N]⟩ : Shape).Idx → Elt Ideal e) (off : Fin 2 → ℕ) (o : ℕ) (ho : off = ![0, o]) (inb : ∀ a, off a + (![R, C] : Fin 2 → ℕ) a ≤ (![R, N] : Fin 2 → ℕ) a)
    (i : Fin R) (J : Fin C) (h : o + J.val < N) :
    View.readAt (Elt Ideal) B.view (Rect.unit (s := ⟨2, ![R, N]⟩) off ![R, C] inb).toLoadRect (B.view.writes (Elt Ideal) f [⟨Rect.whole _, w⟩]) (ix2 i J) = w (ix2 i ⟨o + J.val, h⟩) := by
  subst ho
  refine Eq.trans ?_ (congrFun (View.read_writes_full B.view f (off := fun _ => 0) (fun a => Nat.le_of_eq (Nat.zero_add _)) w []) (ix2 i ⟨o + J.val, h⟩))
  refine congrArg (B.view.read (Elt Ideal) (B.view.writes (Elt Ideal) f [⟨Rect.whole _, w⟩])) (funext fun a => Fin.ext ?_)
  match a with
  | ⟨0, _⟩ => show 0 + 1 * i.val = i.val; omega
  | ⟨1, _⟩ => show o + 1 * J.val = o + J.val; omega

section
open Cert.Proof.RefRun
variable (x0 : S40x5120.Idx → EReal) (x4 : Buf (Elt Ideal) (vA.view.loc (c : Thread nD τ)))
  (x5 : Buf (Elt Ideal) (vsA.view.loc (c : Thread nD τ))) (x6 : Buf (Elt Ideal) (vzA.view.loc (c : Thread nD τ)))
  (x8 : Buf (Elt Ideal) (usA.view.loc (c : Thread nD τ))) (x9 : Buf (Elt Ideal) (uzA.view.loc (c : Thread nD τ)))
  (U : IVec Cert.ReferenceIdeal.S5120x117 8) (sc : FVec Ideal Cert.ReferenceIdeal.S446 .f32)
  (hU : ∀ (n : Fin 117) (L : Fin 5120), x4 (ix2 n L) = U (ix2 L n)) (hs : ∀ r : Fin 446, x5 (ix2 (0 : Fin 1) r) = sc (ix1 r))

include hU hs in
/-- The accumulator's row of a rank. -/
theorem z_acc (i : Fin 40) (r : Fin 446) :
    bodyRun.sl.v595 c x0 x4 x5 x6 x8 x9 (ix2 i (pl r)) = ∑ L : Fin 5120, x0 (ix2 i L) * mat5120 U x6 sc (ix2 L r) := by
  unfold bodyRun.sl.v595
  refine (acc_sum c _ _ _ _ _ _ i (pl r) (fun L => if h : L < 5120 then x0 (ix2 i ⟨L, h⟩) * mat5120 U x6 sc (ix2 ⟨L, h⟩ r) else 0) ?_ ?_ k0_t1_loop.trips le_rfl).trans ?_
  · unfold accAt
    refine (congrFun (View.readAt_writes_full accB.view (accB.view.writes (Elt Ideal) accB.view.junk []) (off := ![0, 0]) (off' := ![0, 0]) inb_S40x512_S40x512_0_0 inb_S40x512_S40x512_0_0 (k0_pay274 (F := Ideal)) []) (ix2 i (pl r))).trans ?_
    pointwise [k0_pay274]
  · intro k J
    have hk : k.val < 5 := lt_of_lt_of_eq k.isLt trips_five
    have hJ : 1024 * k.val + J.val < 5120 := by omega
    rw [dif_pos hJ]
    refine congr (congrArg HMul.hMul (load_cols c xB _ (bodyRun.sl.dma0 c x0) (k0_off3 k) _ (off3_val k) (k0_off3_inb k) i J hJ)) ?_
    refine (deq_v c x5 x6 x8 x9 _ r J (codes5120 U (ix2 ⟨1024 * k.val + J.val, hJ⟩ r)) ?_).trans ?_
    · have hb : bytes5120 U ⟨1024 * k.val + J.val, hJ⟩ = colBytes (vval c (vB.view.writes (Elt Ideal) vB.view.junk [⟨Rect.whole S117x5120, bodyRun.sl.dma0_6 c x4⟩]) k) J := by
        funext n
        unfold bytes5120 colBytes
        by_cases h : n < 117
        · rw [dif_pos h, dif_pos h]
          exact (hU ⟨n, h⟩ _).symm.trans (load_cols c vB _ (bodyRun.sl.dma0_6 c x4) (k0_off4 k) _ (off4_val k) (k0_off4_inb k) ⟨n, h⟩ J hJ).symm
        · rw [dif_neg h, dif_neg h]
      rw [← hb]
      exact codes5120_at U _ r
    · rw [mat5120_at, hs]
  · rw [trips_five, Finset.sum_range]
    exact Finset.sum_congr rfl fun L _ => dif_pos L.isLt

/-- A finite sum of numbers is a number. -/
theorem sum_real {n : ℕ} (f : Fin n → EReal) (h : ∀ i, ∃ a : ℝ, f i = a) : ∃ a : ℝ, ∑ i, f i = a := by
  choose g hg using h
  refine ⟨∑ i, g i, ?_⟩
  simp only [hg]
  refine Finset.induction_on (motive := fun s => ∑ i ∈ s, ((g i : ℝ) : EReal) = ((∑ i ∈ s, g i : ℝ) : EReal)) Finset.univ (by simp) fun i s hi ih => ?_
  rw [Finset.sum_insert hi, Finset.sum_insert hi, ih, EReal.coe_add]

include hU hs in
/-- The middle factor in the ranks' order, of finite activations and scales. -/
theorem z_val (hx : ∀ i L, ∃ a : ℝ, x0 (ix2 (i : Fin 40) (L : Fin 5120)) = (a : EReal)) (hc : ∀ r : Fin 446, ∃ a : ℝ, sc (ix1 r) = (a : EReal)) (i : Fin 40) (r : Fin 446) :
    k0_pay276 (F := Ideal) (bodyRun.sl.v595 c x0 x4 x5 x6 x8 x9) bodyRun.sl.v603 bodyRun.sl.v603 bodyRun.sl.v603 (ix2 i (up r)) = (∑ L : Fin 5120, x0 (ix2 i L) * mat5120 U x6 sc (ix2 L r) : EReal) := by
  have e := z_acc c x0 x4 x5 x6 x8 x9 U sc hU hs i r
  obtain ⟨a, ha⟩ := sum_real (fun L : Fin 5120 => x0 (ix2 i L) * mat5120 U x6 sc (ix2 L r)) fun L => by
    obtain ⟨p, hp⟩ := hx i L
    obtain ⟨q, hq⟩ := hc r
    refine ⟨p * ((((codes5120 U (ix2 L r)).toInt : ℝ) - (((x6 (ix1 r)).setWidth 32).toInt : ℝ)) * q), ?_⟩
    rw [mat5120_at, hp, hq]
    push_cast
    rfl
  rw [ha] at e ⊢
  exact pay276_at _ i r a e

end

end Cert.Proof.IdealRun

end
-- ==== Proof.ValTile.lean ====
/-
  What the tile loop leaves in the deltas' and the outputs' tiles.
-/
module

public import proofs.«01_k».proof.Proof.ValZval
public import proofs.«01_k».proof.Proof.ValChunk
import all proofs.«01_k».proof.Proof.IdealTrip

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Cert.Proof.RefRun (stream zpN mat27648 mat27648_at codes27648 codes27648_at bytes27648 mat5120)

section
variable (c : Dev nD)
  (Xu : Buf (Elt Ideal) (uB.view.loc (c : Thread nD τ))) (Xws : Buf (Elt Ideal) (wsB.view.loc (c : Thread nD τ)))
  (Xq : Buf (Elt Ideal) (xqB.view.loc (c : Thread nD τ))) (Xc : Buf (Elt Ideal) (xsColB.view.loc (c : Thread nD τ)))
  (Xm : Buf (Elt Ideal) (maskB.view.loc (c : Thread nD τ))) (Xuz : Buf (Elt Ideal) (uzB.view.loc (c : Thread nD τ)))
  (Xus : Buf (Elt Ideal) (usB.view.loc (c : Thread nD τ))) (Xt : Buf (Elt Ideal) (tB.view.loc (c : Thread nD τ)))
  (v620 : FVec Ideal S40x512 .bf16) (k : Fin k0_t2_loop.trips) (XB : S5120x1024.Idx → Elt Ideal .fp8e4m3)

/-- What a trip stores of the outputs. -/
theorem tripC_y : (tripC c Xu Xws Xq Xc Xm Xuz Xus Xt v620 k XB).1
    = k0_pay281 (tripC.sl.r_100 c Xu Xm Xuz Xus Xt k) (tripC.sl.r_101 c Xws Xq Xc k XB) := by
  unfold tripC; rfl
/-- What a trip stores of the deltas. -/
theorem tripC_d : (tripC c Xu Xws Xq Xc Xm Xuz Xus Xt v620 k XB).2.1 = k0_pay280 (tripC.sl.r_100 c Xu Xm Xuz Xus Xt k) := by
  unfold tripC; rfl

/-- A stored tile of the outputs, without its unit axis. -/
theorem asY_at (a b : FVec Ideal S40x1024 .f32) (i : Fin 40) (J : Fin 1024) : asY (k0_pay281 a b) (ix2 i J) = (b (ix2 i J) + a (ix2 i J) : EReal) := by
  have e : asY (k0_pay281 a b) = shapeCast S40x1024 (k0_pay281 a b) (by decide) := rfl
  rw [e]
  pointwise [k0_pay281]
/-- A stored tile of the deltas, without its unit axis. -/
theorem asD_at (a : FVec Ideal S40x1024 .f32) (i : Fin 40) (J : Fin 1024) : asD (F := Ideal) (k0_pay280 a) (ix3 i 0 J) = a (ix2 i J) := by
  have e : asD (F := Ideal) (k0_pay280 a) = shapeCast S40x1x1024 (k0_pay280 a) (by decide) := rfl
  rw [e]
  pointwise [k0_pay280]
end

section
variable (m : (ℓ : Loc nD τ sig) → Buf (Elt Ideal) ℓ) (c : Dev nD)
/-- The deltas' whole result at a column of a tile. -/
theorem dWhole_at (dv : ℕ → S40x1x1024.Idx → Elt Ideal .f32) (b : Fin 27) (i : Fin 40) (J : Fin 1024) (h : 1024 * b.val + J.val < 27648) :
    dWhole c dv (ix3 i 0 ⟨1024 * b.val + J.val, h⟩) = dv b.val (ix3 i 0 J) := by
  have hb : Nd (ix3 i 0 ⟨1024 * b.val + J.val, h⟩) = b := Fin.ext (by show (1024 * b.val + J.val) / 1024 = b.val; omega)
  have e : (dtile b).view.read (Elt Ideal) ((dtile b).view.rep (dv b.val)) = dv b.val := View.read_rep (dtile b).view (dv b.val)
  refine Eq.trans ?_ (congrFun e (ix3 i 0 J))
  show (dtile (Nd _)).view.rep (dv (Nd _).val) _ = _
  rw [hb]
  generalize (dtile b).view.rep (dv b.val) = f
  refine congrArg f (funext fun a => Fin.ext ?_)
  match a with
  | ⟨0, _⟩ => show i.val = 0 + 1 * i.val; omega
  | ⟨1, _⟩ => show 0 = 0 + 1 * 0; omega
  | ⟨2, _⟩ => show 1024 * b.val + J.val = 1024 * b.val + 1 * J.val; omega
/-- The outputs' whole result at a column of a tile. -/
theorem yWhole_at (yv : ℕ → S40x1024.Idx → Elt Ideal .bf16) (b : Fin 27) (i : Fin 40) (J : Fin 1024) (h : 1024 * b.val + J.val < 27648) :
    yWhole c yv (ix2 i ⟨1024 * b.val + J.val, h⟩) = yv b.val (ix2 i J) := by
  have hb : Ny (ix2 i ⟨1024 * b.val + J.val, h⟩) = b := Fin.ext (by show (1024 * b.val + J.val) / 1024 = b.val; omega)
  have e : (ytile b).view.read (Elt Ideal) ((ytile b).view.rep (yv b.val)) = yv b.val := View.read_rep (ytile b).view (yv b.val)
  refine Eq.trans ?_ (congrFun e (ix2 i J))
  show (ytile (Ny _)).view.rep (yv (Ny _).val) _ = _
  rw [hb]
  generalize (ytile b).view.rep (yv b.val) = f
  refine congrArg f (funext fun a => Fin.ext ?_)
  match a with
  | ⟨0, _⟩ => show i.val = 0 + 1 * i.val; omega
  | ⟨1, _⟩ => show 1024 * b.val + J.val = 1024 * b.val + 1 * J.val; omega
end

section
variable {F : FTy → Type} [FloatOps F]
attribute [local irreducible] View.writes
variable (m : (ℓ : Loc nD τ sig) → Buf (Elt F) ℓ) (c : Dev nD)

/-- The outputs' tiles after the run. -/
theorem run_y : (theRun m c).1 = yT c (uB.view.writes (Elt F) uB.view.junk [⟨Rect.whole S117x27648, bodyRun.sl.dma0_8 c (V m c main_v5)⟩])
    (wsB.view.writes (Elt F) wsB.view.junk [⟨Rect.whole S1x27648, bodyRun.sl.dma0_9 c (V m c main_v1)⟩])
    (xqB.view.writes (Elt F) xqB.view.junk (bodyRun.sl.SxqB_1 c (V m c main_v0)))
    (xsColB.view.writes (Elt F) xsColB.view.junk (bodyRun.sl.SxsColB_1 c (V m c main_v0)))
    (maskB.view.writes (Elt F) maskB.view.junk (bodyRun.sl.SmaskB_14))
    (uzB.view.writes (Elt F) uzB.view.junk (bodyRun.sl.SuzB_1 c (V m c main_v4) (V m c main_arg6) (V m c main_v6) (V m c main_arg9)))
    (usB.view.writes (Elt F) usB.view.junk (bodyRun.sl.SusB_1 c (V m c main_v4) (V m c main_arg6) (V m c main_v6) (V m c main_arg9)))
    (tB.view.writes (Elt F) tB.view.junk (bodyRun.sl.StB_1 c (V m c main_v0) (V m c main_v2) (V m c main_v3) (V m c main_v4) (V m c main_arg6) (V m c main_v6) (V m c main_arg9)))
    (V m c main_arg1) (bodyRun.sl.r_10 c (V m c main_v0) (V m c main_v2) (V m c main_v3) (V m c main_v4) (V m c main_arg6) (V m c main_v6) (V m c main_arg9)) := by
  unfold theRun bodyRun; rfl
/-- The deltas' tiles after the run. -/
theorem run_d : (theRun m c).2.1 = dT c (uB.view.writes (Elt F) uB.view.junk [⟨Rect.whole S117x27648, bodyRun.sl.dma0_8 c (V m c main_v5)⟩])
    (wsB.view.writes (Elt F) wsB.view.junk [⟨Rect.whole S1x27648, bodyRun.sl.dma0_9 c (V m c main_v1)⟩])
    (xqB.view.writes (Elt F) xqB.view.junk (bodyRun.sl.SxqB_1 c (V m c main_v0)))
    (xsColB.view.writes (Elt F) xsColB.view.junk (bodyRun.sl.SxsColB_1 c (V m c main_v0)))
    (maskB.view.writes (Elt F) maskB.view.junk (bodyRun.sl.SmaskB_14))
    (uzB.view.writes (Elt F) uzB.view.junk (bodyRun.sl.SuzB_1 c (V m c main_v4) (V m c main_arg6) (V m c main_v6) (V m c main_arg9)))
    (usB.view.writes (Elt F) usB.view.junk (bodyRun.sl.SusB_1 c (V m c main_v4) (V m c main_arg6) (V m c main_v6) (V m c main_arg9)))
    (tB.view.writes (Elt F) tB.view.junk (bodyRun.sl.StB_1 c (V m c main_v0) (V m c main_v2) (V m c main_v3) (V m c main_v4) (V m c main_arg6) (V m c main_v6) (V m c main_arg9)))
    (V m c main_arg1) (bodyRun.sl.r_10 c (V m c main_v0) (V m c main_v2) (V m c main_v3) (V m c main_v4) (V m c main_arg6) (V m c main_v6) (V m c main_arg9)) := by
  unfold theRun bodyRun; rfl
end

section
variable (c : Dev nD) (x0 : S40x5120.Idx → EReal) (x3 : S1x446.Idx → EReal) (x4 : Buf (Elt Ideal) (vA.view.loc (c : Thread nD τ)))
  (x5 : Buf (Elt Ideal) (vsA.view.loc (c : Thread nD τ))) (x6 : Buf (Elt Ideal) (vzA.view.loc (c : Thread nD τ)))
  (x7 : Buf (Elt Ideal) (uA.view.loc (c : Thread nD τ)))
  (x8 : Buf (Elt Ideal) (usA.view.loc (c : Thread nD τ))) (x9 : Buf (Elt Ideal) (uzA.view.loc (c : Thread nD τ)))
  (U : IVec Cert.ReferenceIdeal.S5120x117 8) (sc : FVec Ideal Cert.ReferenceIdeal.S446 .f32)
  (W : IVec Cert.ReferenceIdeal.S27648x117 8) (sd : FVec Ideal Cert.ReferenceIdeal.S446 .f32)
  (hU : ∀ (n : Fin 117) (L : Fin 5120), x4 (ix2 n L) = U (ix2 L n)) (hs : ∀ r : Fin 446, x5 (ix2 (0 : Fin 1) r) = sc (ix1 r))
  (hW : ∀ (n : Fin 117) (L : Fin 27648), x7 (ix2 n L) = W (ix2 L n)) (hd : ∀ r : Fin 446, x8 (ix2 (0 : Fin 1) r) = sd (ix1 r))
  (hx : ∀ i L, ∃ a : ℝ, x0 (ix2 (i : Fin 40) (L : Fin 5120)) = (a : EReal)) (hc : ∀ r : Fin 446, ∃ a : ℝ, sc (ix1 r) = (a : EReal))

/-- The load of the middle scales reads them. -/
theorem load_sg (x3 : Buf (Elt Ideal) (sgA.view.loc (c : Thread nD τ))) : bodyRun.sl.v615 (F := Ideal) c x3 = x3 := by
  unfold bodyRun.sl.v615
  exact View.readCov_full sgB.view (off := ![0, 0]) (off' := fun _ => 0) _ _ (bodyRun.sl.dma0_5 (F := Ideal) c x3) []

/-- A load of the whole middle factor reads the store of the whole. -/
theorem t_load (f : Buf (Elt Ideal) (tB.view.loc (c : Thread nD τ))) (w : S40x512.Idx → EReal) (i : Fin 40) (l : Fin 512) :
    View.readAt (Elt Ideal) tB.view (Rect.unit ![0, 0] S40x512.size inb_S40x512_S40x512_0_0).toLoadRect
      (tB.view.writes (Elt Ideal) f [⟨Rect.unit ![0, 0] S40x512.size inb_S40x512_S40x512_0_0, w⟩]) (ix2 i l) = w (ix2 i l) :=
  congrFun (View.readAt_writes_full tB.view f (off := ![0, 0]) (off' := ![0, 0]) inb_S40x512_S40x512_0_0 inb_S40x512_S40x512_0_0 w []) (ix2 i l)

/-- The loaded middle factor, in the accumulator's order. -/
theorem t_at (i : Fin 40) (l : Fin 512) :
    View.readAt (Elt Ideal) tB.view (Rect.unit ![0, 0] S40x512.size inb_S40x512_S40x512_0_0).toLoadRect
      (tB.view.writes (Elt Ideal) tB.view.junk (bodyRun.sl.StB_1 c x0 x3 x4 x5 x6 x8 x9)) (ix2 i l)
      = (∑ k, bodyRun.sl.r_10 (F := Ideal) c x0 x3 x4 x5 x6 x8 x9 (ix2 i k) * hit l.val k.val : EReal) := by
  unfold bodyRun.sl.StB_1
  exact (t_load c tB.view.junk (k0_pay279 (F := Ideal) (bodyRun.sl.r_10 (F := Ideal) c x0 x3 x4 x5 x6 x8 x9) bodyRun.sl.v603) i l).trans (pay279_at i (bodyRun.sl.r_10 (F := Ideal) c x0 x3 x4 x5 x6 x8 x9) l)

include hU hs hx hc in
/-- The middle factor in the ranks' order, scaled. -/
theorem r10_at (i : Fin 40) (r : Fin 446) : bodyRun.sl.r_10 (F := Ideal) c x0 x3 x4 x5 x6 x8 x9 (ix2 i (up r))
    = ((∑ L : Fin 5120, x0 (ix2 i L) * mat5120 U x6 sc (ix2 L r)) * x3 (ix2 (0 : Fin 1) r) : EReal) := by
  unfold bodyRun.sl.r_10
  rw [load_sg, pay278_at, z_val c x0 x4 x5 x6 x8 x9 U sc hU hs hx hc i r]

include hU hs hx hc hW hd in
/-- The delta of a trip's tile. -/
theorem delta_at (Uw : Buf (Elt Ideal) (uB.view.loc (c : Thread nD τ))) (hUw : Uw = uB.view.writes (Elt Ideal) uB.view.junk [⟨Rect.whole S117x27648, bodyRun.sl.dma0_8 c x7⟩])
    (k : Fin k0_t2_loop.trips) (i : Fin 40) (J : Fin 1024) (h : 1024 * k.val + J.val < 27648) :
    tripC.sl.r_100 c Uw (maskB.view.writes (Elt Ideal) maskB.view.junk (bodyRun.sl.SmaskB_14 (F := Ideal)))
      (uzB.view.writes (Elt Ideal) uzB.view.junk (bodyRun.sl.SuzB_1 c x5 x6 x8 x9)) (usB.view.writes (Elt Ideal) usB.view.junk (bodyRun.sl.SusB_1 c x5 x6 x8 x9))
      (tB.view.writes (Elt Ideal) tB.view.junk (bodyRun.sl.StB_1 c x0 x3 x4 x5 x6 x8 x9)) k (ix2 i J)
      = (∑ r : Fin 446, (∑ L : Fin 5120, x0 (ix2 i L) * mat5120 U x6 sc (ix2 L r)) * x3 (ix2 (0 : Fin 1) r) * mat27648 W x9 sd (ix2 ⟨1024 * k.val + J.val, h⟩ r) : EReal) := by
  rw [delta_eq]
  generalize hT : View.readAt (Elt Ideal) tB.view _ _ = T
  generalize hQ : deq (F := Ideal) _ _ _ _ = Q
  have e : matmul (F := Ideal) (φ₁ := .bf16) (φ₂ := .bf16) dot_S40x512_S512x1024_S40x1024_1_0_0_1_n_n none T Q (constant (F := Ideal) S40x1024 .f32 0#32) (ix2 i J) = (∑ l : Fin 512, T (ix2 i l) * Q (ix2 l J) : EReal) := by
    pointwise
  refine Eq.trans e ?_
  subst hT hQ
  refine (Fintype.sum_of_injective pl pl_inj _ _ (fun l hl => ?_) (fun r => ?_)).symm
  · rw [t_at, sum_not l hl, zero_mul]
  · rw [t_at, sum_row', r10_at c x0 x3 x4 x5 x6 x8 x9 U sc hU hs hx hc i r]
    refine congrArg (HMul.hMul (_ : EReal)) ?_
    rw [deq_u c x5 x6 x8 x9 _ r J (codes27648 W (ix2 ⟨1024 * k.val + J.val, h⟩ r)) ?_, mat27648_at, hd]
    have hb : bytes27648 W ⟨1024 * k.val + J.val, h⟩ = colBytes (uval c Uw k) J := by
      funext n
      unfold bytes27648 colBytes
      by_cases h' : n < 117
      · rw [dif_pos h', dif_pos h']
        subst hUw
        exact (hW ⟨n, h'⟩ _).symm.trans (load_cols c uB _ (bodyRun.sl.dma0_8 c x7) (k0_off21 k) _ (off21_val k) (k0_off21_inb k) ⟨n, h'⟩ J h).symm
      · rw [dif_neg h', dif_neg h']
    rw [← hb]
    exact codes27648_at W _ r
end

end Cert.Proof.IdealRun

end
-- ==== Proof.ValBase.lean ====
/-
  What the tile loop leaves of the base product.
-/
module

public import proofs.«01_k».proof.Proof.ValTile

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Cert.Proof.Quant

/-- The tile loop's trips. -/
theorem tiles_trips : k0_t2_loop.trips = 27 := by decide

section
variable (X : FVec Ideal S40x5120 .bf16)
/-- The padded codes' first forty rows are the codes. -/
theorem k_pad (r : Fin 40) (l : Fin 5120) :
    k0_pay259 (F := Ideal) (k0_pay252 X) (k0_pay253 X) (k0_pay254 (F := Ideal) X) k0_pay255 (ix2 (⟨r.val, by omega⟩ : Fin 64) l) = code (X (ix2 r l)) (rowExp X r) := by
  refine Eq.trans ?_ (k_codes X r l)
  pointwise [k0_pay259, k0_pay258]
end

section
variable (c : Dev nD)

/-- A load of all the padded codes reads the store of all. -/
theorem xq_load (f : Buf (Elt Ideal) (xqB.view.loc (c : Thread nD τ))) (w : S64x5120.Idx → EReal) (i : Fin 64) (l : Fin 5120) :
    View.readAt (Elt Ideal) xqB.view (Rect.unit ![0, 0] S64x5120.size inb_S64x5120_S64x5120_0_0).toLoadRect
      (xqB.view.writes (Elt Ideal) f [⟨Rect.unit ![0, 0] S64x5120.size inb_S64x5120_S64x5120_0_0, w⟩]) (ix2 i l) = w (ix2 i l) :=
  congrFun (View.readAt_writes_full xqB.view f (off := ![0, 0]) (off' := ![0, 0]) inb_S64x5120_S64x5120_0_0 inb_S64x5120_S64x5120_0_0 w []) (ix2 i l)

/-- A load of the first column of the scales reads the store of all. -/
theorem xc_load (f : Buf (Elt Ideal) (xsColB.view.loc (c : Thread nD τ))) (w : S40x128.Idx → EReal) (i : Fin 40) :
    View.readAt (Elt Ideal) xsColB.view (Rect.unit (s := S40x128) ![0, 0] S40x1.size inb_S40x128_S40x1_0_0).toLoadRect
      (xsColB.view.writes (Elt Ideal) f [⟨Rect.unit ![0, 0] S40x128.size inb_S40x128_S40x128_0_0, w⟩]) (ix2 i 0) = w (ix2 i 0) := by
  refine Eq.trans ?_ (congrFun (View.read_writes_full xsColB.view f (off := ![0, 0]) inb_S40x128_S40x128_0_0 w []) (ix2 i 0))
  generalize xsColB.view.writes (Elt Ideal) f [⟨Rect.unit ![0, 0] S40x128.size inb_S40x128_S40x128_0_0, w⟩] = g
  refine congrArg (xsColB.view.read (Elt Ideal) g) (funext fun a => Fin.ext ?_)
  match a with
  | ⟨0, _⟩ => show 0 + 1 * i.val = i.val; omega
  | ⟨1, _⟩ => show 0 + 1 * 0 = 0; omega

/-- A load of a slot of the weights' ring reads the block the slot holds. -/
theorem w_load (off : Fin 3 → ℕ) (s : Fin 8) (ho : off = wslotOff s) (inb : ∀ a, off a + S1x5120x1024.size a ≤ S8x5120x1024.size a)
    (XB : S5120x1024.Idx → Elt Ideal .fp8e4m3) (h) :
    shapeCast S5120x1024 (View.readAt (Elt Ideal) (Memref.whole cc0_scratch0).view (Rect.unit (s := S8x5120x1024) off S1x5120x1024.size inb).toLoadRect ((wslot s).view.rep XB)) h = XB := by
  subst ho
  have e : (wslot s).view.read (Elt Ideal) ((wslot s).view.rep XB) = XB := View.read_rep (wslot s).view XB
  refine Eq.trans ?_ e
  generalize (wslot s).view.rep XB = g
  rfl

/-- A block of the weights' columns. -/
theorem wval_at (XW : S5120x27648.Idx → EReal) (b : ℕ) (hb : b < 27) (L : Fin 5120) (J : Fin 1024) (h : 1024 * b + J.val < 27648) :
    wval (F := Ideal) c XW b (ix2 L J) = XW (ix2 L ⟨1024 * b + J.val, h⟩) := by
  have hk : (Ring.bk 27 b).val = b := Nat.mod_eq_of_lt hb
  refine congrArg XW (funext fun a => Fin.ext ?_)
  match a with
  | ⟨0, _⟩ => show 0 + 1 * L.val = L.val; omega
  | ⟨1, _⟩ => show 1024 * (Ring.bk 27 b).val + 1 * J.val = 1024 * b + J.val; omega

variable (x0 : S40x5120.Idx → EReal) (x2 : Buf (Elt Ideal) (wsA.view.loc (c : Thread nD τ)))

/-- The base product of a trip's tile, as the payload states it. -/
theorem pay218_at (q : FVec Ideal S64x5120 .fp8e4m3) (w : Vec Ideal S1x5120x1024 .fp8e4m3) (a : Vec Ideal S40x1 .f32) (b : Vec Ideal S1x1024 .f32) (i : Fin 40) (J : Fin 1024) :
    k0_pay218 (F := Ideal) q w a b (ix2 i J)
      = ((∑ L : Fin 5120, q (ix2 (⟨i.val, by omega⟩ : Fin 64) L) * (shapeCast S5120x1024 w shapeCasts_S1x5120x1024_S5120x1024 : S5120x1024.Idx → EReal) (ix2 L J)) * a (ix2 i 0) * b (ix2 0 J) : EReal) := by
  pointwise [k0_pay218]

/-- The base product of a trip's tile. -/
theorem base_at (k : Fin k0_t2_loop.trips) (XW : S5120x27648.Idx → EReal) (i : Fin 40) (J : Fin 1024) (h : 1024 * k.val + J.val < 27648) :
    tripC.sl.r_101 (F := Ideal) c (wsB.view.writes (Elt Ideal) wsB.view.junk [⟨Rect.whole S1x27648, bodyRun.sl.dma0_9 c x2⟩])
      (xqB.view.writes (Elt Ideal) xqB.view.junk (bodyRun.sl.SxqB_1 c x0)) (xsColB.view.writes (Elt Ideal) xsColB.view.junk (bodyRun.sl.SxsColB_1 c x0)) k (wval c XW k) (ix2 i J)
      = ((∑ L : Fin 5120, code (x0 (ix2 i L)) (rowExp x0 i) * XW (ix2 L ⟨1024 * k.val + J.val, h⟩)) * two (rowExp x0 i) * x2 (ix2 (0 : Fin 1) ⟨1024 * k.val + J.val, h⟩) : EReal) := by
  have hk : k.val < 27 := lt_of_lt_of_eq k.isLt tiles_trips
  unfold tripC.sl.r_101 bodyRun.sl.SxqB_1 bodyRun.sl.SxsColB_1 bodyRun.sl.r_2 bodyRun.sl.r_3 bodyRun.sl.r_4
  rw [load_x, pay218_at]
  refine congr (congrArg HMul.hMul (congr (congrArg HMul.hMul (Finset.sum_congr rfl fun L _ => congr (congrArg HMul.hMul ?_) ?_)) ?_)) ?_
  · exact (xq_load c xqB.view.junk _ _ L).trans (k_pad x0 i L)
  · exact (congrFun (w_load (k0_off22 k) _ (off22_eq k) _ _ _) (ix2 L J)).trans (wval_at c XW k hk L J h)
  · exact (xc_load c xsColB.view.junk _ i).trans (k_col x0 i 0)
  · exact load_cols c wsB _ (bodyRun.sl.dma0_9 c x2) (k0_off23 k) _ (off23_val k) (k0_off23_inb k) 0 J h
end

end Cert.Proof.IdealRun

end
-- ==== Proof.ValEntry.lean ====
/-
  What the kernel's operands hold when it starts: the arguments, reshaped or transposed.
-/
module

public import proofs.«01_k».proof.Proof.ValBase
public import Idealize.ShloMosaic.Lib.Pipeline.ValueKit

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic

variable (m : (ℓ : Loc nD τ sig) → Buf (Elt Ideal) ℓ) (c : Dev nD)

/-- The activations' rows. -/
theorem in_x (i : Fin 40) (L : Fin 5120) : (V m c main_v0 : S40x5120.Idx → EReal) (ix2 i L) = (m ((c : Thread nD τ).loc main_arg0) : S40x1x5120.Idx → EReal) (ix3 i 0 L) := by
  entry_read; pointwise
/-- The weights' scales. -/
theorem in_ws (N : Fin 27648) : (V m c main_v1 : S1x27648.Idx → EReal) (ix2 0 N) = (m ((c : Thread nD τ).loc main_arg2) : S27648.Idx → EReal) (ix1 N) := by
  entry_read; pointwise
/-- The middle scales. -/
theorem in_sg (r : Fin 446) : (V m c main_v2 : S1x446.Idx → EReal) (ix2 0 r) = (m ((c : Thread nD τ).loc main_arg3) : S446.Idx → EReal) (ix1 r) := by
  entry_read; pointwise
/-- The first factor's bytes. -/
theorem in_v (n : Fin 117) (L : Fin 5120) : (V m c main_v3 : S117x5120.Idx → BitVec 8) (ix2 n L) = (m ((c : Thread nD τ).loc main_arg4) : S5120x117.Idx → BitVec 8) (ix2 L n) := by
  entry_read; pointwise
/-- The first factor's scales. -/
theorem in_vs (r : Fin 446) : (V m c main_v4 : S1x446.Idx → EReal) (ix2 0 r) = (m ((c : Thread nD τ).loc main_arg5) : S446.Idx → EReal) (ix1 r) := by
  entry_read; pointwise
/-- The second factor's bytes. -/
theorem in_u (n : Fin 117) (L : Fin 27648) : (V m c main_v5 : S117x27648.Idx → BitVec 8) (ix2 n L) = (m ((c : Thread nD τ).loc main_arg7) : S27648x117.Idx → BitVec 8) (ix2 L n) := by
  entry_read; pointwise
/-- The second factor's scales. -/
theorem in_us (r : Fin 446) : (V m c main_v6 : S1x446.Idx → EReal) (ix2 0 r) = (m ((c : Thread nD τ).loc main_arg8) : S446.Idx → EReal) (ix1 r) := by
  entry_read; pointwise

end Cert.Proof.IdealRun

end
-- ==== Proof.ValSpec.lean ====
/-
  The five results as formulas over the arguments: what the kernel leaves.
-/
module

public import proofs.«01_k».proof.Proof.ValEntry

@[expose] public section

set_option maxRecDepth 16384

noncomputable section

namespace Cert.Proof.Spec

open Cert.KernelIdeal Idealize.ShloMosaic
open Cert.Proof.Quant Cert.Proof.RefRun

variable (X : S40x1x5120.Idx → EReal) (W : S5120x27648.Idx → EReal) (ws : S27648.Idx → EReal) (sg : S446.Idx → EReal)
  (Vb : IVec Cert.ReferenceIdeal.S5120x117 8) (vs : FVec Ideal Cert.ReferenceIdeal.S446 .f32) (vz : IVec Cert.ReferenceIdeal.S446 8)
  (Ub : IVec Cert.ReferenceIdeal.S27648x117 8) (us : FVec Ideal Cert.ReferenceIdeal.S446 .f32) (uz : IVec Cert.ReferenceIdeal.S446 8)

/-- The activations' rows. -/
def rows : FVec Ideal S40x5120 .bf16 := fun j => X (ix3 (j 0) 0 (j 1))
/-- The middle factor. -/
def zS (i : Fin 40) (r : Fin 446) : EReal := ∑ L : Fin 5120, X (ix3 i 0 L) * mat5120 Vb vz vs (ix2 L r)
/-- The delta. -/
def dS (i : Fin 40) (N : Fin 27648) : EReal := ∑ r : Fin 446, zS X Vb vs vz i r * sg (ix1 r) * mat27648 Ub uz us (ix2 N r)
/-- The base product. -/
def bS (i : Fin 40) (N : Fin 27648) : EReal :=
  (∑ L : Fin 5120, code (X (ix3 i 0 L)) (rowExp (rows X) i) * W (ix2 L N)) * two (rowExp (rows X) i) * ws (ix1 N)

end Cert.Proof.Spec

namespace Cert.Proof.IdealRun

open Cert.KernelIdeal Cert.KernelIdeal.Gen
open Idealize.ShloMosaic
open Idealize.ShloMosaic.TcCoe Idealize.ShloMosaic.Tactic
open Cert.Proof.Quant Cert.Proof.RefRun Cert.Proof.Spec

variable (m : (ℓ : Loc nD τ sig) → Buf (Elt Ideal) ℓ) (c : Dev nD)

/-- The argument arrays. -/
abbrev a0 : S40x1x5120.Idx → EReal := m ((c : Thread nD τ).loc main_arg0)
abbrev a1 : S5120x27648.Idx → EReal := m ((c : Thread nD τ).loc main_arg1)
abbrev a2 : S27648.Idx → EReal := m ((c : Thread nD τ).loc main_arg2)
abbrev a3 : S446.Idx → EReal := m ((c : Thread nD τ).loc main_arg3)
abbrev a4 : IVec Cert.ReferenceIdeal.S5120x117 8 := m ((c : Thread nD τ).loc main_arg4)
abbrev a5 : FVec Ideal Cert.ReferenceIdeal.S446 .f32 := m ((c : Thread nD τ).loc main_arg5)
abbrev a6 : IVec Cert.ReferenceIdeal.S446 8 := m ((c : Thread nD τ).loc main_arg6)
abbrev a7 : IVec Cert.ReferenceIdeal.S27648x117 8 := m ((c : Thread nD τ).loc main_arg7)
abbrev a8 : FVec Ideal Cert.ReferenceIdeal.S446 .f32 := m ((c : Thread nD τ).loc main_arg8)
abbrev a9 : IVec Cert.ReferenceIdeal.S446 8 := m ((c : Thread nD τ).loc main_arg9)

/-- The kernel's first operand is the activations' rows. -/
theorem in_rows : Xin m c = rows (a0 m c) := by
  funext j
  have e : j = ix2 (j 0 : Fin 40) (j 1 : Fin 5120) := by
    funext a
    match a with
    | ⟨0, _⟩ => rfl
    | ⟨1, _⟩ => rfl
  exact (congrArg (Xin m c) e).trans (in_x m c (j 0) (j 1))

/-- The kernel's codes. -/
theorem K_codes (i : Fin 40) (L : Fin 5120) : (G m c main_v7_3 : S40x5120.Idx → EReal) (ix2 i L) = code (a0 m c (ix3 i 0 L)) (rowExp (rows (a0 m c)) i) := by
  refine (congrFun (codes_eq m c) (ix2 i L)).trans ((k_codes (Xin m c) i L).trans ?_)
  rw [in_rows]; rfl
/-- The kernel's scales. -/
theorem K_scale (i : Fin 40) : (G m c main_v7_4 : S1x40.Idx → EReal) (ix2 0 i) = two (rowExp (rows (a0 m c)) i) := by
  refine (congrFun (scale_eq m c) (ix2 0 i)).trans ((k_scale (Xin m c) i).trans ?_)
  rw [in_rows]

variable (hx : ∀ (i : Fin 40) (L : Fin 5120), ∃ a : ℝ, a0 m c (ix3 i 0 L) = (a : EReal)) (hc : ∀ r : Fin 446, ∃ a : ℝ, a5 m c (ix1 r) = (a : EReal))

include hx in
/-- The activations are numbers. -/
theorem in_real (i : Fin 40) (L : Fin 5120) : ∃ a : ℝ, (V m c main_v0 : S40x5120.Idx → EReal) (ix2 i L) = (a : EReal) := by
  obtain ⟨a, h⟩ := hx i L
  exact ⟨a, (in_x m c i L).trans h⟩

include hx hc in
/-- The kernel's middle factor. -/
theorem K_z (i : Fin 40) (r : Fin 446) : (G m c main_v7_2 : S40x1x446.Idx → EReal) (ix3 i 0 r) = zS (a0 m c) (a4 m c) (a5 m c) (a6 m c) i r := by
  rw [G_2, run_z, rep_z]
  unfold bodyRun.sl.SzB_1
  rw [View.read_writes_full, pay277_at]
  refine (z_val c (V m c main_v0) (V m c main_v3) (V m c main_v4) (V m c main_arg6) (V m c main_v6) (V m c main_arg9) (a4 m c) (a5 m c) (in_v m c) (in_vs m c) (in_real m c hx) hc i r).trans ?_
  unfold zS
  rw [V_main_arg6]
  exact Finset.sum_congr rfl fun L _ => congrArg (· * _) (in_x m c i L)

include hx hc in
/-- The delta of a tile, over the arguments. -/
theorem delta_arg (k : Fin k0_t2_loop.trips) (i : Fin 40) (J : Fin 1024) (h : 1024 * k.val + J.val < 27648) :
    tripC.sl.r_100 c (uB.view.writes (Elt Ideal) uB.view.junk [⟨Rect.whole S117x27648, bodyRun.sl.dma0_8 c (V m c main_v5)⟩]) (maskB.view.writes (Elt Ideal) maskB.view.junk (bodyRun.sl.SmaskB_14 (F := Ideal)))
      (uzB.view.writes (Elt Ideal) uzB.view.junk (bodyRun.sl.SuzB_1 c (V m c main_v4) (V m c main_arg6) (V m c main_v6) (V m c main_arg9))) (usB.view.writes (Elt Ideal) usB.view.junk (bodyRun.sl.SusB_1 c (V m c main_v4) (V m c main_arg6) (V m c main_v6) (V m c main_arg9)))
      (tB.view.writes (Elt Ideal) tB.view.junk (bodyRun.sl.StB_1 c (V m c main_v0) (V m c main_v2) (V m c main_v3) (V m c main_v4) (V m c main_arg6) (V m c main_v6) (V m c main_arg9))) k (ix2 i J)
      = dS (a0 m c) (a3 m c) (a4 m c) (a5 m c) (a6 m c) (a7 m c) (a8 m c) (a9 m c) i ⟨1024 * k.val + J.val, h⟩ := by
  refine (delta_at c (V m c main_v0) (V m c main_v2) (V m c main_v3) (V m c main_v4) (V m c main_arg6) (V m c main_v5) (V m c main_v6) (V m c main_arg9) (a4 m c) (a5 m c) (a7 m c) (a8 m c)
    (in_v m c) (in_vs m c) (in_u m c) (in_us m c) (in_real m c hx) hc _ rfl k i J h).trans ?_
  unfold dS zS
  rw [V_main_arg6, V_main_arg9]
  refine Finset.sum_congr rfl fun r _ => congrArg (· * _) ?_
  exact congr (congrArg HMul.hMul (Finset.sum_congr rfl fun L _ => congrArg (· * _) (in_x m c i L))) (in_sg m c r)

/-- A column is a tile's column. -/
theorem col_split (N : Fin 27648) : ∃ (k : Fin k0_t2_loop.trips) (J : Fin 1024) (h : 1024 * k.val + J.val < 27648), N = ⟨1024 * k.val + J.val, h⟩ := by
  have hN := N.isLt
  refine ⟨⟨N.val / 1024, by rw [tiles_trips]; omega⟩, ⟨N.val % 1024, by omega⟩, ?_, Fin.ext ?_⟩
  · show 1024 * (N.val / 1024) + N.val % 1024 < 27648
    omega
  · show N.val = 1024 * (N.val / 1024) + N.val % 1024
    omega

include hx hc in
/-- The kernel's delta. -/
theorem K_d (i : Fin 40) (N : Fin 27648) : (G m c main_v7_1 : S40x1x27648.Idx → EReal) (ix3 i 0 N) = dS (a0 m c) (a3 m c) (a4 m c) (a5 m c) (a6 m c) (a7 m c) (a8 m c) (a9 m c) i N := by
  obtain ⟨k, J, h, rfl⟩ := col_split N
  rw [G_1]
  refine (dWhole_at c _ ⟨k.val, lt_of_lt_of_eq k.isLt tiles_trips⟩ i J h).trans ?_
  rw [run_d, dT_eq, tripC_d, asD_at]
  exact delta_arg m c hx hc k i J h

include hx hc in
/-- The kernel's outputs. -/
theorem K_y (i : Fin 40) (N : Fin 27648) : (G m c main_v7_0 : S40x27648.Idx → EReal) (ix2 i N)
    = bS (a0 m c) (a1 m c) (a2 m c) i N + dS (a0 m c) (a3 m c) (a4 m c) (a5 m c) (a6 m c) (a7 m c) (a8 m c) (a9 m c) i N := by
  obtain ⟨k, J, h, rfl⟩ := col_split N
  rw [G_0]
  refine (yWhole_at c _ ⟨k.val, lt_of_lt_of_eq k.isLt tiles_trips⟩ i J h).trans ?_
  rw [run_y, yT_eq, tripC_y, asY_at]
  refine congr (congrArg HAdd.hAdd ?_) (delta_arg m c hx hc k i J h)
  refine (base_at c (V m c main_v0) (V m c main_v1) k (V m c main_arg1) i J h).trans ?_
  have e : (V m c main_v0 : S40x5120.Idx → EReal) = rows (a0 m c) := in_rows m c
  rw [e, V_main_arg1]
  unfold bS
  exact congrArg (HMul.hMul _) (in_ws m c _)

end Cert.Proof.IdealRun

end
-- ==== Proof.ValRef.lean ====
/-
  What the reference's product kernel leaves: its three results over the arguments.
-/
module

public import proofs.«01_k».proof.Proof.Gen.ReferenceIdeal.Frame
public import Idealize.ShloMosaic.Lib.Pipeline.ValueKit

@[expose] public section

set_option maxRecDepth 16384

noncomputable section

namespace Cert.Proof.RefRun

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- Every operand of the reference's call is one whole block. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

/-- A block of the whole array is the array. -/
theorem iblk0 (c : Dev nD) (t : Fin cfg0.N) : iblk m c 0 t = V m c main_v0 := by blk_ext! [iblk, idx t]
/-- The reference's call reads the whole weights. -/
theorem iblk1 (c : Dev nD) (t : Fin cfg0.N) : iblk m c 1 t = V m c main_arg1 := by blk_ext! [iblk, idx t]
/-- The reference's call reads the whole row of weight scales. -/
theorem iblk2 (c : Dev nD) (t : Fin cfg0.N) : iblk m c 2 t = V m c main_v1 := by blk_ext! [iblk, idx t]

/-- The codes. -/
theorem final3 (c : Dev nD) : (dats m 0 c).arrAt 3 (cfgs 0).N = k0_pay5 (F := Ideal) (V m c main_v0) := by
  refine (dats m 0 c).arrAt_eq_of_after_last 3 t0_0 (by decide +kernel) _ fun j => ?_
  blk_simp; rw [after0_3]; frame_out; rw [iblk0]
/-- The scale. -/
theorem final4 (c : Dev nD) : (dats m 0 c).arrAt 4 (cfgs 0).N = k0_pay4 (F := Ideal) (V m c main_v0) := by
  refine (dats m 0 c).arrAt_eq_of_after_last 4 t0_0 (by decide +kernel) _ fun j => ?_
  blk_simp; rw [after0_4]; frame_out; rw [iblk0]
/-- The base product. -/
theorem final5 (c : Dev nD) : (dats m 0 c).arrAt 5 (cfgs 0).N
    = k0_pay1 (F := Ideal) (k0_pay4 (V m c main_v0)) (k0_pay5 (V m c main_v0)) (V m c main_arg1) (V m c main_v1) := by
  refine (dats m 0 c).arrAt_eq_of_after_last 5 t0_0 (by decide +kernel) _ fun j => ?_
  blk_simp; rw [after0_5]; frame_out; rw [iblk0, iblk1, iblk2]

end Cert.Proof.RefRun

end
-- ==== Proof.ValRefSpec.lean ====
/-
  The five results as formulas over the arguments: what the reference leaves.
-/
module

public import proofs.«01_k».proof.Proof.ValSpec
public import proofs.«01_k».proof.Proof.ValRef
public import proofs.«01_k».proof.Proof.ValHost
public import Idealize.ShloMosaic.Lib.Pipeline.ValueKit

@[expose] public section

set_option maxRecDepth 16384

noncomputable section

namespace Cert.Proof.RefRun

open Cert.ReferenceIdeal Cert.ReferenceIdeal.Gen Cert.ReferenceIdeal.Value
open Idealize.ShloMosaic Idealize.ShloMosaic.TcCoe Idealize.ShloMosaic.StableHlo
open Cert.Proof.Quant Cert.Proof.Spec

variable (m : (ℓ : Loc nD τ sig) → Buf (Elt Ideal) ℓ) (c : Dev nD)

/-- The argument arrays. -/
abbrev b0 : S40x1x5120.Idx → EReal := m ((c : Thread nD τ).loc main_arg0)
abbrev b1 : S5120x27648.Idx → EReal := m ((c : Thread nD τ).loc main_arg1)
abbrev b2 : S27648.Idx → EReal := m ((c : Thread nD τ).loc main_arg2)
abbrev b3 : S446.Idx → EReal := m ((c : Thread nD τ).loc main_arg3)
abbrev b4 : IVec S5120x117 8 := m ((c : Thread nD τ).loc main_arg4)
abbrev b5 : FVec Ideal S446 .f32 := m ((c : Thread nD τ).loc main_arg5)
abbrev b6 : IVec S446 8 := m ((c : Thread nD τ).loc main_arg6)
abbrev b7 : IVec S27648x117 8 := m ((c : Thread nD τ).loc main_arg7)
abbrev b8 : FVec Ideal S446 .f32 := m ((c : Thread nD τ).loc main_arg8)
abbrev b9 : IVec S446 8 := m ((c : Thread nD τ).loc main_arg9)

/-- The reshape of the activations at an entry. -/
theorem cast_x (x : FVec Ideal S40x1x5120 .bf16) (i : Fin 40) (L : Fin 5120) : shapeCast S40x5120 x shapeCasts_S40x1x5120_S40x5120 (ix2 i L) = x (ix3 i 0 L) := by
  pointwise
/-- The reshape of the weights' scales at an entry. -/
theorem cast_ws (x : FVec Ideal S27648 .f32) (N : Fin 27648) : shapeCast S1x27648 x shapeCasts_S27648_S1x27648 (ix2 0 N) = x (ix1 N) := by
  pointwise
/-- The product kernel's first operand. -/
theorem V_v0 : V m c main_v0 = shapeCast S40x5120 (m ((c : Thread nD τ).loc main_arg0)) shapeCasts_S40x1x5120_S40x5120 := by
  show V0 m c (Proc.devRef .tc main_v0) = _
  simp only [V0, hostOps0, List.flatten_cons, List.flatten_nil, List.append_nil, List.cons_append, List.nil_append]
  after_results <;> rfl
/-- The product kernel's scales. -/
theorem V_v1 : V m c main_v1 = shapeCast S1x27648 (m ((c : Thread nD τ).loc main_arg2)) shapeCasts_S27648_S1x27648 := by
  show V0 m c (Proc.devRef .tc main_v1) = _
  simp only [V0, hostOps0, List.flatten_cons, List.flatten_nil, List.append_nil, List.cons_append, List.nil_append]
  after_results <;> rfl
/-- The activations' rows at an entry. -/
theorem ref_x (i : Fin 40) (L : Fin 5120) : (V m c main_v0 : S40x5120.Idx → EReal) (ix2 i L) = b0 m c (ix3 i 0 L) :=
  (congrFun (V_v0 m c) (ix2 i L)).trans (cast_x _ i L)
/-- The weights' scales. -/
theorem ref_ws (N : Fin 27648) : (V m c main_v1 : S1x27648.Idx → EReal) (ix2 0 N) = b2 m c (ix1 N) :=
  (congrFun (V_v1 m c) (ix2 0 N)).trans (cast_ws _ N)
/-- The activations' rows. -/
theorem ref_rows : (V m c main_v0 : FVec Ideal S40x5120 .bf16) = rows (b0 m c) := by
  funext j
  exact (congrArg (V m c main_v0 : S40x5120.Idx → EReal) (eq_ix2 j)).trans (ref_x m c (j 0) (j 1))

/-- The reference's codes. -/
theorem R_codes (i : Fin 40) (L : Fin 5120) : (reg_main_v2_0 m c : S40x5120.Idx → EReal) (ix2 i L) = code (b0 m c (ix3 i 0 L)) (rowExp (rows (b0 m c)) i) := by
  refine (congrFun (final3 m c) (ix2 i L)).trans ((r_codes (V m c main_v0) i L).trans ?_)
  rw [ref_rows]; rfl
/-- The reference's scales. -/
theorem R_scale (i : Fin 40) : (reg_main_v2_1 m c : S40x1.Idx → EReal) (ix2 i 0) = two (rowExp (rows (b0 m c)) i) := by
  refine (congrFun (final4 m c) (ix2 i 0)).trans ((r_scale (V m c main_v0) i).trans ?_)
  rw [ref_rows]
/-- The base product over its operands. -/
theorem pay1_at (s : FVec Ideal S40x1 .f32) (q : FVec Ideal S40x5120 .fp8e4m3) (w : Vec Ideal S5120x27648 .fp8e4m3) (t : Vec Ideal S1x27648 .f32) (i : Fin 40) (N : Fin 27648) :
    k0_pay1 (F := Ideal) s q w t (ix2 i N)
      = ((∑ L : Fin 5120, q (ix2 i L) * (w : S5120x27648.Idx → EReal) (ix2 L N)) * s (ix2 i 0) * (t : S1x27648.Idx → EReal) (ix2 0 N) : EReal) := by
  pointwise [k0_pay1]
/-- The reference's base product. -/
theorem R_base (i : Fin 40) (N : Fin 27648) : (reg_main_v2_2 m c : S40x27648.Idx → EReal) (ix2 i N) = bS (b0 m c) (b1 m c) (b2 m c) i N := by
  refine (congrFun (final5 m c) (ix2 i N)).trans ((pay1_at _ _ _ _ i N).trans ?_)
  rw [ref_rows, V_main_arg1]
  unfold bS
  exact congr (congrArg HMul.hMul (congr (congrArg HMul.hMul (Finset.sum_congr rfl fun L _ => congrArg (· * _) (r_codes (rows (b0 m c)) i L))) (r_scale (rows (b0 m c)) i))) (ref_ws m c N)

/-- The host's first product at an entry. -/
theorem dot1_at (x : FVec Ideal S40x5120 .bf16) (M : FVec Ideal S5120x446 .bf16) (i : Fin 40) (r : Fin 446) :
    (Host.dotGeneral dot_S40x5120_S5120x446_S40x446_1_0_0_1_n_n none x M : FVec Ideal S40x446 .f32) (ix2 i r) = (∑ L : Fin 5120, x (ix2 i L) * M (ix2 L r) : EReal) := by
  pointwise
/-- The host's second product at an entry. -/
theorem dot2_at (z : FVec Ideal S40x446 .f32) (s : FVec Ideal S446 .f32) (M : FVec Ideal S27648x446 .bf16) (i : Fin 40) (N : Fin 27648) :
    (Host.dotGeneral dot_S40x446_S27648x446_S40x27648_1_1_0_0_n_n none
      (truncf .bf16 (mulf z (broadcastInDim S40x446 ![0, 1] bcast_S1x446_S40x446_0_1 (broadcastInDim S1x446 ![1] bcast_S446_S1x446_1 s))) bitsLt_bf16_f32) M : FVec Ideal S40x27648 .f32) (ix2 i N)
      = (∑ r : Fin 446, z (ix2 i r) * s (ix1 r) * M (ix2 N r) : EReal) := by
  pointwise

/-- The reference's middle factor. -/
theorem R_z (i : Fin 40) (r : Fin 446) : (res_main_v107 (exitV m c) : S40x446.Idx → EReal) (ix2 i r) = zS (b0 m c) (b4 m c) (b5 m c) (b6 m c) i r := by
  rw [z_eq, exit_main_v0, exit_main_arg4, exit_main_arg5, exit_main_arg6]
  refine (dot1_at _ _ i r).trans (Finset.sum_congr rfl fun L _ => congrArg (· * _) ?_)
  exact cast_x _ i L
/-- The reference's delta. -/
theorem R_d (i : Fin 40) (N : Fin 27648) : (res_main_v112 (exitV m c) : S40x27648.Idx → EReal) (ix2 i N)
    = dS (b0 m c) (b3 m c) (b4 m c) (b5 m c) (b6 m c) (b7 m c) (b8 m c) (b9 m c) i N := by
  rw [d_eq, exit_main_arg3, exit_main_arg7, exit_main_arg8, exit_main_arg9]
  refine (dot2_at _ _ _ i N).trans (Finset.sum_congr rfl fun r _ => congrArg (· * _) (congrArg (· * _) ?_))
  exact R_z m c i r

end Cert.Proof.RefRun

end
-- ==== Proof.ValAgree.lean ====
/-
  The kernel's five results are the reference's.
-/
module

public import proofs.«01_k».proof.Proof.ValRefSpec

@[expose] public section

set_option maxRecDepth 16384

noncomputable section

namespace Cert.Proof.Agree

open Idealize.ShloMosaic Idealize.ShloMosaic.TcCoe
open Cert.Proof.Spec Cert.Proof.Quant Cert.Proof.RefRun
open Cert.ReferenceIdeal.Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (e0 : b0 m' c = IdealRun.a0 m c) (e1 : b1 m' c = IdealRun.a1 m c) (e2 : b2 m' c = IdealRun.a2 m c) (e3 : b3 m' c = IdealRun.a3 m c)
  (e4 : b4 m' c = IdealRun.a4 m c) (e5 : b5 m' c = IdealRun.a5 m c) (e6 : b6 m' c = IdealRun.a6 m c) (e7 : b7 m' c = IdealRun.a7 m c)
  (e8 : b8 m' c = IdealRun.a8 m c) (e9 : b9 m' c = IdealRun.a9 m c)
  (hx : ∀ (i : Fin 40) (L : Fin 5120), ∃ a : ℝ, IdealRun.a0 m c (ix3 i 0 L) = (a : EReal)) (hc : ∀ r : Fin 446, ∃ a : ℝ, IdealRun.a5 m c (ix1 r) = (a : EReal))

/-- A reshape that adds a unit axis in the middle, at an entry. -/
theorem cast_d (x : FVec Ideal Cert.ReferenceIdeal.S40x27648 .f32) (h) (i : Fin 40) (N : Fin 27648) : shapeCast Cert.ReferenceIdeal.S40x1x27648 x h (ix3 i 0 N) = x (ix2 i N) := by
  pointwise
/-- The same of the middle factor. -/
theorem cast_z (x : FVec Ideal Cert.ReferenceIdeal.S40x446 .f32) (h) (i : Fin 40) (r : Fin 446) : shapeCast Cert.ReferenceIdeal.S40x1x446 x h (ix3 i 0 r) = x (ix2 i r) := by
  pointwise
/-- A column as a row, at an entry. -/
theorem cast_s (x : FVec Ideal Cert.ReferenceIdeal.S40x1 .f32) (h) (i : Fin 40) : shapeCast Cert.ReferenceIdeal.S1x40 x h (ix2 0 i) = x (ix2 i 0) := by
  pointwise

/-- The outputs' sum at an entry. -/
theorem sum_y (a b : FVec Ideal Cert.ReferenceIdeal.S40x27648 .f32) (h) (i : Fin 40) (N : Fin 27648) :
    (truncf .bf16 (addf a b) h : FVec Ideal Cert.ReferenceIdeal.S40x27648 .bf16) (ix2 i N) = (a (ix2 i N) + b (ix2 i N) : EReal) := by
  pointwise

/-- An index of rank two at its coordinates, the middle axis of one of rank three being a unit. -/
theorem mid_zero {a b : ℕ} (j : (⟨3, ![a, 1, b]⟩ : Shape).Idx) : j = ix3 (j 0 : Fin a) (0 : Fin 1) (j 2 : Fin b) := by
  refine (eq_ix3 j).trans (congrArg (fun q : Fin 1 => ix3 (j 0 : Fin a) q (j 2 : Fin b)) (Subsingleton.elim _ _))
/-- An index into an array of one row has row zero. -/
theorem row_zero {a : ℕ} (j : (⟨2, ![1, a]⟩ : Shape).Idx) : j = ix2 (0 : Fin 1) (j 1 : Fin a) := by
  refine (eq_ix2 j).trans (congrArg (fun q : Fin 1 => ix2 q (j 1 : Fin a)) (Subsingleton.elim _ _))

include e0 in
/-- The codes. -/
theorem codes : (reg_main_v2_0 m' c : Cert.ReferenceIdeal.S40x5120.Idx → EReal) = (IdealRun.G m c Cert.KernelIdeal.main_v7_3 : Cert.KernelIdeal.S40x5120.Idx → EReal) := by
  funext j
  rw [eq_ix2 j]
  exact (R_codes m' c (j 0) (j 1)).trans (by rw [e0]; exact (IdealRun.K_codes m c (j 0) (j 1)).symm)
include e0 in
/-- The scales. -/
theorem scale : (shapeCast Cert.ReferenceIdeal.S1x40 ((exitV m' c) (Proc.devRef .tc Cert.ReferenceIdeal.main_v2_1)) Cert.ReferenceIdeal.Gen.shapeCasts_S40x1_S1x40 : Cert.ReferenceIdeal.S1x40.Idx → EReal)
    = (IdealRun.G m c Cert.KernelIdeal.main_v7_4 : Cert.KernelIdeal.S1x40.Idx → EReal) := by
  funext j
  rw [row_zero j, exit_main_v2_1]
  exact (cast_s _ _ (j 1)).trans ((R_scale m' c (j 1)).trans (by rw [e0]; exact (IdealRun.K_scale m c (j 1)).symm))
include e0 e4 e5 e6 hx hc in
/-- The middle factor. -/
theorem z : (shapeCast Cert.ReferenceIdeal.S40x1x446 (res_main_v107 (exitV m' c)) Cert.ReferenceIdeal.Gen.shapeCasts_S40x446_S40x1x446 : Cert.ReferenceIdeal.S40x1x446.Idx → EReal)
    = (IdealRun.G m c Cert.KernelIdeal.main_v7_2 : Cert.KernelIdeal.S40x1x446.Idx → EReal) := by
  funext j
  rw [mid_zero j]
  exact (cast_z _ _ (j 0) (j 2)).trans ((R_z m' c (j 0) (j 2)).trans (by rw [e0, e4, e5, e6]; exact (IdealRun.K_z m c hx hc (j 0) (j 2)).symm))
include e0 e3 e4 e5 e6 e7 e8 e9 hx hc in
/-- The delta. -/
theorem d : (shapeCast Cert.ReferenceIdeal.S40x1x27648 (res_main_v112 (exitV m' c)) Cert.ReferenceIdeal.Gen.shapeCasts_S40x27648_S40x1x27648 : Cert.ReferenceIdeal.S40x1x27648.Idx → EReal)
    = (IdealRun.G m c Cert.KernelIdeal.main_v7_1 : Cert.KernelIdeal.S40x1x27648.Idx → EReal) := by
  funext j
  rw [mid_zero j]
  exact (cast_d _ _ (j 0) (j 2)).trans ((R_d m' c (j 0) (j 2)).trans (by rw [e0, e3, e4, e5, e6, e7, e8, e9]; exact (IdealRun.K_d m c hx hc (j 0) (j 2)).symm))
include e0 e1 e2 e3 e4 e5 e6 e7 e8 e9 hx hc in
/-- The outputs. -/
theorem y : (truncf .bf16 (addf ((exitV m' c) (Proc.devRef .tc Cert.ReferenceIdeal.main_v2_2)) (res_main_v112 (exitV m' c))) Cert.ReferenceIdeal.Gen.bitsLt_bf16_f32 : Cert.ReferenceIdeal.S40x27648.Idx → EReal)
    = (IdealRun.G m c Cert.KernelIdeal.main_v7_0 : Cert.KernelIdeal.S40x27648.Idx → EReal) := by
  funext j
  rw [eq_ix2 j, exit_main_v2_2]
  refine (sum_y _ _ _ (j 0) (j 1)).trans (Eq.trans ?_ (IdealRun.K_y m c hx hc (j 0) (j 1)).symm)
  refine (congr (congrArg (fun p q : EReal => p + q) (R_base m' c (j 0) (j 1))) (R_d m' c (j 0) (j 1))).trans ?_
  rw [e0, e1, e2, e3, e4, e5, e6, e7, e8, e9]

end Cert.Proof.Agree

end
-- ==== Proof.ValPre.lean ====
/-
  What the precondition says: the activations and the first factor's scales are numbers.
-/
module

public import proofs.«01_k».proof.Pre_finite
public import Idealize.ShloMosaic.Lib.Pointwise
public import Idealize.ShloMosaic.Lib.ReduceAll

@[expose] public section

noncomputable section

namespace Cert.Proof.Pre

open Idealize.ShloMosaic Cert.Pre_finite

/-- The two formats' words of infinity. -/
theorem inf16 : Ideal.ofBits .bf16 0x7F80#16 = ⊤ := by simp [Ideal.ofBits, Ideal.ieee]
/-- The same of the wider format. -/
theorem inf32 : Ideal.ofBits .f32 0x7F800000#32 = ⊤ := by simp [Ideal.ofBits, Ideal.ieee]

/-- A conjunction of two bits is one only if both are. -/
theorem andi_one : ∀ a b : BitVec 1, IntOp.andi a b = 1#1 → a = 1#1 ∧ b = 1#1 := by decide

/-- The precondition's side conditions. -/
theorem facts : Cert.Pre_finite.Facts where
  bcast_S_S40x1x5120 := by decide
  reducesTo_S40x1x5120_S_d0_1_2 := by decide
  h_S_ := by decide
  bcast_S_S446 := by decide
  reducesTo_S446_S_d0 := by decide

/-- A magnitude below infinity is a number's. -/
theorem real_of_abs (x t : EReal) (ht : t = ⊤) (h : BitVec.ofBool (decide (max x (-x) < t)) = 1#1) : ∃ a : ℝ, x = a := by
  subst ht
  have h' : max x (-x) < ⊤ := by
    by_contra hn
    rw [decide_eq_false hn] at h
    exact absurd h (by decide)
  refine ⟨x.toReal, (EReal.coe_toReal ?_ ?_).symm⟩
  · rintro rfl
    exact absurd h' (by simp)
  · rintro rfl
    exact absurd h' (by simp)

variable (hp : Cert.Pre_finite.Facts) (x0 : FVec Ideal S40x1x5120 .bf16) (x1 : FVec Ideal S5120x27648 .fp8e4m3) (x2 : FVec Ideal S27648 .f32)
  (x3 : FVec Ideal S446 .f32) (x4 : IVec S5120x117 8) (x5 : FVec Ideal S446 .f32) (x6 : IVec S446 8) (x7 : IVec S27648x117 8)
  (x8 : FVec Ideal S446 .f32) (x9 : IVec S446 8)

/-- The precondition's two halves at an entry. -/
theorem reals (h : ∀ j, Cert.Pre_finite.fn (F := Ideal) x0 x1 x2 x3 x4 x5 x6 x7 x8 x9 j = 1#1) :
    (∀ (i : Fin 40) (L : Fin 5120), ∃ a : ℝ, x0 (ix3 i 0 L) = (a : EReal)) ∧ ∀ r : Fin 446, ∃ a : ℝ, x5 (ix1 r) = (a : EReal) := by
  have h0 := h (fun a => a.elim0)
  have h1 : IntOp.andi _ _ = 1#1 := h0
  have h2 := andi_one _ _ h1
  have hsub : Subsingleton S_.Idx := ⟨fun a b => funext fun i => i.elim0⟩
  constructor
  · intro i L
    exact real_of_abs _ _ inf16 (Host.reduce_andi_all _ _ _ _ _ h2.1 (ix3 i 0 L))
  · intro r
    exact real_of_abs _ _ inf32 (Host.reduce_andi_all _ _ _ _ _ h2.2 (ix1 r))

end Cert.Proof.Pre

end
-- ==== Proof.lean ====
/-
  The claims of the statement, put together from the modules under `Proof/`.

  `KernelLaunch` and `IdealLaunch` run the kernel (at the hardware's number formats and over the extended reals) from any
  memory to its end: their `frame` says that every run ends, faults nowhere, changes no argument and leaves every semaphore
  at zero, and `IdealLaunch`'s `values` says what the run leaves in each result. `ValSpec` turns these into formulas over
  the arguments, `ValRefSpec` does the same for the reference, and `ValAgree` compares the two. The reference's frame is
  the generated one.
-/
module

public import proofs.«01_k».proof.Defs
public import proofs.«01_k».proof.Proof.KernelLaunch
public import proofs.«01_k».proof.Proof.IdealLaunch
public import proofs.«01_k».proof.Proof.ValAgree
public import proofs.«01_k».proof.Proof.ValPre
public import proofs.«01_k».proof.Proof.Gen.ReferenceIdeal.Run
public import proofs.«01_k».proof.Proof.Gen.ReferenceIdeal.Frame
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- Over the extended reals the kernel's five results are the reference's, of finite activations and scales of the first factor. -/
theorem agree : algebraic_KernelIdeal_ReferenceIdeal_pre_finite (hKernelIdeal := Cert.KernelIdeal.Gen.facts) (hReferenceIdeal := Cert.ReferenceIdeal.Gen.facts)
    (hPre_finite := Pre.facts) := by
  pair_intro
  · run_from IdealRun.values m g
  · refine (θ_run (Cert.ReferenceIdeal.defs (F := Ideal)) _ _).mono (fun r h c => ?_) (Cert.ReferenceIdeal.Value.run m' g')
    obtain ⟨h0, h1, h2, h3, h4, hargs⟩ := h c
    obtain ⟨e0, e1, e2, e3, e4, e5, e6, e7, e8, e9⟩ := hagree c
    obtain ⟨hx, hc⟩ := Pre.reals Pre.facts _ _ _ _ _ _ _ _ _ _ (fun j => congrFun (hpre c) j)
    exact ⟨h0.trans (Agree.y m m' c e0 e1 e2 e3 e4 e5 e6 e7 e8 e9 hx hc), h1.trans (Agree.d m m' c e0 e3 e4 e5 e6 e7 e8 e9 hx hc),
      h2.trans (Agree.z m m' c e0 e4 e5 e6 hx hc), h3.trans (Agree.codes m m' c e0), h4.trans (Agree.scale m m' c e0), hargs⟩

/-- The certificate's claim: the frames, the (empty) chain of rewrites, and the results' agreement. -/
theorem claim : Cert.Claim := ⟨Cert.Kernel.Gen.facts, Cert.KernelIdeal.Gen.facts, Cert.ReferenceIdeal.Gen.facts, Pre.facts,
  fun m g _ => KernelRun.frame m g, fun m g _ => IdealRun.frame m g, fun m g _ => IdealRun.frame m g,
  fun m g _ => Cert.ReferenceIdeal.Gen.frame m g, fun m g _ => Cert.ReferenceIdeal.Gen.frame m g, trivial, agree⟩

end Cert.Proof

end
